-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_LastP (m : (ℓ : Loc Cert.LastP.nD Cert.LastP.τ Cert.LastP.sig) → Buf (Elt Bits) ℓ) : Prop :=
  True

def Pre_LastPIdeal (m : (ℓ : Loc Cert.LastPIdeal.nD Cert.LastPIdeal.τ Cert.LastPIdeal.sig) → Buf (Elt Ideal) ℓ) : Prop :=
  True

def Pre_LastPRefIdeal (m : (ℓ : Loc Cert.LastPRefIdeal.nD Cert.LastPRefIdeal.τ Cert.LastPRefIdeal.sig) → Buf (Elt Ideal) ℓ) : Prop :=
  True

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_ProjPRefIdeal (m : (ℓ : Loc Cert.ProjPRefIdeal.nD Cert.ProjPRefIdeal.τ Cert.ProjPRefIdeal.sig) → Buf (Elt Ideal) ℓ) : Prop :=
  True

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def Pre_Cache (m : (ℓ : Loc Cert.Cache.nD Cert.Cache.τ Cert.Cache.sig) → Buf (Elt Bits) ℓ) : Prop :=
  True

def Pre_CacheIdeal (m : (ℓ : Loc Cert.CacheIdeal.nD Cert.CacheIdeal.τ Cert.CacheIdeal.sig) → Buf (Elt Ideal) ℓ) : Prop :=
  True

def Pre_CacheRefIdeal (m : (ℓ : Loc Cert.CacheRefIdeal.nD Cert.CacheRefIdeal.τ Cert.CacheRefIdeal.sig) → Buf (Elt Ideal) ℓ) : Prop :=
  True

def Pre_AttnP (m : (ℓ : Loc Cert.AttnP.nD Cert.AttnP.τ Cert.AttnP.sig) → Buf (Elt Bits) ℓ) : Prop :=
  True

def Pre_AttnPIdeal (m : (ℓ : Loc Cert.AttnPIdeal.nD Cert.AttnPIdeal.τ Cert.AttnPIdeal.sig) → Buf (Elt Ideal) ℓ) : Prop :=
  True

def Pre_AttnPIdeal_finite_prompt_scores [hPre_finite_prompt_scores : Cert.Pre_finite_prompt_scores.Facts] (m : (ℓ : Loc Cert.AttnPIdeal.nD Cert.AttnPIdeal.τ Cert.AttnPIdeal.sig) → Buf (Elt Ideal) ℓ) : Prop :=
  ∀ c : Dev Cert.AttnPIdeal.nD,
    (Cert.Pre_finite_prompt_scores.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2))).1 = (fun _ => 1#1)
    ∧ (Cert.Pre_finite_prompt_scores.fn (F := Ideal) (m ((c.tc : Thread Cert.AttnPIdeal.nD Cert.AttnPIdeal.τ).loc Cert.AttnPIdeal.main_arg0)) (m ((c.tc : Thread Cert.AttnPIdeal.nD Cert.AttnPIdeal.τ).loc Cert.AttnPIdeal.main_arg1)) (m ((c.tc : Thread Cert.AttnPIdeal.nD Cert.AttnPIdeal.τ).loc Cert.AttnPIdeal.main_arg2))).2 = (fun _ => 1#1)

def Pre_AttnPRefIdeal (m : (ℓ : Loc Cert.AttnPRefIdeal.nD Cert.AttnPRefIdeal.τ Cert.AttnPRefIdeal.sig) → Buf (Elt Ideal) ℓ) : Prop :=
  True

def Pre_AttnPRefIdeal_finite_prompt_scores [hPre_finite_prompt_scores : Cert.Pre_finite_prompt_scores.Facts] (m : (ℓ : Loc Cert.AttnPRefIdeal.nD Cert.AttnPRefIdeal.τ Cert.AttnPRefIdeal.sig) → Buf (Elt Ideal) ℓ) : Prop :=
  ∀ c : Dev Cert.AttnPRefIdeal.nD,
    (Cert.Pre_finite_prompt_scores.fn (F := Ideal) (m ((c.tc : Thread Cert.AttnPRefIdeal.nD Cert.AttnPRefIdeal.τ).loc Cert.AttnPRefIdeal.main_arg0)) (m ((c.tc : Thread Cert.AttnPRefIdeal.nD Cert.AttnPRefIdeal.τ).loc Cert.AttnPRefIdeal.main_arg1)) (m ((c.tc : Thread Cert.AttnPRefIdeal.nD Cert.AttnPRefIdeal.τ).loc Cert.AttnPRefIdeal.main_arg2))).1 = (fun _ => 1#1)
    ∧ (Cert.Pre_finite_prompt_scores.fn (F := Ideal) (m ((c.tc : Thread Cert.AttnPRefIdeal.nD Cert.AttnPRefIdeal.τ).loc Cert.AttnPRefIdeal.main_arg0)) (m ((c.tc : Thread Cert.AttnPRefIdeal.nD Cert.AttnPRefIdeal.τ).loc Cert.AttnPRefIdeal.main_arg1)) (m ((c.tc : Thread Cert.AttnPRefIdeal.nD Cert.AttnPRefIdeal.τ).loc Cert.AttnPRefIdeal.main_arg2))).2 = (fun _ => 1#1)

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6)
      ∧ r.2.mem ((c.tc : Thread Cert.GmlpRefIdeal.nD Cert.GmlpRefIdeal.τ).loc Cert.GmlpRefIdeal.main_arg7) = m ((c.tc : Thread Cert.GmlpRefIdeal.nD Cert.GmlpRefIdeal.τ).loc Cert.GmlpRefIdeal.main_arg7))
      ∧ r.2.sem = fun _ => 0)

def quiescent_LastP [hLastP : Cert.LastP.Facts] : Prop :=
  ∀ (m : (ℓ : Loc Cert.LastP.nD Cert.LastP.τ Cert.LastP.sig) → Buf (Elt Bits) ℓ) (g : Dev Cert.LastP.nD → PrngReg), Pre_LastP m →
    θ_run (Cert.LastP.defs (F := Bits)) (onTc (τ := Cert.LastP.τ) (Cert.LastP.main (F := Bits))) ⟨m, fun _ => 0, g⟩ (fun r => (∀ c : Dev Cert.LastP.nD,
      r.2.mem ((c.tc : Thread Cert.LastP.nD Cert.LastP.τ).loc Cert.LastP.main_arg0) = m ((c.tc : Thread Cert.LastP.nD Cert.LastP.τ).loc Cert.LastP.main_arg0)
      ∧ r.2.mem ((c.tc : Thread Cert.LastP.nD Cert.LastP.τ).loc Cert.LastP.main_arg1) = m ((c.tc : Thread Cert.LastP.nD Cert.LastP.τ).loc Cert.LastP.main_arg1)
      ∧ r.2.mem ((c.tc : Thread Cert.LastP.nD Cert.LastP.τ).loc Cert.LastP.main_arg2) = m ((c.tc : Thread Cert.LastP.nD Cert.LastP.τ).loc Cert.LastP.main_arg2)
      ∧ r.2.mem ((c.tc : Thread Cert.LastP.nD Cert.LastP.τ).loc Cert.LastP.main_arg3) = m ((c.tc : Thread Cert.LastP.nD Cert.LastP.τ).loc Cert.LastP.main_arg3)
      ∧ r.2.mem ((c.tc : Thread Cert.LastP.nD Cert.LastP.τ).loc Cert.LastP.main_arg4) = m ((c.tc : Thread Cert.LastP.nD Cert.LastP.τ).loc Cert.LastP.main_arg4)
      ∧ r.2.mem ((c.tc : Thread Cert.LastP.nD Cert.LastP.τ).loc Cert.LastP.main_arg5) = m ((c.tc : Thread Cert.LastP.nD Cert.LastP.τ).loc Cert.LastP.main_arg5)
      ∧ r.2.mem ((c.tc : Thread Cert.LastP.nD Cert.LastP.τ).loc Cert.LastP.main_arg6) = m ((c.tc : Thread Cert.LastP.nD Cert.LastP.τ).loc Cert.LastP.main_arg6)
      ∧ r.2.mem ((c.tc : Thread Cert.LastP.nD Cert.LastP.τ).loc Cert.LastP.main_arg7) = m ((c.tc : Thread Cert.LastP.nD Cert.LastP.τ).loc Cert.LastP.main_arg7))
      ∧ r.2.sem = fun _ => 0)

def quiescent_LastPIdeal [hLastPIdeal : Cert.LastPIdeal.Facts] : Prop :=
  ∀ (m : (ℓ : Loc Cert.LastPIdeal.nD Cert.LastPIdeal.τ Cert.LastPIdeal.sig) → Buf (Elt Ideal) ℓ) (g : Dev Cert.LastPIdeal.nD → PrngReg), Pre_LastPIdeal m →
    θ_run (Cert.LastPIdeal.defs (F := Ideal)) (onTc (τ := Cert.LastPIdeal.τ) (Cert.LastPIdeal.main (F := Ideal))) ⟨m, fun _ => 0, g⟩ (fun r => (∀ c : Dev Cert.LastPIdeal.nD,
      r.2.mem ((c.tc : Thread Cert.LastPIdeal.nD Cert.LastPIdeal.τ).loc Cert.LastPIdeal.main_arg0) = m ((c.tc : Thread Cert.LastPIdeal.nD Cert.LastPIdeal.τ).loc Cert.LastPIdeal.main_arg0)
      ∧ r.2.mem ((c.tc : Thread Cert.LastPIdeal.nD Cert.LastPIdeal.τ).loc Cert.LastPIdeal.main_arg1) = m ((c.tc : Thread Cert.LastPIdeal.nD Cert.LastPIdeal.τ).loc Cert.LastPIdeal.main_arg1)
      ∧ r.2.mem ((c.tc : Thread Cert.LastPIdeal.nD Cert.LastPIdeal.τ).loc Cert.LastPIdeal.main_arg2) = m ((c.tc : Thread Cert.LastPIdeal.nD Cert.LastPIdeal.τ).loc Cert.LastPIdeal.main_arg2)
      ∧ r.2.mem ((c.tc : Thread Cert.LastPIdeal.nD Cert.LastPIdeal.τ).loc Cert.LastPIdeal.main_arg3) = m ((c.tc : Thread Cert.LastPIdeal.nD Cert.LastPIdeal.τ).loc Cert.LastPIdeal.main_arg3)
      ∧ r.2.mem ((c.tc : Thread Cert.LastPIdeal.nD Cert.LastPIdeal.τ).loc Cert.LastPIdeal.main_arg4) = m ((c.tc : Thread Cert.LastPIdeal.nD Cert.LastPIdeal.τ).loc Cert.LastPIdeal.main_arg4)
      ∧ r.2.mem ((c.tc : Thread Cert.LastPIdeal.nD Cert.LastPIdeal.τ).loc Cert.LastPIdeal.main_arg5) = m ((c.tc : Thread Cert.LastPIdeal.nD Cert.LastPIdeal.τ).loc Cert.LastPIdeal.main_arg5)
      ∧ r.2.mem ((c.tc : Thread Cert.LastPIdeal.nD Cert.LastPIdeal.τ).loc Cert.LastPIdeal.main_arg6) = m ((c.tc : Thread Cert.LastPIdeal.nD Cert.LastPIdeal.τ).loc Cert.LastPIdeal.main_arg6)
      ∧ r.2.mem ((c.tc : Thread Cert.LastPIdeal.nD Cert.LastPIdeal.τ).loc Cert.LastPIdeal.main_arg7) = m ((c.tc : Thread Cert.LastPIdeal.nD Cert.LastPIdeal.τ).loc Cert.LastPIdeal.main_arg7))
      ∧ r.2.sem = fun _ => 0)

def quiescent_LastPRefIdeal [hLastPRefIdeal : Cert.LastPRefIdeal.Facts] : Prop :=
  ∀ (m : (ℓ : Loc Cert.LastPRefIdeal.nD Cert.LastPRefIdeal.τ Cert.LastPRefIdeal.sig) → Buf (Elt Ideal) ℓ) (g : Dev Cert.LastPRefIdeal.nD → PrngReg), Pre_LastPRefIdeal m →
    θ_run (Cert.LastPRefIdeal.defs (F := Ideal)) (onTc (τ := Cert.LastPRefIdeal.τ) (Cert.LastPRefIdeal.main (F := Ideal))) ⟨m, fun _ => 0, g⟩ (fun r => (∀ c : Dev Cert.LastPRefIdeal.nD,
      r.2.mem ((c.tc : Thread Cert.LastPRefIdeal.nD Cert.LastPRefIdeal.τ).loc Cert.LastPRefIdeal.main_arg0) = m ((c.tc : Thread Cert.LastPRefIdeal.nD Cert.LastPRefIdeal.τ).loc Cert.LastPRefIdeal.main_arg0)
      ∧ r.2.mem ((c.tc : Thread Cert.LastPRefIdeal.nD Cert.LastPRefIdeal.τ).loc Cert.LastPRefIdeal.main_arg1) = m ((c.tc : Thread Cert.LastPRefIdeal.nD Cert.LastPRefIdeal.τ).loc Cert.LastPRefIdeal.main_arg1)
      ∧ r.2.mem ((c.tc : Thread Cert.LastPRefIdeal.nD Cert.LastPRefIdeal.τ).loc Cert.LastPRefIdeal.main_arg2) = m ((c.tc : Thread Cert.LastPRefIdeal.nD Cert.LastPRefIdeal.τ).loc Cert.LastPRefIdeal.main_arg2)
      ∧ r.2.mem ((c.tc : Thread Cert.LastPRefIdeal.nD Cert.LastPRefIdeal.τ).loc Cert.LastPRefIdeal.main_arg3) = m ((c.tc : Thread Cert.LastPRefIdeal.nD Cert.LastPRefIdeal.τ).loc Cert.LastPRefIdeal.main_arg3)
      ∧ r.2.mem ((c.tc : Thread Cert.LastPRefIdeal.nD Cert.LastPRefIdeal.τ).loc Cert.LastPRefIdeal.main_arg4) = m ((c.tc : Thread Cert.LastPRefIdeal.nD Cert.LastPRefIdeal.τ).loc Cert.LastPRefIdeal.main_arg4)
      ∧ r.2.mem ((c.tc : Thread Cert.LastPRefIdeal.nD Cert.LastPRefIdeal.τ).loc Cert.LastPRefIdeal.main_arg5) = m ((c.tc : Thread Cert.LastPRefIdeal.nD Cert.LastPRefIdeal.τ).loc Cert.LastPRefIdeal.main_arg5)
      ∧ r.2.mem ((c.tc : Thread Cert.LastPRefIdeal.nD Cert.LastPRefIdeal.τ).loc Cert.LastPRefIdeal.main_arg6) = m ((c.tc : Thread Cert.LastPRefIdeal.nD Cert.LastPRefIdeal.τ).loc Cert.LastPRefIdeal.main_arg6)
      ∧ r.2.mem ((c.tc : Thread Cert.LastPRefIdeal.nD Cert.LastPRefIdeal.τ).loc Cert.LastPRefIdeal.main_arg7) = m ((c.tc : Thread Cert.LastPRefIdeal.nD Cert.LastPRefIdeal.τ).loc Cert.LastPRefIdeal.main_arg7))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1)
      ∧ r.2.mem ((c.tc : Thread Cert.ProjP.nD Cert.ProjP.τ).loc Cert.ProjP.main_arg2) = m ((c.tc : Thread Cert.ProjP.nD Cert.ProjP.τ).loc Cert.ProjP.main_arg2)
      ∧ r.2.mem ((c.tc : Thread Cert.ProjP.nD Cert.ProjP.τ).loc Cert.ProjP.main_arg3) = m ((c.tc : Thread Cert.ProjP.nD Cert.ProjP.τ).loc Cert.ProjP.main_arg3)
      ∧ r.2.mem ((c.tc : Thread Cert.ProjP.nD Cert.ProjP.τ).loc Cert.ProjP.main_arg4) = m ((c.tc : Thread Cert.ProjP.nD Cert.ProjP.τ).loc Cert.ProjP.main_arg4)
      ∧ r.2.mem ((c.tc : Thread Cert.ProjP.nD Cert.ProjP.τ).loc Cert.ProjP.main_arg5) = m ((c.tc : Thread Cert.ProjP.nD Cert.ProjP.τ).loc Cert.ProjP.main_arg5)
      ∧ r.2.mem ((c.tc : Thread Cert.ProjP.nD Cert.ProjP.τ).loc Cert.ProjP.main_arg6) = m ((c.tc : Thread Cert.ProjP.nD Cert.ProjP.τ).loc Cert.ProjP.main_arg6)
      ∧ r.2.mem ((c.tc : Thread Cert.ProjP.nD Cert.ProjP.τ).loc Cert.ProjP.main_arg7) = m ((c.tc : Thread Cert.ProjP.nD Cert.ProjP.τ).loc Cert.ProjP.main_arg7)
      ∧ r.2.mem ((c.tc : Thread Cert.ProjP.nD Cert.ProjP.τ).loc Cert.ProjP.main_arg8) = m ((c.tc : Thread Cert.ProjP.nD Cert.ProjP.τ).loc Cert.ProjP.main_arg8)
      ∧ r.2.mem ((c.tc : Thread Cert.ProjP.nD Cert.ProjP.τ).loc Cert.ProjP.main_arg9) = m ((c.tc : Thread Cert.ProjP.nD Cert.ProjP.τ).loc Cert.ProjP.main_arg9))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
      ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
      ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3)
      ∧ r.2.mem ((c.tc : Thread Cert.ProjPIdeal.nD Cert.ProjPIdeal.τ).loc Cert.ProjPIdeal.main_arg4) = m ((c.tc : Thread Cert.ProjPIdeal.nD Cert.ProjPIdeal.τ).loc Cert.ProjPIdeal.main_arg4)
      ∧ r.2.mem ((c.tc : Thread Cert.ProjPIdeal.nD Cert.ProjPIdeal.τ).loc Cert.ProjPIdeal.main_arg5) = m ((c.tc : Thread Cert.ProjPIdeal.nD Cert.ProjPIdeal.τ).loc Cert.ProjPIdeal.main_arg5)
      ∧ r.2.mem ((c.tc : Thread Cert.ProjPIdeal.nD Cert.ProjPIdeal.τ).loc Cert.ProjPIdeal.main_arg6) = m ((c.tc : Thread Cert.ProjPIdeal.nD Cert.ProjPIdeal.τ).loc Cert.ProjPIdeal.main_arg6)
      ∧ r.2.mem ((c.tc : Thread Cert.ProjPIdeal.nD Cert.ProjPIdeal.τ).loc Cert.ProjPIdeal.main_arg7) = m ((c.tc : Thread Cert.ProjPIdeal.nD Cert.ProjPIdeal.τ).loc Cert.ProjPIdeal.main_arg7)
      ∧ r.2.mem ((c.tc : Thread Cert.ProjPIdeal.nD Cert.ProjPIdeal.τ).loc Cert.ProjPIdeal.main_arg8) = m ((c.tc : Thread Cert.ProjPIdeal.nD Cert.ProjPIdeal.τ).loc Cert.ProjPIdeal.main_arg8)
      ∧ r.2.mem ((c.tc : Thread Cert.ProjPIdeal.nD Cert.ProjPIdeal.τ).loc Cert.ProjPIdeal.main_arg9) = m ((c.tc : Thread Cert.ProjPIdeal.nD Cert.ProjPIdeal.τ).loc Cert.ProjPIdeal.main_arg9))
      ∧ r.2.sem = fun _ => 0)

def quiescent_ProjPRefIdeal [hProjPRefIdeal : Cert.ProjPRefIdeal.Facts] : Prop :=
  ∀ (m : (ℓ : Loc Cert.ProjPRefIdeal.nD Cert.ProjPRefIdeal.τ Cert.ProjPRefIdeal.sig) → Buf (Elt Ideal) ℓ) (g : Dev Cert.ProjPRefIdeal.nD → PrngReg), Pre_ProjPRefIdeal m →
    θ_run (Cert.ProjPRefIdeal.defs (F := Ideal)) (onTc (τ := Cert.ProjPRefIdeal.τ) (Cert.ProjPRefIdeal.main (F := Ideal))) ⟨m, fun _ => 0, g⟩ (fun r => (∀ c : Dev Cert.ProjPRefIdeal.nD,
      r.2.mem ((c.tc : Thread Cert.ProjPRefIdeal.nD Cert.ProjPRefIdeal.τ).loc Cert.ProjPRefIdeal.main_arg0) = m ((c.tc : Thread Cert.ProjPRefIdeal.nD Cert.ProjPRefIdeal.τ).loc Cert.ProjPRefIdeal.main_arg0)
      ∧ r.2.mem ((c.tc : Thread Cert.ProjPRefIdeal.nD Cert.ProjPRefIdeal.τ).loc Cert.ProjPRefIdeal.main_arg1) = m ((c.tc : Thread Cert.ProjPRefIdeal.nD Cert.ProjPRefIdeal.τ).loc Cert.ProjPRefIdeal.main_arg1)
      ∧ r.2.mem ((c.tc : Thread Cert.ProjPRefIdeal.nD Cert.ProjPRefIdeal.τ).loc Cert.ProjPRefIdeal.main_arg2) = m ((c.tc : Thread Cert.ProjPRefIdeal.nD Cert.ProjPRefIdeal.τ).loc Cert.ProjPRefIdeal.main_arg2)
      ∧ r.2.mem ((c.tc : Thread Cert.ProjPRefIdeal.nD Cert.ProjPRefIdeal.τ).loc Cert.ProjPRefIdeal.main_arg3) = m ((c.tc : Thread Cert.ProjPRefIdeal.nD Cert.ProjPRefIdeal.τ).loc Cert.ProjPRefIdeal.main_arg3)
      ∧ r.2.mem ((c.tc : Thread Cert.ProjPRefIdeal.nD Cert.ProjPRefIdeal.τ).loc Cert.ProjPRefIdeal.main_arg4) = m ((c.tc : Thread Cert.ProjPRefIdeal.nD Cert.ProjPRefIdeal.τ).loc Cert.ProjPRefIdeal.main_arg4)
      ∧ r.2.mem ((c.tc : Thread Cert.ProjPRefIdeal.nD Cert.ProjPRefIdeal.τ).loc Cert.ProjPRefIdeal.main_arg5) = m ((c.tc : Thread Cert.ProjPRefIdeal.nD Cert.ProjPRefIdeal.τ).loc Cert.ProjPRefIdeal.main_arg5)
      ∧ r.2.mem ((c.tc : Thread Cert.ProjPRefIdeal.nD Cert.ProjPRefIdeal.τ).loc Cert.ProjPRefIdeal.main_arg6) = m ((c.tc : Thread Cert.ProjPRefIdeal.nD Cert.ProjPRefIdeal.τ).loc Cert.ProjPRefIdeal.main_arg6)
      ∧ r.2.mem ((c.tc : Thread Cert.ProjPRefIdeal.nD Cert.ProjPRefIdeal.τ).loc Cert.ProjPRefIdeal.main_arg7) = m ((c.tc : Thread Cert.ProjPRefIdeal.nD Cert.ProjPRefIdeal.τ).loc Cert.ProjPRefIdeal.main_arg7)
      ∧ r.2.mem ((c.tc : Thread Cert.ProjPRefIdeal.nD Cert.ProjPRefIdeal.τ).loc Cert.ProjPRefIdeal.main_arg8) = m ((c.tc : Thread Cert.ProjPRefIdeal.nD Cert.ProjPRefIdeal.τ).loc Cert.ProjPRefIdeal.main_arg8)
      ∧ r.2.mem ((c.tc : Thread Cert.ProjPRefIdeal.nD Cert.ProjPRefIdeal.τ).loc Cert.ProjPRefIdeal.main_arg9) = m ((c.tc : Thread Cert.ProjPRefIdeal.nD Cert.ProjPRefIdeal.τ).loc Cert.ProjPRefIdeal.main_arg9))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2))
      ∧ r.2.sem = fun _ => 0)

def quiescent_Cache [hCache : Cert.Cache.Facts] : Prop :=
  ∀ (m : (ℓ : Loc Cert.Cache.nD Cert.Cache.τ Cert.Cache.sig) → Buf (Elt Bits) ℓ) (g : Dev Cert.Cache.nD → PrngReg), Pre_Cache m →
    θ_run (Cert.Cache.defs (F := Bits)) (onTc (τ := Cert.Cache.τ) (Cert.Cache.main (F := Bits))) ⟨m, fun _ => 0, g⟩ (fun r => (∀ c : Dev Cert.Cache.nD,
      r.2.mem ((c.tc : Thread Cert.Cache.nD Cert.Cache.τ).loc Cert.Cache.main_arg0) = m ((c.tc : Thread Cert.Cache.nD Cert.Cache.τ).loc Cert.Cache.main_arg0)
      ∧ r.2.mem ((c.tc : Thread Cert.Cache.nD Cert.Cache.τ).loc Cert.Cache.main_arg1) = m ((c.tc : Thread Cert.Cache.nD Cert.Cache.τ).loc Cert.Cache.main_arg1)
      ∧ r.2.mem ((c.tc : Thread Cert.Cache.nD Cert.Cache.τ).loc Cert.Cache.main_arg2) = m ((c.tc : Thread Cert.Cache.nD Cert.Cache.τ).loc Cert.Cache.main_arg2)
      ∧ r.2.mem ((c.tc : Thread Cert.Cache.nD Cert.Cache.τ).loc Cert.Cache.main_arg3) = m ((c.tc : Thread Cert.Cache.nD Cert.Cache.τ).loc Cert.Cache.main_arg3))
      ∧ r.2.sem = fun _ => 0)

def quiescent_CacheIdeal [hCacheIdeal : Cert.CacheIdeal.Facts] : Prop :=
  ∀ (m : (ℓ : Loc Cert.CacheIdeal.nD Cert.CacheIdeal.τ Cert.CacheIdeal.sig) → Buf (Elt Ideal) ℓ) (g : Dev Cert.CacheIdeal.nD → PrngReg), Pre_CacheIdeal m →
    θ_run (Cert.CacheIdeal.defs (F := Ideal)) (onTc (τ := Cert.CacheIdeal.τ) (Cert.CacheIdeal.main (F := Ideal))) ⟨m, fun _ => 0, g⟩ (fun r => (∀ c : Dev Cert.CacheIdeal.nD,
      r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
      ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
      ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
      ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3))
      ∧ r.2.sem = fun _ => 0)

def quiescent_CacheRefIdeal [hCacheRefIdeal : Cert.CacheRefIdeal.Facts] : Prop :=
  ∀ (m : (ℓ : Loc Cert.CacheRefIdeal.nD Cert.CacheRefIdeal.τ Cert.CacheRefIdeal.sig) → Buf (Elt Ideal) ℓ) (g : Dev Cert.CacheRefIdeal.nD → PrngReg), Pre_CacheRefIdeal m →
    θ_run (Cert.CacheRefIdeal.defs (F := Ideal)) (onTc (τ := Cert.CacheRefIdeal.τ) (Cert.CacheRefIdeal.main (F := Ideal))) ⟨m, fun _ => 0, g⟩ (fun r => (∀ c : Dev Cert.CacheRefIdeal.nD,
      r.2.mem ((c.tc : Thread Cert.CacheRefIdeal.nD Cert.CacheRefIdeal.τ).loc Cert.CacheRefIdeal.main_arg0) = m ((c.tc : Thread Cert.CacheRefIdeal.nD Cert.CacheRefIdeal.τ).loc Cert.CacheRefIdeal.main_arg0)
      ∧ r.2.mem ((c.tc : Thread Cert.CacheRefIdeal.nD Cert.CacheRefIdeal.τ).loc Cert.CacheRefIdeal.main_arg1) = m ((c.tc : Thread Cert.CacheRefIdeal.nD Cert.CacheRefIdeal.τ).loc Cert.CacheRefIdeal.main_arg1)
      ∧ r.2.mem ((c.tc : Thread Cert.CacheRefIdeal.nD Cert.CacheRefIdeal.τ).loc Cert.CacheRefIdeal.main_arg2) = m ((c.tc : Thread Cert.CacheRefIdeal.nD Cert.CacheRefIdeal.τ).loc Cert.CacheRefIdeal.main_arg2)
      ∧ r.2.mem ((c.tc : Thread Cert.CacheRefIdeal.nD Cert.CacheRefIdeal.τ).loc Cert.CacheRefIdeal.main_arg3) = m ((c.tc : Thread Cert.CacheRefIdeal.nD Cert.CacheRefIdeal.τ).loc Cert.CacheRefIdeal.main_arg3))
      ∧ r.2.sem = fun _ => 0)

def quiescent_AttnP [hAttnP : Cert.AttnP.Facts] : Prop :=
  ∀ (m : (ℓ : Loc Cert.AttnP.nD Cert.AttnP.τ Cert.AttnP.sig) → Buf (Elt Bits) ℓ) (g : Dev Cert.AttnP.nD → PrngReg), Pre_AttnP m →
    θ_run (Cert.AttnP.defs (F := Bits)) (onTc (τ := Cert.AttnP.τ) (Cert.AttnP.main (F := Bits))) ⟨m, fun _ => 0, g⟩ (fun r => (∀ c : Dev Cert.AttnP.nD,
      r.2.mem ((c.tc : Thread Cert.AttnP.nD Cert.AttnP.τ).loc Cert.AttnP.main_arg0) = m ((c.tc : Thread Cert.AttnP.nD Cert.AttnP.τ).loc Cert.AttnP.main_arg0)
      ∧ r.2.mem ((c.tc : Thread Cert.AttnP.nD Cert.AttnP.τ).loc Cert.AttnP.main_arg1) = m ((c.tc : Thread Cert.AttnP.nD Cert.AttnP.τ).loc Cert.AttnP.main_arg1)
      ∧ r.2.mem ((c.tc : Thread Cert.AttnP.nD Cert.AttnP.τ).loc Cert.AttnP.main_arg2) = m ((c.tc : Thread Cert.AttnP.nD Cert.AttnP.τ).loc Cert.AttnP.main_arg2))
      ∧ r.2.sem = fun _ => 0)

def quiescent_AttnPIdeal [hAttnPIdeal : Cert.AttnPIdeal.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ r.2.sem = fun _ => 0)

def quiescent_AttnPIdeal_pre_finite_prompt_scores [hAttnPIdeal : Cert.AttnPIdeal.Facts] [hPre_finite_prompt_scores : Cert.Pre_finite_prompt_scores.Facts] : Prop :=
  ∀ (m : (ℓ : Loc Cert.AttnPIdeal.nD Cert.AttnPIdeal.τ Cert.AttnPIdeal.sig) → Buf (Elt Ideal) ℓ) (g : Dev Cert.AttnPIdeal.nD → PrngReg), Pre_AttnPIdeal_finite_prompt_scores m →
    θ_run (Cert.AttnPIdeal.defs (F := Ideal)) (onTc (τ := Cert.AttnPIdeal.τ) (Cert.AttnPIdeal.main (F := Ideal))) ⟨m, fun _ => 0, g⟩ (fun r => (∀ c : Dev Cert.AttnPIdeal.nD,
      r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
      ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
      ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ r.2.sem = fun _ => 0)

def quiescent_AttnPRefIdeal [hAttnPRefIdeal : Cert.AttnPRefIdeal.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2))
      ∧ r.2.sem = fun _ => 0)

def quiescent_AttnPRefIdeal_pre_finite_prompt_scores [hAttnPRefIdeal : Cert.AttnPRefIdeal.Facts] [hPre_finite_prompt_scores : Cert.Pre_finite_prompt_scores.Facts] : Prop :=
  ∀ (m : (ℓ : Loc Cert.AttnPRefIdeal.nD Cert.AttnPRefIdeal.τ Cert.AttnPRefIdeal.sig) → Buf (Elt Ideal) ℓ) (g : Dev Cert.AttnPRefIdeal.nD → PrngReg), Pre_AttnPRefIdeal_finite_prompt_scores m →
    θ_run (Cert.AttnPRefIdeal.defs (F := Ideal)) (onTc (τ := Cert.AttnPRefIdeal.τ) (Cert.AttnPRefIdeal.main (F := Ideal))) ⟨m, fun _ => 0, g⟩ (fun r => (∀ c : Dev Cert.AttnPRefIdeal.nD,
      r.2.mem ((c.tc : Thread Cert.AttnPRefIdeal.nD Cert.AttnPRefIdeal.τ).loc Cert.AttnPRefIdeal.main_arg0) = m ((c.tc : Thread Cert.AttnPRefIdeal.nD Cert.AttnPRefIdeal.τ).loc Cert.AttnPRefIdeal.main_arg0)
      ∧ r.2.mem ((c.tc : Thread Cert.AttnPRefIdeal.nD Cert.AttnPRefIdeal.τ).loc Cert.AttnPRefIdeal.main_arg1) = m ((c.tc : Thread Cert.AttnPRefIdeal.nD Cert.AttnPRefIdeal.τ).loc Cert.AttnPRefIdeal.main_arg1)
      ∧ r.2.mem ((c.tc : Thread Cert.AttnPRefIdeal.nD Cert.AttnPRefIdeal.τ).loc Cert.AttnPRefIdeal.main_arg2) = m ((c.tc : Thread Cert.AttnPRefIdeal.nD Cert.AttnPRefIdeal.τ).loc Cert.AttnPRefIdeal.main_arg2))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6)
      ∧ r.2.mem ((c.tc : Thread Cert.ProjS.nD Cert.ProjS.τ).loc Cert.ProjS.main_arg7) = m ((c.tc : Thread Cert.ProjS.nD Cert.ProjS.τ).loc Cert.ProjS.main_arg7)
      ∧ r.2.mem ((c.tc : Thread Cert.ProjS.nD Cert.ProjS.τ).loc Cert.ProjS.main_arg8) = m ((c.tc : Thread Cert.ProjS.nD Cert.ProjS.τ).loc Cert.ProjS.main_arg8)
      ∧ r.2.mem ((c.tc : Thread Cert.ProjS.nD Cert.ProjS.τ).loc Cert.ProjS.main_arg9) = m ((c.tc : Thread Cert.ProjS.nD Cert.ProjS.τ).loc Cert.ProjS.main_arg9)
      ∧ r.2.mem ((c.tc : Thread Cert.ProjS.nD Cert.ProjS.τ).loc Cert.ProjS.main_arg10) = m ((c.tc : Thread Cert.ProjS.nD Cert.ProjS.τ).loc Cert.ProjS.main_arg10)
      ∧ r.2.mem ((c.tc : Thread Cert.ProjS.nD Cert.ProjS.τ).loc Cert.ProjS.main_arg11) = m ((c.tc : Thread Cert.ProjS.nD Cert.ProjS.τ).loc Cert.ProjS.main_arg11))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
      ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
      ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8)
      ∧ r.2.mem ((c.tc : Thread Cert.ProjSIdeal.nD Cert.ProjSIdeal.τ).loc Cert.ProjSIdeal.main_arg9) = m ((c.tc : Thread Cert.ProjSIdeal.nD Cert.ProjSIdeal.τ).loc Cert.ProjSIdeal.main_arg9)
      ∧ r.2.mem ((c.tc : Thread Cert.ProjSIdeal.nD Cert.ProjSIdeal.τ).loc Cert.ProjSIdeal.main_arg10) = m ((c.tc : Thread Cert.ProjSIdeal.nD Cert.ProjSIdeal.τ).loc Cert.ProjSIdeal.main_arg10)
      ∧ r.2.mem ((c.tc : Thread Cert.ProjSIdeal.nD Cert.ProjSIdeal.τ).loc Cert.ProjSIdeal.main_arg11) = m ((c.tc : Thread Cert.ProjSIdeal.nD Cert.ProjSIdeal.τ).loc Cert.ProjSIdeal.main_arg11))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6)
      ∧ r.2.mem ((c.tc : Thread Cert.ProjSRefIdeal.nD Cert.ProjSRefIdeal.τ).loc Cert.ProjSRefIdeal.main_arg7) = m ((c.tc : Thread Cert.ProjSRefIdeal.nD Cert.ProjSRefIdeal.τ).loc Cert.ProjSRefIdeal.main_arg7)
      ∧ r.2.mem ((c.tc : Thread Cert.ProjSRefIdeal.nD Cert.ProjSRefIdeal.τ).loc Cert.ProjSRefIdeal.main_arg8) = m ((c.tc : Thread Cert.ProjSRefIdeal.nD Cert.ProjSRefIdeal.τ).loc Cert.ProjSRefIdeal.main_arg8)
      ∧ r.2.mem ((c.tc : Thread Cert.ProjSRefIdeal.nD Cert.ProjSRefIdeal.τ).loc Cert.ProjSRefIdeal.main_arg9) = m ((c.tc : Thread Cert.ProjSRefIdeal.nD Cert.ProjSRefIdeal.τ).loc Cert.ProjSRefIdeal.main_arg9)
      ∧ r.2.mem ((c.tc : Thread Cert.ProjSRefIdeal.nD Cert.ProjSRefIdeal.τ).loc Cert.ProjSRefIdeal.main_arg10) = m ((c.tc : Thread Cert.ProjSRefIdeal.nD Cert.ProjSRefIdeal.τ).loc Cert.ProjSRefIdeal.main_arg10)
      ∧ r.2.mem ((c.tc : Thread Cert.ProjSRefIdeal.nD Cert.ProjSRefIdeal.τ).loc Cert.ProjSRefIdeal.main_arg11) = m ((c.tc : Thread Cert.ProjSRefIdeal.nD Cert.ProjSRefIdeal.τ).loc Cert.ProjSRefIdeal.main_arg11))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v30) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v66) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)
      ∧ m' ((c.tc : Thread Cert.GmlpRefIdeal.nD Cert.GmlpRefIdeal.τ).loc Cert.GmlpRefIdeal.main_arg7) = m ((c.tc : Thread Cert.GmlpIdeal.nD Cert.GmlpIdeal.τ).loc Cert.GmlpIdeal.main_arg7)) →
    ∃ (v0 : (c : Dev Cert.GmlpIdeal.nD) → Buf (Elt Ideal) ((c.tc : Thread Cert.GmlpIdeal.nD Cert.GmlpIdeal.τ).loc Cert.GmlpIdeal.main_v0)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v0) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v74) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6)
          ∧ r.2.mem ((c.tc : Thread Cert.GmlpRefIdeal.nD Cert.GmlpRefIdeal.τ).loc Cert.GmlpRefIdeal.main_arg7) = m' ((c.tc : Thread Cert.GmlpRefIdeal.nD Cert.GmlpRefIdeal.τ).loc Cert.GmlpRefIdeal.main_arg7))

def preserves_LastP_LastPIdeal : Prop :=
  True

def algebraic_LastPIdeal_LastPRefIdeal [hLastPIdeal : Cert.LastPIdeal.Facts] [hLastPRefIdeal : Cert.LastPRefIdeal.Facts] : Prop :=
  ∀ (m : (ℓ : Loc Cert.LastPIdeal.nD Cert.LastPIdeal.τ Cert.LastPIdeal.sig) → Buf (Elt Ideal) ℓ) (g : Dev Cert.LastPIdeal.nD → PrngReg)
    (m' : (ℓ : Loc Cert.LastPRefIdeal.nD Cert.LastPRefIdeal.τ Cert.LastPRefIdeal.sig) → Buf (Elt Ideal) ℓ) (g' : Dev Cert.LastPRefIdeal.nD → PrngReg), Pre_LastPIdeal m →
    (∀ c : Dev Cert.LastPIdeal.nD,
      m' ((c.tc : Thread Cert.LastPRefIdeal.nD Cert.LastPRefIdeal.τ).loc Cert.LastPRefIdeal.main_arg0) = m ((c.tc : Thread Cert.LastPIdeal.nD Cert.LastPIdeal.τ).loc Cert.LastPIdeal.main_arg0)
      ∧ m' ((c.tc : Thread Cert.LastPRefIdeal.nD Cert.LastPRefIdeal.τ).loc Cert.LastPRefIdeal.main_arg1) = m ((c.tc : Thread Cert.LastPIdeal.nD Cert.LastPIdeal.τ).loc Cert.LastPIdeal.main_arg1)
      ∧ m' ((c.tc : Thread Cert.LastPRefIdeal.nD Cert.LastPRefIdeal.τ).loc Cert.LastPRefIdeal.main_arg2) = m ((c.tc : Thread Cert.LastPIdeal.nD Cert.LastPIdeal.τ).loc Cert.LastPIdeal.main_arg2)
      ∧ m' ((c.tc : Thread Cert.LastPRefIdeal.nD Cert.LastPRefIdeal.τ).loc Cert.LastPRefIdeal.main_arg3) = m ((c.tc : Thread Cert.LastPIdeal.nD Cert.LastPIdeal.τ).loc Cert.LastPIdeal.main_arg3)
      ∧ m' ((c.tc : Thread Cert.LastPRefIdeal.nD Cert.LastPRefIdeal.τ).loc Cert.LastPRefIdeal.main_arg4) = m ((c.tc : Thread Cert.LastPIdeal.nD Cert.LastPIdeal.τ).loc Cert.LastPIdeal.main_arg4)
      ∧ m' ((c.tc : Thread Cert.LastPRefIdeal.nD Cert.LastPRefIdeal.τ).loc Cert.LastPRefIdeal.main_arg5) = m ((c.tc : Thread Cert.LastPIdeal.nD Cert.LastPIdeal.τ).loc Cert.LastPIdeal.main_arg5)
      ∧ m' ((c.tc : Thread Cert.LastPRefIdeal.nD Cert.LastPRefIdeal.τ).loc Cert.LastPRefIdeal.main_arg6) = m ((c.tc : Thread Cert.LastPIdeal.nD Cert.LastPIdeal.τ).loc Cert.LastPIdeal.main_arg6)
      ∧ m' ((c.tc : Thread Cert.LastPRefIdeal.nD Cert.LastPRefIdeal.τ).loc Cert.LastPRefIdeal.main_arg7) = m ((c.tc : Thread Cert.LastPIdeal.nD Cert.LastPIdeal.τ).loc Cert.LastPIdeal.main_arg7)) →
    ∃ (v0 : (c : Dev Cert.LastPIdeal.nD) → Buf (Elt Ideal) ((c.tc : Thread Cert.LastPIdeal.nD Cert.LastPIdeal.τ).loc Cert.LastPIdeal.main_v0)),
      θ_run (Cert.LastPIdeal.defs (F := Ideal)) (onTc (τ := Cert.LastPIdeal.τ) (Cert.LastPIdeal.main (F := Ideal))) ⟨m, fun _ => 0, g⟩ (fun r => ∀ c : Dev Cert.LastPIdeal.nD,
          r.2.mem ((c.tc : Thread Cert.LastPIdeal.nD Cert.LastPIdeal.τ).loc Cert.LastPIdeal.main_v0) = v0 c
          ∧ r.2.mem ((c.tc : Thread Cert.LastPIdeal.nD Cert.LastPIdeal.τ).loc Cert.LastPIdeal.main_arg0) = m ((c.tc : Thread Cert.LastPIdeal.nD Cert.LastPIdeal.τ).loc Cert.LastPIdeal.main_arg0)
          ∧ r.2.mem ((c.tc : Thread Cert.LastPIdeal.nD Cert.LastPIdeal.τ).loc Cert.LastPIdeal.main_arg1) = m ((c.tc : Thread Cert.LastPIdeal.nD Cert.LastPIdeal.τ).loc Cert.LastPIdeal.main_arg1)
          ∧ r.2.mem ((c.tc : Thread Cert.LastPIdeal.nD Cert.LastPIdeal.τ).loc Cert.LastPIdeal.main_arg2) = m ((c.tc : Thread Cert.LastPIdeal.nD Cert.LastPIdeal.τ).loc Cert.LastPIdeal.main_arg2)
          ∧ r.2.mem ((c.tc : Thread Cert.LastPIdeal.nD Cert.LastPIdeal.τ).loc Cert.LastPIdeal.main_arg3) = m ((c.tc : Thread Cert.LastPIdeal.nD Cert.LastPIdeal.τ).loc Cert.LastPIdeal.main_arg3)
          ∧ r.2.mem ((c.tc : Thread Cert.LastPIdeal.nD Cert.LastPIdeal.τ).loc Cert.LastPIdeal.main_arg4) = m ((c.tc : Thread Cert.LastPIdeal.nD Cert.LastPIdeal.τ).loc Cert.LastPIdeal.main_arg4)
          ∧ r.2.mem ((c.tc : Thread Cert.LastPIdeal.nD Cert.LastPIdeal.τ).loc Cert.LastPIdeal.main_arg5) = m ((c.tc : Thread Cert.LastPIdeal.nD Cert.LastPIdeal.τ).loc Cert.LastPIdeal.main_arg5)
          ∧ r.2.mem ((c.tc : Thread Cert.LastPIdeal.nD Cert.LastPIdeal.τ).loc Cert.LastPIdeal.main_arg6) = m ((c.tc : Thread Cert.LastPIdeal.nD Cert.LastPIdeal.τ).loc Cert.LastPIdeal.main_arg6)
          ∧ r.2.mem ((c.tc : Thread Cert.LastPIdeal.nD Cert.LastPIdeal.τ).loc Cert.LastPIdeal.main_arg7) = m ((c.tc : Thread Cert.LastPIdeal.nD Cert.LastPIdeal.τ).loc Cert.LastPIdeal.main_arg7))
      ∧ θ_run (Cert.LastPRefIdeal.defs (F := Ideal)) (onTc (τ := Cert.LastPRefIdeal.τ) (Cert.LastPRefIdeal.main (F := Ideal))) ⟨m', fun _ => 0, g'⟩ (fun r => ∀ c : Dev Cert.LastPRefIdeal.nD,
          r.2.mem ((c.tc : Thread Cert.LastPRefIdeal.nD Cert.LastPRefIdeal.τ).loc Cert.LastPRefIdeal.main_v70) = v0 c
          ∧ r.2.mem ((c.tc : Thread Cert.LastPRefIdeal.nD Cert.LastPRefIdeal.τ).loc Cert.LastPRefIdeal.main_arg0) = m' ((c.tc : Thread Cert.LastPRefIdeal.nD Cert.LastPRefIdeal.τ).loc Cert.LastPRefIdeal.main_arg0)
          ∧ r.2.mem ((c.tc : Thread Cert.LastPRefIdeal.nD Cert.LastPRefIdeal.τ).loc Cert.LastPRefIdeal.main_arg1) = m' ((c.tc : Thread Cert.LastPRefIdeal.nD Cert.LastPRefIdeal.τ).loc Cert.LastPRefIdeal.main_arg1)
          ∧ r.2.mem ((c.tc : Thread Cert.LastPRefIdeal.nD Cert.LastPRefIdeal.τ).loc Cert.LastPRefIdeal.main_arg2) = m' ((c.tc : Thread Cert.LastPRefIdeal.nD Cert.LastPRefIdeal.τ).loc Cert.LastPRefIdeal.main_arg2)
          ∧ r.2.mem ((c.tc : Thread Cert.LastPRefIdeal.nD Cert.LastPRefIdeal.τ).loc Cert.LastPRefIdeal.main_arg3) = m' ((c.tc : Thread Cert.LastPRefIdeal.nD Cert.LastPRefIdeal.τ).loc Cert.LastPRefIdeal.main_arg3)
          ∧ r.2.mem ((c.tc : Thread Cert.LastPRefIdeal.nD Cert.LastPRefIdeal.τ).loc Cert.LastPRefIdeal.main_arg4) = m' ((c.tc : Thread Cert.LastPRefIdeal.nD Cert.LastPRefIdeal.τ).loc Cert.LastPRefIdeal.main_arg4)
          ∧ r.2.mem ((c.tc : Thread Cert.LastPRefIdeal.nD Cert.LastPRefIdeal.τ).loc Cert.LastPRefIdeal.main_arg5) = m' ((c.tc : Thread Cert.LastPRefIdeal.nD Cert.LastPRefIdeal.τ).loc Cert.LastPRefIdeal.main_arg5)
          ∧ r.2.mem ((c.tc : Thread Cert.LastPRefIdeal.nD Cert.LastPRefIdeal.τ).loc Cert.LastPRefIdeal.main_arg6) = m' ((c.tc : Thread Cert.LastPRefIdeal.nD Cert.LastPRefIdeal.τ).loc Cert.LastPRefIdeal.main_arg6)
          ∧ r.2.mem ((c.tc : Thread Cert.LastPRefIdeal.nD Cert.LastPRefIdeal.τ).loc Cert.LastPRefIdeal.main_arg7) = m' ((c.tc : Thread Cert.LastPRefIdeal.nD Cert.LastPRefIdeal.τ).loc Cert.LastPRefIdeal.main_arg7))

def preserves_ProjP_ProjPIdeal : Prop :=
  True

def algebraic_ProjPIdeal_ProjPRefIdeal [hProjPIdeal : Cert.ProjPIdeal.Facts] [hProjPRefIdeal : Cert.ProjPRefIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.ProjPRefIdeal.nD Cert.ProjPRefIdeal.τ Cert.ProjPRefIdeal.sig) → Buf (Elt Ideal) ℓ) (g' : Dev Cert.ProjPRefIdeal.nD → PrngReg), Pre_ProjPIdeal m →
    (∀ c : Dev Cert.ProjPIdeal.nD,
      m' ((c.tc : Thread Cert.ProjPRefIdeal.nD Cert.ProjPRefIdeal.τ).loc Cert.ProjPRefIdeal.main_arg0) = m ((c.tc : Thread Cert.ProjPIdeal.nD Cert.ProjPIdeal.τ).loc Cert.ProjPIdeal.main_arg0)
      ∧ m' ((c.tc : Thread Cert.ProjPRefIdeal.nD Cert.ProjPRefIdeal.τ).loc Cert.ProjPRefIdeal.main_arg1) = m ((c.tc : Thread Cert.ProjPIdeal.nD Cert.ProjPIdeal.τ).loc Cert.ProjPIdeal.main_arg1)
      ∧ m' ((c.tc : Thread Cert.ProjPRefIdeal.nD Cert.ProjPRefIdeal.τ).loc Cert.ProjPRefIdeal.main_arg2) = m ((c.tc : Thread Cert.ProjPIdeal.nD Cert.ProjPIdeal.τ).loc Cert.ProjPIdeal.main_arg2)
      ∧ m' ((c.tc : Thread Cert.ProjPRefIdeal.nD Cert.ProjPRefIdeal.τ).loc Cert.ProjPRefIdeal.main_arg3) = m ((c.tc : Thread Cert.ProjPIdeal.nD Cert.ProjPIdeal.τ).loc Cert.ProjPIdeal.main_arg3)
      ∧ m' ((c.tc : Thread Cert.ProjPRefIdeal.nD Cert.ProjPRefIdeal.τ).loc Cert.ProjPRefIdeal.main_arg4) = m ((c.tc : Thread Cert.ProjPIdeal.nD Cert.ProjPIdeal.τ).loc Cert.ProjPIdeal.main_arg4)
      ∧ m' ((c.tc : Thread Cert.ProjPRefIdeal.nD Cert.ProjPRefIdeal.τ).loc Cert.ProjPRefIdeal.main_arg5) = m ((c.tc : Thread Cert.ProjPIdeal.nD Cert.ProjPIdeal.τ).loc Cert.ProjPIdeal.main_arg5)
      ∧ m' ((c.tc : Thread Cert.ProjPRefIdeal.nD Cert.ProjPRefIdeal.τ).loc Cert.ProjPRefIdeal.main_arg6) = m ((c.tc : Thread Cert.ProjPIdeal.nD Cert.ProjPIdeal.τ).loc Cert.ProjPIdeal.main_arg6)
      ∧ m' ((c.tc : Thread Cert.ProjPRefIdeal.nD Cert.ProjPRefIdeal.τ).loc Cert.ProjPRefIdeal.main_arg7) = m ((c.tc : Thread Cert.ProjPIdeal.nD Cert.ProjPIdeal.τ).loc Cert.ProjPIdeal.main_arg7)
      ∧ m' ((c.tc : Thread Cert.ProjPRefIdeal.nD Cert.ProjPRefIdeal.τ).loc Cert.ProjPRefIdeal.main_arg8) = m ((c.tc : Thread Cert.ProjPIdeal.nD Cert.ProjPIdeal.τ).loc Cert.ProjPIdeal.main_arg8)
      ∧ m' ((c.tc : Thread Cert.ProjPRefIdeal.nD Cert.ProjPRefIdeal.τ).loc Cert.ProjPRefIdeal.main_arg9) = m ((c.tc : Thread Cert.ProjPIdeal.nD Cert.ProjPIdeal.τ).loc Cert.ProjPIdeal.main_arg9)) →
    ∃ (v0 : (c : Dev Cert.ProjPIdeal.nD) → Buf (Elt Ideal) ((c.tc : Thread Cert.ProjPIdeal.nD Cert.ProjPIdeal.τ).loc Cert.ProjPIdeal.main_v0_0)) (v1 : (c : Dev Cert.ProjPIdeal.nD) → Buf (Elt Ideal) ((c.tc : Thread Cert.ProjPIdeal.nD Cert.ProjPIdeal.τ).loc Cert.ProjPIdeal.main_v0_1)) (v2 : (c : Dev Cert.ProjPIdeal.nD) → Buf (Elt Ideal) ((c.tc : Thread Cert.ProjPIdeal.nD Cert.ProjPIdeal.τ).loc Cert.ProjPIdeal.main_v0_2)) (v3 : (c : Dev Cert.ProjPIdeal.nD) → Buf (Elt Ideal) ((c.tc : Thread Cert.ProjPIdeal.nD Cert.ProjPIdeal.τ).loc Cert.ProjPIdeal.main_v0_3)) (v4 : (c : Dev Cert.ProjPIdeal.nD) → Buf (Elt Ideal) ((c.tc : Thread Cert.ProjPIdeal.nD Cert.ProjPIdeal.τ).loc Cert.ProjPIdeal.main_v0_4)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v0_0) = v0 c
          ∧ r.2.mem ((c.tc : Thread Cert.ProjPIdeal.nD Cert.ProjPIdeal.τ).loc Cert.ProjPIdeal.main_v0_1) = v1 c
          ∧ r.2.mem ((c.tc : Thread Cert.ProjPIdeal.nD Cert.ProjPIdeal.τ).loc Cert.ProjPIdeal.main_v0_2) = v2 c
          ∧ r.2.mem ((c.tc : Thread Cert.ProjPIdeal.nD Cert.ProjPIdeal.τ).loc Cert.ProjPIdeal.main_v0_3) = v3 c
          ∧ r.2.mem ((c.tc : Thread Cert.ProjPIdeal.nD Cert.ProjPIdeal.τ).loc Cert.ProjPIdeal.main_v0_4) = v4 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
          ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
          ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3)
          ∧ r.2.mem ((c.tc : Thread Cert.ProjPIdeal.nD Cert.ProjPIdeal.τ).loc Cert.ProjPIdeal.main_arg4) = m ((c.tc : Thread Cert.ProjPIdeal.nD Cert.ProjPIdeal.τ).loc Cert.ProjPIdeal.main_arg4)
          ∧ r.2.mem ((c.tc : Thread Cert.ProjPIdeal.nD Cert.ProjPIdeal.τ).loc Cert.ProjPIdeal.main_arg5) = m ((c.tc : Thread Cert.ProjPIdeal.nD Cert.ProjPIdeal.τ).loc Cert.ProjPIdeal.main_arg5)
          ∧ r.2.mem ((c.tc : Thread Cert.ProjPIdeal.nD Cert.ProjPIdeal.τ).loc Cert.ProjPIdeal.main_arg6) = m ((c.tc : Thread Cert.ProjPIdeal.nD Cert.ProjPIdeal.τ).loc Cert.ProjPIdeal.main_arg6)
          ∧ r.2.mem ((c.tc : Thread Cert.ProjPIdeal.nD Cert.ProjPIdeal.τ).loc Cert.ProjPIdeal.main_arg7) = m ((c.tc : Thread Cert.ProjPIdeal.nD Cert.ProjPIdeal.τ).loc Cert.ProjPIdeal.main_arg7)
          ∧ r.2.mem ((c.tc : Thread Cert.ProjPIdeal.nD Cert.ProjPIdeal.τ).loc Cert.ProjPIdeal.main_arg8) = m ((c.tc : Thread Cert.ProjPIdeal.nD Cert.ProjPIdeal.τ).loc Cert.ProjPIdeal.main_arg8)
          ∧ r.2.mem ((c.tc : Thread Cert.ProjPIdeal.nD Cert.ProjPIdeal.τ).loc Cert.ProjPIdeal.main_arg9) = m ((c.tc : Thread Cert.ProjPIdeal.nD Cert.ProjPIdeal.τ).loc Cert.ProjPIdeal.main_arg9))
      ∧ θ_run (Cert.ProjPRefIdeal.defs (F := Ideal)) (onTc (τ := Cert.ProjPRefIdeal.τ) (Cert.ProjPRefIdeal.main (F := Ideal))) ⟨m', fun _ => 0, g'⟩ (fun r => ∀ c : Dev Cert.ProjPRefIdeal.nD,
          r.2.mem ((c.tc : Thread Cert.ProjPRefIdeal.nD Cert.ProjPRefIdeal.τ).loc Cert.ProjPRefIdeal.main_v84) = v0 c
          ∧ r.2.mem ((c.tc : Thread Cert.ProjPRefIdeal.nD Cert.ProjPRefIdeal.τ).loc Cert.ProjPRefIdeal.main_v86) = v1 c
          ∧ r.2.mem ((c.tc : Thread Cert.ProjPRefIdeal.nD Cert.ProjPRefIdeal.τ).loc Cert.ProjPRefIdeal.main_v88) = v2 c
          ∧ r.2.mem ((c.tc : Thread Cert.ProjPRefIdeal.nD Cert.ProjPRefIdeal.τ).loc Cert.ProjPRefIdeal.main_v89) = v3 c
          ∧ r.2.mem ((c.tc : Thread Cert.ProjPRefIdeal.nD Cert.ProjPRefIdeal.τ).loc Cert.ProjPRefIdeal.main_v90) = v4 c
          ∧ r.2.mem ((c.tc : Thread Cert.ProjPRefIdeal.nD Cert.ProjPRefIdeal.τ).loc Cert.ProjPRefIdeal.main_arg0) = m' ((c.tc : Thread Cert.ProjPRefIdeal.nD Cert.ProjPRefIdeal.τ).loc Cert.ProjPRefIdeal.main_arg0)
          ∧ r.2.mem ((c.tc : Thread Cert.ProjPRefIdeal.nD Cert.ProjPRefIdeal.τ).loc Cert.ProjPRefIdeal.main_arg1) = m' ((c.tc : Thread Cert.ProjPRefIdeal.nD Cert.ProjPRefIdeal.τ).loc Cert.ProjPRefIdeal.main_arg1)
          ∧ r.2.mem ((c.tc : Thread Cert.ProjPRefIdeal.nD Cert.ProjPRefIdeal.τ).loc Cert.ProjPRefIdeal.main_arg2) = m' ((c.tc : Thread Cert.ProjPRefIdeal.nD Cert.ProjPRefIdeal.τ).loc Cert.ProjPRefIdeal.main_arg2)
          ∧ r.2.mem ((c.tc : Thread Cert.ProjPRefIdeal.nD Cert.ProjPRefIdeal.τ).loc Cert.ProjPRefIdeal.main_arg3) = m' ((c.tc : Thread Cert.ProjPRefIdeal.nD Cert.ProjPRefIdeal.τ).loc Cert.ProjPRefIdeal.main_arg3)
          ∧ r.2.mem ((c.tc : Thread Cert.ProjPRefIdeal.nD Cert.ProjPRefIdeal.τ).loc Cert.ProjPRefIdeal.main_arg4) = m' ((c.tc : Thread Cert.ProjPRefIdeal.nD Cert.ProjPRefIdeal.τ).loc Cert.ProjPRefIdeal.main_arg4)
          ∧ r.2.mem ((c.tc : Thread Cert.ProjPRefIdeal.nD Cert.ProjPRefIdeal.τ).loc Cert.ProjPRefIdeal.main_arg5) = m' ((c.tc : Thread Cert.ProjPRefIdeal.nD Cert.ProjPRefIdeal.τ).loc Cert.ProjPRefIdeal.main_arg5)
          ∧ r.2.mem ((c.tc : Thread Cert.ProjPRefIdeal.nD Cert.ProjPRefIdeal.τ).loc Cert.ProjPRefIdeal.main_arg6) = m' ((c.tc : Thread Cert.ProjPRefIdeal.nD Cert.ProjPRefIdeal.τ).loc Cert.ProjPRefIdeal.main_arg6)
          ∧ r.2.mem ((c.tc : Thread Cert.ProjPRefIdeal.nD Cert.ProjPRefIdeal.τ).loc Cert.ProjPRefIdeal.main_arg7) = m' ((c.tc : Thread Cert.ProjPRefIdeal.nD Cert.ProjPRefIdeal.τ).loc Cert.ProjPRefIdeal.main_arg7)
          ∧ r.2.mem ((c.tc : Thread Cert.ProjPRefIdeal.nD Cert.ProjPRefIdeal.τ).loc Cert.ProjPRefIdeal.main_arg8) = m' ((c.tc : Thread Cert.ProjPRefIdeal.nD Cert.ProjPRefIdeal.τ).loc Cert.ProjPRefIdeal.main_arg8)
          ∧ r.2.mem ((c.tc : Thread Cert.ProjPRefIdeal.nD Cert.ProjPRefIdeal.τ).loc Cert.ProjPRefIdeal.main_arg9) = m' ((c.tc : Thread Cert.ProjPRefIdeal.nD Cert.ProjPRefIdeal.τ).loc Cert.ProjPRefIdeal.main_arg9))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)) →
    ∃ (v0 : (c : Dev Cert.ModulIdeal.nD) → Buf (Elt Ideal) ((c.tc : Thread Cert.ModulIdeal.nD Cert.ModulIdeal.τ).loc Cert.ModulIdeal.main_v1)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v1) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v20) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2))

def preserves_Cache_CacheIdeal : Prop :=
  True

def algebraic_CacheIdeal_CacheRefIdeal [hCacheIdeal : Cert.CacheIdeal.Facts] [hCacheRefIdeal : Cert.CacheRefIdeal.Facts] : Prop :=
  ∀ (m : (ℓ : Loc Cert.CacheIdeal.nD Cert.CacheIdeal.τ Cert.CacheIdeal.sig) → Buf (Elt Ideal) ℓ) (g : Dev Cert.CacheIdeal.nD → PrngReg)
    (m' : (ℓ : Loc Cert.CacheRefIdeal.nD Cert.CacheRefIdeal.τ Cert.CacheRefIdeal.sig) → Buf (Elt Ideal) ℓ) (g' : Dev Cert.CacheRefIdeal.nD → PrngReg), Pre_CacheIdeal m →
    (∀ c : Dev Cert.CacheIdeal.nD,
      m' ((c.tc : Thread Cert.CacheRefIdeal.nD Cert.CacheRefIdeal.τ).loc Cert.CacheRefIdeal.main_arg0) = m ((c.tc : Thread Cert.CacheIdeal.nD Cert.CacheIdeal.τ).loc Cert.CacheIdeal.main_arg0)
      ∧ m' ((c.tc : Thread Cert.CacheRefIdeal.nD Cert.CacheRefIdeal.τ).loc Cert.CacheRefIdeal.main_arg1) = m ((c.tc : Thread Cert.CacheIdeal.nD Cert.CacheIdeal.τ).loc Cert.CacheIdeal.main_arg1)
      ∧ m' ((c.tc : Thread Cert.CacheRefIdeal.nD Cert.CacheRefIdeal.τ).loc Cert.CacheRefIdeal.main_arg2) = m ((c.tc : Thread Cert.CacheIdeal.nD Cert.CacheIdeal.τ).loc Cert.CacheIdeal.main_arg2)
      ∧ m' ((c.tc : Thread Cert.CacheRefIdeal.nD Cert.CacheRefIdeal.τ).loc Cert.CacheRefIdeal.main_arg3) = m ((c.tc : Thread Cert.CacheIdeal.nD Cert.CacheIdeal.τ).loc Cert.CacheIdeal.main_arg3)) →
    ∃ (v0 : (c : Dev Cert.CacheIdeal.nD) → Buf (Elt Ideal) ((c.tc : Thread Cert.CacheIdeal.nD Cert.CacheIdeal.τ).loc Cert.CacheIdeal.main_v0_0)) (v1 : (c : Dev Cert.CacheIdeal.nD) → Buf (Elt Ideal) ((c.tc : Thread Cert.CacheIdeal.nD Cert.CacheIdeal.τ).loc Cert.CacheIdeal.main_v0_1)),
      θ_run (Cert.CacheIdeal.defs (F := Ideal)) (onTc (τ := Cert.CacheIdeal.τ) (Cert.CacheIdeal.main (F := Ideal))) ⟨m, fun _ => 0, g⟩ (fun r => ∀ c : Dev Cert.CacheIdeal.nD,
          r.2.mem ((c.tc : Thread Cert.CacheIdeal.nD Cert.CacheIdeal.τ).loc Cert.CacheIdeal.main_v0_0) = v0 c
          ∧ r.2.mem ((c.tc : Thread Cert.CacheIdeal.nD Cert.CacheIdeal.τ).loc Cert.CacheIdeal.main_v0_1) = v1 c
          ∧ r.2.mem ((c.tc : Thread Cert.CacheIdeal.nD Cert.CacheIdeal.τ).loc Cert.CacheIdeal.main_arg0) = m ((c.tc : Thread Cert.CacheIdeal.nD Cert.CacheIdeal.τ).loc Cert.CacheIdeal.main_arg0)
          ∧ r.2.mem ((c.tc : Thread Cert.CacheIdeal.nD Cert.CacheIdeal.τ).loc Cert.CacheIdeal.main_arg1) = m ((c.tc : Thread Cert.CacheIdeal.nD Cert.CacheIdeal.τ).loc Cert.CacheIdeal.main_arg1)
          ∧ r.2.mem ((c.tc : Thread Cert.CacheIdeal.nD Cert.CacheIdeal.τ).loc Cert.CacheIdeal.main_arg2) = m ((c.tc : Thread Cert.CacheIdeal.nD Cert.CacheIdeal.τ).loc Cert.CacheIdeal.main_arg2)
          ∧ r.2.mem ((c.tc : Thread Cert.CacheIdeal.nD Cert.CacheIdeal.τ).loc Cert.CacheIdeal.main_arg3) = m ((c.tc : Thread Cert.CacheIdeal.nD Cert.CacheIdeal.τ).loc Cert.CacheIdeal.main_arg3))
      ∧ θ_run (Cert.CacheRefIdeal.defs (F := Ideal)) (onTc (τ := Cert.CacheRefIdeal.τ) (Cert.CacheRefIdeal.main (F := Ideal))) ⟨m', fun _ => 0, g'⟩ (fun r => ∀ c : Dev Cert.CacheRefIdeal.nD,
          r.2.mem ((c.tc : Thread Cert.CacheRefIdeal.nD Cert.CacheRefIdeal.τ).loc Cert.CacheRefIdeal.main_v9) = v0 c
          ∧ r.2.mem ((c.tc : Thread Cert.CacheRefIdeal.nD Cert.CacheRefIdeal.τ).loc Cert.CacheRefIdeal.main_v11) = v1 c
          ∧ r.2.mem ((c.tc : Thread Cert.CacheRefIdeal.nD Cert.CacheRefIdeal.τ).loc Cert.CacheRefIdeal.main_arg0) = m' ((c.tc : Thread Cert.CacheRefIdeal.nD Cert.CacheRefIdeal.τ).loc Cert.CacheRefIdeal.main_arg0)
          ∧ r.2.mem ((c.tc : Thread Cert.CacheRefIdeal.nD Cert.CacheRefIdeal.τ).loc Cert.CacheRefIdeal.main_arg1) = m' ((c.tc : Thread Cert.CacheRefIdeal.nD Cert.CacheRefIdeal.τ).loc Cert.CacheRefIdeal.main_arg1)
          ∧ r.2.mem ((c.tc : Thread Cert.CacheRefIdeal.nD Cert.CacheRefIdeal.τ).loc Cert.CacheRefIdeal.main_arg2) = m' ((c.tc : Thread Cert.CacheRefIdeal.nD Cert.CacheRefIdeal.τ).loc Cert.CacheRefIdeal.main_arg2)
          ∧ r.2.mem ((c.tc : Thread Cert.CacheRefIdeal.nD Cert.CacheRefIdeal.τ).loc Cert.CacheRefIdeal.main_arg3) = m' ((c.tc : Thread Cert.CacheRefIdeal.nD Cert.CacheRefIdeal.τ).loc Cert.CacheRefIdeal.main_arg3))

def preserves_AttnP_AttnPIdeal : Prop :=
  True

def algebraic_AttnPIdeal_AttnPRefIdeal_pre_finite_prompt_scores [hAttnPIdeal : Cert.AttnPIdeal.Facts] [hAttnPRefIdeal : Cert.AttnPRefIdeal.Facts] [hPre_finite_prompt_scores : Cert.Pre_finite_prompt_scores.Facts] : Prop :=
  ∀ (m : (ℓ : Loc Cert.AttnPIdeal.nD Cert.AttnPIdeal.τ Cert.AttnPIdeal.sig) → Buf (Elt Ideal) ℓ) (g : Dev Cert.AttnPIdeal.nD → PrngReg)
    (m' : (ℓ : Loc Cert.AttnPRefIdeal.nD Cert.AttnPRefIdeal.τ Cert.AttnPRefIdeal.sig) → Buf (Elt Ideal) ℓ) (g' : Dev Cert.AttnPRefIdeal.nD → PrngReg), Pre_AttnPIdeal_finite_prompt_scores m →
    (∀ c : Dev Cert.AttnPIdeal.nD,
      m' ((c.tc : Thread Cert.AttnPRefIdeal.nD Cert.AttnPRefIdeal.τ).loc Cert.AttnPRefIdeal.main_arg0) = m ((c.tc : Thread Cert.AttnPIdeal.nD Cert.AttnPIdeal.τ).loc Cert.AttnPIdeal.main_arg0)
      ∧ m' ((c.tc : Thread Cert.AttnPRefIdeal.nD Cert.AttnPRefIdeal.τ).loc Cert.AttnPRefIdeal.main_arg1) = m ((c.tc : Thread Cert.AttnPIdeal.nD Cert.AttnPIdeal.τ).loc Cert.AttnPIdeal.main_arg1)
      ∧ m' ((c.tc : Thread Cert.AttnPRefIdeal.nD Cert.AttnPRefIdeal.τ).loc Cert.AttnPRefIdeal.main_arg2) = m ((c.tc : Thread Cert.AttnPIdeal.nD Cert.AttnPIdeal.τ).loc Cert.AttnPIdeal.main_arg2)) →
    ∃ (v0 : (c : Dev Cert.AttnPIdeal.nD) → Buf (Elt Ideal) ((c.tc : Thread Cert.AttnPIdeal.nD Cert.AttnPIdeal.τ).loc Cert.AttnPIdeal.main_v0)),
      θ_run (Cert.AttnPIdeal.defs (F := Ideal)) (onTc (τ := Cert.AttnPIdeal.τ) (Cert.AttnPIdeal.main (F := Ideal))) ⟨m, fun _ => 0, g⟩ (fun r => ∀ c : Dev Cert.AttnPIdeal.nD,
          r.2.mem ((c.tc : Thread Cert.AttnPIdeal.nD Cert.AttnPIdeal.τ).loc Cert.AttnPIdeal.main_v0) = v0 c
          ∧ r.2.mem ((c.tc : Thread Cert.AttnPIdeal.nD Cert.AttnPIdeal.τ).loc Cert.AttnPIdeal.main_arg0) = m ((c.tc : Thread Cert.AttnPIdeal.nD Cert.AttnPIdeal.τ).loc Cert.AttnPIdeal.main_arg0)
          ∧ r.2.mem ((c.tc : Thread Cert.AttnPIdeal.nD Cert.AttnPIdeal.τ).loc Cert.AttnPIdeal.main_arg1) = m ((c.tc : Thread Cert.AttnPIdeal.nD Cert.AttnPIdeal.τ).loc Cert.AttnPIdeal.main_arg1)
          ∧ r.2.mem ((c.tc : Thread Cert.AttnPIdeal.nD Cert.AttnPIdeal.τ).loc Cert.AttnPIdeal.main_arg2) = m ((c.tc : Thread Cert.AttnPIdeal.nD Cert.AttnPIdeal.τ).loc Cert.AttnPIdeal.main_arg2))
      ∧ θ_run (Cert.AttnPRefIdeal.defs (F := Ideal)) (onTc (τ := Cert.AttnPRefIdeal.τ) (Cert.AttnPRefIdeal.main (F := Ideal))) ⟨m', fun _ => 0, g'⟩ (fun r => ∀ c : Dev Cert.AttnPRefIdeal.nD,
          r.2.mem ((c.tc : Thread Cert.AttnPRefIdeal.nD Cert.AttnPRefIdeal.τ).loc Cert.AttnPRefIdeal.main_v24) = v0 c
          ∧ r.2.mem ((c.tc : Thread Cert.AttnPRefIdeal.nD Cert.AttnPRefIdeal.τ).loc Cert.AttnPRefIdeal.main_arg0) = m' ((c.tc : Thread Cert.AttnPRefIdeal.nD Cert.AttnPRefIdeal.τ).loc Cert.AttnPRefIdeal.main_arg0)
          ∧ r.2.mem ((c.tc : Thread Cert.AttnPRefIdeal.nD Cert.AttnPRefIdeal.τ).loc Cert.AttnPRefIdeal.main_arg1) = m' ((c.tc : Thread Cert.AttnPRefIdeal.nD Cert.AttnPRefIdeal.τ).loc Cert.AttnPRefIdeal.main_arg1)
          ∧ r.2.mem ((c.tc : Thread Cert.AttnPRefIdeal.nD Cert.AttnPRefIdeal.τ).loc Cert.AttnPRefIdeal.main_arg2) = m' ((c.tc : Thread Cert.AttnPRefIdeal.nD Cert.AttnPRefIdeal.τ).loc Cert.AttnPRefIdeal.main_arg2))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)
      ∧ m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)
      ∧ m' ((c.tc : Thread Cert.ProjSRefIdeal.nD Cert.ProjSRefIdeal.τ).loc Cert.ProjSRefIdeal.main_arg8) = m ((c.tc : Thread Cert.ProjSIdeal.nD Cert.ProjSIdeal.τ).loc Cert.ProjSIdeal.main_arg8)
      ∧ m' ((c.tc : Thread Cert.ProjSRefIdeal.nD Cert.ProjSRefIdeal.τ).loc Cert.ProjSRefIdeal.main_arg9) = m ((c.tc : Thread Cert.ProjSIdeal.nD Cert.ProjSIdeal.τ).loc Cert.ProjSIdeal.main_arg9)
      ∧ m' ((c.tc : Thread Cert.ProjSRefIdeal.nD Cert.ProjSRefIdeal.τ).loc Cert.ProjSRefIdeal.main_arg10) = m ((c.tc : Thread Cert.ProjSIdeal.nD Cert.ProjSIdeal.τ).loc Cert.ProjSIdeal.main_arg10)
      ∧ m' ((c.tc : Thread Cert.ProjSRefIdeal.nD Cert.ProjSRefIdeal.τ).loc Cert.ProjSRefIdeal.main_arg11) = m ((c.tc : Thread Cert.ProjSIdeal.nD Cert.ProjSIdeal.τ).loc Cert.ProjSIdeal.main_arg11)) →
    ∃ (v0 : (c : Dev Cert.ProjSIdeal.nD) → Buf (Elt Ideal) ((c.tc : Thread Cert.ProjSIdeal.nD Cert.ProjSIdeal.τ).loc Cert.ProjSIdeal.main_v4_0)) (v1 : (c : Dev Cert.ProjSIdeal.nD) → Buf (Elt Ideal) ((c.tc : Thread Cert.ProjSIdeal.nD Cert.ProjSIdeal.τ).loc Cert.ProjSIdeal.main_v4_1)) (v2 : (c : Dev Cert.ProjSIdeal.nD) → Buf (Elt Ideal) ((c.tc : Thread Cert.ProjSIdeal.nD Cert.ProjSIdeal.τ).loc Cert.ProjSIdeal.main_v4_2)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v4_0) = v0 c
          ∧ r.2.mem ((c.tc : Thread Cert.ProjSIdeal.nD Cert.ProjSIdeal.τ).loc Cert.ProjSIdeal.main_v4_1) = v1 c
          ∧ r.2.mem ((c.tc : Thread Cert.ProjSIdeal.nD Cert.ProjSIdeal.τ).loc Cert.ProjSIdeal.main_v4_2) = v2 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
          ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
          ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8)
          ∧ r.2.mem ((c.tc : Thread Cert.ProjSIdeal.nD Cert.ProjSIdeal.τ).loc Cert.ProjSIdeal.main_arg9) = m ((c.tc : Thread Cert.ProjSIdeal.nD Cert.ProjSIdeal.τ).loc Cert.ProjSIdeal.main_arg9)
          ∧ r.2.mem ((c.tc : Thread Cert.ProjSIdeal.nD Cert.ProjSIdeal.τ).loc Cert.ProjSIdeal.main_arg10) = m ((c.tc : Thread Cert.ProjSIdeal.nD Cert.ProjSIdeal.τ).loc Cert.ProjSIdeal.main_arg10)
          ∧ r.2.mem ((c.tc : Thread Cert.ProjSIdeal.nD Cert.ProjSIdeal.τ).loc Cert.ProjSIdeal.main_arg11) = m ((c.tc : Thread Cert.ProjSIdeal.nD Cert.ProjSIdeal.τ).loc Cert.ProjSIdeal.main_arg11))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v104) = v0 c
          ∧ r.2.mem ((c.tc : Thread Cert.ProjSRefIdeal.nD Cert.ProjSRefIdeal.τ).loc Cert.ProjSRefIdeal.main_v107) = v1 c
          ∧ r.2.mem ((c.tc : Thread Cert.ProjSRefIdeal.nD Cert.ProjSRefIdeal.τ).loc Cert.ProjSRefIdeal.main_v110) = v2 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6)
          ∧ r.2.mem ((c.tc : Thread Cert.ProjSRefIdeal.nD Cert.ProjSRefIdeal.τ).loc Cert.ProjSRefIdeal.main_arg7) = m' ((c.tc : Thread Cert.ProjSRefIdeal.nD Cert.ProjSRefIdeal.τ).loc Cert.ProjSRefIdeal.main_arg7)
          ∧ r.2.mem ((c.tc : Thread Cert.ProjSRefIdeal.nD Cert.ProjSRefIdeal.τ).loc Cert.ProjSRefIdeal.main_arg8) = m' ((c.tc : Thread Cert.ProjSRefIdeal.nD Cert.ProjSRefIdeal.τ).loc Cert.ProjSRefIdeal.main_arg8)
          ∧ r.2.mem ((c.tc : Thread Cert.ProjSRefIdeal.nD Cert.ProjSRefIdeal.τ).loc Cert.ProjSRefIdeal.main_arg9) = m' ((c.tc : Thread Cert.ProjSRefIdeal.nD Cert.ProjSRefIdeal.τ).loc Cert.ProjSRefIdeal.main_arg9)
          ∧ r.2.mem ((c.tc : Thread Cert.ProjSRefIdeal.nD Cert.ProjSRefIdeal.τ).loc Cert.ProjSRefIdeal.main_arg10) = m' ((c.tc : Thread Cert.ProjSRefIdeal.nD Cert.ProjSRefIdeal.τ).loc Cert.ProjSRefIdeal.main_arg10)
          ∧ r.2.mem ((c.tc : Thread Cert.ProjSRefIdeal.nD Cert.ProjSRefIdeal.τ).loc Cert.ProjSRefIdeal.main_arg11) = m' ((c.tc : Thread Cert.ProjSRefIdeal.nD Cert.ProjSRefIdeal.τ).loc Cert.ProjSRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts) (hGmlp : Cert.Gmlp.Facts) (hGmlpIdeal : Cert.GmlpIdeal.Facts) (hGmlpRefIdeal : Cert.GmlpRefIdeal.Facts) (hLastP : Cert.LastP.Facts) (hLastPIdeal : Cert.LastPIdeal.Facts) (hLastPRefIdeal : Cert.LastPRefIdeal.Facts) (hProjP : Cert.ProjP.Facts) (hProjPIdeal : Cert.ProjPIdeal.Facts) (hProjPRefIdeal : Cert.ProjPRefIdeal.Facts) (hModul : Cert.Modul.Facts) (hModulIdeal : Cert.ModulIdeal.Facts) (hModulRefIdeal : Cert.ModulRefIdeal.Facts) (hCache : Cert.Cache.Facts) (hCacheIdeal : Cert.CacheIdeal.Facts) (hCacheRefIdeal : Cert.CacheRefIdeal.Facts) (hAttnP : Cert.AttnP.Facts) (hAttnPIdeal : Cert.AttnPIdeal.Facts) (hAttnPRefIdeal : Cert.AttnPRefIdeal.Facts) (hProjS : Cert.ProjS.Facts) (hProjSIdeal : Cert.ProjSIdeal.Facts) (hProjSRefIdeal : Cert.ProjSRefIdeal.Facts) (hPre_finite_scores : Cert.Pre_finite_scores.Facts) (hPre_finite_prompt_scores : Cert.Pre_finite_prompt_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_LastP (hLastP := hLastP)
    ∧ quiescent_LastPIdeal (hLastPIdeal := hLastPIdeal)
    ∧ quiescent_LastPRefIdeal (hLastPRefIdeal := hLastPRefIdeal)
    ∧ quiescent_ProjP (hProjP := hProjP)
    ∧ quiescent_ProjPIdeal (hProjPIdeal := hProjPIdeal)
    ∧ quiescent_ProjPRefIdeal (hProjPRefIdeal := hProjPRefIdeal)
    ∧ quiescent_Modul (hModul := hModul)
    ∧ quiescent_ModulIdeal (hModulIdeal := hModulIdeal)
    ∧ quiescent_ModulRefIdeal (hModulRefIdeal := hModulRefIdeal)
    ∧ quiescent_Cache (hCache := hCache)
    ∧ quiescent_CacheIdeal (hCacheIdeal := hCacheIdeal)
    ∧ quiescent_CacheRefIdeal (hCacheRefIdeal := hCacheRefIdeal)
    ∧ quiescent_AttnP (hAttnP := hAttnP)
    ∧ quiescent_AttnPIdeal (hAttnPIdeal := hAttnPIdeal)
    ∧ quiescent_AttnPIdeal_pre_finite_prompt_scores (hAttnPIdeal := hAttnPIdeal) (hPre_finite_prompt_scores := hPre_finite_prompt_scores)
    ∧ quiescent_AttnPRefIdeal (hAttnPRefIdeal := hAttnPRefIdeal)
    ∧ quiescent_AttnPRefIdeal_pre_finite_prompt_scores (hAttnPRefIdeal := hAttnPRefIdeal) (hPre_finite_prompt_scores := hPre_finite_prompt_scores)
    ∧ quiescent_ProjS (hProjS := hProjS)
    ∧ quiescent_ProjSIdeal (hProjSIdeal := hProjSIdeal)
    ∧ quiescent_ProjSRefIdeal (hProjSRefIdeal := hProjSRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
    ∧ preserves_Gmlp_GmlpIdeal
    ∧ algebraic_GmlpIdeal_GmlpRefIdeal (hGmlpIdeal := hGmlpIdeal) (hGmlpRefIdeal := hGmlpRefIdeal)
    ∧ preserves_LastP_LastPIdeal
    ∧ algebraic_LastPIdeal_LastPRefIdeal (hLastPIdeal := hLastPIdeal) (hLastPRefIdeal := hLastPRefIdeal)
    ∧ preserves_ProjP_ProjPIdeal
    ∧ algebraic_ProjPIdeal_ProjPRefIdeal (hProjPIdeal := hProjPIdeal) (hProjPRefIdeal := hProjPRefIdeal)
    ∧ preserves_Modul_ModulIdeal
    ∧ algebraic_ModulIdeal_ModulRefIdeal (hModulIdeal := hModulIdeal) (hModulRefIdeal := hModulRefIdeal)
    ∧ preserves_Cache_CacheIdeal
    ∧ algebraic_CacheIdeal_CacheRefIdeal (hCacheIdeal := hCacheIdeal) (hCacheRefIdeal := hCacheRefIdeal)
    ∧ preserves_AttnP_AttnPIdeal
    ∧ algebraic_AttnPIdeal_AttnPRefIdeal_pre_finite_prompt_scores (hAttnPIdeal := hAttnPIdeal) (hAttnPRefIdeal := hAttnPRefIdeal) (hPre_finite_prompt_scores := hPre_finite_prompt_scores)
    ∧ preserves_ProjS_ProjSIdeal
    ∧ algebraic_ProjSIdeal_ProjSRefIdeal (hProjSIdeal := hProjSIdeal) (hProjSRefIdeal := hProjSRefIdeal)
-- ==== Pre_finite_prompt_scores.lean ====
abbrev S8192x2048 : Shape := ⟨2, ![8192, 2048]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .bf16) (main_arg2 : FVec F S8192x1024 .bf16) : IVec S_ 1 × IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  (main_v4, main_v9)
-- ==== Pre_finite_scores.lean ====
abbrev S2048x16384 : Shape := ⟨2, ![2048, 16384]⟩
abbrev S8x16384x256 : Shape := ⟨3, ![8, 16384, 256]⟩
abbrev S1024x16384 : Shape := ⟨2, ![1024, 16384]⟩
abbrev S8x4096x256 : Shape := ⟨3, ![8, 4096, 256]⟩
abbrev S1024x4096 : Shape := ⟨2, ![1024, 4096]⟩
abbrev S_ : Shape := ⟨0, ![]⟩

class Facts : Prop where
  bitsLt_bf16_f32 : FTy.bits .bf16 < FTy.bits .f32
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S8x16384x256 : S_.BroadcastsInDim S8x16384x256 (![] : Fin 0 → Fin S8x16384x256.rank)
  reducesTo_S8x16384x256_S_d0_1_2 : S8x16384x256.ReducesTo [0, 1, 2] S_
  bcast_S_S8x4096x256 : S_.BroadcastsInDim S8x4096x256 (![] : Fin 0 → Fin S8x4096x256.rank)
  reducesTo_S8x4096x256_S_d0_1_2 : S8x4096x256.ReducesTo [0, 1, 2] S_

variable [Facts]

def fn {F : FTy → Type} [FloatOps F] (main_arg0 : FVec F S2048x16384 .bf16) (main_arg1 : FVec F S8x16384x256 .bf16) (main_arg2 : FVec F S1024x16384 .bf16) (main_arg3 : FVec F S8x4096x256 .bf16) (main_arg4 : FVec F S1024x4096 .bf16) : IVec S_ 1 × IVec S_ 1 × IVec S_ 1 :=
  let main_v0 : FVec F S2048x16384 .f32 := (extf .f32 · bitsLt_bf16_f32) main_arg0
  let main_v1 : FVec F S2048x16384 .f32 := Host.absf main_v0
  let main_cst : FVec F S_ .f32 := constant S_ .f32 0x7F800000#32
  let main_v2 : FVec F S2048x16384 .f32 := broadcastInDim S2048x16384 ![] bcast_S_S2048x16384 main_cst
  let main_v3 : IVec S2048x16384 1 := cmpf .olt main_v1 main_v2
  let main_c : IVec S_ 1 := constantI S_ 1 1#1
  let main_v4 : IVec S_ 1 := (fun x v => Host.reduce IntOp.andi x v reducesTo_S2048x16384_S_d0_1 h_S_) main_v3 main_c
  let main_v5 : FVec F S8x16384x256 .f32 := (extf .f32 · bitsLt_bf16_f32) main_arg1
  let main_v6 : FVec F S8x16384x256 .f32 := Host.absf main_v5
  let main_cst_0 : FVec F S_ .f32 := constant S_ .f32 0x7F800000#32
  let main_v7 : FVec F S8x16384x256 .f32 := broadcastInDim S8x16384x256 ![] bcast_S_S8x16384x256 main_cst_0
  let main_v8 : IVec S8x16384x256 1 := cmpf .olt main_v6 main_v7
  let main_c_1 : IVec S_ 1 := constantI S_ 1 1#1
  let main_v9 : IVec S_ 1 := (fun x v => Host.reduce IntOp.andi x v reducesTo_S8x16384x256_S_d0_1_2 h_S_) main_v8 main_c_1
  let main_v10 : FVec F S8x4096x256 .f32 := (extf .f32 · bitsLt_bf16_f32) main_arg3
  let main_v11 : FVec F S8x4096x256 .f32 := Host.absf main_v10
  let main_cst_2 : FVec F S_ .f32 := constant S_ .f32 0x7F800000#32
  let main_v12 : FVec F S8x4096x256 .f32 := broadcastInDim S8x4096x256 ![] bcast_S_S8x4096x256 main_cst_2
  let main_v13 : IVec S8x4096x256 1 := cmpf .olt main_v11 main_v12
  let main_c_3 : IVec S_ 1 := constantI S_ 1 1#1
  let main_v14 : IVec S_ 1 := (fun x v => Host.reduce IntOp.andi x v reducesTo_S8x4096x256_S_d0_1_2 h_S_) main_v13 main_c_3
  (main_v4, main_v9, main_v14)
-- ==== Attn.lean ====
abbrev S2048x16384 : Shape := ⟨2, ![2048, 16384]⟩
abbrev S8x16384x256 : Shape := ⟨3, ![8, 16384, 256]⟩
abbrev S1024x16384 : Shape := ⟨2, ![1024, 16384]⟩
abbrev S8x4096x256 : Shape := ⟨3, ![8, 4096, 256]⟩
abbrev S1024x4096 : Shape := ⟨2, ![1024, 4096]⟩
abbrev S16384x1024 : Shape := ⟨2, ![16384, 1024]⟩
abbrev S1024x2048 : Shape := ⟨2, ![1024, 2048]⟩
abbrev S4x2048x256 : Shape := ⟨3, ![4, 2048, 256]⟩
abbrev S512x2048 : Shape := ⟨2, ![512, 2048]⟩
abbrev S4x512x256 : Shape := ⟨3, ![4, 512, 256]⟩
abbrev S512x512 : Shape := ⟨2, ![512, 512]⟩
abbrev S2048x512 : Shape := ⟨2, ![2048, 512]⟩
abbrev S2560x256 : Shape := ⟨2, ![2560, 256]⟩
abbrev S1x256 : Shape := ⟨2, ![1, 256]⟩
abbrev S256x256 : Shape := ⟨2, ![256, 256]⟩
abbrev S1x512x256 : Shape := ⟨3, ![1, 512, 256]⟩
abbrev S512x256 : Shape := ⟨2, ![512, 256]⟩
abbrev S64x8x256 : Shape := ⟨3, ![64, 8, 256]⟩
abbrev S8x256 : Shape := ⟨2, ![8, 256]⟩
abbrev S256 : Shape := ⟨1, ![256]⟩
abbrev S128x512 : Shape := ⟨2, ![128, 512]⟩
abbrev S128x256 : Shape := ⟨2, ![128, 256]⟩
abbrev S256x128 : Shape := ⟨2, ![256, 128]⟩

abbrev nBuf : Space → Nat
  | .hbm => 6
  | .vmem => 16
  | .smem => 0
  | _ => 0

abbrev bufTy : (tb : Table) → Fin (tcTables nBuf tb) → BufTy
  | .hbm, ⟨0, _⟩ => ⟨S2048x16384, .bf16⟩
  | .hbm, ⟨1, _⟩ => ⟨S8x16384x256, .bf16⟩
  | .hbm, ⟨2, _⟩ => ⟨S1024x16384, .bf16⟩
  | .hbm, ⟨3, _⟩ => ⟨S8x4096x256, .bf16⟩
  | .hbm, ⟨4, _⟩ => ⟨S1024x4096, .bf16⟩
  | .hbm, ⟨5, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S4x2048x256, .bf16⟩
  | .local _ .vmem, ⟨3, _⟩ => ⟨S4x2048x256, .bf16⟩
  | .local _ .vmem, ⟨4, _⟩ => ⟨S512x2048, .bf16⟩
  | .local _ .vmem, ⟨5, _⟩ => ⟨S512x2048, .bf16⟩
  | .local _ .vmem, ⟨6, _⟩ => ⟨S4x512x256, .bf16⟩
  | .local _ .vmem, ⟨7, _⟩ => ⟨S4x512x256, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S2560x256, .f32⟩
  | .local _ .vmem, ⟨13, _⟩ => ⟨S2560x256, .f32⟩
  | .local _ .vmem, ⟨14, _⟩ => ⟨S1x256, .f32⟩
  | .local _ .vmem, ⟨15, _⟩ => ⟨S1x256, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S2048x16384 : Shape := ⟨2, ![2048, 16384]⟩
abbrev S8x16384x256 : Shape := ⟨3, ![8, 16384, 256]⟩
abbrev S1024x16384 : Shape := ⟨2, ![1024, 16384]⟩
abbrev S8x4096x256 : Shape := ⟨3, ![8, 4096, 256]⟩
abbrev S1024x4096 : Shape := ⟨2, ![1024, 4096]⟩
abbrev S8x256x8x2048 : Shape := ⟨4, ![8, 256, 8, 2048]⟩
abbrev S8x8x512x256 : Shape := ⟨4, ![8, 8, 512, 256]⟩
abbrev S8x8x2048x256 : Shape := ⟨4, ![8, 8, 2048, 256]⟩
abbrev S8x8x2560x256 : Shape := ⟨4, ![8, 8, 2560, 256]⟩
abbrev S8x128x8x512 : Shape := ⟨4, ![8, 128, 8, 512]⟩
abbrev S8x128x8x2048 : Shape := ⟨4, ![8, 128, 8, 2048]⟩
abbrev S8x128x8x2560 : Shape := ⟨4, ![8, 128, 8, 2560]⟩
abbrev S8x8x2048x2560 : Shape := ⟨4, ![8, 8, 2048, 2560]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x8x128 : Shape := ⟨4, ![8, 2048, 8, 128]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S8x16384x256, .bf16⟩
  | .hbm, ⟨2, _⟩ => ⟨S1024x16384, .bf16⟩
  | .hbm, ⟨3, _⟩ => ⟨S8x4096x256, .bf16⟩
  | .hbm, ⟨4, _⟩ => ⟨S1024x4096, .bf16⟩
  | .hbm, ⟨5, _⟩ => ⟨S2048x16384, .f32⟩
  | .hbm, ⟨6, _⟩ => ⟨S8x256x8x2048, .f32⟩
  | .hbm, ⟨7, _⟩ => ⟨S8x4096x256, .f32⟩
  | .hbm, ⟨8, _⟩ => ⟨S8x8x512x256, .f32⟩
  | .hbm, ⟨9, _⟩ => ⟨S8x16384x256, .f32⟩
  | .hbm, ⟨10, _⟩ => ⟨S8x8x2048x256, .f32⟩
  | .hbm, ⟨11, _⟩ => ⟨S8x8x2560x256, .f32⟩
  | .hbm, ⟨12, _⟩ => ⟨S1024x4096, .f32⟩
  | .hbm, ⟨13, _⟩ => ⟨S8x128x8x512, .f32⟩
  | .hbm, ⟨14, _⟩ => ⟨S1024x16384, .f32⟩
  | .hbm, ⟨15, _⟩ => ⟨S8x128x8x2048, .f32⟩
  | .hbm, ⟨16, _⟩ => ⟨S8x128x8x2560, .f32⟩
  | .hbm, ⟨17, _⟩ => ⟨S8x8x2048x2560, .f32⟩
  | .hbm, ⟨18, _⟩ => ⟨S_, .f32⟩
  | .hbm, ⟨19, _⟩ => ⟨S_, .f32⟩
  | .hbm, ⟨20, _⟩ => ⟨S8x8x2048x2560, .f32⟩
  | .hbm, ⟨21, _⟩ => ⟨S8x8x2048x2560, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2560, .f32⟩
  | .hbm, ⟨29, _⟩ => ⟨S8x8x2048x2560, .f32⟩
  | .hbm, ⟨30, _⟩ => ⟨S8x8x2048x2560, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2560, .f32⟩
  | .hbm, ⟨35, _⟩ => ⟨S8x8x2048x2560, .f32⟩
  | .hbm, ⟨36, _⟩ => ⟨S8x8x128x2048, .f32⟩
  | .hbm, ⟨37, _⟩ => ⟨S8x2048x8x128, .f32⟩
  | .hbm, ⟨38, _⟩ => ⟨S16384x1024, .f32⟩
  | .hbm, ⟨39, _⟩ => ⟨S16384x1024, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Ffn.lean ====
abbrev S16384x1024 : Shape := ⟨2, ![16384, 1024]⟩
abbrev S2x16x1x6144 : Shape := ⟨4, ![2, 16, 1, 6144]⟩
abbrev S1x1024 : Shape := ⟨2, ![1, 1024]⟩
abbrev S2x1024x5632 : Shape := ⟨3, ![2, 1024, 5632]⟩
abbrev S2x2816x1024 : Shape := ⟨3, ![2, 2816, 1024]⟩
abbrev S512x1024 : Shape := ⟨2, ![512, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S1x1024, .f32⟩
  | .hbm, ⟨3, _⟩ => ⟨S2x1024x5632, .bf16⟩
  | .hbm, ⟨4, _⟩ => ⟨S2x2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S2x16x1x6144 : Shape := ⟨4, ![2, 16, 1, 6144]⟩
abbrev S1x1024 : Shape := ⟨2, ![1, 1024]⟩
abbrev S2x1024x5632 : Shape := ⟨3, ![2, 1024, 5632]⟩
abbrev S2x2816x1024 : Shape := ⟨3, ![2, 2816, 1024]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S1x1024, .f32⟩
  | .hbm, ⟨3, _⟩ => ⟨S2x1024x5632, .bf16⟩
  | .hbm, ⟨4, _⟩ => ⟨S2x2816x1024, .bf16⟩
  | .hbm, ⟨5, _⟩ => ⟨S8x2048x1024, .f32⟩
  | .hbm, ⟨6, _⟩ => ⟨S1x8x1x6144, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1x1024x5632, .bf16⟩
  | .hbm, ⟨39, _⟩ => ⟨S1024x5632, .bf16⟩
  | .hbm, ⟨40, _⟩ => ⟨S1024x5632, .f32⟩
  | .hbm, ⟨41, _⟩ => ⟨S1x2816x1024, .bf16⟩
  | .hbm, ⟨42, _⟩ => ⟨S2816x1024, .bf16⟩
  | .hbm, ⟨43, _⟩ => ⟨S2816x1024, .f32⟩
  | .hbm, ⟨44, _⟩ => ⟨S8x2048x5632, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S_, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Last.lean ====
abbrev S16384x1024 : Shape := ⟨2, ![16384, 1024]⟩
abbrev S2x16x1x6144 : Shape := ⟨4, ![2, 16, 1, 6144]⟩
abbrev S1x1024x1024 : Shape := ⟨3, ![1, 1024, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S512x1024 : Shape := ⟨2, ![512, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S1x6144 : Shape := ⟨2, ![1, 6144]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S16384x1024, .bf16⟩
  | .hbm, ⟨3, _⟩ => ⟨S1x1024x1024, .bf16⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S512x1024, .bf16⟩
  | .local _ .vmem, ⟨5, _⟩ => ⟨S512x1024, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastRefIdeal.lean ====
abbrev S16384x1024 : Shape := ⟨2, ![16384, 1024]⟩
abbrev S2x16x1x6144 : Shape := ⟨4, ![2, 16, 1, 6144]⟩
abbrev S1x1024x1024 : Shape := ⟨3, ![1, 1024, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S16384x1024, .bf16⟩
  | .hbm, ⟨3, _⟩ => ⟨S1x1024x1024, .bf16⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S8x2048x1024, .f32⟩
  | .hbm, ⟨9, _⟩ => ⟨S1x8x1x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S16384x1024, .f32⟩
  | .hbm, ⟨18, _⟩ => ⟨S8x2048x1024, .f32⟩
  | .hbm, ⟨19, _⟩ => ⟨S1024x1024, .bf16⟩
  | .hbm, ⟨20, _⟩ => ⟨S1024x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S1x1024x5632, .bf16⟩
  | .hbm, ⟨50, _⟩ => ⟨S1024x5632, .bf16⟩
  | .hbm, ⟨51, _⟩ => ⟨S1024x5632, .f32⟩
  | .hbm, ⟨52, _⟩ => ⟨S1x2816x1024, .bf16⟩
  | .hbm, ⟨53, _⟩ => ⟨S2816x1024, .bf16⟩
  | .hbm, ⟨54, _⟩ => ⟨S2816x1024, .f32⟩
  | .hbm, ⟨55, _⟩ => ⟨S8x2048x5632, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S_, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]
-- ==== Gmlp.lean ====
abbrev S16384x1024 : Shape := ⟨2, ![16384, 1024]⟩
abbrev S2x16x1x6144 : Shape := ⟨4, ![2, 16, 1, 6144]⟩
abbrev S1x1024 : Shape := ⟨2, ![1, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S8x128x1 : Shape := ⟨3, ![8, 128, 1]⟩
abbrev S1x2048x1024 : Shape := ⟨3, ![1, 2048, 1024]⟩
abbrev S512x1024 : Shape := ⟨2, ![512, 1024]⟩
abbrev S1x1x1x6144 : Shape := ⟨4, ![1, 1, 1, 6144]⟩
abbrev S512x2048 : Shape := ⟨2, ![512, 2048]⟩
abbrev S1x6144 : Shape := ⟨2, ![1, 6144]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S1x1x128x128 : Shape := ⟨4, ![1, 1, 128, 128]⟩
abbrev S128x128 : Shape := ⟨2, ![128, 128]⟩
abbrev S128x256 : Shape := ⟨2, ![128, 256]⟩
abbrev S1x128x1 : Shape := ⟨3, ![1, 128, 1]⟩
abbrev S128x1 : Shape := ⟨2, ![128, 1]⟩
abbrev S2048x1024 : Shape := ⟨2, ![2048, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S1x1024, .f32⟩
  | .hbm, ⟨3, _⟩ => ⟨S1x1024x4096, .bf16⟩
  | .hbm, ⟨4, _⟩ => ⟨S1x2048, .f32⟩
  | .hbm, ⟨5, _⟩ => ⟨S1x8x128x128, .bf16⟩
  | .hbm, ⟨6, _⟩ => ⟨S8x128x1, .f32⟩
  | .hbm, ⟨7, _⟩ => ⟨S1x2048x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1x1024x4096, .bf16⟩
  | .local _ .vmem, ⟨6, _⟩ => ⟨S1x2048, .f32⟩
  | .local _ .vmem, ⟨7, _⟩ => ⟨S1x8x128x128, .bf16⟩
  | .local _ .vmem, ⟨8, _⟩ => ⟨S8x128x1, .f32⟩
  | .local _ .vmem, ⟨9, _⟩ => ⟨S1x2048x1024, .bf16⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpRefIdeal.lean ====
abbrev S16384x1024 : Shape := ⟨2, ![16384, 1024]⟩
abbrev S2x16x1x6144 : Shape := ⟨4, ![2, 16, 1, 6144]⟩
abbrev S1x1024 : Shape := ⟨2, ![1, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S8x128x1 : Shape := ⟨3, ![8, 128, 1]⟩
abbrev S1x2048x1024 : Shape := ⟨3, ![1, 2048, 1024]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S8x2048x4096 : Shape := ⟨3, ![8, 2048, 4096]⟩
abbrev S8x2048x2048 : Shape := ⟨3, ![8, 2048, 2048]⟩
abbrev S1x1x2048 : Shape := ⟨3, ![1, 1, 2048]⟩
abbrev S8x16x128x8x256 : Shape := ⟨5, ![8, 16, 128, 8, 256]⟩
abbrev S8x8x16x256x128 : Shape := ⟨5, ![8, 8, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S1x1024, .f32⟩
  | .hbm, ⟨3, _⟩ => ⟨S1x1024x4096, .bf16⟩
  | .hbm, ⟨4, _⟩ => ⟨S1x2048, .f32⟩
  | .hbm, ⟨5, _⟩ => ⟨S1x8x128x128, .bf16⟩
  | .hbm, ⟨6, _⟩ => ⟨S8x128x1, .f32⟩
  | .hbm, ⟨7, _⟩ => ⟨S1x2048x1024, .bf16⟩
  | .hbm, ⟨8, _⟩ => ⟨S8x2048x1024, .f32⟩
  | .hbm, ⟨9, _⟩ => ⟨S1x8x1x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S1024x4096, .bf16⟩
  | .hbm, ⟨42, _⟩ => ⟨S1024x4096, .f32⟩
  | .hbm, ⟨43, _⟩ => ⟨S2048, .f32⟩
  | .hbm, ⟨44, _⟩ => ⟨S8x128x128, .bf16⟩
  | .hbm, ⟨45, _⟩ => ⟨S8x128x128, .f32⟩
  | .hbm, ⟨46, _⟩ => ⟨S8x128, .f32⟩
  | .hbm, ⟨47, _⟩ => ⟨S2048x1024, .bf16⟩
  | .hbm, ⟨48, _⟩ => ⟨S2048x1024, .f32⟩
  | .hbm, ⟨49, _⟩ => ⟨S8x2048x4096, .f32⟩
  | .hbm, ⟨50, _⟩ => ⟨S_, .f32⟩
  | .hbm, ⟨51, _⟩ => ⟨S8x2048x4096, .f32⟩
  | .hbm, ⟨52, _⟩ => ⟨S8x2048x4096, .f32⟩
  | .hbm, ⟨53, _⟩ => ⟨S8x2048x4096, .f32⟩
  | .hbm, ⟨54, _⟩ => ⟨S_, .f32⟩
  | .hbm, ⟨55, _⟩ => ⟨S8x2048x4096, .f32⟩
  | .hbm, ⟨56, _⟩ => ⟨S8x2048x4096, .f32⟩
  | .hbm, ⟨57, _⟩ => ⟨S8x2048x4096, .f32⟩
  | .hbm, ⟨58, _⟩ => ⟨S8x2048x4096, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S1x1x2048, .f32⟩
  | .hbm, ⟨75, _⟩ => ⟨S8x2048x2048, .f32⟩
  | .hbm, ⟨76, _⟩ => ⟨S8x2048x2048, .f32⟩
  | .hbm, ⟨77, _⟩ => ⟨S8x16x128x8x256, .f32⟩
  | .hbm, ⟨78, _⟩ => ⟨S8x8x16x256x128, .f32⟩
  | .hbm, ⟨79, _⟩ => ⟨S8x16x128x8x256, .f32⟩
  | .hbm, ⟨80, _⟩ => ⟨S128x8, .f32⟩
  | .hbm, ⟨81, _⟩ => ⟨S128x8x1, .f32⟩
  | .hbm, ⟨82, _⟩ => ⟨S1x1x128x8x1, .f32⟩
  | .hbm, ⟨83, _⟩ => ⟨S8x16x128x8x256, .f32⟩
  | .hbm, ⟨84, _⟩ => ⟨S8x16x128x8x256, .f32⟩
  | .hbm, ⟨85, _⟩ => ⟨S8x2048x2048, .f32⟩
  | .hbm, ⟨86, _⟩ => ⟨S8x2048x2048, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== LastP.lean ====
abbrev S8192x1024 : Shape := ⟨2, ![8192, 1024]⟩
abbrev S2x16x1x6144 : Shape := ⟨4, ![2, 16, 1, 6144]⟩
abbrev S1x1024x1024 : Shape := ⟨3, ![1, 1024, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S512x1024 : Shape := ⟨2, ![512, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S1x6144 : Shape := ⟨2, ![1, 6144]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x16x1x6144, .f32⟩
  | .hbm, ⟨2, _⟩ => ⟨S8192x1024, .bf16⟩
  | .hbm, ⟨3, _⟩ => ⟨S1x1024x1024, .bf16⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S512x1024, .bf16⟩
  | .local _ .vmem, ⟨4, _⟩ => ⟨S512x1024, .bf16⟩
  | .local _ .vmem, ⟨5, _⟩ => ⟨S1x1024x1024, .bf16⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastPRefIdeal.lean ====
abbrev S8192x1024 : Shape := ⟨2, ![8192, 1024]⟩
abbrev S2x16x1x6144 : Shape := ⟨4, ![2, 16, 1, 6144]⟩
abbrev S1x1024x1024 : Shape := ⟨3, ![1, 1024, 1024]⟩
abbrev S1x1024 : Shape := ⟨2, ![1, 1024]⟩
abbrev S2x1024x5632 : Shape := ⟨3, ![2, 1024, 5632]⟩
abbrev S2x2816x1024 : Shape := ⟨3, ![2, 2816, 1024]⟩
abbrev S32x256x1024 : Shape := ⟨3, ![32, 256, 1024]⟩
abbrev S1x1x1x6144 : Shape := ⟨4, ![1, 1, 1, 6144]⟩
abbrev S1x6144 : Shape := ⟨2, ![1, 6144]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32x256x5632 : Shape := ⟨3, ![32, 256, 5632]⟩
abbrev S32x256x2816 : Shape := ⟨3, ![32, 256, 2816]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x16x1x6144, .f32⟩
  | .hbm, ⟨2, _⟩ => ⟨S8192x1024, .bf16⟩
  | .hbm, ⟨3, _⟩ => ⟨S1x1024x1024, .bf16⟩
  | .hbm, ⟨4, _⟩ => ⟨S1x1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S32x256x1024, .f32⟩
  | .hbm, ⟨9, _⟩ => ⟨S1x1x1x6144, .f32⟩
  | .hbm, ⟨10, _⟩ => ⟨S1x6144, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S32x256x1024, .f32⟩
  | .hbm, ⟨19, _⟩ => ⟨S1024x1024, .bf16⟩
  | .hbm, ⟨20, _⟩ => ⟨S1024x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S32x256x1024, .f32⟩
  | .hbm, ⟨26, _⟩ => ⟨S1024, .f32⟩
  | .hbm, ⟨27, _⟩ => ⟨S32x256x1024, .f32⟩
  | .hbm, ⟨28, _⟩ => ⟨S_, .f32⟩
  | .hbm, ⟨29, _⟩ => ⟨S32x256, .f32⟩
  | .hbm, ⟨30, _⟩ => ⟨S32x256x1, .f32⟩
  | .hbm, ⟨31, _⟩ => ⟨S_, .f32⟩
  | .hbm, ⟨32, _⟩ => ⟨S32x256x1, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S32x256x1, .f32⟩
  | .hbm, ⟨38, _⟩ => ⟨S32x256x1024, .f32⟩
  | .hbm, ⟨39, _⟩ => ⟨S32x256x1024, .f32⟩
  | .hbm, ⟨40, _⟩ => ⟨S1x1x1024, .f32⟩
  | .hbm, ⟨41, _⟩ => ⟨S32x256x1024, .f32⟩
  | .hbm, ⟨42, _⟩ => ⟨S32x256x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S1x1x1024, .f32⟩
  | .hbm, ⟨50, _⟩ => ⟨S32x256x1024, .f32⟩
  | .hbm, ⟨51, _⟩ => ⟨S32x256x1024, .f32⟩
  | .hbm, ⟨52, _⟩ => ⟨S1x1024x5632, .bf16⟩
  | .hbm, ⟨53, _⟩ => ⟨S1024x5632, .bf16⟩
  | .hbm, ⟨54, _⟩ => ⟨S1024x5632, .f32⟩
  | .hbm, ⟨55, _⟩ => ⟨S1x2816x1024, .bf16⟩
  | .hbm, ⟨56, _⟩ => ⟨S2816x1024, .bf16⟩
  | .hbm, ⟨57, _⟩ => ⟨S2816x1024, .f32⟩
  | .hbm, ⟨58, _⟩ => ⟨S32x256x5632, .f32⟩
  | .hbm, ⟨59, _⟩ => ⟨S32x256x2816, .f32⟩
  | .hbm, ⟨60, _⟩ => ⟨S32x256x2816, .f32⟩
  | .hbm, ⟨61, _⟩ => ⟨S32x256x2816, .f32⟩
  | .hbm, ⟨62, _⟩ => ⟨S32x256x2816, .f32⟩
  | .hbm, ⟨63, _⟩ => ⟨S_, .f32⟩
  | .hbm, ⟨64, _⟩ => ⟨S32x256x2816, .f32⟩
  | .hbm, ⟨65, _⟩ => ⟨S32x256x2816, .f32⟩
  | .hbm, ⟨66, _⟩ => ⟨S_, .f32⟩
  | .hbm, ⟨67, _⟩ => ⟨S32x256x2816, .f32⟩
  | .hbm, ⟨68, _⟩ => ⟨S32x256x2816, .f32⟩
  | .hbm, ⟨69, _⟩ => ⟨S32x256x2816, .f32⟩
  | .hbm, ⟨70, _⟩ => ⟨S32x256x2816, .f32⟩
  | .hbm, ⟨71, _⟩ => ⟨S32x256x1024, .f32⟩
  | .hbm, ⟨72, _⟩ => ⟨S1x1x1024, .f32⟩
  | .hbm, ⟨73, _⟩ => ⟨S32x256x1024, .f32⟩
  | .hbm, ⟨74, _⟩ => ⟨S32x256x1024, .f32⟩
  | .hbm, ⟨75, _⟩ => ⟨S32x256x1024, .f32⟩
  | .hbm, ⟨76, _⟩ => ⟨S1024, .f32⟩
  | .hbm, ⟨77, _⟩ => ⟨S32x256x1024, .f32⟩
  | .hbm, ⟨78, _⟩ => ⟨S_, .f32⟩
  | .hbm, ⟨79, _⟩ => ⟨S32x256, .f32⟩
  | .hbm, ⟨80, _⟩ => ⟨S32x256x1, .f32⟩
  | .hbm, ⟨81, _⟩ => ⟨S_, .f32⟩
  | .hbm, ⟨82, _⟩ => ⟨S32x256x1, .f32⟩
  | .hbm, ⟨83, _⟩ => ⟨S32x256x1, .f32⟩
  | .hbm, ⟨84, _⟩ => ⟨S_, .f32⟩
  | .hbm, ⟨85, _⟩ => ⟨S32x256x1, .f32⟩
  | .hbm, ⟨86, _⟩ => ⟨S32x256x1, .f32⟩
  | .hbm, ⟨87, _⟩ => ⟨S32x256x1, .f32⟩
  | .hbm, ⟨88, _⟩ => ⟨S32x256x1024, .f32⟩
  | .hbm, ⟨89, _⟩ => ⟨S32x256x1024, .f32⟩
  | .hbm, ⟨90, _⟩ => ⟨S1x1x1024, .f32⟩
  | .hbm, ⟨91, _⟩ => ⟨S32x256x1024, .f32⟩
  | .hbm, ⟨92, _⟩ => ⟨S32x256x1024, .f32⟩
  | .hbm, ⟨93, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_3 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_cst_5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== ProjP.lean ====
abbrev S8192x1024 : Shape := ⟨2, ![8192, 1024]⟩
abbrev S2x16x1x6144 : Shape := ⟨4, ![2, 16, 1, 6144]⟩
abbrev S1x1024 : Shape := ⟨2, ![1, 1024]⟩
abbrev S1x1024x512 : Shape := ⟨3, ![1, 1024, 512]⟩
abbrev S1x512 : Shape := ⟨2, ![1, 512]⟩
abbrev S512x2048 : Shape := ⟨2, ![512, 2048]⟩
abbrev S1024x384 : Shape := ⟨2, ![1024, 384]⟩
abbrev S1x256 : Shape := ⟨2, ![1, 256]⟩
abbrev S256x1024 : Shape := ⟨2, ![256, 1024]⟩
abbrev S8192x2048 : Shape := ⟨2, ![8192, 2048]⟩
abbrev S8192x256 : Shape := ⟨2, ![8192, 256]⟩
abbrev S8192x64 : Shape := ⟨2, ![8192, 64]⟩
abbrev S512x1024 : Shape := ⟨2, ![512, 1024]⟩
abbrev S1x1x1x6144 : Shape := ⟨4, ![1, 1, 1, 6144]⟩
abbrev S512x256 : Shape := ⟨2, ![512, 256]⟩
abbrev S512x64 : Shape := ⟨2, ![512, 64]⟩
abbrev S1x6144 : Shape := ⟨2, ![1, 6144]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x384 : Shape := ⟨2, ![512, 384]⟩
abbrev S512x128 : Shape := ⟨2, ![512, 128]⟩
abbrev S1x128 : Shape := ⟨2, ![1, 128]⟩

abbrev nBuf : Space → Nat
  | .hbm => 15
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S2x16x1x6144, .f32⟩
  | .hbm, ⟨2, _⟩ => ⟨S1x1024, .f32⟩
  | .hbm, ⟨3, _⟩ => ⟨S1x1024x512, .bf16⟩
  | .hbm, ⟨4, _⟩ => ⟨S1x512, .f32⟩
  | .hbm, ⟨5, _⟩ => ⟨S512x2048, .bf16⟩
  | .hbm, ⟨6, _⟩ => ⟨S1024x384, .bf16⟩
  | .hbm, ⟨7, _⟩ => ⟨S1x256, .f32⟩
  | .hbm, ⟨8, _⟩ => ⟨S256x1024, .bf16⟩
  | .hbm, ⟨9, _⟩ => ⟨S256x1024, .bf16⟩
  | .hbm, ⟨10, _⟩ => ⟨S8192x2048, .bf16⟩
  | .hbm, ⟨11, _⟩ => ⟨S8192x2048, .bf16⟩
  | .hbm, ⟨12, _⟩ => ⟨S8192x1024, .bf16⟩
  | .hbm, ⟨13, _⟩ => ⟨S8192x256, .f32⟩
  | .hbm, ⟨14, _⟩ => ⟨S8192x64, .f32⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1024, .f32⟩
  | .local _ .vmem, ⟨4, _⟩ => ⟨S1x1024x512, .bf16⟩
  | .local _ .vmem, ⟨5, _⟩ => ⟨S1x512, .f32⟩
  | .local _ .vmem, ⟨6, _⟩ => ⟨S512x2048, .bf16⟩
  | .local _ .vmem, ⟨7, _⟩ => ⟨S1024x384, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | .local _ .vmem, ⟨17, _⟩ => ⟨S512x256, .f32⟩
  | .local _ .vmem, ⟨18, _⟩ => ⟨S512x256, .f32⟩
  | .local _ .vmem, ⟨19, _⟩ => ⟨S512x64, .f32⟩
  | .local _ .vmem, ⟨20, _⟩ => ⟨S512x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjPRefIdeal.lean ====
abbrev S8192x1024 : Shape := ⟨2, ![8192, 1024]⟩
abbrev S2x16x1x6144 : Shape := ⟨4, ![2, 16, 1, 6144]⟩
abbrev S1x1024 : Shape := ⟨2, ![1, 1024]⟩
abbrev S1x1024x512 : Shape := ⟨3, ![1, 1024, 512]⟩
abbrev S1x512 : Shape := ⟨2, ![1, 512]⟩
abbrev S512x2048 : Shape := ⟨2, ![512, 2048]⟩
abbrev S1024x384 : Shape := ⟨2, ![1024, 384]⟩
abbrev S1x256 : Shape := ⟨2, ![1, 256]⟩
abbrev S256x1024 : Shape := ⟨2, ![256, 1024]⟩
abbrev S32x256x1024 : Shape := ⟨3, ![32, 256, 1024]⟩
abbrev S1x1x1x6144 : Shape := ⟨4, ![1, 1, 1, 6144]⟩
abbrev S1x6144 : Shape := ⟨2, ![1, 6144]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S512x8x256 : Shape := ⟨3, ![512, 8, 256]⟩
abbrev S512x8x192 : Shape := ⟨3, ![512, 8, 192]⟩
abbrev S1024x512 : Shape := ⟨2, ![1024, 512]⟩
abbrev S32x256x512 : Shape := ⟨3, ![32, 256, 512]⟩
abbrev S512 : Shape := ⟨1, ![512]⟩
abbrev S1x1x512 : Shape := ⟨3, ![1, 1, 512]⟩
abbrev S32x256x8x192 : Shape := ⟨4, ![32, 256, 8, 192]⟩
abbrev S1024x320 : Shape := ⟨2, ![1024, 320]⟩
abbrev S32x256x320 : Shape := ⟨3, ![32, 256, 320]⟩
abbrev S32x256x256 : Shape := ⟨3, ![32, 256, 256]⟩
abbrev S256 : Shape := ⟨1, ![256]⟩
abbrev S1x1x256 : Shape := ⟨3, ![1, 1, 256]⟩
abbrev S32x256x64 : Shape := ⟨3, ![32, 256, 64]⟩
abbrev S32x256x8x128 : Shape := ⟨4, ![32, 256, 8, 128]⟩
abbrev S32x256x8x64 : Shape := ⟨4, ![32, 256, 8, 64]⟩
abbrev S32x256x8x256 : Shape := ⟨4, ![32, 256, 8, 256]⟩
abbrev S32x256x1x64 : Shape := ⟨4, ![32, 256, 1, 64]⟩
abbrev S8192x2048 : Shape := ⟨2, ![8192, 2048]⟩
abbrev S8192x256 : Shape := ⟨2, ![8192, 256]⟩
abbrev S8192x64 : Shape := ⟨2, ![8192, 64]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x16x1x6144, .f32⟩
  | .hbm, ⟨2, _⟩ => ⟨S1x1024, .f32⟩
  | .hbm, ⟨3, _⟩ => ⟨S1x1024x512, .bf16⟩
  | .hbm, ⟨4, _⟩ => ⟨S1x512, .f32⟩
  | .hbm, ⟨5, _⟩ => ⟨S512x2048, .bf16⟩
  | .hbm, ⟨6, _⟩ => ⟨S1024x384, .bf16⟩
  | .hbm, ⟨7, _⟩ => ⟨S1x256, .f32⟩
  | .hbm, ⟨8, _⟩ => ⟨S256x1024, .bf16⟩
  | .hbm, ⟨9, _⟩ => ⟨S256x1024, .bf16⟩
  | .hbm, ⟨10, _⟩ => ⟨S32x256x1024, .f32⟩
  | .hbm, ⟨11, _⟩ => ⟨S1x1x1x6144, .f32⟩
  | .hbm, ⟨12, _⟩ => ⟨S1x6144, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S32x256x1024, .f32⟩
  | .hbm, ⟨21, _⟩ => ⟨S_, .f32⟩
  | .hbm, ⟨22, _⟩ => ⟨S32x256, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S32x256x1, .f32⟩
  | .hbm, ⟨31, _⟩ => ⟨S32x256x1024, .f32⟩
  | .hbm, ⟨32, _⟩ => ⟨S32x256x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1x1024, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S512x2048, .f32⟩
  | .hbm, ⟨46, _⟩ => ⟨S512x8x256, .f32⟩
  | .hbm, ⟨47, _⟩ => ⟨S512x8x192, .f32⟩
  | .hbm, ⟨48, _⟩ => ⟨S1024x512, .bf16⟩
  | .hbm, ⟨49, _⟩ => ⟨S1024x512, .f32⟩
  | .hbm, ⟨50, _⟩ => ⟨S32x256x512, .f32⟩
  | .hbm, ⟨51, _⟩ => ⟨S512, .f32⟩
  | .hbm, ⟨52, _⟩ => ⟨S32x256x512, .f32⟩
  | .hbm, ⟨53, _⟩ => ⟨S_, .f32⟩
  | .hbm, ⟨54, _⟩ => ⟨S32x256, .f32⟩
  | .hbm, ⟨55, _⟩ => ⟨S32x256x1, .f32⟩
  | .hbm, ⟨56, _⟩ => ⟨S_, .f32⟩
  | .hbm, ⟨57, _⟩ => ⟨S32x256x1, .f32⟩
  | .hbm, ⟨58, _⟩ => ⟨S32x256x1, .f32⟩
  | .hbm, ⟨59, _⟩ => ⟨S_, .f32⟩
  | .hbm, ⟨60, _⟩ => ⟨S32x256x1, .f32⟩
  | .hbm, ⟨61, _⟩ => ⟨S32x256x1, .f32⟩
  | .hbm, ⟨62, _⟩ => ⟨S32x256x1, .f32⟩
  | .hbm, ⟨63, _⟩ => ⟨S32x256x512, .f32⟩
  | .hbm, ⟨64, _⟩ => ⟨S32x256x512, .f32⟩
  | .hbm, ⟨65, _⟩ => ⟨S1x1x512, .f32⟩
  | .hbm, ⟨66, _⟩ => ⟨S32x256x512, .f32⟩
  | .hbm, ⟨67, _⟩ => ⟨S32x256x512, .f32⟩
  | .hbm, ⟨68, _⟩ => ⟨S32x256x8x192, .f32⟩
  | .hbm, ⟨69, _⟩ => ⟨S1024x384, .f32⟩
  | .hbm, ⟨70, _⟩ => ⟨S1024x320, .f32⟩
  | .hbm, ⟨71, _⟩ => ⟨S32x256x320, .f32⟩
  | .hbm, ⟨72, _⟩ => ⟨S32x256x256, .f32⟩
  | .hbm, ⟨73, _⟩ => ⟨S256, .f32⟩
  | .hbm, ⟨74, _⟩ => ⟨S32x256x256, .f32⟩
  | .hbm, ⟨75, _⟩ => ⟨S_, .f32⟩
  | .hbm, ⟨76, _⟩ => ⟨S32x256, .f32⟩
  | .hbm, ⟨77, _⟩ => ⟨S32x256x1, .f32⟩
  | .hbm, ⟨78, _⟩ => ⟨S_, .f32⟩
  | .hbm, ⟨79, _⟩ => ⟨S32x256x1, .f32⟩
  | .hbm, ⟨80, _⟩ => ⟨S32x256x1, .f32⟩
  | .hbm, ⟨81, _⟩ => ⟨S_, .f32⟩
  | .hbm, ⟨82, _⟩ => ⟨S32x256x1, .f32⟩
  | .hbm, ⟨83, _⟩ => ⟨S32x256x1, .f32⟩
  | .hbm, ⟨84, _⟩ => ⟨S32x256x1, .f32⟩
  | .hbm, ⟨85, _⟩ => ⟨S32x256x256, .f32⟩
  | .hbm, ⟨86, _⟩ => ⟨S32x256x256, .f32⟩
  | .hbm, ⟨87, _⟩ => ⟨S1x1x256, .f32⟩
  | .hbm, ⟨88, _⟩ => ⟨S32x256x256, .f32⟩
  | .hbm, ⟨89, _⟩ => ⟨S32x256x256, .f32⟩
  | .hbm, ⟨90, _⟩ => ⟨S32x256x64, .f32⟩
  | .hbm, ⟨91, _⟩ => ⟨S256x1024, .f32⟩
  | .hbm, ⟨92, _⟩ => ⟨S32x256x1024, .f32⟩
  | .hbm, ⟨93, _⟩ => ⟨S32x256x8x128, .f32⟩
  | .hbm, ⟨94, _⟩ => ⟨S256x1024, .f32⟩
  | .hbm, ⟨95, _⟩ => ⟨S32x256x1024, .f32⟩
  | .hbm, ⟨96, _⟩ => ⟨S_, .f32⟩
  | .hbm, ⟨97, _⟩ => ⟨S32x256x8x64, .f32⟩
  | .hbm, ⟨98, _⟩ => ⟨S_, .f32⟩
  | .hbm, ⟨99, _⟩ => ⟨S32x256x8x192, .f32⟩
  | .hbm, ⟨100, _⟩ => ⟨S32x256x8x192, .f32⟩
  | .hbm, ⟨101, _⟩ => ⟨S32x256x8x256, .f32⟩
  | .hbm, ⟨102, _⟩ => ⟨S32x256x1x64, .f32⟩
  | .hbm, ⟨103, _⟩ => ⟨S32x256x8x64, .f32⟩
  | .hbm, ⟨104, _⟩ => ⟨S32x256x8x256, .f32⟩
  | .hbm, ⟨105, _⟩ => ⟨S8192x2048, .f32⟩
  | .hbm, ⟨106, _⟩ => ⟨S8192x2048, .bf16⟩
  | .hbm, ⟨107, _⟩ => ⟨S8192x2048, .f32⟩
  | .hbm, ⟨108, _⟩ => ⟨S8192x2048, .bf16⟩
  | .hbm, ⟨109, _⟩ => ⟨S8192x1024, .f32⟩
  | .hbm, ⟨110, _⟩ => ⟨S8192x1024, .bf16⟩
  | .hbm, ⟨111, _⟩ => ⟨S8192x256, .f32⟩
  | .hbm, ⟨112, _⟩ => ⟨S8192x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== Modul.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Cache.lean ====
abbrev S4096x256 : Shape := ⟨2, ![4096, 256]⟩
abbrev S4096x128 : Shape := ⟨2, ![4096, 128]⟩
abbrev S256x1024 : Shape := ⟨2, ![256, 1024]⟩
abbrev S1024x256 : Shape := ⟨2, ![1024, 256]⟩
abbrev S8x4096x256 : Shape := ⟨3, ![8, 4096, 256]⟩
abbrev S1024x4096 : Shape := ⟨2, ![1024, 4096]⟩
abbrev S512x256 : Shape := ⟨2, ![512, 256]⟩
abbrev S512x128 : Shape := ⟨2, ![512, 128]⟩
abbrev S8x512x256 : Shape := ⟨3, ![8, 512, 256]⟩
abbrev S1024x512 : Shape := ⟨2, ![1024, 512]⟩
abbrev S512x1024 : Shape := ⟨2, ![512, 1024]⟩
abbrev S1x512x128 : Shape := ⟨3, ![1, 512, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S256x1024, .bf16⟩
  | .hbm, ⟨3, _⟩ => ⟨S1024x256, .bf16⟩
  | .hbm, ⟨4, _⟩ => ⟨S8x4096x256, .bf16⟩
  | .hbm, ⟨5, _⟩ => ⟨S1024x4096, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x1024, .bf16⟩
  | .local _ .vmem, ⟨5, _⟩ => ⟨S1024x256, .bf16⟩
  | .local _ .vmem, ⟨6, _⟩ => ⟨S8x512x256, .bf16⟩
  | .local _ .vmem, ⟨7, _⟩ => ⟨S8x512x256, .bf16⟩
  | .local _ .vmem, ⟨8, _⟩ => ⟨S1024x512, .bf16⟩
  | .local _ .vmem, ⟨9, _⟩ => ⟨S1024x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CacheRefIdeal.lean ====
abbrev S4096x256 : Shape := ⟨2, ![4096, 256]⟩
abbrev S4096x128 : Shape := ⟨2, ![4096, 128]⟩
abbrev S256x1024 : Shape := ⟨2, ![256, 1024]⟩
abbrev S1024x256 : Shape := ⟨2, ![1024, 256]⟩
abbrev S256x8x128 : Shape := ⟨3, ![256, 8, 128]⟩
abbrev S8x128x4096 : Shape := ⟨3, ![8, 128, 4096]⟩
abbrev S8x4096x128 : Shape := ⟨3, ![8, 4096, 128]⟩
abbrev S8x4096x256 : Shape := ⟨3, ![8, 4096, 256]⟩
abbrev S4096x1024 : Shape := ⟨2, ![4096, 1024]⟩
abbrev S1024x4096 : Shape := ⟨2, ![1024, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x128, .f32⟩
  | .hbm, ⟨2, _⟩ => ⟨S256x1024, .bf16⟩
  | .hbm, ⟨3, _⟩ => ⟨S1024x256, .bf16⟩
  | .hbm, ⟨4, _⟩ => ⟨S256x1024, .f32⟩
  | .hbm, ⟨5, _⟩ => ⟨S256x8x128, .f32⟩
  | .hbm, ⟨6, _⟩ => ⟨S8x128x4096, .f32⟩
  | .hbm, ⟨7, _⟩ => ⟨S8x4096x128, .f32⟩
  | .hbm, ⟨8, _⟩ => ⟨S8x4096x128, .f32⟩
  | .hbm, ⟨9, _⟩ => ⟨S8x4096x256, .f32⟩
  | .hbm, ⟨10, _⟩ => ⟨S1024x256, .f32⟩
  | .hbm, ⟨11, _⟩ => ⟨S256x1024, .f32⟩
  | .hbm, ⟨12, _⟩ => ⟨S4096x1024, .f32⟩
  | .hbm, ⟨13, _⟩ => ⟨S8x4096x256, .bf16⟩
  | .hbm, ⟨14, _⟩ => ⟨S1024x4096, .f32⟩
  | .hbm, ⟨15, _⟩ => ⟨S1024x4096, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== AttnP.lean ====
abbrev S8192x2048 : Shape := ⟨2, ![8192, 2048]⟩
abbrev S8192x1024 : Shape := ⟨2, ![8192, 1024]⟩
abbrev S2048x2048 : Shape := ⟨2, ![2048, 2048]⟩
abbrev S2048x1024 : Shape := ⟨2, ![2048, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnPRefIdeal.lean ====
abbrev S8192x2048 : Shape := ⟨2, ![8192, 2048]⟩
abbrev S8192x1024 : Shape := ⟨2, ![8192, 1024]⟩
abbrev S32x256x8x256 : Shape := ⟨4, ![32, 256, 8, 256]⟩
abbrev S32x256x8x128 : Shape := ⟨4, ![32, 256, 8, 128]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x8x128x256 : Shape := ⟨4, ![32, 8, 128, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x2048, .f32⟩
  | .hbm, ⟨4, _⟩ => ⟨S32x256x8x256, .f32⟩
  | .hbm, ⟨5, _⟩ => ⟨S8192x2048, .f32⟩
  | .hbm, ⟨6, _⟩ => ⟨S32x256x8x256, .f32⟩
  | .hbm, ⟨7, _⟩ => ⟨S8192x1024, .f32⟩
  | .hbm, ⟨8, _⟩ => ⟨S32x256x8x128, .f32⟩
  | .hbm, ⟨9, _⟩ => ⟨S32x8x256x256, .f32⟩
  | .hbm, ⟨10, _⟩ => ⟨S_, .f32⟩
  | .hbm, ⟨11, _⟩ => ⟨S_, .f32⟩
  | .hbm, ⟨12, _⟩ => ⟨S32x8x256x256, .f32⟩
  | .hbm, ⟨13, _⟩ => ⟨S32x8x256x256, .f32⟩
  | .hbm, ⟨14, _⟩ => ⟨S_, .f32⟩
  | .hbm, ⟨15, _⟩ => ⟨S32x8x256, .f32⟩
  | .hbm, ⟨16, _⟩ => ⟨S_, .f32⟩
  | .hbm, ⟨17, _⟩ => ⟨S32x8x256, .f32⟩
  | .hbm, ⟨18, _⟩ => ⟨S32x8x256, .f32⟩
  | .hbm, ⟨19, _⟩ => ⟨S32x8x256x1, .f32⟩
  | .hbm, ⟨20, _⟩ => ⟨S32x8x256x256, .f32⟩
  | .hbm, ⟨21, _⟩ => ⟨S32x8x256x256, .f32⟩
  | .hbm, ⟨22, _⟩ => ⟨S32x8x256x256, .f32⟩
  | .hbm, ⟨23, _⟩ => ⟨S_, .f32⟩
  | .hbm, ⟨24, _⟩ => ⟨S32x8x256, .f32⟩
  | .hbm, ⟨25, _⟩ => ⟨S32x8x256x1, .f32⟩
  | .hbm, ⟨26, _⟩ => ⟨S32x8x256x256, .f32⟩
  | .hbm, ⟨27, _⟩ => ⟨S32x8x256x256, .f32⟩
  | .hbm, ⟨28, _⟩ => ⟨S32x8x128x256, .f32⟩
  | .hbm, ⟨29, _⟩ => ⟨S32x256x8x128, .f32⟩
  | .hbm, ⟨30, _⟩ => ⟨S8192x1024, .f32⟩
  | .hbm, ⟨31, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== ProjS.lean ====
abbrev S16384x1024 : Shape := ⟨2, ![16384, 1024]⟩
abbrev S2x16x1x6144 : Shape := ⟨4, ![2, 16, 1, 6144]⟩
abbrev S1x1024 : Shape := ⟨2, ![1, 1024]⟩
abbrev S1x1024x512 : Shape := ⟨3, ![1, 1024, 512]⟩
abbrev S1x512 : Shape := ⟨2, ![1, 512]⟩
abbrev S2048x512 : Shape := ⟨2, ![2048, 512]⟩
abbrev S1024x384 : Shape := ⟨2, ![1024, 384]⟩
abbrev S1x256 : Shape := ⟨2, ![1, 256]⟩
abbrev S256x1024 : Shape := ⟨2, ![256, 1024]⟩
abbrev S1024x256 : Shape := ⟨2, ![1024, 256]⟩
abbrev S2048x64 : Shape := ⟨2, ![2048, 64]⟩
abbrev S_ : Shape := ⟨0, ![]⟩
abbrev S2048x128 : Shape := ⟨2, ![2048, 128]⟩
abbrev S128x2048 : Shape := ⟨2, ![128, 2048]⟩
abbrev S2048x16384 : Shape := ⟨2, ![2048, 16384]⟩
abbrev S8x16384x256 : Shape := ⟨3, ![8, 16384, 256]⟩
abbrev S1024x16384 : Shape := ⟨2, ![1024, 16384]⟩
abbrev S512x1024 : Shape := ⟨2, ![512, 1024]⟩
abbrev S1x1x1x6144 : Shape := ⟨4, ![1, 1, 1, 6144]⟩
abbrev S512x128 : Shape := ⟨2, ![512, 128]⟩
abbrev S128x512 : Shape := ⟨2, ![128, 512]⟩
abbrev S8x512x256 : Shape := ⟨3, ![8, 512, 256]⟩
abbrev S1024x512 : Shape := ⟨2, ![1024, 512]⟩
abbrev S1x6144 : Shape := ⟨2, ![1, 6144]⟩
abbrev S512 : Shape := ⟨1, ![512]⟩
abbrev S512x1 : Shape := ⟨2, ![512, 1]⟩
abbrev S512x512 : Shape := ⟨2, ![512, 512]⟩
abbrev S512x384 : Shape := ⟨2, ![512, 384]⟩
abbrev S512x256 : Shape := ⟨2, ![512, 256]⟩
abbrev S1x512x128 : Shape := ⟨3, ![1, 512, 128]⟩

abbrev nBuf : Space → Nat
  | .hbm => 23
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S2x16x1x6144, .f32⟩
  | .hbm, ⟨2, _⟩ => ⟨S1x1024, .f32⟩
  | .hbm, ⟨3, _⟩ => ⟨S1x1024x512, .bf16⟩
  | .hbm, ⟨4, _⟩ => ⟨S1x512, .f32⟩
  | .hbm, ⟨5, _⟩ => ⟨S2048x512, .bf16⟩
  | .hbm, ⟨6, _⟩ => ⟨S1024x384, .bf16⟩
  | .hbm, ⟨7, _⟩ => ⟨S1x256, .f32⟩
  | .hbm, ⟨8, _⟩ => ⟨S256x1024, .bf16⟩
  | .hbm, ⟨9, _⟩ => ⟨S1024x256, .bf16⟩
  | .hbm, ⟨10, _⟩ => ⟨S2048x64, .f32⟩
  | .hbm, ⟨11, _⟩ => ⟨S2048x64, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S128x2048, .f32⟩
  | .hbm, ⟨19, _⟩ => ⟨S128x2048, .f32⟩
  | .hbm, ⟨20, _⟩ => ⟨S2048x16384, .bf16⟩
  | .hbm, ⟨21, _⟩ => ⟨S8x16384x256, .bf16⟩
  | .hbm, ⟨22, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1x1024x512, .bf16⟩
  | .local _ .vmem, ⟨6, _⟩ => ⟨S1x512, .f32⟩
  | .local _ .vmem, ⟨7, _⟩ => ⟨S2048x512, .bf16⟩
  | .local _ .vmem, ⟨8, _⟩ => ⟨S1024x384, .bf16⟩
  | .local _ .vmem, ⟨9, _⟩ => ⟨S1x256, .f32⟩
  | .local _ .vmem, ⟨10, _⟩ => ⟨S256x1024, .bf16⟩
  | .local _ .vmem, ⟨11, _⟩ => ⟨S1024x256, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S2048x512, .bf16⟩
  | .local _ .vmem, ⟨21, _⟩ => ⟨S2048x512, .bf16⟩
  | .local _ .vmem, ⟨22, _⟩ => ⟨S8x512x256, .bf16⟩
  | .local _ .vmem, ⟨23, _⟩ => ⟨S8x512x256, .bf16⟩
  | .local _ .vmem, ⟨24, _⟩ => ⟨S1024x512, .bf16⟩
  | .local _ .vmem, ⟨25, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjSRefIdeal.lean ====
abbrev S16384x1024 : Shape := ⟨2, ![16384, 1024]⟩
abbrev S2x16x1x6144 : Shape := ⟨4, ![2, 16, 1, 6144]⟩
abbrev S1x1024 : Shape := ⟨2, ![1, 1024]⟩
abbrev S1x1024x512 : Shape := ⟨3, ![1, 1024, 512]⟩
abbrev S1x512 : Shape := ⟨2, ![1, 512]⟩
abbrev S2048x512 : Shape := ⟨2, ![2048, 512]⟩
abbrev S1024x384 : Shape := ⟨2, ![1024, 384]⟩
abbrev S1x256 : Shape := ⟨2, ![1, 256]⟩
abbrev S256x1024 : Shape := ⟨2, ![256, 1024]⟩
abbrev S1024x256 : Shape := ⟨2, ![1024, 256]⟩
abbrev S2048x64 : Shape := ⟨2, ![2048, 64]⟩
abbrev S8x2048x1024 : Shape := ⟨3, ![8, 2048, 1024]⟩
abbrev S1x8x1x6144 : Shape := ⟨4, ![1, 8, 1, 6144]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x512 : Shape := ⟨3, ![8, 256, 512]⟩
abbrev S1024x512 : Shape := ⟨2, ![1024, 512]⟩
abbrev S8x2048x512 : Shape := ⟨3, ![8, 2048, 512]⟩
abbrev S512 : Shape := ⟨1, ![512]⟩
abbrev S1x1x512 : Shape := ⟨3, ![1, 1, 512]⟩
abbrev S8x2048x8x256 : Shape := ⟨4, ![8, 2048, 8, 256]⟩
abbrev S8x2048x8x128 : Shape := ⟨4, ![8, 2048, 8, 128]⟩
abbrev S8x2048x8x64 : Shape := ⟨4, ![8, 2048, 8, 64]⟩
abbrev S2048x1x64 : Shape := ⟨3, ![2048, 1, 64]⟩
abbrev S1x2048x1x64 : Shape := ⟨4, ![1, 2048, 1, 64]⟩
abbrev S8x2048x384 : Shape := ⟨3, ![8, 2048, 384]⟩
abbrev S8x2048x256 : Shape := ⟨3, ![8, 2048, 256]⟩
abbrev S8x2048x64 : Shape := ⟨3, ![8, 2048, 64]⟩
abbrev S256 : Shape := ⟨1, ![256]⟩
abbrev S1x1x256 : Shape := ⟨3, ![1, 1, 256]⟩
abbrev S1x2048x64 : Shape := ⟨3, ![1, 2048, 64]⟩
abbrev S8x2048x1x64 : Shape := ⟨4, ![8, 2048, 1, 64]⟩
abbrev S16384x2048 : Shape := ⟨2, ![16384, 2048]⟩
abbrev S2048x16384 : Shape := ⟨2, ![2048, 16384]⟩
abbrev S8x8x2048x256 : Shape := ⟨4, ![8, 8, 2048, 256]⟩
abbrev S8x16384x256 : Shape := ⟨3, ![8, 16384, 256]⟩
abbrev S1024x16384 : Shape := ⟨2, ![1024, 16384]⟩

abbrev nBuf : Space → Nat
  | .hbm => 136
  | .vmem => 0
  | .smem => 0
  | _ => 0

abbrev hbmTy0_0 (i : Nat) : BufTy := match i % 128 with
  | 0 => ⟨S16384x1024, .f32⟩
  | 1 => ⟨S2x16x1x6144, .f32⟩
  | 2 => ⟨S1x1024, .f32⟩
  | 3 => ⟨S1x1024x512, .bf16⟩
  | 4 => ⟨S1x512, .f32⟩
  | 5 => ⟨S2048x512, .bf16⟩
  | 6 => ⟨S1024x384, .bf16⟩
  | 7 => ⟨S1x256, .f32⟩
  | 8 => ⟨S256x1024, .bf16⟩
  | 9 => ⟨S1024x256, .bf16⟩
  | 10 => ⟨S2048x64, .f32⟩
  | 11 => ⟨S2048x64, .f32⟩
  | 12 => ⟨S8x2048x1024, .f32⟩
  | 13 => ⟨S1x8x1x6144, .f32⟩
  | 14 => ⟨S8x1x6144, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1024, .f32⟩
  | 22 => ⟨S8x2048x1024, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x1, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S_, .f32⟩
  | 39 => ⟨S8x1x1024, .f32⟩
  | 40 => ⟨S8x1x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S2048x512, .f32⟩
  | 46 => ⟨S8x256x512, .f32⟩
  | 47 => ⟨S1024x512, .bf16⟩
  | 48 => ⟨S1024x512, .f32⟩
  | 49 => ⟨S8x2048x512, .f32⟩
  | 50 => ⟨S512, .f32⟩
  | 51 => ⟨S8x2048x512, .f32⟩
  | 52 => ⟨S_, .f32⟩
  | 53 => ⟨S8x2048, .f32⟩
  | 54 => ⟨S8x2048x1, .f32⟩
  | 55 => ⟨S_, .f32⟩
  | 56 => ⟨S8x2048x1, .f32⟩
  | 57 => ⟨S8x2048x1, .f32⟩
  | 58 => ⟨S_, .f32⟩
  | 59 => ⟨S8x2048x1, .f32⟩
  | 60 => ⟨S8x2048x1, .f32⟩
  | 61 => ⟨S8x2048x1, .f32⟩
  | 62 => ⟨S8x2048x512, .f32⟩
  | 63 => ⟨S8x2048x512, .f32⟩
  | 64 => ⟨S1x1x512, .f32⟩
  | 65 => ⟨S8x2048x512, .f32⟩
  | 66 => ⟨S8x2048x512, .f32⟩
  | 67 => ⟨S8x2048x8x256, .f32⟩
  | 68 => ⟨S8x2048x8x128, .f32⟩
  | 69 => ⟨S8x2048x8x64, .f32⟩
  | 70 => ⟨S8x2048x8x64, .f32⟩
  | 71 => ⟨S2048x1x64, .f32⟩
  | 72 => ⟨S1x2048x1x64, .f32⟩
  | 73 => ⟨S8x2048x8x64, .f32⟩
  | 74 => ⟨S8x2048x8x64, .f32⟩
  | 75 => ⟨S2048x1x64, .f32⟩
  | 76 => ⟨S1x2048x1x64, .f32⟩
  | 77 => ⟨S8x2048x8x64, .f32⟩
  | 78 => ⟨S8x2048x8x64, .f32⟩
  | 79 => ⟨S8x2048x8x64, .f32⟩
  | 80 => ⟨S1024x384, .f32⟩
  | 81 => ⟨S8x2048x384, .f32⟩
  | 82 => ⟨S8x2048x256, .f32⟩
  | 83 => ⟨S8x2048x64, .f32⟩
  | 84 => ⟨S8x2048x64, .f32⟩
  | 85 => ⟨S256, .f32⟩
  | 86 => ⟨S8x2048x256, .f32⟩
  | 87 => ⟨S_, .f32⟩
  | 88 => ⟨S8x2048, .f32⟩
  | 89 => ⟨S8x2048x1, .f32⟩
  | 90 => ⟨S_, .f32⟩
  | 91 => ⟨S8x2048x1, .f32⟩
  | 92 => ⟨S8x2048x1, .f32⟩
  | 93 => ⟨S_, .f32⟩
  | 94 => ⟨S8x2048x1, .f32⟩
  | 95 => ⟨S8x2048x1, .f32⟩
  | 96 => ⟨S8x2048x1, .f32⟩
  | 97 => ⟨S8x2048x256, .f32⟩
  | 98 => ⟨S8x2048x256, .f32⟩
  | 99 => ⟨S1x1x256, .f32⟩
  | 100 => ⟨S8x2048x256, .f32⟩
  | 101 => ⟨S8x2048x256, .f32⟩
  | 102 => ⟨S1x2048x64, .f32⟩
  | 103 => ⟨S8x2048x64, .f32⟩
  | 104 => ⟨S8x2048x64, .f32⟩
  | 105 => ⟨S1x2048x64, .f32⟩
  | 106 => ⟨S8x2048x64, .f32⟩
  | 107 => ⟨S8x2048x64, .f32⟩
  | 108 => ⟨S8x2048x64, .f32⟩
  | 109 => ⟨S256x1024, .f32⟩
  | 110 => ⟨S8x2048x1024, .f32⟩
  | 111 => ⟨S8x2048x8x128, .f32⟩
  | 112 => ⟨S1024x256, .f32⟩
  | 113 => ⟨S256x1024, .f32⟩
  | 114 => ⟨S8x2048x1024, .f32⟩
  | 115 => ⟨S_, .f32⟩
  | 116 => ⟨S8x2048x8x64, .f32⟩
  | 117 => ⟨S_, .f32⟩
  | 118 => ⟨S8x2048x8x128, .f32⟩
  | 119 => ⟨S8x2048x8x128, .f32⟩
  | 120 => ⟨S_, .f32⟩
  | 121 => ⟨S8x2048x8x64, .f32⟩
  | 122 => ⟨S8x2048x8x64, .f32⟩
  | 123 => ⟨S8x2048x8x256, .f32⟩
  | 124 => ⟨S8x2048x1x64, .f32⟩
  | 125 => ⟨S8x2048x8x64, .f32⟩
  | 126 => ⟨S8x2048x8x256, .f32⟩
  | 127 => ⟨S16384x2048, .f32⟩
  | _ => ⟨S16384x1024, .f32⟩

abbrev hbmTy0_1 (i : Nat) : BufTy := match i % 128 with
  | 0 => ⟨S2048x16384, .f32⟩
  | 1 => ⟨S2048x16384, .bf16⟩
  | 2 => ⟨S8x8x2048x256, .f32⟩
  | 3 => ⟨S8x16384x256, .f32⟩
  | 4 => ⟨S8x16384x256, .bf16⟩
  | 5 => ⟨S16384x1024, .f32⟩
  | 6 => ⟨S1024x16384, .f32⟩
  | 7 => ⟨S1024x16384, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_cst_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_9 : Ref sig .tc := ⟨.hbm, 115, rfl⟩
abbrev main_v93 : Ref sig .tc := ⟨.hbm, 116, rfl⟩
abbrev main_cst_10 : Ref sig .tc := ⟨.hbm, 117, rfl⟩
abbrev main_v94 : Ref sig .tc := ⟨.hbm, 118, rfl⟩
abbrev main_v95 : Ref sig .tc := ⟨.hbm, 119, rfl⟩
abbrev main_cst_11 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩

abbrev nD : Nat := 1
abbrev τ : Topo := Topo.v7x

variable {F : FTy → Type} [FloatOps F]
-- ==== Proof.Attn.Math.lean ====
module

public import Idealize.ShloMosaic.Lib.Pipeline.ValueKit

@[expose] public section

noncomputable section

open Idealize.ShloMosaic

/-! The mathematics of one row of attention: a softmax whose division is delayed, over keys taken in chunks. -/

namespace Attn

/-- Extended reals that are neither infinity. -/
def Fin' (x : EReal) : Prop := x ≠ ⊤ ∧ x ≠ ⊥

/-- A sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A finite extended real is a real number. -/
theorem Fin'.lift {x : EReal} (h : Fin' x) : ((x.toReal : ℝ) : EReal) = x := EReal.coe_toReal h.1 h.2

/-- A finite sum of products of finite numbers is finite. -/
theorem fin_dot {ι : Type} [Fintype ι] (a b : ι → EReal) (ha : ∀ i, Fin' (a i)) (hb : ∀ i, Fin' (b i)) : Fin' (∑ i, a i * b i) := by
  have : ∑ i, a i * b i = ((∑ i, (a i).toReal * (b i).toReal : ℝ) : EReal) := by
    rw [coe_sum]
    refine Finset.sum_congr rfl fun i _ => ?_
    rw [EReal.coe_mul, (ha i).lift, (hb i).lift]
  rw [this]
  exact ⟨EReal.coe_ne_top _, EReal.coe_ne_bot _⟩

/-- Multiplication by a non-negative real distributes over a finite sum. -/
theorem sum_mul_nonneg {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (EReal.coe_nonneg.mpr hc) (EReal.coe_ne_top c) _ _

/-- The kernel's row: the weighted sum of the values, divided once by the weights' sum; the weights are powers of two. -/
def row {ι : Type} [Fintype ι] (s v : ι → EReal) : EReal :=
  Ideal.div (∑ i, v i * Ideal.exp2 (s i - Finset.univ.sup s)) (∑ i, Ideal.exp2 (s i - Finset.univ.sup s))

/-- The reference's row: each weight divided by the weights' sum, then the values' weighted sum; the weights are natural
    exponentials of the scores. -/
def softRow {ι : Type} [Fintype ι] (z v : ι → EReal) : EReal :=
  ∑ i, v i * Ideal.div (Ideal.exp (z i - Finset.univ.sup z)) (∑ x, Ideal.exp (z x - Finset.univ.sup z))

/-- The supremum of finitely many reals is one of them, an upper bound of all. -/
theorem sup_coe {ι : Type} [Fintype ι] [Nonempty ι] (r : ι → ℝ) : ∃ μ : ℝ, Finset.univ.sup (fun i => (r i : EReal)) = (μ : EReal)
    ∧ (∀ i, r i ≤ μ) ∧ ∃ i, r i = μ := by
  obtain ⟨i, _, hi⟩ := Finset.exists_mem_eq_sup (Finset.univ : Finset ι) Finset.univ_nonempty (fun i => (r i : EReal))
  refine ⟨r i, hi, fun j => ?_, i, rfl⟩
  have : (r j : EReal) ≤ (r i : EReal) := hi ▸ Finset.le_sup (f := fun i => (r i : EReal)) (Finset.mem_univ j)
  exact EReal.coe_le_coe_iff.mp this

/-- For finite scores the kernel's row is the reference's of the scores times the logarithm of two, whatever the values. -/
theorem row_eq_softRow {ι : Type} [Fintype ι] [Nonempty ι] (s v : ι → EReal) (hs : ∀ i, Fin' (s i)) :
    row s v = softRow (fun i => s i * ((Real.log 2 : ℝ) : EReal)) v := by
  obtain ⟨r, rfl⟩ : ∃ r : ι → ℝ, s = fun i => (r i : EReal) := ⟨fun i => (s i).toReal, funext fun i => (hs i).lift.symm⟩
  obtain ⟨μ, hμ, hle, i0, hi0⟩ := sup_coe r
  obtain ⟨ν, hν, hle', j0, hj0⟩ := sup_coe (fun i => r i * Real.log 2)
  have hL : 0 < Real.log 2 := Real.log_pos (by norm_num)
  have hνμ : ν = μ * Real.log 2 := by
    apply le_antisymm
    · rw [← hj0]; exact mul_le_mul_of_nonneg_right (hle j0) hL.le
    · rw [← hi0]; exact hle' i0
  have hz : (fun i => (r i : EReal) * ((Real.log 2 : ℝ) : EReal)) = fun i => ((r i * Real.log 2 : ℝ) : EReal) :=
    funext fun i => (EReal.coe_mul _ _).symm
  have hw : ∀ i, Real.rpow 2 (r i - μ) = Real.exp (r i * Real.log 2 - ν) := fun i => by
    rw [hνμ]
    show (2 : ℝ) ^ (r i - μ) = _
    rw [Real.rpow_def_of_pos (by norm_num)]
    congr 1; ring
  unfold row softRow
  rw [hz, hμ, hν]
  have e1 : ∀ i, Ideal.exp2 ((r i : EReal) - (μ : EReal)) = ((Real.exp (r i * Real.log 2 - ν) : ℝ) : EReal) := fun i => by
    rw [← EReal.coe_sub, Ideal.exp2_coe, hw]
  have e2 : ∀ i, Ideal.exp (((r i * Real.log 2 : ℝ) : EReal) - (ν : EReal)) = ((Real.exp (r i * Real.log 2 - ν) : ℝ) : EReal) := fun i => by
    rw [← EReal.coe_sub, Ideal.exp_coe]
  simp only [e1, e2]
  rw [← coe_sum]
  have hl : 0 < ∑ i, Real.exp (r i * Real.log 2 - ν) := Finset.sum_pos (fun i _ => Real.exp_pos _) Finset.univ_nonempty
  rw [Ideal.div_coe hl.ne', sum_mul_nonneg _ _ _ (one_div_nonneg.mpr hl.le)]
  refine Finset.sum_congr rfl fun i _ => ?_
  rw [Ideal.div_coe hl.ne', mul_assoc]

/-- A property of all numbers below `512` is one of all residues modulo eight and quotients. -/
theorem forall_residue (P : Fin 512 → Prop) : (∀ (x : Fin 8) (y : Fin 64), P ⟨y.val * 8 + x.val, by omega⟩) ↔ ∀ k, P k := by
  refine ⟨fun h k => ?_, fun h x y => h _⟩
  have := h ⟨k.val % 8, by omega⟩ ⟨k.val / 8, by omega⟩
  have e : (⟨k.val / 8 * 8 + k.val % 8, by omega⟩ : Fin 512) = k := Fin.ext (by show k.val / 8 * 8 + k.val % 8 = k.val; omega)
  rw [← e]; exact this

/-- A sum over the numbers below `512`, by residues modulo eight. -/
theorem sum_residue (f : Fin 512 → EReal) : ∑ x : Fin 8, ∑ y : Fin 64, f ⟨y.val * 8 + x.val, by omega⟩ = ∑ k, f k := by
  rw [Finset.sum_comm, ← Fintype.sum_prod_type' (fun (y : Fin 64) (x : Fin 8) => f ⟨y.val * 8 + x.val, by omega⟩)]
  refine Fintype.sum_equiv (finProdFinEquiv (m := 64) (n := 8)) _ _ fun p => ?_
  congr 1
  exact Fin.ext (by show p.1.val * 8 + p.2.val = p.2.val + 8 * p.1.val; omega)

/-- A property of all 2560 keys is one of the five chunks' keys. -/
theorem forall_chunk (P : Fin 2560 → Prop) : ((∀ k : Fin 512, P ⟨512 + k.val, by omega⟩) ∧ (∀ k : Fin 512, P ⟨1024 + k.val, by omega⟩) ∧ (∀ k : Fin 512, P ⟨1536 + k.val, by omega⟩)
    ∧ (∀ k : Fin 512, P ⟨2048 + k.val, by omega⟩) ∧ (∀ k : Fin 512, P ⟨k.val, by omega⟩)) ↔ ∀ k, P k := by
  refine ⟨fun ⟨h0, h1, h2, h3, h4⟩ k => ?_, fun h => ⟨fun _ => h _, fun _ => h _, fun _ => h _, fun _ => h _, fun _ => h _⟩⟩
  have hk := k.isLt
  by_cases a : k.val < 512
  · exact h4 ⟨k.val, a⟩
  by_cases b : k.val < 1024
  · have e : k = ⟨512 + (⟨k.val - 512, by omega⟩ : Fin 512).val, by show 512 + (k.val - 512) < 2560; omega⟩ := Fin.ext (by show k.val = 512 + (k.val - 512); omega)
    rw [e]; exact h0 _
  by_cases c : k.val < 1536
  · have e : k = ⟨1024 + (⟨k.val - 1024, by omega⟩ : Fin 512).val, by show 1024 + (k.val - 1024) < 2560; omega⟩ := Fin.ext (by show k.val = 1024 + (k.val - 1024); omega)
    rw [e]; exact h1 _
  by_cases d : k.val < 2048
  · have e : k = ⟨1536 + (⟨k.val - 1536, by omega⟩ : Fin 512).val, by show 1536 + (k.val - 1536) < 2560; omega⟩ := Fin.ext (by show k.val = 1536 + (k.val - 1536); omega)
    rw [e]; exact h2 _
  · have e : k = ⟨2048 + (⟨k.val - 2048, by omega⟩ : Fin 512).val, by show 2048 + (k.val - 2048) < 2560; omega⟩ := Fin.ext (by show k.val = 2048 + (k.val - 2048); omega)
    rw [e]; exact h3 _

/-- A sum over all 2560 keys, by the five chunks in the order the kernel takes them. -/
theorem sum_chunk (f : Fin 2560 → EReal) : (∑ k : Fin 512, f ⟨512 + k.val, by omega⟩) + (∑ k : Fin 512, f ⟨1024 + k.val, by omega⟩) + (∑ k : Fin 512, f ⟨1536 + k.val, by omega⟩)
    + (∑ k : Fin 512, f ⟨2048 + k.val, by omega⟩) + (∑ k : Fin 512, f ⟨k.val, by omega⟩) = ∑ k, f k := by
  have h : ∑ k, f k = ∑ c : Fin 5, ∑ k : Fin 512, f ⟨512 * c.val + k.val, by omega⟩ := by
    rw [← Fintype.sum_prod_type' (fun (c : Fin 5) (k : Fin 512) => f ⟨512 * c.val + k.val, by omega⟩)]
    refine (Fintype.sum_equiv (finProdFinEquiv (m := 5) (n := 512)) _ _ fun p => ?_).symm
    congr 1
    exact Fin.ext (by show 512 * p.1.val + p.2.val = p.2.val + 512 * p.1.val; omega)
  rw [h, Fin.sum_univ_five]
  have e : (∑ k : Fin 512, f ⟨k.val, by omega⟩) = ∑ k : Fin 512, f ⟨512 * (0 : Fin 5).val + k.val, by show 512 * 0 + k.val < 2560; omega⟩ :=
    Finset.sum_congr rfl fun k _ => congrArg f (Fin.ext (by show k.val = 512 * 0 + k.val; omega))
  rw [e, add_comm (_ + _ + _ + _)]
  simp only [← add_assoc]
  rfl

/-- Folding the maximum from the word of −∞ is taking the supremum. -/
theorem fold_max {ι : Type} (s : Finset ι) (f : ι → EReal) : s.fold max (Ideal.ofBits .f32 0xFF800000#32) f = s.sup f := by
  have : Ideal.ofBits .f32 0xFF800000#32 = ⊥ := by simp [Ideal.ofBits, Ideal.ieee]
  rw [this]; rfl

end Attn
end
-- ==== Proof.Attn.Ref.lean ====
module

public import proofs.«01_k».proof.Proof.Gen.AttnRefIdeal.Run
public import Idealize.ShloMosaic.Lib.Pipeline.ValueKit
public import proofs.«01_k».proof.Proof.Attn.Math

@[expose] public section

set_option maxRecDepth 16384

noncomputable section

open Idealize.ShloMosaic Idealize.ShloMosaic.TcCoe Idealize.SL.Sem

namespace Cert.AttnRefIdeal.Value
open Cert.AttnRefIdeal Cert.AttnRefIdeal.Gen

variable (m : (ℓ : Loc nD τ sig) → Buf (Elt Ideal) ℓ)

/-- All keys, the cached ones first. -/
def keys (kc : FVec Ideal S8x4096x256 .bf16) (kn : FVec Ideal S8x16384x256 .bf16) : FVec Ideal S8x8x2560x256 .f32 :=
  concatenate S8x8x2560x256 2 [⟨S8x8x512x256, (shapeCast _ (extf .f32 kc bitsLt_bf16_f32) shapeCasts_S8x4096x256_S8x8x512x256)⟩, ⟨S8x8x2048x256, (shapeCast _ (extf .f32 kn bitsLt_bf16_f32) shapeCasts_S8x16384x256_S8x8x2048x256)⟩] concatenates_S8x8x512x256_S8x8x2048x256_S8x8x2560x256_d2
/-- All values, the cached ones first. -/
def vals (vc : FVec Ideal S1024x4096 .bf16) (vn : FVec Ideal S1024x16384 .bf16) : FVec Ideal S8x128x8x2560 .f32 :=
  concatenate S8x128x8x2560 3 [⟨S8x128x8x512, (shapeCast _ (extf .f32 vc bitsLt_bf16_f32) shapeCasts_S1024x4096_S8x128x8x512)⟩, ⟨S8x128x8x2048, (shapeCast _ (extf .f32 vn bitsLt_bf16_f32) shapeCasts_S1024x16384_S8x128x8x2048)⟩] concatenates_S8x128x8x512_S8x128x8x2048_S8x128x8x2560_d3
/-- The scores, in natural units. -/
def logits (q : FVec Ideal S2048x16384 .bf16) (k : FVec Ideal S8x8x2560x256 .f32) : FVec Ideal S8x8x2048x2560 .f32 :=
  mulf (Host.dotGeneral dot_S8x256x8x2048_S8x8x2560x256_S8x8x2048x2560_1_3_3_2_20_10 none (shapeCast _ (extf .f32 q bitsLt_bf16_f32) shapeCasts_S2048x16384_S8x256x8x2048) k) (broadcastInDim S8x8x2048x2560 ![] bcast_S_S8x8x2048x2560 (Host.log (constant S_ .f32 0x40000000#32)))
/-- Each row's maximum. -/
def rmax (s : FVec Ideal S8x8x2048x2560 .f32) : FVec Ideal S8x8x2048 .f32 :=
  Host.reduce FloatOps.maximumf s (constant S_ .f32 0xFF800000#32) reducesTo_S8x8x2048x2560_S8x8x2048_d3 h_S_
/-- The exponentials of the scores less their row's maximum. -/
def expo (s : FVec Ideal S8x8x2048x2560 .f32) (r : FVec Ideal S8x8x2048 .f32) : FVec Ideal S8x8x2048x2560 .f32 :=
  Host.exp (subf s (broadcastInDim S8x8x2048x2560 ![0, 1, 2, 3] bcast_S8x8x2048x1_S8x8x2048x2560_0_1_2_3 (broadcastInDim S8x8x2048x1 ![0, 1, 2] bcast_S8x8x2048_S8x8x2048x1_0_1_2 (maximumf (broadcastInDim S8x8x2048 ![] bcast_S_S8x8x2048 (constant S_ .f32 0xFF800000#32)) r))))
/-- The exponentials over their row's sum. -/
def soft (e : FVec Ideal S8x8x2048x2560 .f32) : FVec Ideal S8x8x2048x2560 .f32 :=
  Host.divf e (broadcastInDim S8x8x2048x2560 ![0, 1, 2, 3] bcast_S8x8x2048x1_S8x8x2048x2560_0_1_2_3 (broadcastInDim S8x8x2048x1 ![0, 1, 2] bcast_S8x8x2048_S8x8x2048x1_0_1_2 (Host.reduceAdd e (constant S_ .f32 0x00000000#32) reducesTo_S8x8x2048x2560_S8x8x2048_d3 h_S_)))
/-- The weighted values, laid out by token and head. -/
def outp (v : FVec Ideal S8x128x8x2560 .f32) (p : FVec Ideal S8x8x2048x2560 .f32) : FVec Ideal S16384x1024 .bf16 :=
  truncf .bf16 (shapeCast _ (transpose S8x2048x8x128 [0, 3, 1, 2] (Host.dotGeneral dot_S8x128x8x2560_S8x8x2048x2560_S8x8x128x2048_3_3_1_2_20_01 none v p) transposes_S8x8x128x2048_S8x2048x8x128_0_3_1_2) shapeCasts_S8x2048x8x128_S16384x1024) bitsLt_bf16_f32

/-- The result is the composition of the stages. -/
theorem ref_eq (c : Dev nD) : res_out0 m c = outp (vals (m ((c.tc : Thread nD τ).loc main_arg4)) (m ((c.tc : Thread nD τ).loc main_arg2)))
    (soft (expo (logits (m ((c.tc : Thread nD τ).loc main_arg0)) (keys (m ((c.tc : Thread nD τ).loc main_arg3)) (m ((c.tc : Thread nD τ).loc main_arg1))))
      (rmax (logits (m ((c.tc : Thread nD τ).loc main_arg0)) (keys (m ((c.tc : Thread nD τ).loc main_arg3)) (m ((c.tc : Thread nD τ).loc main_arg1)))))))  := rfl

/-- The keys read at an index: the cached ones first. -/
theorem keys_at (kc kn) (h b : Fin 8) (k : Fin 2560) (d : Fin 256) : keys kc kn (ix4 h b k d)
    = if hk : k.val < 512 then kc (ix3 h ⟨b.val * 512 + k.val, by omega⟩ d) else kn (ix3 h ⟨b.val * 2048 + (k.val - 512), by omega⟩ d) := by
  pointwise [keys]
/-- The values read at an index: the cached ones first. -/
theorem vals_at (vc vn) (h : Fin 8) (d : Fin 128) (b : Fin 8) (k : Fin 2560) : vals vc vn (ix4 h d b k)
    = if hk : k.val < 512 then vc (ix2 ⟨h.val * 128 + d.val, by omega⟩ ⟨b.val * 512 + k.val, by omega⟩) else vn (ix2 ⟨h.val * 128 + d.val, by omega⟩ ⟨b.val * 2048 + (k.val - 512), by omega⟩) := by
  pointwise [vals]
/-- The scores read at an index. -/
theorem logits_at (q k) (b h : Fin 8) (n : Fin 2048) (i : Fin 2560) : logits q k (ix4 b h n i)
    = (∑ d : Fin 256, q (ix2 ⟨h.val * 256 + d.val, by omega⟩ ⟨b.val * 2048 + n.val, by omega⟩) * k (ix4 h b i d)) * Ideal.log (Ideal.ofBits .f32 0x40000000#32) := by
  pointwise [logits]
/-- The row maximum read at an index. -/
theorem rmax_at (s) (b h : Fin 8) (n : Fin 2048) : rmax s (ix3 b h n) = (Finset.univ : Finset (Fin 2560)).fold max (Ideal.ofBits .f32 0xFF800000#32) (fun x => s (ix4 b h n x)) := by
  unfold rmax
  rw [Host.reduce_eq_fold_single FloatOps.maximumf s _ _ (by decide : S8x8x2048x2560.Reduces [3] S8x8x2048) _]
  refine Eq.trans (b := (Finset.univ : Finset (Fin 2560)).fold max (Ideal.ofBits .f32 0xFF800000#32) (fun x => s (Shape.Reduces.lift (s := S8x8x2048x2560) (a := 3) (t := S8x8x2048) (by decide) (ix3 b h n) x))) rfl ?_
  congr 1
  funext x
  congr 1
  funext a
  fin_cases a <;> rfl
/-- The exponentials read at an index. -/
theorem expo_at (s r) (b h : Fin 8) (n : Fin 2048) (i : Fin 2560) : expo s r (ix4 b h n i) = Ideal.exp (s (ix4 b h n i) - max (Ideal.ofBits .f32 0xFF800000#32) (r (ix3 b h n))) := by
  pointwise [expo]
/-- The weights read at an index. -/
theorem soft_at (e) (b h : Fin 8) (n : Fin 2048) (i : Fin 2560) : soft e (ix4 b h n i) = Ideal.div (e (ix4 b h n i)) (∑ x, e (ix4 b h n x)) := by
  pointwise [soft]
/-- The output read at an index. -/
theorem outp_at (v p) (j : Fin 16384) (i : Fin 1024) : outp v p (ix2 j i)
    = ∑ x : Fin 2560, v (ix4 ⟨i.val / 128, by omega⟩ ⟨i.val % 128, by omega⟩ ⟨j.val / 2048, by omega⟩ x) * p (ix4 ⟨j.val / 2048, by omega⟩ ⟨i.val / 128, by omega⟩ ⟨j.val % 2048, by omega⟩ x) := by
  pointwise [outp]

/-- The logarithm the reference takes is the real logarithm of two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- The weight of a key is the softmax of its row of scores. -/
theorem weight_at (s : FVec Ideal S8x8x2048x2560 .f32) (b h : Fin 8) (n : Fin 2048) (i : Fin 2560) : soft (expo s (rmax s)) (ix4 b h n i)
    = Ideal.div (Ideal.exp (s (ix4 b h n i) - Finset.univ.sup fun x => s (ix4 b h n x))) (∑ x, Ideal.exp (s (ix4 b h n x) - Finset.univ.sup fun x => s (ix4 b h n x))) := by
  have hb : Ideal.ofBits .f32 0xFF800000#32 = ⊥ := by simp [Ideal.ofBits, Ideal.ieee]
  rw [soft_at]
  simp only [expo_at, rmax_at, Attn.fold_max, hb, bot_le, max_eq_right]
  rfl

/-- The reference read at an index: the softmax of the scaled scores against the values. -/
theorem ref_at (q : FVec Ideal S2048x16384 .bf16) (kn : FVec Ideal S8x16384x256 .bf16) (vn : FVec Ideal S1024x16384 .bf16) (kc : FVec Ideal S8x4096x256 .bf16) (vc : FVec Ideal S1024x4096 .bf16)
    (j : Fin 16384) (i : Fin 1024) :
    outp (vals vc vn) (soft (expo (logits q (keys kc kn)) (rmax (logits q (keys kc kn))))) (ix2 j i)
      = Attn.softRow (fun x => logits q (keys kc kn) (ix4 ⟨j.val / 2048, by omega⟩ ⟨i.val / 128, by omega⟩ ⟨j.val % 2048, by omega⟩ x))
          (fun x => vals vc vn (ix4 ⟨i.val / 128, by omega⟩ ⟨i.val % 128, by omega⟩ ⟨j.val / 2048, by omega⟩ x)) := by
  rw [outp_at]
  unfold Attn.softRow
  exact Finset.sum_congr rfl fun x _ => by rw [weight_at]
end Cert.AttnRefIdeal.Value
end
-- ==== Proof.Attn.Unit.lean ====
module

public import proofs.«01_k».proof.Proof.Gen.AttnIdeal.Value
public import Idealize.ShloMosaic.Lib.Pipeline.ValueKit
public import proofs.«01_k».proof.Proof.Attn.Math

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-- The scores of 512 keys against 256 queries (both of one head). -/
def sc (q : FVec Ideal S256x256 .bf16) (k : FVec Ideal S1x512x256 .bf16) : FVec Ideal S512x256 .f32 :=
  matmul dot_S512x256_S256x256_S512x256_1_0_0_1_n_n none (shapeCast S512x256 k shapeCasts_S1x512x256_S512x256) q (constant S512x256 .f32 0x00000000#32)
/-- The maximum of the scores over keys of one residue modulo 8. -/
def mx8 (s : FVec Ideal S512x256 .f32) : FVec Ideal S8x256 .f32 :=
  multiReduction .maximumf [0] S8x256 (shapeCast S64x8x256 s shapeCasts_S512x256_S64x8x256) 0xFF800000#32 reduces_S64x8x256_S8x256 (.inl rfl) rfl
/-- The sum over keys of one residue modulo 8. -/
def sm8 (s : FVec Ideal S512x256 .f32) : FVec Ideal S8x256 .f32 :=
  multiReduction .add [0] S8x256 (shapeCast S64x8x256 s shapeCasts_S512x256_S64x8x256) 0x00000000#32 reduces_S64x8x256_S8x256 (.inl rfl) rfl
/-- The scores' maximum over the five chunks of keys. -/
def um (s0 s1 s2 s3 s4 : FVec Ideal S512x256 .f32) : FVec Ideal S1x256 .f32 :=
  shapeCast S1x256 (shapeCast S1x256 (multiReduction .maximumf [0] S256 (maximumf (maximumf (maximumf (maximumf (mx8 s0) (mx8 s1)) (mx8 s2)) (mx8 s3)) (mx8 s4)) 0xFF800000#32 reduces_S8x256_S256 (.inl rfl) rfl) shapeCasts_S256_S1x256) shapeCasts_S1x256_S1x256
/-- A chunk's exponentials. -/
def ex (m : FVec Ideal S1x256 .f32) (s : FVec Ideal S512x256 .f32) : FVec Ideal S512x256 .f32 :=
  exp2 (subf s (broadcastTo S512x256 m broadcasts_S1x256_S512x256))
/-- A chunk's values weighted by its exponentials. -/
def pv (v : FVec Ideal S128x512 .bf16) (p : FVec Ideal S512x256 .f32) : FVec Ideal S128x256 .f32 :=
  matmul dot_S128x512_S512x256_S128x256_1_0_0_1_n_n none v (truncf .bf16 p bitsLt_bf16_f32) (constant S128x256 .f32 0x00000000#32)
/-- The exponentials' sum over the five chunks. -/
def us (p0 p1 p2 p3 p4 : FVec Ideal S512x256 .f32) : FVec Ideal S1x256 .f32 :=
  shapeCast S1x256 (multiReduction .add [0] S256 (addf (addf (addf (addf (sm8 p0) (sm8 p1)) (sm8 p2)) (sm8 p3)) (sm8 p4)) 0x00000000#32 reduces_S8x256_S256 (.inl rfl) rfl) shapeCasts_S256_S1x256

/-- The scores read at an index. -/
theorem sc_at (q k) (a : Fin 512) (b : Fin 256) : sc q k (ix2 a b) = ∑ d : Fin 256, k (ix3 0 a d) * q (ix2 d b) := by
  pointwise [sc]
/-- The residue maximum read at an index. -/
theorem mx8_at (s) (a : Fin 8) (b : Fin 256) : mx8 s (ix2 a b) = Finset.univ.sup fun x : Fin 64 => s (ix2 ⟨x.val * 8 + a.val, by omega⟩ b) := by
  rw [← Attn.fold_max]
  pointwise [mx8]
/-- The residue sum read at an index. -/
theorem sm8_at (s) (a : Fin 8) (b : Fin 256) : sm8 s (ix2 a b) = ∑ x : Fin 64, s (ix2 ⟨x.val * 8 + a.val, by omega⟩ b) := by
  pointwise [sm8]
/-- The maximum over the five chunks read at an index. -/
theorem um_at (s0 s1 s2 s3 s4) (b : Fin 256) : um s0 s1 s2 s3 s4 (ix2 0 b) = Finset.univ.sup fun x : Fin 8 =>
    max (max (max (max (mx8 s0 (ix2 x b)) (mx8 s1 (ix2 x b))) (mx8 s2 (ix2 x b))) (mx8 s3 (ix2 x b))) (mx8 s4 (ix2 x b)) := by
  rw [← Attn.fold_max]
  pointwise [um]
/-- The sum over the five chunks read at an index. -/
theorem us_at (s0 s1 s2 s3 s4) (b : Fin 256) : us s0 s1 s2 s3 s4 (ix2 0 b) = ∑ x : Fin 8,
    (sm8 s0 (ix2 x b) + sm8 s1 (ix2 x b) + sm8 s2 (ix2 x b) + sm8 s3 (ix2 x b) + sm8 s4 (ix2 x b)) := by
  pointwise [us]
/-- The exponentials read at an index. -/
theorem ex_at (s m) (a : Fin 512) (b : Fin 256) : ex m s (ix2 a b) = Ideal.exp2 (s (ix2 a b) - m (ix2 0 b)) := by
  pointwise [ex]
  rfl
/-- The weighted values read at an index. -/
theorem pv_at (v p) (a : Fin 128) (b : Fin 256) : pv v p (ix2 a b) = ∑ d : Fin 512, v (ix2 a d) * p (ix2 d b) := by
  pointwise [pv]

/-- One unit of the kernel: 256 queries of one head against its five chunks of keys. -/
def unit (q : FVec Ideal S256x256 .bf16) (k0 k1 k2 k3 k4 : FVec Ideal S1x512x256 .bf16) (v0 v1 v2 v3 v4 : FVec Ideal S128x512 .bf16) : FVec Ideal S256x128 .bf16 :=
  let st := fun k => shapeCast S512x256 (sc q k) shapeCasts_S512x256_S512x256
  let m := um (sc q k0) (sc q k1) (sc q k2) (sc q k3) (sc q k4)
  truncf .bf16 (transpose S256x128 [1, 0]
    (divf (addf (addf (addf (addf (pv v0 (ex m (st k0))) (pv v1 (ex m (st k1)))) (pv v2 (ex m (st k2)))) (pv v3 (ex m (st k3)))) (pv v4 (ex m (st k4))))
      (broadcastTo S128x256 (us (ex m (st k0)) (ex m (st k1)) (ex m (st k2)) (ex m (st k3)) (ex m (st k4))) broadcasts_S1x256_S128x256))
    transposes_S128x256_p1_0_S256x128) bitsLt_bf16_f32

/-- The maximum over five chunks of one column is the supremum over all its scores. -/
theorem um_eq (s0 s1 s2 s3 s4) (s : Fin 2560 → EReal) (b : Fin 256) (h0 : ∀ k : Fin 512, s0 (ix2 k b) = s ⟨512 + k.val, by omega⟩) (h1 : ∀ k : Fin 512, s1 (ix2 k b) = s ⟨1024 + k.val, by omega⟩)
    (h2 : ∀ k : Fin 512, s2 (ix2 k b) = s ⟨1536 + k.val, by omega⟩) (h3 : ∀ k : Fin 512, s3 (ix2 k b) = s ⟨2048 + k.val, by omega⟩) (h4 : ∀ k : Fin 512, s4 (ix2 k b) = s ⟨k.val, by omega⟩) :
    um s0 s1 s2 s3 s4 (ix2 0 b) = Finset.univ.sup s := by
  refine eq_of_forall_ge_iff fun z => ?_
  rw [um_at]
  simp only [mx8_at, Finset.sup_le_iff, max_le_iff, Finset.mem_univ, true_implies, forall_and,
    Attn.forall_residue (fun k => s0 (ix2 k b) ≤ z), Attn.forall_residue (fun k => s1 (ix2 k b) ≤ z), Attn.forall_residue (fun k => s2 (ix2 k b) ≤ z),
    Attn.forall_residue (fun k => s3 (ix2 k b) ≤ z), Attn.forall_residue (fun k => s4 (ix2 k b) ≤ z), and_assoc]
  simp only [h0, h1, h2, h3, h4]
  exact Attn.forall_chunk (fun k => s k ≤ z)

/-- The sum over five chunks of one column is the sum over all its entries. -/
theorem us_eq (s0 s1 s2 s3 s4) (s : Fin 2560 → EReal) (b : Fin 256) (h0 : ∀ k : Fin 512, s0 (ix2 k b) = s ⟨512 + k.val, by omega⟩) (h1 : ∀ k : Fin 512, s1 (ix2 k b) = s ⟨1024 + k.val, by omega⟩)
    (h2 : ∀ k : Fin 512, s2 (ix2 k b) = s ⟨1536 + k.val, by omega⟩) (h3 : ∀ k : Fin 512, s3 (ix2 k b) = s ⟨2048 + k.val, by omega⟩) (h4 : ∀ k : Fin 512, s4 (ix2 k b) = s ⟨k.val, by omega⟩) :
    us s0 s1 s2 s3 s4 (ix2 0 b) = ∑ k, s k := by
  rw [us_at]
  simp only [sm8_at, Finset.sum_add_distrib, Attn.sum_residue (fun k => s0 (ix2 k b)), Attn.sum_residue (fun k => s1 (ix2 k b)), Attn.sum_residue (fun k => s2 (ix2 k b)),
    Attn.sum_residue (fun k => s3 (ix2 k b)), Attn.sum_residue (fun k => s4 (ix2 k b))]
  simp only [h0, h1, h2, h3, h4]
  exact Attn.sum_chunk s

/-- A unit's entry is one row of attention, over the scores and values its five chunks hold. -/
theorem unit_at (q : FVec Ideal S256x256 .bf16) (k0 k1 k2 k3 k4 : FVec Ideal S1x512x256 .bf16) (v0 v1 v2 v3 v4 : FVec Ideal S128x512 .bf16) (s v : Fin 2560 → EReal) (i : Fin 256) (j : Fin 128)
    (h0 : ∀ k : Fin 512, sc q k0 (ix2 k i) = s ⟨512 + k.val, by omega⟩) (h1 : ∀ k : Fin 512, sc q k1 (ix2 k i) = s ⟨1024 + k.val, by omega⟩) (h2 : ∀ k : Fin 512, sc q k2 (ix2 k i) = s ⟨1536 + k.val, by omega⟩)
    (h3 : ∀ k : Fin 512, sc q k3 (ix2 k i) = s ⟨2048 + k.val, by omega⟩) (h4 : ∀ k : Fin 512, sc q k4 (ix2 k i) = s ⟨k.val, by omega⟩)
    (g0 : ∀ k : Fin 512, v0 (ix2 j k) = v ⟨512 + k.val, by omega⟩) (g1 : ∀ k : Fin 512, v1 (ix2 j k) = v ⟨1024 + k.val, by omega⟩) (g2 : ∀ k : Fin 512, v2 (ix2 j k) = v ⟨1536 + k.val, by omega⟩)
    (g3 : ∀ k : Fin 512, v3 (ix2 j k) = v ⟨2048 + k.val, by omega⟩) (g4 : ∀ k : Fin 512, v4 (ix2 j k) = v ⟨k.val, by omega⟩) :
    unit q k0 k1 k2 k3 k4 v0 v1 v2 v3 v4 (ix2 i j) = Attn.row s v := by
  have hm := um_eq _ _ _ _ _ s i h0 h1 h2 h3 h4
  have hst : ∀ k, shapeCast S512x256 (sc q k) shapeCasts_S512x256_S512x256 = sc q k := fun k => by
    funext y; idx_vars y; pointwise []
  unfold unit
  simp only [hst]
  generalize sc q k0 = t0, sc q k1 = t1, sc q k2 = t2, sc q k3 = t3, sc q k4 = t4 at *
  have e := us_eq (ex (um t0 t1 t2 t3 t4) t0) (ex (um t0 t1 t2 t3 t4) t1) (ex (um t0 t1 t2 t3 t4) t2) (ex (um t0 t1 t2 t3 t4) t3) (ex (um t0 t1 t2 t3 t4) t4)
    (fun k => Ideal.exp2 (s k - Finset.univ.sup s)) i (fun k => by rw [ex_at, hm, h0]) (fun k => by rw [ex_at, hm, h1]) (fun k => by rw [ex_at, hm, h2]) (fun k => by rw [ex_at, hm, h3]) (fun k => by rw [ex_at, hm, h4])
  have e' := Attn.sum_chunk (fun k => v k * Ideal.exp2 (s k - Finset.univ.sup s))
  generalize um t0 t1 t2 t3 t4 = m at *
  generalize hu : us (ex m t0) (ex m t1) (ex m t2) (ex m t3) (ex m t4) = u at *
  unfold Attn.row
  rw [← e, ← e']
  simp only [← g0, ← g1, ← g2, ← g3, ← g4, ← h0, ← h1, ← h2, ← h3, ← h4, ← hm, ← ex_at, ← pv_at]
  generalize pv v0 (ex m t0) = w0, pv v1 (ex m t1) = w1, pv v2 (ex m t2) = w2, pv v3 (ex m t3) = w3, pv v4 (ex m t4) = w4
  pointwise []

end Cert.AttnIdeal.Value
end
-- ==== Proof.Attn.Kernel.lean ====
module

public import proofs.«01_k».proof.Proof.Gen.AttnIdeal.Value
public import proofs.«01_k».proof.Proof.Attn.Unit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value
open Cert.AttnIdeal Cert.AttnIdeal.Gen

/-- A load of the rows a store last wrote reads what it wrote. -/
theorem hit {sig : RefSig} {κ : Kind} {sp : Space} (v : View sig κ sp S2560x256 .f32) (a : ℕ)
    (inb inb' : ∀ i, (![a, 0] : Fin 2 → ℕ) i + (![512, 256] : Fin 2 → ℕ) i ≤ S2560x256.size i)
    (w : (Rect.unit (s := S2560x256) ![a, 0] ![512, 256] inb).shape.Idx → Elt Ideal .f32) (L : List (View.Piece (Elt Ideal) S2560x256 .f32)) :
    v.readCov (⟨Rect.unit ![a, 0] ![512, 256] inb, w⟩ :: L) (Rect.unit ![a, 0] ![512, 256] inb').toLoadRect = w :=
  View.readCov_cons_toLoadRect v _ w L

/-- A load of other rows than the last store's reads what stood before it. -/
theorem miss {sig : RefSig} {κ : Kind} {sp : Space} (v : View sig κ sp S2560x256 .f32) (a b : ℕ)
    (inb : ∀ i, (![a, 0] : Fin 2 → ℕ) i + (![512, 256] : Fin 2 → ℕ) i ≤ S2560x256.size i)
    (inb' : ∀ i, (![b, 0] : Fin 2 → ℕ) i + (![512, 256] : Fin 2 → ℕ) i ≤ S2560x256.size i)
    (w : (Rect.unit (s := S2560x256) ![a, 0] ![512, 256] inb).shape.Idx → Elt Ideal .f32) (L : List (View.Piece (Elt Ideal) S2560x256 .f32))
    (h : a + 512 ≤ b ∨ b + 512 ≤ a) :
    v.readCov (⟨Rect.unit ![a, 0] ![512, 256] inb, w⟩ :: L) (Rect.unit ![b, 0] ![512, 256] inb').toLoadRect
      = v.readCov L (Rect.unit ![b, 0] ![512, 256] inb').toLoadRect := by
  rw [View.readCov_eq_canon', View.readCov_eq_canon']
  funext j
  refine View.canon_cons_of_not_mem _ _ ?_
  intro hm
  have hm' : (Rect.unit (s := S2560x256) ![b, 0] ![512, 256] inb').toLoadRect.idx j ∈ (Rect.unit (s := S2560x256) ![a, 0] ![512, 256] inb).set := hm
  have h0 := (Rect.mem_set_unit.mp hm') 0
  have hj : (j 0 : ℕ) < 512 := (j 0).isLt
  have e : (((Rect.unit (s := S2560x256) ![b, 0] ![512, 256] inb').toLoadRect.idx j) 0 : ℕ) = b + 1 * (j 0 : ℕ) := rfl
  rw [e] at h0
  have h1 : a ≤ b + 1 * (j 0 : ℕ) := h0.1
  have h2 : b + 1 * (j 0 : ℕ) < a + 512 := h0.2
  omega

variable (x0 : FVec Ideal S1024x2048 .bf16) (x1 : FVec Ideal S4x2048x256 .bf16) (x2 : FVec Ideal S512x2048 .bf16) (x3 : FVec Ideal S4x512x256 .bf16) (x4 : FVec Ideal S512x512 .bf16)

/-- A rectangle of rank two lies inside its shape. -/
theorem inb2 {a b s t A B : ℕ} (h0 : a + s ≤ A) (h1 : b + t ≤ B) : ∀ i : Fin 2, (![a, b] : Fin 2 → ℕ) i + (![s, t] : Fin 2 → ℕ) i ≤ (![A, B] : Fin 2 → ℕ) i := by
  intro i; fin_cases i
  · exact h0
  · exact h1
/-- A rectangle of rank three lies inside its shape. -/
theorem inb3 {a b c s t u A B C : ℕ} (h0 : a + s ≤ A) (h1 : b + t ≤ B) (h2 : c + u ≤ C) : ∀ i : Fin 3, (![a, b, c] : Fin 3 → ℕ) i + (![s, t, u] : Fin 3 → ℕ) i ≤ (![A, B, C] : Fin 3 → ℕ) i := by
  intro i; fin_cases i
  · exact h0
  · exact h1
  · exact h2

/-- What the unit of head `h` and query rows `r` stores, and where. -/
def piece (h : Fin 4) (r : Fin 8) : View.Piece (Elt Ideal) S2048x512 .bf16 :=
  ⟨Rect.unit (s := S2048x512) ![256 * r.val, 128 * h.val] ![256, 128] (inb2 (by omega) (by omega)),
   unit (View.ld (Val := Elt Ideal) (e' := .bf16) x0 (Rect.unit (s := S1024x2048) ![256 * h.val, 256 * r.val] ![256, 256] (inb2 (by omega) (by omega))))
     (View.ld (Val := Elt Ideal) (e' := .bf16) x1 (Rect.unit (s := S4x2048x256) ![h.val, 0, 0] ![1, 512, 256] (inb3 (by omega) (by omega) (by omega))))
     (View.ld (Val := Elt Ideal) (e' := .bf16) x1 (Rect.unit (s := S4x2048x256) ![h.val, 512, 0] ![1, 512, 256] (inb3 (by omega) (by omega) (by omega))))
     (View.ld (Val := Elt Ideal) (e' := .bf16) x1 (Rect.unit (s := S4x2048x256) ![h.val, 1024, 0] ![1, 512, 256] (inb3 (by omega) (by omega) (by omega))))
     (View.ld (Val := Elt Ideal) (e' := .bf16) x1 (Rect.unit (s := S4x2048x256) ![h.val, 1536, 0] ![1, 512, 256] (inb3 (by omega) (by omega) (by omega))))
     (View.ld (Val := Elt Ideal) (e' := .bf16) x3 (Rect.unit (s := S4x512x256) ![h.val, 0, 0] ![1, 512, 256] (inb3 (by omega) (by omega) (by omega))))
     (View.ld (Val := Elt Ideal) (e' := .bf16) x2 (Rect.unit (s := S512x2048) ![128 * h.val, 0] ![128, 512] (inb2 (by omega) (by omega))))
     (View.ld (Val := Elt Ideal) (e' := .bf16) x2 (Rect.unit (s := S512x2048) ![128 * h.val, 512] ![128, 512] (inb2 (by omega) (by omega))))
     (View.ld (Val := Elt Ideal) (e' := .bf16) x2 (Rect.unit (s := S512x2048) ![128 * h.val, 1024] ![128, 512] (inb2 (by omega) (by omega))))
     (View.ld (Val := Elt Ideal) (e' := .bf16) x2 (Rect.unit (s := S512x2048) ![128 * h.val, 1536] ![128, 512] (inb2 (by omega) (by omega))))
     (View.ld (Val := Elt Ideal) (e' := .bf16) x4 (Rect.unit (s := S512x512) ![128 * h.val, 0] ![128, 512] (inb2 (by omega) (by omega))))⟩

/-- All the units' stores, the last first. -/
def pieces : List (View.Piece (Elt Ideal) S2048x512 .bf16) :=
  ([3, 2, 1, 0] : List (Fin 4)).flatMap fun h => ([7, 6, 5, 4, 3, 2, 1, 0] : List (Fin 8)).map (piece x0 x1 x2 x3 x4 h)

/-- A load of a rectangle of rank two, read at an index. -/
theorem ld2 {A B a b s t : ℕ} (x : FVec Ideal ⟨2, ![A, B]⟩ .bf16) (inb : ∀ i : Fin 2, (![a, b] : Fin 2 → ℕ) i + (![s, t] : Fin 2 → ℕ) i ≤ (![A, B] : Fin 2 → ℕ) i) (i : Fin s) (j : Fin t)
    (i' : Fin A) (j' : Fin B) (hi : i'.val = a + i.val) (hj : j'.val = b + j.val) :
    View.ld (Val := Elt Ideal) (e' := .bf16) x (Rect.unit (s := ⟨2, ![A, B]⟩) ![a, b] ![s, t] inb) (ix2 i j) = x (ix2 i' j') := by
  refine congrArg x (funext fun c => Fin.ext ?_)
  fin_cases c
  · show a + 1 * i.val = i'.val; omega
  · show b + 1 * j.val = j'.val; omega

/-- A load of a rectangle of rank three, read at an index. -/
theorem ld3 {A B C a b c s t u : ℕ} (x : FVec Ideal ⟨3, ![A, B, C]⟩ .bf16) (inb : ∀ i : Fin 3, (![a, b, c] : Fin 3 → ℕ) i + (![s, t, u] : Fin 3 → ℕ) i ≤ (![A, B, C] : Fin 3 → ℕ) i)
    (i : Fin s) (j : Fin t) (k : Fin u) (i' : Fin A) (j' : Fin B) (k' : Fin C) (hi : i'.val = a + i.val) (hj : j'.val = b + j.val) (hk : k'.val = c + k.val) :
    View.ld (Val := Elt Ideal) (e' := .bf16) x (Rect.unit (s := ⟨3, ![A, B, C]⟩) ![a, b, c] ![s, t, u] inb) (ix3 i j k) = x (ix3 i' j' k') := by
  refine congrArg x (funext fun c => Fin.ext ?_)
  fin_cases c
  · show a + 1 * i.val = i'.val; omega
  · show b + 1 * j.val = j'.val; omega
  · show c + 1 * k.val = k'.val; omega

/-- The score of query `n` and key `i` of head `h`, over a grid point's blocks: the cached keys come first. -/
def bscore (h : Fin 4) (n : Fin 2048) (i : Fin 2560) : EReal :=
  ∑ d : Fin 256, (if hi : i.val < 512 then x3 (ix3 h ⟨i.val, hi⟩ d) else x1 (ix3 h ⟨i.val - 512, by omega⟩ d)) * x0 (ix2 ⟨256 * h.val + d.val, by omega⟩ n)

/-- Coordinate `d` of the value of key `i` of head `h`, over a grid point's blocks. -/
def bval (h : Fin 4) (d : Fin 128) (i : Fin 2560) : EReal :=
  if hi : i.val < 512 then x4 (ix2 ⟨128 * h.val + d.val, by omega⟩ ⟨i.val, hi⟩) else x2 (ix2 ⟨128 * h.val + d.val, by omega⟩ ⟨i.val - 512, by omega⟩)

/-- What a grid point leaves in its block of the result, at row `n` and column `j`. -/
def blockOut (n : Fin 2048) (j : Fin 512) : EReal :=
  Attn.row (bscore x0 x1 x3 ⟨j.val / 128, by omega⟩ n) (bval x2 x4 ⟨j.val / 128, by omega⟩ ⟨j.val % 128, by omega⟩)

/-- The scores of a chunk of the new keys. -/
theorem sc_new (h : Fin 4) (r : Fin 8) (a : ℕ) (ha : a + 512 ≤ 2048) (q0) (q1) (i : Fin 256) (k : Fin 512) :
    sc (View.ld (Val := Elt Ideal) (e' := .bf16) x0 (Rect.unit (s := S1024x2048) ![256 * h.val, 256 * r.val] ![256, 256] q0))
      (View.ld (Val := Elt Ideal) (e' := .bf16) x1 (Rect.unit (s := S4x2048x256) ![h.val, a, 0] ![1, 512, 256] q1)) (ix2 k i)
      = bscore x0 x1 x3 h ⟨256 * r.val + i.val, by omega⟩ ⟨512 + a + k.val, by omega⟩ := by
  rw [sc_at]
  unfold bscore
  refine Finset.sum_congr rfl fun d _ => ?_
  rw [dif_neg (by show ¬ 512 + a + k.val < 512; omega)]
  exact congrArg₂ (· * ·) (ld3 x1 q1 0 k d _ _ _ rfl (by show 512 + a + k.val - 512 = _; omega) (by omega)) (ld2 x0 q0 d i _ _ rfl rfl)

/-- The scores of the cached keys. -/
theorem sc_cache (h : Fin 4) (r : Fin 8) (q0) (q1) (i : Fin 256) (k : Fin 512) :
    sc (View.ld (Val := Elt Ideal) (e' := .bf16) x0 (Rect.unit (s := S1024x2048) ![256 * h.val, 256 * r.val] ![256, 256] q0))
      (View.ld (Val := Elt Ideal) (e' := .bf16) x3 (Rect.unit (s := S4x512x256) ![h.val, 0, 0] ![1, 512, 256] q1)) (ix2 k i)
      = bscore x0 x1 x3 h ⟨256 * r.val + i.val, by omega⟩ ⟨k.val, by omega⟩ := by
  rw [sc_at]
  unfold bscore
  refine Finset.sum_congr rfl fun d _ => ?_
  rw [dif_pos (by show k.val < 512; omega)]
  exact congrArg₂ (· * ·) (ld3 x3 q1 0 k d _ _ _ rfl (by show k.val = _; omega) (by omega)) (ld2 x0 q0 d i _ _ rfl rfl)

/-- The values of a chunk of the new keys. -/
theorem val_new (h : Fin 4) (a : ℕ) (ha : a + 512 ≤ 2048) (q) (d : Fin 128) (k : Fin 512) :
    View.ld (Val := Elt Ideal) (e' := .bf16) x2 (Rect.unit (s := S512x2048) ![128 * h.val, a] ![128, 512] q) (ix2 d k) = bval x2 x4 h d ⟨512 + a + k.val, by omega⟩ := by
  unfold bval
  rw [dif_neg (by show ¬ 512 + a + k.val < 512; omega)]
  exact ld2 x2 q d k _ _ rfl (by show 512 + a + k.val - 512 = _; omega)

/-- The values of the cached keys. -/
theorem val_cache (h : Fin 4) (q) (d : Fin 128) (k : Fin 512) :
    View.ld (Val := Elt Ideal) (e' := .bf16) x4 (Rect.unit (s := S512x512) ![128 * h.val, 0] ![128, 512] q) (ix2 d k) = bval x2 x4 h d ⟨k.val, by omega⟩ := by
  unfold bval
  rw [dif_pos (by show k.val < 512; omega)]
  exact ld2 x4 q d k _ _ rfl (by show k.val = _; omega)

/-- Every unit's store holds the rows of attention of its place in the block. -/
theorem piece_eq (h : Fin 4) (r : Fin 8) (x : (piece x0 x1 x2 x3 x4 h r).1.shape.Idx) :
    (piece x0 x1 x2 x3 x4 h r).2 x = blockOut x0 x1 x2 x3 x4 ((piece x0 x1 x2 x3 x4 h r).1.emb x 0) ((piece x0 x1 x2 x3 x4 h r).1.emb x 1) := by
  obtain ⟨i, j, rfl⟩ : ∃ (i : Fin 256) (j : Fin 128), x = ix2 i j := ⟨x 0, x 1, by funext c; fin_cases c <;> rfl⟩
  have e0 : (piece x0 x1 x2 x3 x4 h r).1.emb (ix2 i j) 0 = (⟨256 * r.val + i.val, by omega⟩ : Fin 2048) := Fin.ext (by show 256 * r.val + 1 * i.val = 256 * r.val + i.val; omega)
  have e1 : (piece x0 x1 x2 x3 x4 h r).1.emb (ix2 i j) 1 = (⟨128 * h.val + j.val, by omega⟩ : Fin 512) := Fin.ext (by show 128 * h.val + 1 * j.val = 128 * h.val + j.val; omega)
  rw [e0, e1]
  have e2 : (⟨(⟨128 * h.val + j.val, by omega⟩ : Fin 512).val / 128, by omega⟩ : Fin 4) = h := Fin.ext (by show (128 * h.val + j.val) / 128 = h.val; omega)
  have e3 : (⟨(⟨128 * h.val + j.val, by omega⟩ : Fin 512).val % 128, by omega⟩ : Fin 128) = j := Fin.ext (by show (128 * h.val + j.val) % 128 = j.val; omega)
  unfold blockOut
  rw [e2, e3]
  exact unit_at _ _ _ _ _ _ _ _ _ _ _ _ _ i j
    (fun k => sc_new x0 x1 x3 h r 0 (by omega) _ _ i k) (fun k => sc_new x0 x1 x3 h r 512 (by omega) _ _ i k) (fun k => sc_new x0 x1 x3 h r 1024 (by omega) _ _ i k)
    (fun k => sc_new x0 x1 x3 h r 1536 (by omega) _ _ i k) (fun k => sc_cache x0 x1 x3 h r _ _ i k)
    (fun k => val_new x2 x4 h 0 (by omega) _ j k) (fun k => val_new x2 x4 h 512 (by omega) _ j k) (fun k => val_new x2 x4 h 1024 (by omega) _ j k)
    (fun k => val_new x2 x4 h 1536 (by omega) _ j k) (fun k => val_cache x2 x4 h _ j k)

/-- The stores of all units make the block of rows of attention. -/
theorem pieces_eq (y : S2048x512.Idx) : View.canon (pieces x0 x1 x2 x3 x4) y = blockOut x0 x1 x2 x3 x4 (y 0) (y 1) := by
  refine View.canon_apply_of_pieces (Val := Elt Ideal) (S := S2048x512) (e := .bf16) (fun y : S2048x512.Idx => (blockOut x0 x1 x2 x3 x4 (y 0) (y 1) : Elt Ideal .bf16)) _ ?_ y ?_
  · intro p hp x
    obtain ⟨h, _, hp⟩ := List.mem_flatMap.mp hp
    obtain ⟨r, _, rfl⟩ := List.mem_map.mp hp
    exact piece_eq x0 x1 x2 x3 x4 h r x
  · have hy0 : (y 0).val < 2048 := (y 0).isLt
    have hy1 : (y 1).val < 512 := (y 1).isLt
    refine ⟨piece x0 x1 x2 x3 x4 ⟨(y 1).val / 128, by omega⟩ ⟨(y 0).val / 256, by omega⟩, ?_, ?_⟩
    · refine List.mem_flatMap.mpr ⟨_, (by decide : ∀ h : Fin 4, h ∈ ([3, 2, 1, 0] : List (Fin 4))) _, List.mem_map.mpr ⟨_, (by decide : ∀ r : Fin 8, r ∈ ([7, 6, 5, 4, 3, 2, 1, 0] : List (Fin 8))) _, rfl⟩⟩
    · refine (Rect.mem_set_unit (s := S2048x512) (inb := inb2 (by omega) (by omega))).mpr fun c => ?_
      fin_cases c
      · show 256 * ((y 0).val / 256) ≤ (y 0).val ∧ (y 0).val < 256 * ((y 0).val / 256) + 256; omega
      · show 128 * ((y 1).val / 128) ≤ (y 1).val ∧ (y 1).val < 128 * ((y 1).val / 128) + 128; omega

/-- The score of query `n` and key `i` of head `h` of sequence `b`, over the argument arrays. -/
def score (q : FVec Ideal S2048x16384 .bf16) (kn : FVec Ideal S8x16384x256 .bf16) (kc : FVec Ideal S8x4096x256 .bf16) (b h : Fin 8) (n : Fin 2048) (i : Fin 2560) : EReal :=
  ∑ d : Fin 256, (if hi : i.val < 512 then kc (ix3 h ⟨b.val * 512 + i.val, by omega⟩ d) else kn (ix3 h ⟨b.val * 2048 + (i.val - 512), by omega⟩ d))
    * q (ix2 ⟨h.val * 256 + d.val, by omega⟩ ⟨b.val * 2048 + n.val, by omega⟩)

/-- Coordinate `d` of the value of key `i` of head `h` of sequence `b`, over the argument arrays. -/
def value (vn : FVec Ideal S1024x16384 .bf16) (vc : FVec Ideal S1024x4096 .bf16) (b h : Fin 8) (d : Fin 128) (i : Fin 2560) : EReal :=
  if hi : i.val < 512 then vc (ix2 ⟨h.val * 128 + d.val, by omega⟩ ⟨b.val * 512 + i.val, by omega⟩) else vn (ix2 ⟨h.val * 128 + d.val, by omega⟩ ⟨b.val * 2048 + (i.val - 512), by omega⟩)

/-- The kernel's result: rows of attention by token and by head and coordinate. -/
def out (q : FVec Ideal S2048x16384 .bf16) (kn : FVec Ideal S8x16384x256 .bf16) (vn : FVec Ideal S1024x16384 .bf16) (kc : FVec Ideal S8x4096x256 .bf16) (vc : FVec Ideal S1024x4096 .bf16)
    (j : Fin 16384) (i : Fin 1024) : EReal :=
  Attn.row (score q kn kc ⟨j.val / 2048, by omega⟩ ⟨i.val / 128, by omega⟩ ⟨j.val % 2048, by omega⟩) (value vn vc ⟨j.val / 2048, by omega⟩ ⟨i.val / 128, by omega⟩ ⟨i.val % 128, by omega⟩)

variable (m : (ℓ : Loc nD τ sig) → Buf (Elt Ideal) ℓ)

/-- The windows' blocks at every grid point: a sequence and half of the heads. -/
theorem idx : ∀ t : Fin cfg0.N, win0_0.index t = ![t.val % 2, t.val / 2] ∧ win0_1.index t = ![t.val % 2, t.val / 2, 0] ∧ win0_2.index t = ![t.val % 2, t.val / 2]
    ∧ win0_3.index t = ![t.val % 2, t.val / 2, 0] ∧ win0_4.index t = ![t.val % 2, t.val / 2] ∧ win0_5.index t = ![t.val / 2, t.val % 2] ∧ t.val < 16 :=
  (by decide +kernel : ∀ t : Fin grid0.N, _)

/-- A block's scores are the arrays' scores of its sequence and heads. -/
theorem bscore_eq (c : Dev nD) (t : Fin cfg0.N) (h : Fin 4) (n : Fin 2048) (i : Fin 2560) (b g : Fin 8) (hb : b.val = t.val / 2) (hg : g.val = t.val % 2 * 4 + h.val) :
    bscore (iblk m c 0 t) (iblk m c 1 t) (iblk m c 3 t) h n i = score (m ((c.tc : Thread nD τ).loc main_arg0)) (m ((c.tc : Thread nD τ).loc main_arg1)) (m ((c.tc : Thread nD τ).loc main_arg3)) b g n i := by
  unfold bscore score
  refine Finset.sum_congr rfl fun d _ => ?_
  refine congrArg₂ (· * ·) ?_ ?_
  · by_cases hi : i.val < 512
    · rw [dif_pos hi, dif_pos hi]
      blk_ext [iblk, V, idx t]
    · rw [dif_neg hi, dif_neg hi]
      blk_ext [iblk, V, idx t]
  · blk_ext [iblk, V, idx t]

/-- A block's values are the arrays' values of its sequence and heads. -/
theorem bval_eq (c : Dev nD) (t : Fin cfg0.N) (h : Fin 4) (d : Fin 128) (i : Fin 2560) (b g : Fin 8) (hb : b.val = t.val / 2) (hg : g.val = t.val % 2 * 4 + h.val) :
    bval (iblk m c 2 t) (iblk m c 4 t) h d i = value (m ((c.tc : Thread nD τ).loc main_arg2)) (m ((c.tc : Thread nD τ).loc main_arg4)) b g d i := by
  unfold bval value
  by_cases hi : i.val < 512
  · rw [dif_pos hi, dif_pos hi]
    blk_ext [iblk, V, idx t]
  · rw [dif_neg hi, dif_neg hi]
    blk_ext [iblk, V, idx t]

/-- The kernel's result array over its argument arrays. -/
abbrev res (c : Dev nD) : FVec Ideal S16384x1024 .bf16 := fun y => out (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (y 0) (y 1)

/-- What a grid point leaves in its block is the result's part there. -/
theorem point (c : Dev nD) (t : Fin cfg0.N) (y : S2048x512.Idx) (n : Fin 16384) (i : Fin 1024) (hn : n.val = t.val / 2 * 2048 + (y 0).val) (hi : i.val = t.val % 2 * 512 + (y 1).val) :
    blockOut (iblk m c 0 t) (iblk m c 1 t) (iblk m c 2 t) (iblk m c 3 t) (iblk m c 4 t) (y 0) (y 1) = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) n i := by
  have hy0 : (y 0).val < 2048 := (y 0).isLt
  have hy1 : (y 1).val < 512 := (y 1).isLt
  have en : (⟨n.val % 2048, by omega⟩ : Fin 2048) = y 0 := Fin.ext (by show n.val % 2048 = (y 0).val; omega)
  have ed : (⟨i.val % 128, by omega⟩ : Fin 128) = ⟨(y 1).val % 128, by omega⟩ := Fin.ext (by show i.val % 128 = (y 1).val % 128; omega)
  unfold blockOut out
  rw [en, ed]
  refine congrArg₂ Attn.row (funext fun k => bscore_eq m c t _ _ k _ _ ?_ ?_) (funext fun k => bval_eq m c t _ _ k _ _ ?_ ?_)
  all_goals first | (show n.val / 2048 = t.val / 2; omega) | (show i.val / 128 = t.val % 2 * 4 + (y 1).val / 128; omega)

set_option maxHeartbeats 4000000 in
/-- The result array after the run. -/
theorem final (c : Dev nD) : (dats m 0 c).arrAt 5 (cfgs 0).N = res m c := by
  refine (dats m 0 c).arrAt_eq_of_covers 5 _ (by decide +kernel) fun t _ y => ?_
  blk_simp
  rw [after0_5]
  unfold outsAt0 out0_A_5
  frame_out
  simp (config := {maxSteps := 10000000}) only [↓hit, ↓miss, Nat.reduceAdd, Nat.reduceLeDiff, or_true, true_or, or_false, false_or]
  refine Eq.trans (b := View.canon (pieces (iblk m c 0 t) (iblk m c 1 t) (iblk m c 2 t) (iblk m c 3 t) (iblk m c 4 t)) y) ?_ ?_
  · refine congrFun (congrArg View.canon ?_) y
    rfl
  · rw [pieces_eq]
    refine point m c t y _ _ ?_ ?_
    · blk_simp [idx t]
    · blk_simp [idx t]
end Cert.AttnIdeal.Value
end
-- ==== Proof.Attn.Agree.lean ====
module

public import proofs.«01_k».proof.Proof.Attn.Ref
public import proofs.«01_k».proof.Proof.Attn.Kernel
public import proofs.«01_k».proof.Defs
public import proofs.«01_k».proof.Proof.Gen.Pre_finite_scores
public import Idealize.ShloMosaic.Lib.ReduceAll

@[expose] public section

noncomputable section

open Idealize.ShloMosaic Idealize.ShloMosaic.TcCoe Idealize.SL.Sem

/-! The kernel's and the reference's results agree for finite queries and keys. -/

namespace Attn

/-- A number whose absolute value compares below infinity is finite. -/
theorem fin_of_lt {x : EReal} (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  have hl : max x (-x) < ⊤ := by
    by_contra hn
    simp [Ideal.cmp, hn] at h
  refine ⟨fun e => ?_, fun e => ?_⟩ <;> simp [e] at hl

/-- An array all of whose entries the precondition tests to be finite has finite entries. -/
theorem fin_of_pre (s : Shape) (x : FVec Ideal s .bf16) (hb : FTy.bits .bf16 < FTy.bits .f32) (hc : (⟨0, ![]⟩ : Shape).BroadcastsInDim s (![] : Fin 0 → Fin s.rank)) (axes : List (Fin s.rank)) (hr : s.ReducesTo axes ⟨0, ![]⟩)
    (hn : 0 < (⟨0, ![]⟩ : Shape).numel)
    (h : Host.reduce IntOp.andi (cmpf .olt (Host.absf (extf .f32 x hb)) (broadcastInDim s ![] hc (constant ⟨0, ![]⟩ .f32 0x7F800000#32))) (constantI ⟨0, ![]⟩ 1 1#1) hr hn = fun _ => 1#1) :
    ∀ y, Fin' (x y) := by
  intro y
  have : Subsingleton (⟨0, ![]⟩ : Shape).Idx := ⟨fun a b => funext fun c => c.elim0⟩
  have e := Host.reduce_andi_all _ _ hr hn (Shape.Idx.first hn) (congrFun h _) y
  exact fin_of_lt e

/-- The precondition makes the queries and both key arrays finite. -/
theorem fin_args (q : FVec Ideal Cert.AttnIdeal.S2048x16384 .bf16) (kn : FVec Ideal Cert.AttnIdeal.S8x16384x256 .bf16) (vn : FVec Ideal Cert.AttnIdeal.S1024x16384 .bf16) (kc : FVec Ideal Cert.AttnIdeal.S8x4096x256 .bf16)
    (vc : FVec Ideal Cert.AttnIdeal.S1024x4096 .bf16)
    (h : (Cert.Pre_finite_scores.fn (F := Ideal) q kn vn kc vc).1 = (fun _ => 1#1) ∧ (Cert.Pre_finite_scores.fn (F := Ideal) q kn vn kc vc).2.1 = (fun _ => 1#1)
      ∧ (Cert.Pre_finite_scores.fn (F := Ideal) q kn vn kc vc).2.2 = (fun _ => 1#1)) : (∀ y, Fin' (q y)) ∧ (∀ y, Fin' (kn y)) ∧ (∀ y, Fin' (kc y)) := by
  dsimp only [Cert.Pre_finite_scores.fn] at h
  exact ⟨fin_of_pre _ _ _ _ _ _ _ h.1, fin_of_pre _ _ _ _ _ _ _ h.2.1, fin_of_pre _ _ _ _ _ _ _ h.2.2⟩

open Cert.AttnIdeal Cert.AttnIdeal.Value in
/-- For finite queries and keys the kernel's result at an index is the reference's. -/
theorem out_eq (q : FVec Ideal S2048x16384 .bf16) (kn : FVec Ideal S8x16384x256 .bf16) (vn : FVec Ideal S1024x16384 .bf16) (kc : FVec Ideal S8x4096x256 .bf16) (vc : FVec Ideal S1024x4096 .bf16)
    (hq : ∀ y, Fin' (q y)) (hkn : ∀ y, Fin' (kn y)) (hkc : ∀ y, Fin' (kc y)) (j : Fin 16384) (i : Fin 1024) :
    out q kn vn kc vc j i = Cert.AttnRefIdeal.Value.outp (Cert.AttnRefIdeal.Value.vals vc vn) (Cert.AttnRefIdeal.Value.soft (Cert.AttnRefIdeal.Value.expo (Cert.AttnRefIdeal.Value.logits q (Cert.AttnRefIdeal.Value.keys kc kn))
      (Cert.AttnRefIdeal.Value.rmax (Cert.AttnRefIdeal.Value.logits q (Cert.AttnRefIdeal.Value.keys kc kn))))) (ix2 j i) := by
  refine Eq.trans ?_ (Cert.AttnRefIdeal.Value.ref_at q kn vn kc vc j i).symm
  unfold out
  rw [row_eq_softRow]
  · refine congrArg₂ softRow (funext fun x => ?_) (funext fun x => ?_)
    · rw [Cert.AttnRefIdeal.Value.logits_at, Cert.AttnRefIdeal.Value.log_two]
      unfold score
      refine congrArg (· * _) (Finset.sum_congr rfl fun d _ => ?_)
      rw [Cert.AttnRefIdeal.Value.keys_at, mul_comm]
    · rw [Cert.AttnRefIdeal.Value.vals_at]
      rfl
  · intro x
    unfold score
    refine fin_dot _ _ (fun d => ?_) (fun d => hq _)
    split
    · exact hkc _
    · exact hkn _

open Cert.AttnIdeal Cert.AttnIdeal.Value in
/-- For finite queries and keys the kernel's result array is the reference's, of the same arguments. -/
theorem agree (m : (ℓ : Loc nD τ sig) → Buf (Elt Ideal) ℓ) (m' : (ℓ : Loc Cert.AttnRefIdeal.nD Cert.AttnRefIdeal.τ Cert.AttnRefIdeal.sig) → Buf (Elt Ideal) ℓ) (c : Dev nD)
    (h0 : m ((c.tc : Thread nD τ).loc main_arg0) = m' ((c.tc : Thread Cert.AttnRefIdeal.nD Cert.AttnRefIdeal.τ).loc Cert.AttnRefIdeal.main_arg0))
    (h1 : m ((c.tc : Thread nD τ).loc main_arg1) = m' ((c.tc : Thread Cert.AttnRefIdeal.nD Cert.AttnRefIdeal.τ).loc Cert.AttnRefIdeal.main_arg1))
    (h2 : m ((c.tc : Thread nD τ).loc main_arg2) = m' ((c.tc : Thread Cert.AttnRefIdeal.nD Cert.AttnRefIdeal.τ).loc Cert.AttnRefIdeal.main_arg2))
    (h3 : m ((c.tc : Thread nD τ).loc main_arg3) = m' ((c.tc : Thread Cert.AttnRefIdeal.nD Cert.AttnRefIdeal.τ).loc Cert.AttnRefIdeal.main_arg3))
    (h4 : m ((c.tc : Thread nD τ).loc main_arg4) = m' ((c.tc : Thread Cert.AttnRefIdeal.nD Cert.AttnRefIdeal.τ).loc Cert.AttnRefIdeal.main_arg4))
    (h : Cert.Pre_AttnIdeal_finite_scores m) : res m c = Cert.AttnRefIdeal.Value.res_out0 m' c := by
  obtain ⟨hq, hkn, hkc⟩ := fin_args _ _ _ _ _ (h c)
  rw [Cert.AttnRefIdeal.Value.ref_eq, ← h0, ← h1, ← h2, ← h3, ← h4]
  funext y
  obtain ⟨j, i, rfl⟩ : ∃ (j : Fin 16384) (i : Fin 1024), y = ix2 j i := ⟨y 0, y 1, by funext a; fin_cases a <;> rfl⟩
  exact out_eq _ _ _ _ _ hq hkn hkc j i

end Attn
end
-- ==== Proof.Attn.Claims.lean ====
module

public import proofs.«01_k».proof.Proof.Attn.Agree
public import proofs.«01_k».proof.Proof.Gen.Attn.Frame
public import proofs.«01_k».proof.Proof.Gen.AttnIdeal.Frame
public import proofs.«01_k».proof.Proof.Gen.AttnRefIdeal
public import Idealize.ShloMosaic.Adequacy
public import Idealize.ShloMosaic.Init

@[expose] public section

noncomputable section

open Idealize.ShloMosaic Idealize.SL.Sem

/-! The claims about the sampling attention. -/

namespace Attn

/-- The printed kernel runs, keeps its arguments and ends quiescent. -/
theorem frame : Cert.quiescent_Attn := fun m ρ _ => Cert.Attn.Gen.frame m ρ
/-- The kernel over the extended reals runs, keeps its arguments and ends quiescent. -/
theorem frame_ideal : Cert.quiescent_AttnIdeal := fun m ρ _ => Cert.AttnIdeal.Gen.frame m ρ
/-- The same for arguments of which the precondition holds. -/
theorem frame_ideal_pre : Cert.quiescent_AttnIdeal_pre_finite_scores := fun m ρ _ => Cert.AttnIdeal.Gen.frame m ρ
/-- The reference runs, keeps its arguments and ends quiescent. -/
theorem frame_ref : Cert.quiescent_AttnRefIdeal := fun m g _ =>
  (θ_run _ _ _).mono (fun r h => ⟨fun c => (h c).2, sem_eq_zero_of_no_sems (by decide) r.2⟩) (Cert.AttnRefIdeal.Value.run m g)
/-- The same for arguments of which the precondition holds. -/
theorem frame_ref_pre : Cert.quiescent_AttnRefIdeal_pre_finite_scores := fun m g _ =>
  (θ_run _ _ _).mono (fun r h => ⟨fun c => (h c).2, sem_eq_zero_of_no_sems (by decide) r.2⟩) (Cert.AttnRefIdeal.Value.run m g)
/-- For finite queries and keys the kernel's result is the reference's. -/
theorem algebraic : Cert.algebraic_AttnIdeal_AttnRefIdeal_pre_finite_scores := by
  pair_intro
  · run_from Cert.AttnIdeal.Value.run_blocks m g
  · run_from Cert.AttnRefIdeal.Value.run m' g'
    refine ((Cert.AttnIdeal.Value.final m c).trans ?_).symm
    exact agree m m' c (hagree c).1.symm (hagree c).2.1.symm (hagree c).2.2.1.symm (hagree c).2.2.2.1.symm (hagree c).2.2.2.2.symm hpre

end Attn
end
-- ==== Proof.Rows.Spec.lean ====
module

public import Idealize.ShloMosaic.Lib.Pipeline.ValueKit

@[expose] public section

noncomputable section

open Idealize.ShloMosaic

/-! What the layer's parts make of one token's row, over the extended reals. -/

namespace Rows

/-- The number one, as the programs write it. -/
abbrev one : EReal := Ideal.ofBits .f32 0x3F800000#32
/-- The programs' one is one. -/
theorem one_eq : one = 1 := by
  have h : one = ((1 : ℝ) : EReal) := by
    simp [one, Ideal.ofBits, Ideal.ieee]
    try (rw [← EReal.coe_mul]; norm_num)
  rw [h]; rfl

/-- The reciprocal root of a row's mean square; `N` is the row's length as a float word. -/
def inv {n : ℕ} (N : BitVec 32) (x : Fin n → EReal) : EReal :=
  Ideal.rsqrt (Ideal.div (∑ k, x k * x k) (Ideal.ofBits .f32 N) + Ideal.ofBits .f32 0x358637BD#32)
/-- A row divided by its root mean square, times the gain. -/
def rms {n : ℕ} (N : BitVec 32) (x g : Fin n → EReal) (j : Fin n) : EReal := x j * inv N x * g j
/-- The normalised row, scaled and shifted. -/
def modulated {n : ℕ} (N : BitVec 32) (x g sh sc : Fin n → EReal) (j : Fin n) : EReal := rms N x g j * (1 + sc j) + sh j
/-- A row times a matrix. -/
def dot {n k : ℕ} (x : Fin k → EReal) (w : Fin k → Fin n → EReal) (j : Fin n) : EReal := ∑ d, x d * w d j
/-- A row plus its gated update. -/
def gated {n : ℕ} (x g y : Fin n → EReal) (j : Fin n) : EReal := x j + g j * y j
/-- The gate and the value of the feed-forward part: the silu of the first half times the second. -/
def act (z : Fin 5632 → EReal) (j : Fin 2816) : EReal :=
  z ⟨j.val, by omega⟩ * Ideal.logistic (z ⟨j.val, by omega⟩) * z ⟨2816 + j.val, by omega⟩
/-- The feed-forward part of a row. -/
def ffn (x g sh sc g2 : Fin 1024 → EReal) (wi : Fin 1024 → Fin 5632 → EReal) (wo : Fin 2816 → Fin 1024 → EReal) : Fin 1024 → EReal :=
  gated x g2 (dot (act (dot (modulated 0x44800000#32 x g sh sc) wi)) wo)
/-- The kernels multiply the gain and the scale first. -/
theorem modulated_eq {n : ℕ} (N : BitVec 32) (x g sh sc : Fin n → EReal) (j : Fin n) :
    x j * inv N x * (g j * (1 + sc j)) + sh j = modulated N x g sh sc j := by
  unfold modulated rms
  rw [mul_assoc (x j * inv N x)]

end Rows
end
-- ==== Proof.Rows.Unit.lean ====
module

public import proofs.«01_k».proof.Proof.Gen.LastIdeal.Value
public import Idealize.ShloMosaic.Lib.Pipeline.ValueKit
public import proofs.«01_k».proof.Proof.Rows.Spec

@[expose] public section

set_option maxRecDepth 16384

noncomputable section

open Idealize.ShloMosaic Idealize.ShloMosaic.TcCoe Idealize.SL.Sem

/-! The steps of the feed-forward kernels over 256 tokens, and what each makes of a token's row. -/

namespace Rows.Unit
open Cert.LastIdeal Cert.LastIdeal.Gen

/-- One of the six parts of the modulation row. -/
def chunk (o : ℕ) (h : S1x6144.Slices ![0, o] S1x1024) (w : FVec Ideal S1x1x1x6144 .f32) : FVec Ideal S1x1024 .f32 :=
  extractStridedSlice S1x1024 ![0, o] (shapeCast S1x6144 w shapeCasts_S1x1x1x6144_S1x6144) h
/-- The token rows times one matrix, gated and added. -/
def attnRes (x : FVec Ideal S256x1024 .f32) (g : FVec Ideal S1x1024 .f32) (a : FVec Ideal S256x1024 .bf16) (w : FVec Ideal S1x1024x1024 .bf16) : FVec Ideal S256x1024 .f32 :=
  addf x (mulf (broadcastTo S256x1024 g broadcasts_S1x1024_S256x1024)
    (matmul dot_S256x1024_S1024x1024_S256x1024_1_0_0_1_n_n none a (shapeCast S1024x1024 w shapeCasts_S1x1024x1024_S1024x1024) (constant S256x1024 .f32 0x00000000#32)))
/-- Each row's reciprocal root mean square, spread over the row. -/
def invs (x : FVec Ideal S256x1024 .f32) : FVec Ideal S256x1024 .f32 :=
  broadcastTo S256x1024 (rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))) broadcasts_S256x1_S256x1024
/-- The rows normalised. -/
def normed (x : FVec Ideal S256x1024 .f32) (r : FVec Ideal S256x1024 .f32) (g : FVec Ideal S1x1024 .f32) : FVec Ideal S256x1024 .f32 :=
  mulf (mulf x r) (broadcastTo S256x1024 g broadcasts_S1x1024_S256x1024)
/-- The rows normalised and modulated. -/
def modn (x : FVec Ideal S256x1024 .f32) (r : FVec Ideal S256x1024 .f32) (g sc sh : FVec Ideal S1x1024 .f32) : FVec Ideal S256x1024 .bf16 :=
  truncf .bf16 (addf (normed x r (mulf g (addf (broadcast S1x1024 (Scalar.ofBits .f32 0x3F800000#32)) sc))) (broadcastTo S256x1024 sh broadcasts_S1x1024_S256x1024)) bitsLt_bf16_f32
/-- The first product of the feed-forward part. -/
def first (h : FVec Ideal S256x1024 .bf16) (w : FVec Ideal S1x1024x5632 .bf16) : FVec Ideal S256x5632 .f32 :=
  matmul dot_S256x1024_S1024x5632_S256x5632_1_0_0_1_n_n none h (shapeCast S1024x5632 w shapeCasts_S1x1024x5632_S1024x5632) (constant S256x5632 .f32 0x00000000#32)
/-- The gated values. -/
def acts (z : FVec Ideal S256x5632 .f32) : FVec Ideal S256x2816 .bf16 :=
  truncf .bf16 (mulf (mulf (extractStridedSlice S256x2816 ![0, 0] z slices_S256x5632_o0_0_S256x2816) (logistic (extractStridedSlice S256x2816 ![0, 0] z slices_S256x5632_o0_0_S256x2816)))
    (extractStridedSlice S256x2816 ![0, 2816] z slices_S256x5632_o0_2816_S256x2816)) bitsLt_bf16_f32
/-- The second product, gated and added. -/
def second (x : FVec Ideal S256x1024 .f32) (g : FVec Ideal S1x1024 .f32) (a : FVec Ideal S256x2816 .bf16) (w : FVec Ideal S1x2816x1024 .bf16) : FVec Ideal S256x1024 .f32 :=
  addf x (mulf (broadcastTo S256x1024 g broadcasts_S1x1024_S256x1024)
    (matmul dot_S256x2816_S2816x1024_S256x1024_1_0_0_1_n_n none a (shapeCast S2816x1024 w shapeCasts_S1x2816x1024_S2816x1024) (constant S256x1024 .f32 0x00000000#32)))

/-- A part of the modulation row read at an index. -/
theorem chunk_at (o : ℕ) (h) (w) (j : Fin 1024) (ho : o + 1024 ≤ 6144) : chunk o h w (ix2 0 j) = w (ix4 0 0 0 ⟨o + j.val, by omega⟩) := by
  pointwise [chunk]
/-- The gated product read at an index. -/
theorem attnRes_at (x g a w) (i : Fin 256) (j : Fin 1024) : attnRes x g a w (ix2 i j)
    = gated (fun j => x (ix2 i j)) (fun j => g (ix2 0 j)) (dot (fun d => a (ix2 i d)) fun d j => w (ix3 0 d j)) j := by
  pointwise [attnRes, gated, dot]
/-- The reciprocal root mean squares read at an index. -/
theorem invs_at (x) (i : Fin 256) (j : Fin 1024) : invs x (ix2 i j) = inv 0x44800000#32 fun k => x (ix2 i k) := by
  pointwise [invs, inv]
/-- The normalised rows read at an index. -/
theorem normed_at (x r g) (i : Fin 256) (j : Fin 1024) : normed x r g (ix2 i j) = x (ix2 i j) * r (ix2 i j) * g (ix2 0 j) := by
  pointwise [normed]
/-- The modulated rows read at an index. -/
theorem modn_at (x r g sc sh) (i : Fin 256) (j : Fin 1024) : modn x r g sc sh (ix2 i j)
    = x (ix2 i j) * r (ix2 i j) * (g (ix2 0 j) * (one + sc (ix2 0 j))) + sh (ix2 0 j) := by
  pointwise [modn, normed]
/-- The first product read at an index. -/
theorem first_at (h w) (i : Fin 256) (j : Fin 5632) : first h w (ix2 i j) = dot (fun d => h (ix2 i d)) (fun d j => w (ix3 0 d j)) j := by
  pointwise [first, dot]
/-- The gated values read at an index. -/
theorem acts_at (z) (i : Fin 256) (j : Fin 2816) : acts z (ix2 i j) = act (fun j => z (ix2 i j)) j := by
  pointwise [acts, act]
/-- The second product read at an index. -/
theorem second_at (x g a w) (i : Fin 256) (j : Fin 1024) : second x g a w (ix2 i j)
    = gated (fun j => x (ix2 i j)) (fun j => g (ix2 0 j)) (dot (fun d => a (ix2 i d)) fun d j => w (ix3 0 d j)) j := by
  pointwise [second, gated, dot]

/-- The feed-forward part over 256 tokens. -/
def ffnU (x : FVec Ideal S256x1024 .f32) (w : FVec Ideal S1x1x1x6144 .f32) (g : FVec Ideal S1x1024 .f32) (wi : FVec Ideal S1x1024x5632 .bf16) (wo : FVec Ideal S1x2816x1024 .bf16) : FVec Ideal S256x1024 .f32 :=
  second x (chunk 5120 slices_S1x6144_o0_5120_S1x1024 w)
    (acts (first (modn x (invs x) g (chunk 4096 slices_S1x6144_o0_4096_S1x1024 w) (chunk 3072 slices_S1x6144_o0_3072_S1x1024 w)) wi)) wo
/-- The last part over 256 tokens: the attention's product added, the feed-forward part, the final norm. -/
def lastU (x : FVec Ideal S256x1024 .f32) (w : FVec Ideal S1x1x1x6144 .f32) (a : FVec Ideal S256x1024 .bf16) (wa : FVec Ideal S1x1024x1024 .bf16) (g : FVec Ideal S1x1024 .f32)
    (wi : FVec Ideal S1x1024x5632 .bf16) (wo : FVec Ideal S1x2816x1024 .bf16) (f : FVec Ideal S1x1024 .f32) : FVec Ideal S256x1024 .f32 :=
  normed (ffnU (attnRes x (chunk 2048 slices_S1x6144_o0_2048_S1x1024 w) a wa) w g wi wo) (invs (ffnU (attnRes x (chunk 2048 slices_S1x6144_o0_2048_S1x1024 w) a wa) w g wi wo)) f

/-- Every token's row of the feed-forward part. -/
theorem ffnU_at (x w g wi wo) (i : Fin 256) (j : Fin 1024) : ffnU x w g wi wo (ix2 i j)
    = ffn (fun k => x (ix2 i k)) (fun k => g (ix2 0 k)) (fun k => w (ix4 0 0 0 ⟨3072 + k.val, by omega⟩)) (fun k => w (ix4 0 0 0 ⟨4096 + k.val, by omega⟩))
        (fun k => w (ix4 0 0 0 ⟨5120 + k.val, by omega⟩)) (fun d j => wi (ix3 0 d j)) (fun d j => wo (ix3 0 d j)) j := by
  have e : ∀ d, modn x (invs x) g (chunk 4096 slices_S1x6144_o0_4096_S1x1024 w) (chunk 3072 slices_S1x6144_o0_3072_S1x1024 w) (ix2 i d)
      = modulated 0x44800000#32 (fun k => x (ix2 i k)) (fun k => g (ix2 0 k)) (fun k => w (ix4 0 0 0 ⟨3072 + k.val, by omega⟩)) (fun k => w (ix4 0 0 0 ⟨4096 + k.val, by omega⟩)) d := by
    intro d
    rw [modn_at, invs_at, chunk_at _ _ _ _ (by omega), chunk_at _ _ _ _ (by omega), one_eq]
    exact modulated_eq 0x44800000#32 (fun k => x (ix2 i k)) (fun k => g (ix2 0 k)) (fun k => w (ix4 0 0 0 ⟨3072 + k.val, by omega⟩)) (fun k => w (ix4 0 0 0 ⟨4096 + k.val, by omega⟩)) d
  unfold ffnU ffn
  rw [second_at]
  simp only [acts_at, first_at, e, chunk_at _ _ _ _ (show 5120 + 1024 ≤ 6144 by omega)]

/-- Every token's row of the last part. -/
theorem lastU_at (x w a wa g wi wo f) (i : Fin 256) (j : Fin 1024) : lastU x w a wa g wi wo f (ix2 i j)
    = rms 0x44800000#32 (ffn (gated (fun k => x (ix2 i k)) (fun k => w (ix4 0 0 0 ⟨2048 + k.val, by omega⟩)) (dot (fun d => a (ix2 i d)) fun d j => wa (ix3 0 d j)))
        (fun k => g (ix2 0 k)) (fun k => w (ix4 0 0 0 ⟨3072 + k.val, by omega⟩)) (fun k => w (ix4 0 0 0 ⟨4096 + k.val, by omega⟩))
        (fun k => w (ix4 0 0 0 ⟨5120 + k.val, by omega⟩)) (fun d j => wi (ix3 0 d j)) (fun d j => wo (ix3 0 d j))) (fun k => f (ix2 0 k)) j := by
  unfold lastU rms
  rw [normed_at, invs_at]
  simp only [ffnU_at, attnRes_at, chunk_at _ _ _ _ (show 2048 + 1024 ≤ 6144 by omega)]

/-- A rectangle of rank two lies inside its shape. -/
theorem inb2 {a b s t A B : ℕ} (h0 : a + s ≤ A) (h1 : b + t ≤ B) : ∀ i : Fin 2, (![a, b] : Fin 2 → ℕ) i + (![s, t] : Fin 2 → ℕ) i ≤ (![A, B] : Fin 2 → ℕ) i := by
  intro i; fin_cases i
  · exact h0
  · exact h1
/-- Half of a tile of 512 tokens. -/
abbrev half (r : Fin 2) : Rect S512x1024 := Rect.unit (s := S512x1024) ![256 * r.val, 0] ![256, 1024] (inb2 (by omega) (by omega))

/-- A load of half a tile, read at an index. -/
theorem half_ld {e : EltTy} (x : S512x1024.Idx → Elt Ideal e) (r : Fin 2) (i : Fin 256) (k : Fin 1024) :
    View.ld (Val := Elt Ideal) (e' := e) x (half r) (ix2 i k) = x (ix2 ⟨256 * r.val + i.val, by omega⟩ k) := by
  refine congrArg x (funext fun c => Fin.ext ?_)
  fin_cases c
  · show 256 * r.val + 1 * i.val = 256 * r.val + i.val; omega
  · show 0 + 1 * k.val = k.val; omega

/-- Two stores of half a tile each make a tile whose rows are what `R` says of them. -/
theorem halves {u : Fin 2 → FVec Ideal S256x1024 .f32} {G : Fin 512 → Fin 1024 → EReal}
    (h : ∀ (r : Fin 2) (i : Fin 256) (j : Fin 1024), u r (ix2 i j) = G ⟨256 * r.val + i.val, by omega⟩ j) (y : S512x1024.Idx) :
    View.canon (Val := Elt Ideal) (s := S512x1024) (e := .f32) [⟨half 1, u 1⟩, ⟨half 0, u 0⟩] y = G (y 0) (y 1) := by
  have key : ∀ (r : Fin 2) (x : (half r).shape.Idx), u r x = G ((half r).idx x 0) ((half r).idx x 1) := by
    intro r x
    obtain ⟨i, j, rfl⟩ : ∃ (i : Fin 256) (j : Fin 1024), x = ix2 i j := ⟨x 0, x 1, by funext c; fin_cases c <;> rfl⟩
    refine (h r i j).trans (congrArg₂ G (Fin.ext ?_) (Fin.ext ?_))
    · show 256 * r.val + i.val = 256 * r.val + 1 * i.val; omega
    · show j.val = 0 + 1 * j.val; omega
  refine View.canon_apply_of_pieces (Val := Elt Ideal) (S := S512x1024) (e := .f32) (fun y : S512x1024.Idx => (G (y 0) (y 1) : Elt Ideal .f32)) _ ?_ y ?_
  · intro p hp x
    rcases List.mem_cons.mp hp with rfl | hp
    · exact key 1 x
    · obtain rfl := List.mem_singleton.mp hp
      exact key 0 x
  · have hy0 : (y 0).val < 512 := (y 0).isLt
    have hy1 : (y 1).val < 1024 := (y 1).isLt
    by_cases hc : (y 0).val < 256
    · refine ⟨⟨half 0, u 0⟩, List.mem_cons_of_mem _ List.mem_cons_self, (Rect.mem_set_unit (s := S512x1024) (inb := inb2 (by omega) (by omega))).mpr fun c => ?_⟩
      fin_cases c
      · show 256 * 0 ≤ (y 0).val ∧ (y 0).val < 256 * 0 + 256; omega
      · show 0 ≤ (y 1).val ∧ (y 1).val < 0 + 1024; omega
    · refine ⟨⟨half 1, u 1⟩, List.mem_cons_self, (Rect.mem_set_unit (s := S512x1024) (inb := inb2 (by omega) (by omega))).mpr fun c => ?_⟩
      fin_cases c
      · show 256 * 1 ≤ (y 0).val ∧ (y 0).val < 256 * 1 + 256; omega
      · show 0 ≤ (y 1).val ∧ (y 1).val < 0 + 1024; omega

end Rows.Unit
end
-- ==== Proof.Ffn.Kernel.lean ====
module

public import proofs.«01_k».proof.Proof.Gen.FfnIdeal.Value
public import proofs.«01_k».proof.Proof.Rows.Unit

@[expose] public section

set_option maxRecDepth 16384

noncomputable section

open Idealize.ShloMosaic Idealize.ShloMosaic.TcCoe Idealize.SL.Sem
open Idealize.ShloMosaic.Pipeline (Dat)

/-! What the first feed-forward call of the sampling stream leaves in its result. -/

namespace Ffn

/-- The result's row of token `n`: over the arrays of the call. -/
def out (X : FVec Ideal ⟨2, ![16384, 1024]⟩ .f32) (M : FVec Ideal ⟨4, ![2, 16, 1, 6144]⟩ .f32) (N : FVec Ideal ⟨2, ![1, 1024]⟩ .f32) (WI : FVec Ideal ⟨3, ![2, 1024, 5632]⟩ .bf16)
    (WO : FVec Ideal ⟨3, ![2, 2816, 1024]⟩ .bf16) (n : Fin 16384) : Fin 1024 → EReal :=
  Rows.ffn (fun k => X (ix2 n k)) (fun k => N (ix2 0 k)) (fun k => M (ix4 0 ⟨1 + n.val / 2048, by omega⟩ 0 ⟨3072 + k.val, by omega⟩)) (fun k => M (ix4 0 ⟨1 + n.val / 2048, by omega⟩ 0 ⟨4096 + k.val, by omega⟩))
    (fun k => M (ix4 0 ⟨1 + n.val / 2048, by omega⟩ 0 ⟨5120 + k.val, by omega⟩)) (fun d j => WI (ix3 0 d j)) (fun d j => WO (ix3 0 d j))

end Ffn

namespace Cert.FfnIdeal.Value
open Cert.FfnIdeal Cert.FfnIdeal.Gen Rows.Unit

variable (x0 : FVec Ideal S512x1024 .f32) (x1 : FVec Ideal S1x1x1x6144 .f32) (x2 : FVec Ideal S1x1024 .f32) (x3 : FVec Ideal S1x1024x5632 .bf16) (x4 : FVec Ideal S1x2816x1024 .bf16)

/-- What half a tile's store writes. -/
def stored (r : Fin 2) : FVec Ideal S256x1024 .f32 :=
  ffnU (View.ld (Val := Elt Ideal) (e' := .f32) x0 (half r)) (View.ld (Val := Elt Ideal) (e' := .f32) x1 r0_0) (View.ld (Val := Elt Ideal) (e' := .f32) x2 r0_2) (View.ld (Val := Elt Ideal) (e' := .bf16) x3 r0_4)
    (View.ld (Val := Elt Ideal) (e' := .bf16) x4 r0_5)

/-- The tile's stores are the two halves. -/
theorem out_eq : out0_5 x0 x1 x2 x3 x4 = View.canon (Val := Elt Ideal) (s := S512x1024) (e := .f32) [⟨half 1, stored x0 x1 x2 x3 x4 1⟩, ⟨half 0, stored x0 x1 x2 x3 x4 0⟩] := rfl

/-- Row `n` of the tile a grid point leaves. -/
def blockRow (n : Fin 512) : Fin 1024 → EReal :=
  Rows.ffn (fun k => x0 (ix2 n k)) (fun k => x2 (ix2 0 k)) (fun k => x1 (ix4 0 0 0 ⟨3072 + k.val, by omega⟩)) (fun k => x1 (ix4 0 0 0 ⟨4096 + k.val, by omega⟩))
    (fun k => x1 (ix4 0 0 0 ⟨5120 + k.val, by omega⟩)) (fun d j => x3 (ix3 0 d j)) (fun d j => x4 (ix3 0 d j))

/-- What a store writes at an index. -/
theorem stored_at (r : Fin 2) (i : Fin 256) (j : Fin 1024) : stored x0 x1 x2 x3 x4 r (ix2 i j) = blockRow x0 x1 x2 x3 x4 ⟨256 * r.val + i.val, by omega⟩ j := by
  have z2 : (![0, 0] : Fin 2 → ℕ) = fun _ => 0 := by funext a; fin_cases a <;> rfl
  have z3 : (![0, 0, 0] : Fin 3 → ℕ) = fun _ => 0 := by funext a; fin_cases a <;> rfl
  have z4 : (![0, 0, 0, 0] : Fin 4 → ℕ) = fun _ => 0 := by funext a; fin_cases a <;> rfl
  unfold stored blockRow
  rw [View.ld_unit_zero z4, View.ld_unit_zero z2, View.ld_unit_zero z3, View.ld_unit_zero z3]
  refine (ffnU_at _ _ _ _ _ i j).trans ?_
  have e0 : ∀ k : Fin 1024, View.ld (Val := Elt Ideal) (e' := .f32) x0 (half r) (ix2 i k) = x0 (ix2 ⟨256 * r.val + i.val, by omega⟩ k) := fun k => half_ld (e := .f32) x0 r i k
  exact congrArg (fun g => Rows.ffn g _ _ _ _ _ _ j) (funext e0)

/-- The tile a grid point leaves, read at an index. -/
theorem out_at (y : S512x1024.Idx) : out0_5 (F := Ideal) x0 x1 x2 x3 x4 y = blockRow x0 x1 x2 x3 x4 (y 0) (y 1) := by
  rw [out_eq]
  exact halves (u := stored x0 x1 x2 x3 x4) (stored_at x0 x1 x2 x3 x4) y

variable (m : (ℓ : Loc nD τ sig) → Buf (Elt Ideal) ℓ)

/-- The windows' blocks at every grid point: a tile of tokens, its sequence's modulation, the weights whole. -/
theorem idx : ∀ t : Fin cfg0.N, win0_0.index t = ![t.val, 0] ∧ win0_1.index t = ![0, 1 + t.val / 4, 0, 0] ∧ win0_2.index t = ![0, 0]
    ∧ win0_3.index t = ![0, 0, 0] ∧ win0_4.index t = ![0, 0, 0] ∧ win0_5.index t = ![t.val, 0] ∧ t.val < 32 :=
  (by decide +kernel : ∀ t : Fin grid0.N, _)

/-- The kernel's result array over its argument arrays. -/
abbrev res (c : Dev nD) : FVec Ideal S16384x1024 .f32 := fun y => Ffn.out (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (y 0) (y 1)

/-- A grid point's rows are the result's rows there. -/
theorem point (c : Dev nD) (t : Fin cfg0.N) (i : Fin 512) (n : Fin 16384) (hn : n.val = t.val * 512 + i.val) :
    blockRow (iblk m c 0 t) (iblk m c 1 t) (iblk m c 2 t) (iblk m c 3 t) (iblk m c 4 t) i
      = Ffn.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) n := by
  have ht : t.val < 32 := (idx t).2.2.2.2.2.2
  unfold blockRow Ffn.out
  congr 1
  · funext k; blk_ext [iblk, V, idx t]
  · funext k; blk_ext [iblk, V, idx t]
  · funext k; blk_ext [iblk, V, idx t]
  · funext k; blk_ext [iblk, V, idx t]
  · funext k; blk_ext [iblk, V, idx t]
  · funext k j; blk_ext [iblk, V, idx t]
  · funext k j; blk_ext [iblk, V, idx t]

/-- The result array after the run. -/
theorem final (c : Dev nD) : (dats m 0 c).arrAt 5 (cfgs 0).N = res m c := by
  refine (dats m 0 c).arrAt_eq_of_covers 5 _ (by decide +kernel) fun t _ y => ?_
  blk_simp
  rw [after0_5]
  rw [out_at]
  refine (congrFun (point m c t (y 0) _ ?_) (y 1)).trans (congrArg _ (Fin.ext ?_))
  · blk_simp [idx t]
  · blk_simp [idx t]
end Cert.FfnIdeal.Value
end
-- ==== Proof.Rows.Ref.lean ====
module

public import proofs.«01_k».proof.Proof.Gen.LastRefIdeal.Run
public import Idealize.ShloMosaic.Lib.Pipeline.ValueKit
public import proofs.«01_k».proof.Proof.Rows.Spec

@[expose] public section

set_option maxRecDepth 16384

noncomputable section

open Idealize.ShloMosaic Idealize.ShloMosaic.TcCoe Idealize.SL.Sem

/-! The steps of the references, over all sequences, and what each makes of a token's row. -/

namespace Rows.Ref
open Cert.LastRefIdeal Cert.LastRefIdeal.Gen

/-- The tokens by sequence. -/
def seqs (x : FVec Ideal S16384x1024 .f32) : FVec Ideal S8x2048x1024 .f32 := shapeCast S8x2048x1024 x shapeCasts_S16384x1024_S8x2048x1024
/-- All tokens in one list. -/
def flat (x : FVec Ideal S8x2048x1024 .f32) : FVec Ideal S16384x1024 .f32 := shapeCast S16384x1024 x shapeCasts_S8x2048x1024_S16384x1024
/-- One of the six parts of the sequences' modulation rows of a layer. -/
def part (l o : ℕ) (h : S2x16x1x6144.Slices ![l, 1, 0, 0] S1x8x1x6144) (h' : S8x1x6144.Slices ![0, 0, o] S8x1x1024) (w : FVec Ideal S2x16x1x6144 .f32) : FVec Ideal S8x1x1024 .f32 :=
  extractStridedSlice S8x1x1024 ![0, 0, o] (shapeCast S8x1x6144 (extractStridedSlice S1x8x1x6144 ![l, 1, 0, 0] w h) shapeCasts_S1x8x1x6144_S8x1x6144) h'
/-- A row times a matrix, gated and added. -/
def attnRes (x : FVec Ideal S8x2048x1024 .f32) (g : FVec Ideal S8x1x1024 .f32) (a : FVec Ideal S16384x1024 .bf16) (w : FVec Ideal S1x1024x1024 .bf16) : FVec Ideal S8x2048x1024 .f32 :=
  addf x (mulf (broadcastInDim S8x2048x1024 ![0, 1, 2] bcast_S8x1x1024_S8x2048x1024_0_1_2 g)
    (Host.dotGeneral dot_S8x2048x1024_S1024x1024_S8x2048x1024_2_0_01_1_n_n none (shapeCast S8x2048x1024 (extf .f32 a bitsLt_bf16_f32) shapeCasts_S16384x1024_S8x2048x1024)
      (extf .f32 (shapeCast S1024x1024 w shapeCasts_S1x1024x1024_S1024x1024) bitsLt_bf16_f32)))
/-- Each token's reciprocal root mean square. -/
def invs (x : FVec Ideal S8x2048x1024 .f32) : FVec Ideal S8x2048x1 .f32 :=
  Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32)))
/-- The rows normalised. -/
def normed (x : FVec Ideal S8x2048x1024 .f32) (r : FVec Ideal S8x2048x1 .f32) (g : FVec Ideal S1x1024 .f32) : FVec Ideal S8x2048x1024 .f32 :=
  mulf (mulf x (broadcastInDim S8x2048x1024 ![0, 1, 2] bcast_S8x2048x1_S8x2048x1024_0_1_2 r))
    (broadcastInDim S8x2048x1024 ![0, 1, 2] bcast_S1x1x1024_S8x2048x1024_0_1_2 (broadcastInDim S1x1x1024 ![2] bcast_S1024_S1x1x1024_2 (shapeCast S1024 g shapeCasts_S1x1024_S1024)))
/-- The normalised rows scaled and shifted. -/
def modn (x : FVec Ideal S8x2048x1024 .f32) (sc sh : FVec Ideal S8x1x1024 .f32) : FVec Ideal S8x2048x1024 .f32 :=
  addf (mulf x (broadcastInDim S8x2048x1024 ![0, 1, 2] bcast_S8x1x1024_S8x2048x1024_0_1_2 (addf (broadcastInDim S8x1x1024 ![] bcast_S_S8x1x1024 (constant S_ .f32 0x3F800000#32)) sc)))
    (broadcastInDim S8x2048x1024 ![0, 1, 2] bcast_S8x1x1024_S8x2048x1024_0_1_2 sh)
/-- The first product of the feed-forward part, with a layer's weights. -/
def first (l : ℕ) (hl : S2x1024x5632.Slices ![l, 0, 0] S1x1024x5632) (h : FVec Ideal S8x2048x1024 .f32) (w : FVec Ideal S2x1024x5632 .bf16) : FVec Ideal S8x2048x5632 .f32 :=
  Host.dotGeneral dot_S8x2048x1024_S1024x5632_S8x2048x5632_2_0_01_1_n_n none h
    (extf .f32 (shapeCast S1024x5632 (extractStridedSlice S1x1024x5632 ![l, 0, 0] w hl) shapeCasts_S1x1024x5632_S1024x5632) bitsLt_bf16_f32)
/-- The gated values. -/
def acts (z : FVec Ideal S8x2048x5632 .f32) : FVec Ideal S8x2048x2816 .f32 :=
  mulf (mulf (extractStridedSlice S8x2048x2816 ![0, 0, 0] z slices_S8x2048x5632_S8x2048x2816_0_0_0)
      (Host.divf (broadcastInDim S8x2048x2816 ![] bcast_S_S8x2048x2816 (constant S_ .f32 0x3F800000#32))
        (addf (broadcastInDim S8x2048x2816 ![] bcast_S_S8x2048x2816 (constant S_ .f32 0x3F800000#32)) (Host.exp (Host.negf (extractStridedSlice S8x2048x2816 ![0, 0, 0] z slices_S8x2048x5632_S8x2048x2816_0_0_0))))))
    (extractStridedSlice S8x2048x2816 ![0, 0, 2816] z slices_S8x2048x5632_S8x2048x2816_0_0_2816)
/-- The second product, gated and added. -/
def second (l : ℕ) (hl : S2x2816x1024.Slices ![l, 0, 0] S1x2816x1024) (x : FVec Ideal S8x2048x1024 .f32) (g : FVec Ideal S8x1x1024 .f32) (a : FVec Ideal S8x2048x2816 .f32) (w : FVec Ideal S2x2816x1024 .bf16) : FVec Ideal S8x2048x1024 .f32 :=
  addf x (mulf (broadcastInDim S8x2048x1024 ![0, 1, 2] bcast_S8x1x1024_S8x2048x1024_0_1_2 g)
    (Host.dotGeneral dot_S8x2048x2816_S2816x1024_S8x2048x1024_2_0_01_1_n_n none a
      (extf .f32 (shapeCast S2816x1024 (extractStridedSlice S1x2816x1024 ![l, 0, 0] w hl) shapeCasts_S1x2816x1024_S2816x1024) bitsLt_bf16_f32)))

/-- The tokens by sequence, read at an index. -/
theorem seqs_at (x) (b : Fin 8) (n : Fin 2048) (j : Fin 1024) : seqs x (ix3 b n j) = x (ix2 ⟨b.val * 2048 + n.val, by omega⟩ j) := by
  pointwise [seqs]
/-- The list of tokens read at an index. -/
theorem flat_at (x) (n : Fin 16384) (j : Fin 1024) : flat x (ix2 n j) = x (ix3 ⟨n.val / 2048, by omega⟩ ⟨n.val % 2048, by omega⟩ j) := by
  pointwise [flat]
/-- A part of the modulation rows read at an index. -/
theorem part_at (l o : ℕ) (h h' w) (hl : l < 2) (ho : o + 1024 ≤ 6144) (b : Fin 8) (j : Fin 1024) : part l o h h' w (ix3 b 0 j) = w (ix4 ⟨l, hl⟩ ⟨1 + b.val, by omega⟩ 0 ⟨o + j.val, by omega⟩) := by
  pointwise [part]
/-- The gated product read at an index. -/
theorem attnRes_at (x g a w) (b : Fin 8) (n : Fin 2048) (j : Fin 1024) : attnRes x g a w (ix3 b n j)
    = gated (fun j => x (ix3 b n j)) (fun j => g (ix3 b 0 j)) (dot (fun d => a (ix2 ⟨b.val * 2048 + n.val, by omega⟩ d)) fun d j => w (ix3 0 d j)) j := by
  pointwise [attnRes, gated, dot]
/-- The reciprocal root mean squares read at an index. -/
theorem invs_at (x) (b : Fin 8) (n : Fin 2048) : invs x (ix3 b n 0) = inv 0x44800000#32 fun k => x (ix3 b n k) := by
  pointwise [invs, inv]
/-- The normalised rows read at an index. -/
theorem normed_at (x r g) (b : Fin 8) (n : Fin 2048) (j : Fin 1024) : normed x r g (ix3 b n j) = x (ix3 b n j) * r (ix3 b n 0) * g (ix2 0 j) := by
  pointwise [normed]
/-- The modulated rows read at an index. -/
theorem modn_at (x sc sh) (b : Fin 8) (n : Fin 2048) (j : Fin 1024) : modn x sc sh (ix3 b n j) = x (ix3 b n j) * (one + sc (ix3 b 0 j)) + sh (ix3 b 0 j) := by
  pointwise [modn]
/-- The first product read at an index. -/
theorem first_at (l : ℕ) (hl h w) (h2 : l < 2) (b : Fin 8) (n : Fin 2048) (j : Fin 5632) : first l hl h w (ix3 b n j) = dot (fun d => h (ix3 b n d)) (fun d j => w (ix3 ⟨l, h2⟩ d j)) j := by
  pointwise [first, dot]
/-- The gated values read at an index. -/
theorem acts_at (z) (b : Fin 8) (n : Fin 2048) (j : Fin 2816) : acts z (ix3 b n j) = act (fun j => z (ix3 b n j)) j := by
  have e : acts z (ix3 b n j) = z (ix3 b n ⟨j.val, by omega⟩) * Ideal.div one (one + Ideal.exp (-z (ix3 b n ⟨j.val, by omega⟩))) * z (ix3 b n ⟨2816 + j.val, by omega⟩) := by
    pointwise [acts]
  rw [e, one_eq]
  rfl
/-- The second product read at an index. -/
theorem second_at (l : ℕ) (hl x g a w) (h2 : l < 2) (b : Fin 8) (n : Fin 2048) (j : Fin 1024) : second l hl x g a w (ix3 b n j)
    = gated (fun j => x (ix3 b n j)) (fun j => g (ix3 b 0 j)) (dot (fun d => a (ix3 b n d)) fun d j => w (ix3 ⟨l, h2⟩ d j)) j := by
  pointwise [second, gated, dot]

/-- The feed-forward part of every token, with a layer's weights. -/
def ffnR (l : ℕ) (hm : S2x16x1x6144.Slices ![l, 1, 0, 0] S1x8x1x6144) (h1 : S2x1024x5632.Slices ![l, 0, 0] S1x1024x5632) (h2 : S2x2816x1024.Slices ![l, 0, 0] S1x2816x1024)
    (x : FVec Ideal S8x2048x1024 .f32) (w : FVec Ideal S2x16x1x6144 .f32) (g : FVec Ideal S1x1024 .f32) (wi : FVec Ideal S2x1024x5632 .bf16) (wo : FVec Ideal S2x2816x1024 .bf16) : FVec Ideal S8x2048x1024 .f32 :=
  second l h2 x (part l 5120 hm slices_S8x1x6144_S8x1x1024_0_0_5120 w)
    (acts (first l h1 (modn (normed x (invs x) g) (part l 4096 hm slices_S8x1x6144_S8x1x1024_0_0_4096 w) (part l 3072 hm slices_S8x1x6144_S8x1x1024_0_0_3072 w)) wi)) wo

/-- Every token's row of the feed-forward part. -/
theorem ffnR_at (l : ℕ) (hm h1 h2 x w g wi wo) (hl : l < 2) (b : Fin 8) (n : Fin 2048) (j : Fin 1024) : ffnR l hm h1 h2 x w g wi wo (ix3 b n j)
    = ffn (fun k => x (ix3 b n k)) (fun k => g (ix2 0 k)) (fun k => w (ix4 ⟨l, hl⟩ ⟨1 + b.val, by omega⟩ 0 ⟨3072 + k.val, by omega⟩)) (fun k => w (ix4 ⟨l, hl⟩ ⟨1 + b.val, by omega⟩ 0 ⟨4096 + k.val, by omega⟩))
        (fun k => w (ix4 ⟨l, hl⟩ ⟨1 + b.val, by omega⟩ 0 ⟨5120 + k.val, by omega⟩)) (fun d j => wi (ix3 ⟨l, hl⟩ d j)) (fun d j => wo (ix3 ⟨l, hl⟩ d j)) j := by
  have e : ∀ d, modn (normed x (invs x) g) (part l 4096 hm slices_S8x1x6144_S8x1x1024_0_0_4096 w) (part l 3072 hm slices_S8x1x6144_S8x1x1024_0_0_3072 w) (ix3 b n d)
      = modulated 0x44800000#32 (fun k => x (ix3 b n k)) (fun k => g (ix2 0 k)) (fun k => w (ix4 ⟨l, hl⟩ ⟨1 + b.val, by omega⟩ 0 ⟨3072 + k.val, by omega⟩)) (fun k => w (ix4 ⟨l, hl⟩ ⟨1 + b.val, by omega⟩ 0 ⟨4096 + k.val, by omega⟩)) d := by
    intro d
    rw [modn_at, normed_at, invs_at, part_at _ _ _ _ _ hl (by omega), part_at _ _ _ _ _ hl (by omega), one_eq]
    rfl
  unfold ffnR ffn
  rw [second_at _ _ _ _ _ _ hl]
  simp only [acts_at, first_at _ _ _ _ hl, e, part_at _ _ _ _ _ hl (show 5120 + 1024 ≤ 6144 by omega)]

end Rows.Ref
end
-- ==== Proof.Ffn.Claims.lean ====
module

public import proofs.«01_k».proof.Proof.Ffn.Kernel
public import proofs.«01_k».proof.Proof.Rows.Ref
public import proofs.«01_k».proof.Proof.Gen.FfnRefIdeal.Run
public import proofs.«01_k».proof.Defs
public import proofs.«01_k».proof.Proof.Gen.Ffn.Frame
public import proofs.«01_k».proof.Proof.Gen.FfnIdeal.Frame
public import proofs.«01_k».proof.Proof.Gen.FfnRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the first feed-forward call, and the claims about the call. -/

namespace Cert.FfnRefIdeal.Value
open Cert.FfnRefIdeal Cert.FfnRefIdeal.Gen

/-- The reference's result over its arguments. -/
def host (x : FVec Ideal S16384x1024 .f32) (w : FVec Ideal S2x16x1x6144 .f32) (g : FVec Ideal S1x1024 .f32) (wi : FVec Ideal S2x1024x5632 .bf16) (wo : FVec Ideal S2x2816x1024 .bf16) : FVec Ideal S16384x1024 .f32 :=
  Rows.Ref.flat (Rows.Ref.ffnR 0 slices_S2x16x1x6144_S1x8x1x6144_0_1_0_0 slices_S2x1024x5632_S1x1024x5632_0_0_0 slices_S2x2816x1024_S1x2816x1024_0_0_0 (Rows.Ref.seqs x) w g wi wo)

/-- The reference's result array over its arguments. -/
theorem ref_eq (m : (ℓ : Loc nD τ sig) → Buf (Elt Ideal) ℓ) (c : Dev nD) : res_out0 m c = host (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.FfnRefIdeal.Value

namespace Ffn

/-- The reference's row of token `n` is the kernel's. -/
theorem host_at (x w g wi wo) (n : Fin 16384) (j : Fin 1024) : Cert.FfnRefIdeal.Value.host x w g wi wo (ix2 n j) = out x w g wi wo n j := by
  unfold Cert.FfnRefIdeal.Value.host out
  refine (Rows.Ref.flat_at _ n j).trans ?_
  rw [Rows.Ref.ffnR_at 0 _ _ _ _ _ _ _ _ (by omega)]
  have e : ∀ k, Rows.Ref.seqs x (ix3 ⟨n.val / 2048, by omega⟩ ⟨n.val % 2048, by omega⟩ k) = x (ix2 n k) := fun k =>
    (Rows.Ref.seqs_at x _ _ k).trans (congrArg (fun i => x (ix2 i k)) (Fin.ext (show n.val / 2048 * 2048 + n.val % 2048 = n.val by omega)))
  simp only [e]
  rfl

/-- From equal arguments the kernel's and the reference's results are equal. -/
theorem agree (m : (ℓ : Loc Cert.FfnIdeal.nD Cert.FfnIdeal.τ Cert.FfnIdeal.sig) → Buf (Elt Ideal) ℓ) (m' : (ℓ : Loc Cert.FfnRefIdeal.nD Cert.FfnRefIdeal.τ Cert.FfnRefIdeal.sig) → Buf (Elt Ideal) ℓ) (c : Dev Cert.FfnIdeal.nD)
    (h0 : m ((c.tc : Thread Cert.FfnIdeal.nD Cert.FfnIdeal.τ).loc Cert.FfnIdeal.main_arg0) = m' ((c.tc : Thread Cert.FfnRefIdeal.nD Cert.FfnRefIdeal.τ).loc Cert.FfnRefIdeal.main_arg0))
    (h1 : m ((c.tc : Thread Cert.FfnIdeal.nD Cert.FfnIdeal.τ).loc Cert.FfnIdeal.main_arg1) = m' ((c.tc : Thread Cert.FfnRefIdeal.nD Cert.FfnRefIdeal.τ).loc Cert.FfnRefIdeal.main_arg1))
    (h2 : m ((c.tc : Thread Cert.FfnIdeal.nD Cert.FfnIdeal.τ).loc Cert.FfnIdeal.main_arg2) = m' ((c.tc : Thread Cert.FfnRefIdeal.nD Cert.FfnRefIdeal.τ).loc Cert.FfnRefIdeal.main_arg2))
    (h3 : m ((c.tc : Thread Cert.FfnIdeal.nD Cert.FfnIdeal.τ).loc Cert.FfnIdeal.main_arg3) = m' ((c.tc : Thread Cert.FfnRefIdeal.nD Cert.FfnRefIdeal.τ).loc Cert.FfnRefIdeal.main_arg3))
    (h4 : m ((c.tc : Thread Cert.FfnIdeal.nD Cert.FfnIdeal.τ).loc Cert.FfnIdeal.main_arg4) = m' ((c.tc : Thread Cert.FfnRefIdeal.nD Cert.FfnRefIdeal.τ).loc Cert.FfnRefIdeal.main_arg4)) :
    Cert.FfnIdeal.Value.res m c = Cert.FfnRefIdeal.Value.res_out0 m' c := by
  rw [Cert.FfnRefIdeal.Value.ref_eq, ← h0, ← h1, ← h2, ← h3, ← h4]
  funext y
  obtain ⟨j, i, rfl⟩ : ∃ (j : Fin 16384) (i : Fin 1024), y = ix2 j i := ⟨y 0, y 1, by funext a; fin_cases a <;> rfl⟩
  exact (host_at _ _ _ _ _ j i).symm

/-- The printed kernel runs, keeps its arguments and ends quiescent. -/
theorem frame : Cert.quiescent_Ffn := fun m ρ _ => Cert.Ffn.Gen.frame m ρ
/-- The kernel over the extended reals runs, keeps its arguments and ends quiescent. -/
theorem frame_ideal : Cert.quiescent_FfnIdeal := fun m ρ _ => Cert.FfnIdeal.Gen.frame m ρ
/-- The reference runs, keeps its arguments and ends quiescent. -/
theorem frame_ref : Cert.quiescent_FfnRefIdeal := fun m g _ =>
  (θ_run _ _ _).mono (fun r h => ⟨fun c => (h c).2, sem_eq_zero_of_no_sems (by decide) r.2⟩) (Cert.FfnRefIdeal.Value.run m g)
/-- The kernel's result is the reference's. -/
theorem algebraic : Cert.algebraic_FfnIdeal_FfnRefIdeal := by
  pair_intro
  · run_from Cert.FfnIdeal.Value.run_blocks m g
  · run_from Cert.FfnRefIdeal.Value.run m' g'
    refine ((Cert.FfnIdeal.Value.final m c).trans ?_).symm
    exact agree m m' c (hagree c).1.symm (hagree c).2.1.symm (hagree c).2.2.1.symm (hagree c).2.2.2.1.symm (hagree c).2.2.2.2.symm

end Ffn
end
-- ==== Proof.Last.Kernel.lean ====
module

public import proofs.«01_k».proof.Proof.Rows.Unit

@[expose] public section

set_option maxRecDepth 16384

noncomputable section

open Idealize.ShloMosaic Idealize.ShloMosaic.TcCoe Idealize.SL.Sem
open Idealize.ShloMosaic.Pipeline (Dat)

/-! What the last call of the sampling stream leaves in its result. -/

namespace Last

/-- The result's row of token `n`: over the arrays of the call. -/
def out (X : FVec Ideal ⟨2, ![16384, 1024]⟩ .f32) (M : FVec Ideal ⟨4, ![2, 16, 1, 6144]⟩ .f32) (A : FVec Ideal ⟨2, ![16384, 1024]⟩ .bf16) (WA : FVec Ideal ⟨3, ![1, 1024, 1024]⟩ .bf16)
    (N : FVec Ideal ⟨2, ![1, 1024]⟩ .f32) (WI : FVec Ideal ⟨3, ![2, 1024, 5632]⟩ .bf16) (WO : FVec Ideal ⟨3, ![2, 2816, 1024]⟩ .bf16) (G : FVec Ideal ⟨2, ![1, 1024]⟩ .f32) (n : Fin 16384) : Fin 1024 → EReal :=
  Rows.rms 0x44800000#32 (Rows.ffn (Rows.gated (fun k => X (ix2 n k)) (fun k => M (ix4 1 ⟨1 + n.val / 2048, by omega⟩ 0 ⟨2048 + k.val, by omega⟩)) (Rows.dot (fun d => A (ix2 n d)) fun d j => WA (ix3 0 d j)))
    (fun k => N (ix2 0 k)) (fun k => M (ix4 1 ⟨1 + n.val / 2048, by omega⟩ 0 ⟨3072 + k.val, by omega⟩)) (fun k => M (ix4 1 ⟨1 + n.val / 2048, by omega⟩ 0 ⟨4096 + k.val, by omega⟩))
    (fun k => M (ix4 1 ⟨1 + n.val / 2048, by omega⟩ 0 ⟨5120 + k.val, by omega⟩)) (fun d j => WI (ix3 1 d j)) (fun d j => WO (ix3 1 d j))) (fun k => G (ix2 0 k))

end Last

namespace Cert.LastIdeal.Value
open Cert.LastIdeal Cert.LastIdeal.Gen Rows.Unit

variable (x0 : FVec Ideal S512x1024 .f32) (x1 : FVec Ideal S1x1x1x6144 .f32) (x2 : FVec Ideal S512x1024 .bf16) (x3 : FVec Ideal S1x1024x1024 .bf16) (x4 : FVec Ideal S1x1024 .f32)
  (x5 : FVec Ideal S1x1024x5632 .bf16) (x6 : FVec Ideal S1x2816x1024 .bf16) (x7 : FVec Ideal S1x1024 .f32)

/-- What half a tile's store writes. -/
def stored (r : Fin 2) : FVec Ideal S256x1024 .f32 :=
  lastU (View.ld (Val := Elt Ideal) (e' := .f32) x0 (half r)) (View.ld (Val := Elt Ideal) (e' := .f32) x1 r0_0) (View.ld (Val := Elt Ideal) (e' := .bf16) x2 (half r)) (View.ld (Val := Elt Ideal) (e' := .bf16) x3 r0_2)
    (View.ld (Val := Elt Ideal) (e' := .f32) x4 r0_3) (View.ld (Val := Elt Ideal) (e' := .bf16) x5 r0_5) (View.ld (Val := Elt Ideal) (e' := .bf16) x6 r0_6) (View.ld (Val := Elt Ideal) (e' := .f32) x7 r0_3)

/-- The tile's stores are the two halves. -/
theorem out_eq : out0_8 (F := Ideal) x0 x1 x2 x3 x4 x5 x6 x7 = View.canon (Val := Elt Ideal) (s := S512x1024) (e := .f32) [⟨half 1, stored x0 x1 x2 x3 x4 x5 x6 x7 1⟩, ⟨half 0, stored x0 x1 x2 x3 x4 x5 x6 x7 0⟩] := rfl

/-- Row `n` of the tile a grid point leaves. -/
def blockRow (n : Fin 512) : Fin 1024 → EReal :=
  Rows.rms 0x44800000#32 (Rows.ffn (Rows.gated (fun k => x0 (ix2 n k)) (fun k => x1 (ix4 0 0 0 ⟨2048 + k.val, by omega⟩)) (Rows.dot (fun d => x2 (ix2 n d)) fun d j => x3 (ix3 0 d j)))
    (fun k => x4 (ix2 0 k)) (fun k => x1 (ix4 0 0 0 ⟨3072 + k.val, by omega⟩)) (fun k => x1 (ix4 0 0 0 ⟨4096 + k.val, by omega⟩))
    (fun k => x1 (ix4 0 0 0 ⟨5120 + k.val, by omega⟩)) (fun d j => x5 (ix3 0 d j)) (fun d j => x6 (ix3 0 d j))) (fun k => x7 (ix2 0 k))

/-- What a store writes at an index. -/
theorem stored_at (r : Fin 2) (i : Fin 256) (j : Fin 1024) : stored x0 x1 x2 x3 x4 x5 x6 x7 r (ix2 i j) = blockRow x0 x1 x2 x3 x4 x5 x6 x7 ⟨256 * r.val + i.val, by omega⟩ j := by
  have z2 : (![0, 0] : Fin 2 → ℕ) = fun _ => 0 := by funext a; fin_cases a <;> rfl
  have z3 : (![0, 0, 0] : Fin 3 → ℕ) = fun _ => 0 := by funext a; fin_cases a <;> rfl
  have z4 : (![0, 0, 0, 0] : Fin 4 → ℕ) = fun _ => 0 := by funext a; fin_cases a <;> rfl
  unfold stored blockRow
  rw [View.ld_unit_zero z4, View.ld_unit_zero z3, View.ld_unit_zero z2, View.ld_unit_zero z3, View.ld_unit_zero z3, View.ld_unit_zero z2]
  rw [lastU_at]
  have e0 : ∀ k : Fin 1024, View.ld (Val := Elt Ideal) (e' := .f32) x0 (half r) (ix2 i k) = x0 (ix2 ⟨256 * r.val + i.val, by omega⟩ k) := fun k => half_ld (e := .f32) x0 r i k
  have e2 : ∀ k : Fin 1024, View.ld (Val := Elt Ideal) (e' := .bf16) x2 (half r) (ix2 i k) = x2 (ix2 ⟨256 * r.val + i.val, by omega⟩ k) := fun k => half_ld (e := .bf16) x2 r i k
  simp only [e0, e2]

/-- The tile a grid point leaves, read at an index. -/
theorem out_at (y : S512x1024.Idx) : out0_8 (F := Ideal) x0 x1 x2 x3 x4 x5 x6 x7 y = blockRow x0 x1 x2 x3 x4 x5 x6 x7 (y 0) (y 1) := by
  rw [out_eq]
  exact halves (u := stored x0 x1 x2 x3 x4 x5 x6 x7) (stored_at x0 x1 x2 x3 x4 x5 x6 x7) y

variable (m : (ℓ : Loc nD τ sig) → Buf (Elt Ideal) ℓ)

/-- The windows' blocks at every grid point: a tile of tokens, its sequence's modulation, the weights whole. -/
theorem idx : ∀ t : Fin cfg0.N, win0_0.index t = ![t.val, 0] ∧ win0_1.index t = ![1, 1 + t.val / 4, 0, 0] ∧ win0_2.index t = ![t.val, 0]
    ∧ win0_3.index t = ![0, 0, 0] ∧ win0_4.index t = ![0, 0] ∧ win0_5.index t = ![1, 0, 0] ∧ win0_6.index t = ![1, 0, 0] ∧ win0_7.index t = ![0, 0] ∧ win0_8.index t = ![t.val, 0] ∧ t.val < 32 :=
  (by decide +kernel : ∀ t : Fin grid0.N, _)

/-- The kernel's result array over its argument arrays. -/
abbrev res (c : Dev nD) : FVec Ideal S16384x1024 .f32 := fun y => Last.out (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1)

/-- A grid point's rows are the result's rows there. -/
theorem point (c : Dev nD) (t : Fin cfg0.N) (i : Fin 512) (n : Fin 16384) (hn : n.val = t.val * 512 + i.val) :
    blockRow (iblk m c 0 t) (iblk m c 1 t) (iblk m c 2 t) (iblk m c 3 t) (iblk m c 4 t) (iblk m c 5 t) (iblk m c 6 t) (iblk m c 7 t) i
      = Last.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) n := by
  have ht : t.val < 32 := (idx t).2.2.2.2.2.2.2.2.2
  unfold blockRow Last.out
  congr 1
  · congr 1
    · congr 1
      · funext k; blk_ext [iblk, V, idx t]
      · funext k; blk_ext [iblk, V, idx t]
      · congr 1
        · funext k; blk_ext [iblk, V, idx t]
        · funext k j; blk_ext [iblk, V, idx t]
    · funext k; blk_ext [iblk, V, idx t]
    · funext k; blk_ext [iblk, V, idx t]
    · funext k; blk_ext [iblk, V, idx t]
    · funext k; blk_ext [iblk, V, idx t]
    · funext k j; blk_ext [iblk, V, idx t]
    · funext k j; blk_ext [iblk, V, idx t]
  · funext k; blk_ext [iblk, V, idx t]

/-- The result array after the run. -/
theorem final (c : Dev nD) : (dats m 0 c).arrAt 8 (cfgs 0).N = res m c := by
  refine (dats m 0 c).arrAt_eq_of_covers 8 _ (by decide +kernel) fun t _ y => ?_
  blk_simp
  rw [after0_8]
  rw [out_at]
  refine (congrFun (point m c t (y 0) _ ?_) (y 1)).trans (congrArg _ (Fin.ext ?_))
  · blk_simp [idx t]
  · blk_simp [idx t]
end Cert.LastIdeal.Value
end
-- ==== Proof.Last.Claims.lean ====
module

public import proofs.«01_k».proof.Proof.Last.Kernel
public import proofs.«01_k».proof.Proof.Rows.Ref
public import proofs.«01_k».proof.Proof.Gen.LastRefIdeal.Run
public import proofs.«01_k».proof.Defs
public import proofs.«01_k».proof.Proof.Gen.Last.Frame
public import proofs.«01_k».proof.Proof.Gen.LastIdeal.Frame
public import proofs.«01_k».proof.Proof.Gen.LastRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the last call of the sampling stream, and the claims about the call. -/

namespace Cert.LastRefIdeal.Value
open Cert.LastRefIdeal Cert.LastRefIdeal.Gen

/-- The closing normalisation. -/
def closing (x : FVec Ideal S8x2048x1024 .f32) (g : FVec Ideal S1x1024 .f32) : FVec Ideal S8x2048x1024 .f32 := Rows.Ref.normed x (Rows.Ref.invs x) g
/-- The reference's result over its arguments. -/
def host (x : FVec Ideal S16384x1024 .f32) (w : FVec Ideal S2x16x1x6144 .f32) (a : FVec Ideal S16384x1024 .bf16) (wa : FVec Ideal S1x1024x1024 .bf16) (g : FVec Ideal S1x1024 .f32)
    (wi : FVec Ideal S2x1024x5632 .bf16) (wo : FVec Ideal S2x2816x1024 .bf16) (gf : FVec Ideal S1x1024 .f32) : FVec Ideal S16384x1024 .f32 :=
  Rows.Ref.flat (closing (Rows.Ref.ffnR 1 slices_S2x16x1x6144_S1x8x1x6144_1_1_0_0 slices_S2x1024x5632_S1x1024x5632_1_0_0 slices_S2x2816x1024_S1x2816x1024_1_0_0
    (Rows.Ref.attnRes (Rows.Ref.seqs x) (Rows.Ref.part 1 2048 slices_S2x16x1x6144_S1x8x1x6144_1_1_0_0 slices_S8x1x6144_S8x1x1024_0_0_2048 w) a wa) w g wi wo) gf)

/-- The reference's result array over its arguments. -/
theorem ref_eq (m : (ℓ : Loc nD τ sig) → Buf (Elt Ideal) ℓ) (c : Dev nD) : res_out0 m c = host (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.LastRefIdeal.Value

namespace Last

/-- The reference's row of token `n` is the kernel's. -/
theorem host_at (x w a wa g wi wo gf) (n : Fin 16384) (j : Fin 1024) : Cert.LastRefIdeal.Value.host x w a wa g wi wo gf (ix2 n j) = out x w a wa g wi wo gf n j := by
  unfold Cert.LastRefIdeal.Value.host out
  refine (Rows.Ref.flat_at _ n j).trans ?_
  unfold Cert.LastRefIdeal.Value.closing
  rw [Rows.Ref.normed_at, Rows.Ref.invs_at]
  have hn : (⟨n.val / 2048 * 2048 + n.val % 2048, by omega⟩ : Fin 16384) = n := Fin.ext (show n.val / 2048 * 2048 + n.val % 2048 = n.val by omega)
  have e : ∀ k, Rows.Ref.seqs x (ix3 ⟨n.val / 2048, by omega⟩ ⟨n.val % 2048, by omega⟩ k) = x (ix2 n k) := fun k =>
    (Rows.Ref.seqs_at x _ _ k).trans (congrArg (fun i => x (ix2 i k)) hn)
  simp only [Rows.Ref.ffnR_at 1 _ _ _ _ _ _ _ _ (show 1 < 2 by omega), Rows.Ref.attnRes_at, Rows.Ref.part_at 1 _ _ _ _ (show 1 < 2 by omega) (show 2048 + 1024 ≤ 6144 by omega), e, hn]
  rfl

/-- From equal arguments the kernel's and the reference's results are equal. -/
theorem agree (m : (ℓ : Loc Cert.LastIdeal.nD Cert.LastIdeal.τ Cert.LastIdeal.sig) → Buf (Elt Ideal) ℓ) (m' : (ℓ : Loc Cert.LastRefIdeal.nD Cert.LastRefIdeal.τ Cert.LastRefIdeal.sig) → Buf (Elt Ideal) ℓ) (c : Dev Cert.LastIdeal.nD)
    (h0 : m ((c.tc : Thread Cert.LastIdeal.nD Cert.LastIdeal.τ).loc Cert.LastIdeal.main_arg0) = m' ((c.tc : Thread Cert.LastRefIdeal.nD Cert.LastRefIdeal.τ).loc Cert.LastRefIdeal.main_arg0))
    (h1 : m ((c.tc : Thread Cert.LastIdeal.nD Cert.LastIdeal.τ).loc Cert.LastIdeal.main_arg1) = m' ((c.tc : Thread Cert.LastRefIdeal.nD Cert.LastRefIdeal.τ).loc Cert.LastRefIdeal.main_arg1))
    (h2 : m ((c.tc : Thread Cert.LastIdeal.nD Cert.LastIdeal.τ).loc Cert.LastIdeal.main_arg2) = m' ((c.tc : Thread Cert.LastRefIdeal.nD Cert.LastRefIdeal.τ).loc Cert.LastRefIdeal.main_arg2))
    (h3 : m ((c.tc : Thread Cert.LastIdeal.nD Cert.LastIdeal.τ).loc Cert.LastIdeal.main_arg3) = m' ((c.tc : Thread Cert.LastRefIdeal.nD Cert.LastRefIdeal.τ).loc Cert.LastRefIdeal.main_arg3))
    (h4 : m ((c.tc : Thread Cert.LastIdeal.nD Cert.LastIdeal.τ).loc Cert.LastIdeal.main_arg4) = m' ((c.tc : Thread Cert.LastRefIdeal.nD Cert.LastRefIdeal.τ).loc Cert.LastRefIdeal.main_arg4))
    (h5 : m ((c.tc : Thread Cert.LastIdeal.nD Cert.LastIdeal.τ).loc Cert.LastIdeal.main_arg5) = m' ((c.tc : Thread Cert.LastRefIdeal.nD Cert.LastRefIdeal.τ).loc Cert.LastRefIdeal.main_arg5))
    (h6 : m ((c.tc : Thread Cert.LastIdeal.nD Cert.LastIdeal.τ).loc Cert.LastIdeal.main_arg6) = m' ((c.tc : Thread Cert.LastRefIdeal.nD Cert.LastRefIdeal.τ).loc Cert.LastRefIdeal.main_arg6))
    (h7 : m ((c.tc : Thread Cert.LastIdeal.nD Cert.LastIdeal.τ).loc Cert.LastIdeal.main_arg7) = m' ((c.tc : Thread Cert.LastRefIdeal.nD Cert.LastRefIdeal.τ).loc Cert.LastRefIdeal.main_arg7)) :
    Cert.LastIdeal.Value.res m c = Cert.LastRefIdeal.Value.res_out0 m' c := by
  rw [Cert.LastRefIdeal.Value.ref_eq, ← h0, ← h1, ← h2, ← h3, ← h4, ← h5, ← h6, ← h7]
  funext y
  obtain ⟨j, i, rfl⟩ : ∃ (j : Fin 16384) (i : Fin 1024), y = ix2 j i := ⟨y 0, y 1, by funext a; fin_cases a <;> rfl⟩
  exact (host_at _ _ _ _ _ _ _ _ j i).symm

/-- The printed kernel runs, keeps its arguments and ends quiescent. -/
theorem frame : Cert.quiescent_Last := fun m ρ _ => Cert.Last.Gen.frame m ρ
/-- The kernel over the extended reals runs, keeps its arguments and ends quiescent. -/
theorem frame_ideal : Cert.quiescent_LastIdeal := fun m ρ _ => Cert.LastIdeal.Gen.frame m ρ
/-- The reference runs, keeps its arguments and ends quiescent. -/
theorem frame_ref : Cert.quiescent_LastRefIdeal := fun m g _ =>
  (θ_run _ _ _).mono (fun r h => ⟨fun c => (h c).2, sem_eq_zero_of_no_sems (by decide) r.2⟩) (Cert.LastRefIdeal.Value.run m g)
/-- The kernel's result is the reference's. -/
theorem algebraic : Cert.algebraic_LastIdeal_LastRefIdeal := by
  pair_intro
  · run_from Cert.LastIdeal.Value.run_blocks m g
  · run_from Cert.LastRefIdeal.Value.run m' g'
    refine ((Cert.LastIdeal.Value.final m c).trans ?_).symm
    exact agree m m' c (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.symm

end Last
end
-- ==== Proof.Gmlp.Unit.lean ====
module

public import proofs.«01_k».proof.Proof.Gen.GmlpIdeal.Value
public import proofs.«01_k».proof.Proof.Rows.Unit

@[expose] public section

set_option maxRecDepth 16384

noncomputable section

open Idealize.ShloMosaic Idealize.ShloMosaic.TcCoe Idealize.SL.Sem

/-! The gated token mixer: what it makes of 128 tokens, and the steps of its kernel over 512 tokens. -/

namespace Gmlp

/-- The exact gelu of a number. -/
def gelu (z : EReal) : EReal := Ideal.ofBits .f32 0x3F000000#32 * z * (1 + Ideal.erf (z * Ideal.ofBits .f32 0x3F3504F3#32))
/-- The gelu of a row times a matrix. -/
def up {n k : ℕ} (h : Fin k → EReal) (w : Fin k → Fin n → EReal) (j : Fin n) : EReal := gelu (Rows.dot h w j)
/-- The normalised gating row. -/
def gate (h : Fin 1024 → EReal) (w : Fin 1024 → Fin 2048 → EReal) (g : Fin 2048 → EReal) : Fin 2048 → EReal := Rows.rms 0x45000000#32 (up h w) g
/-- The gating rows mixed over the positions of a chunk, each group of 256 columns by its own matrix and bias. -/
def mixed (v : Fin 128 → Fin 2048 → EReal) (ws : Fin 8 → Fin 128 → Fin 128 → EReal) (bs : Fin 8 → Fin 128 → EReal) (p : Fin 128) (j : Fin 2048) : EReal :=
  ∑ q, ws ⟨j.val / 256, by omega⟩ p q * v q j + bs ⟨j.val / 256, by omega⟩ p
/-- Row `p` of a chunk after the mixer, from the chunk's rows `x` and their modulated rows `h`. -/
def mixer (x h : Fin 128 → Fin 1024 → EReal) (g1 : Fin 1024 → EReal) (wu wv : Fin 1024 → Fin 2048 → EReal) (gv : Fin 2048 → EReal) (ws : Fin 8 → Fin 128 → Fin 128 → EReal)
    (bs : Fin 8 → Fin 128 → EReal) (wo : Fin 2048 → Fin 1024 → EReal) (p : Fin 128) : Fin 1024 → EReal :=
  Rows.gated (x p) g1 (Rows.dot (fun j => up (h p) wu j * mixed (fun q => gate (h q) wv gv) ws bs p j) wo)

end Gmlp

namespace Gmlp.Unit
open Cert.GmlpIdeal Cert.GmlpIdeal.Gen

/-- Each token's reciprocal root mean square. -/
def invs (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))
/-- The rows normalised and modulated. -/
def modn (x : FVec Ideal S512x1024 .f32) (r : FVec Ideal S512x1 .f32) (g sc sh : FVec Ideal S1x1024 .f32) : FVec Ideal S512x1024 .bf16 :=
  truncf .bf16 (addf (mulf (mulf x (broadcastTo S512x1024 r broadcasts_S512x1_S512x1024)) (broadcastTo S512x1024 (mulf g (addf (broadcast S1x1024 (Scalar.ofBits .f32 0x3F800000#32)) sc)) broadcasts_S1x1024_S512x1024))
    (broadcastTo S512x1024 sh broadcasts_S1x1024_S512x1024)) bitsLt_bf16_f32
/-- The rows times half of the first matrix. -/
def prod (h : FVec Ideal S512x1024 .bf16) (w : FVec Ideal S1x1024x2048 .bf16) : FVec Ideal S512x2048 .f32 :=
  matmul dot_S512x1024_S1024x2048_S512x2048_1_0_0_1_n_n none h (shapeCast S1024x2048 w shapeCasts_S1x1024x2048_S1024x2048) (constant S512x2048 .f32 0x00000000#32)
/-- The gelu of every entry. -/
def gel (d : FVec Ideal S512x2048 .f32) : FVec Ideal S512x2048 .f32 :=
  mulf (mulf (broadcast S512x2048 (Scalar.ofBits .f32 0x3F000000#32)) d)
    (addf (broadcast S512x2048 (Scalar.ofBits .f32 0x3F800000#32)) (erf (mulf d (broadcast S512x2048 (Scalar.ofBits .f32 0x3F3504F3#32)))))
/-- Each gating row's reciprocal root mean square. -/
def invs2 (z : FVec Ideal S512x2048 .f32) : FVec Ideal S512x1 .f32 :=
  rsqrt (addf (divf (shapeCast S512x1 (multiReduction .add [1] S512 (mulf z z) 0x00000000#32 reduces_S512x2048_S512 (.inl rfl) rfl) shapeCasts_S512_S512x1)
    (broadcast S512x1 (Scalar.ofBits .f32 0x45000000#32))) (broadcast S512x1 (Scalar.ofBits .f32 0x358637BD#32)))
/-- The gating rows normalised. -/
def gates (z : FVec Ideal S512x2048 .f32) (r : FVec Ideal S512x1 .f32) (g : FVec Ideal S1x2048 .f32) : FVec Ideal S512x2048 .bf16 :=
  truncf .bf16 (mulf (mulf z (broadcastTo S512x2048 r broadcasts_S512x1_S512x2048)) (broadcastTo S512x2048 g broadcasts_S1x2048_S512x2048)) bitsLt_bf16_f32
/-- What is stored for a chunk and a group of columns, from the tile's gating rows and values. -/
def mix (a b : ℕ) (hs : S512x2048.Slices ![a, b] S128x256) (v : FVec Ideal S512x2048 .bf16) (u : FVec Ideal S512x2048 .f32) (w : FVec Ideal S1x1x128x128 .bf16) (s : FVec Ideal S1x128x1 .f32) : FVec Ideal S128x256 .bf16 :=
  shapeCast S128x256 (truncf .bf16 (mulf (extractStridedSlice S128x256 ![a, b] u hs)
    (addf (matmul dot_S128x128_S128x256_S128x256_1_0_0_1_n_n none (shapeCast S128x128 w shapeCasts_S1x1x128x128_S128x128) (extractStridedSlice S128x256 ![a, b] v hs) (constant S128x256 .f32 0x00000000#32))
      (broadcastTo S128x256 (shapeCast S128x1 s shapeCasts_S1x128x1_S128x1) broadcasts_S128x1_S128x256))) bitsLt_bf16_f32) shapeCasts_S128x256_S128x256
/-- The last product, gated and added. -/
def closing (x : FVec Ideal S512x1024 .f32) (g : FVec Ideal S1x1024 .f32) (y : FVec Ideal S512x2048 .bf16) (w : FVec Ideal S1x2048x1024 .bf16) : FVec Ideal S512x1024 .f32 :=
  addf x (mulf (broadcastTo S512x1024 g broadcasts_S1x1024_S512x1024)
    (matmul dot_S512x2048_S2048x1024_S512x1024_1_0_0_1_n_n none y (shapeCast S2048x1024 w shapeCasts_S1x2048x1024_S2048x1024) (constant S512x1024 .f32 0x00000000#32)))

/-- The reciprocal root mean squares read at an index. -/
theorem invs_at (x) (i : Fin 512) : invs x (ix2 i 0) = Rows.inv 0x44800000#32 fun k => x (ix2 i k) := by
  pointwise [invs, Rows.inv]
/-- The modulated rows read at an index. -/
theorem modn_at (x r g sc sh) (i : Fin 512) (j : Fin 1024) : modn x r g sc sh (ix2 i j)
    = x (ix2 i j) * r (ix2 i 0) * (g (ix2 0 j) * (Rows.one + sc (ix2 0 j))) + sh (ix2 0 j) := by
  pointwise [modn]
/-- The product read at an index. -/
theorem prod_at (h w) (i : Fin 512) (j : Fin 2048) : prod h w (ix2 i j) = Rows.dot (fun d => h (ix2 i d)) (fun d j => w (ix3 0 d j)) j := by
  pointwise [prod, Rows.dot]
/-- The gelu read at an index. -/
theorem gel_at (d) (i : Fin 512) (j : Fin 2048) : gel d (ix2 i j) = gelu (d (ix2 i j)) := by
  have e : gel d (ix2 i j) = Ideal.ofBits .f32 0x3F000000#32 * d (ix2 i j) * (Rows.one + Ideal.erf (d (ix2 i j) * Ideal.ofBits .f32 0x3F3504F3#32)) := by
    pointwise [gel]
    rfl
  rw [e, Rows.one_eq]
  rfl
/-- The gating rows' reciprocal root mean squares read at an index. -/
theorem invs2_at (z) (i : Fin 512) : invs2 z (ix2 i 0) = Rows.inv 0x45000000#32 fun k => z (ix2 i k) := by
  pointwise [invs2, Rows.inv]
/-- The gating rows read at an index. -/
theorem gates_at (z r g) (i : Fin 512) (j : Fin 2048) : gates z r g (ix2 i j) = z (ix2 i j) * r (ix2 i 0) * g (ix2 0 j) := by
  pointwise [gates]
/-- The stored values read at an index. -/
theorem mix_at (a b : ℕ) (hs v u w s) (ha : a + 128 ≤ 512) (hb : b + 256 ≤ 2048) (p : Fin 128) (j : Fin 256) : mix a b hs v u w s (ix2 p j)
    = u (ix2 ⟨a + p.val, by omega⟩ ⟨b + j.val, by omega⟩) * (∑ q : Fin 128, w (ix4 0 0 p q) * v (ix2 ⟨a + q.val, by omega⟩ ⟨b + j.val, by omega⟩) + s (ix3 0 p 0)) := by
  pointwise [mix]
/-- The last product read at an index. -/
theorem closing_at (x g y w) (i : Fin 512) (j : Fin 1024) : closing x g y w (ix2 i j)
    = Rows.gated (fun j => x (ix2 i j)) (fun j => g (ix2 0 j)) (Rows.dot (fun d => y (ix2 i d)) fun d j => w (ix3 0 d j)) j := by
  pointwise [closing, Rows.gated, Rows.dot]

/-- The tile's modulated rows. -/
def hid (x : FVec Ideal S512x1024 .f32) (w : FVec Ideal S1x1x1x6144 .f32) (g : FVec Ideal S1x1024 .f32) : FVec Ideal S512x1024 .bf16 :=
  modn x (invs x) g (Rows.Unit.chunk 1024 slices_S1x6144_o0_1024_S1x1024 w) (Rows.Unit.chunk 0 slices_S1x6144_o0_0_S1x1024 w)
/-- The tile's modulated rows read at an index. -/
theorem hid_at (x w g) (i : Fin 512) (j : Fin 1024) : hid x w g (ix2 i j)
    = Rows.modulated 0x44800000#32 (fun k => x (ix2 i k)) (fun k => g (ix2 0 k)) (fun k => w (ix4 0 0 0 ⟨0 + k.val, by omega⟩)) (fun k => w (ix4 0 0 0 ⟨1024 + k.val, by omega⟩)) j := by
  unfold hid
  rw [modn_at, invs_at, Rows.Unit.chunk_at _ _ _ _ (by omega), Rows.Unit.chunk_at _ _ _ _ (by omega), Rows.one_eq]
  exact Rows.modulated_eq 0x44800000#32 (fun k => x (ix2 i k)) (fun k => g (ix2 0 k)) (fun k => w (ix4 0 0 0 ⟨0 + k.val, by omega⟩)) (fun k => w (ix4 0 0 0 ⟨1024 + k.val, by omega⟩)) j
/-- The tile's values read at an index. -/
theorem vals_at (h w) (i : Fin 512) (j : Fin 2048) : gel (prod h w) (ix2 i j) = up (fun d => h (ix2 i d)) (fun d j => w (ix3 0 d j)) j := by
  rw [gel_at, prod_at]
  rfl
/-- The tile's gating rows. -/
def gateU (h : FVec Ideal S512x1024 .bf16) (w : FVec Ideal S1x1024x2048 .bf16) (g : FVec Ideal S1x2048 .f32) : FVec Ideal S512x2048 .bf16 :=
  gates (gel (prod h w)) (invs2 (gel (prod h w))) g
/-- The tile's gating rows read at an index. -/
theorem gateU_at (h w g) (i : Fin 512) (j : Fin 2048) : gateU h w g (ix2 i j) = gate (fun d => h (ix2 i d)) (fun d j => w (ix3 0 d j)) (fun k => g (ix2 0 k)) j := by
  unfold gateU gate Rows.rms
  rw [gates_at, invs2_at, vals_at]
  simp only [vals_at]

end Gmlp.Unit
end
-- ==== Proof.Gmlp.Kernel.lean ====
module

public import proofs.«01_k».proof.Proof.Gmlp.Unit

@[expose] public section

set_option maxRecDepth 16384

noncomputable section

open Idealize.ShloMosaic Idealize.ShloMosaic.TcCoe Idealize.SL.Sem
open Idealize.ShloMosaic.Pipeline (Dat)

/-! What the gated token mixer's call leaves in its result. -/

namespace Gmlp

/-- Position `q` of the chunk of 128 tokens that token `n` is in. -/
def mate {N : ℕ} (n : Fin N) (h : N % 128 = 0) (q : Fin 128) : Fin N := ⟨128 * (n.val / 128) + q.val, by have := n.isLt; omega⟩

/-- The result's row of token `n`: over the arrays of the call. -/
def out (X : FVec Ideal ⟨2, ![16384, 1024]⟩ .f32) (M : FVec Ideal ⟨4, ![2, 16, 1, 6144]⟩ .f32) (N : FVec Ideal ⟨2, ![1, 1024]⟩ .f32) (WI : FVec Ideal ⟨3, ![1, 1024, 4096]⟩ .bf16)
    (GV : FVec Ideal ⟨2, ![1, 2048]⟩ .f32) (WS : FVec Ideal ⟨4, ![1, 8, 128, 128]⟩ .bf16) (BS : FVec Ideal ⟨3, ![8, 128, 1]⟩ .f32) (WO : FVec Ideal ⟨3, ![1, 2048, 1024]⟩ .bf16) (n : Fin 16384) : Fin 1024 → EReal :=
  mixer (fun q k => X (ix2 (mate n rfl q) k))
    (fun q => Rows.modulated 0x44800000#32 (fun k => X (ix2 (mate n rfl q) k)) (fun k => N (ix2 0 k)) (fun k => M (ix4 0 ⟨1 + n.val / 2048, by omega⟩ 0 ⟨0 + k.val, by omega⟩))
      (fun k => M (ix4 0 ⟨1 + n.val / 2048, by omega⟩ 0 ⟨1024 + k.val, by omega⟩)))
    (fun k => M (ix4 0 ⟨1 + n.val / 2048, by omega⟩ 0 ⟨2048 + k.val, by omega⟩)) (fun d j => WI (ix3 0 d ⟨j.val, by omega⟩)) (fun d j => WI (ix3 0 d ⟨2048 + j.val, by omega⟩)) (fun k => GV (ix2 0 k))
    (fun g p q => WS (ix4 0 g p q)) (fun g p => BS (ix3 g p 0)) (fun d j => WO (ix3 0 d j)) ⟨n.val % 128, by omega⟩

end Gmlp

namespace Cert.GmlpIdeal.Value
open Cert.GmlpIdeal Cert.GmlpIdeal.Gen Rows.Unit Gmlp Gmlp.Unit

/-- A rectangle of rank three lies inside its shape. -/
theorem inb3 {a b c s t u A B C : ℕ} (h0 : a + s ≤ A) (h1 : b + t ≤ B) (h2 : c + u ≤ C) : ∀ i : Fin 3, (![a, b, c] : Fin 3 → ℕ) i + (![s, t, u] : Fin 3 → ℕ) i ≤ (![A, B, C] : Fin 3 → ℕ) i := by
  intro i; fin_cases i
  · exact h0
  · exact h1
  · exact h2
/-- A rectangle of rank four lies inside its shape. -/
theorem inb4 {a b c d s t u v A B C D : ℕ} (h0 : a + s ≤ A) (h1 : b + t ≤ B) (h2 : c + u ≤ C) (h3 : d + v ≤ D) :
    ∀ i : Fin 4, (![a, b, c, d] : Fin 4 → ℕ) i + (![s, t, u, v] : Fin 4 → ℕ) i ≤ (![A, B, C, D] : Fin 4 → ℕ) i := by
  intro i; fin_cases i
  · exact h0
  · exact h1
  · exact h2
  · exact h3

variable (x0 : FVec Ideal S512x1024 .f32) (x1 : FVec Ideal S1x1x1x6144 .f32) (x2 : FVec Ideal S1x1024 .f32) (x3 : FVec Ideal S1x1024x4096 .bf16) (x4 : FVec Ideal S1x2048 .f32)
  (x5 : FVec Ideal S1x8x128x128 .bf16) (x6 : FVec Ideal S8x128x1 .f32) (x7 : FVec Ideal S1x2048x1024 .bf16)

/-- The half of the first matrix that makes the values (`o = 0`) or the gating rows (`o = 2048`). -/
def wpart (o : ℕ) (ho : o + 2048 ≤ 4096) : FVec Ideal S1x1024x2048 .bf16 :=
  View.ld (Val := Elt Ideal) (e' := .bf16) x3 (Rect.unit (s := S1x1024x4096) ![0, 0, o] ![1, 1024, 2048] (inb3 (by omega) (by omega) ho))

/-- Half of the first matrix read at an index. -/
theorem wpart_at (o : ℕ) (ho : o + 2048 ≤ 4096) (d : Fin 1024) (j : Fin 2048) : wpart x3 o ho (ix3 0 d j) = x3 (ix3 0 d ⟨o + j.val, by omega⟩) := by
  refine congrArg x3 (funext fun c => Fin.ext ?_)
  fin_cases c
  · rfl
  · show 0 + 1 * d.val = d.val; omega
  · show o + 1 * j.val = o + j.val; omega

/-- What is stored for chunk `c` and group `g`, and where. -/
def piece (v : FVec Ideal S512x2048 .bf16) (u : FVec Ideal S512x2048 .f32) (c : Fin 4) (g : Fin 8) : View.Piece (Elt Ideal) S512x2048 .bf16 :=
  ⟨Rect.unit (s := S512x2048) ![128 * c.val, 256 * g.val] ![128, 256] (inb2 (by omega) (by omega)),
   mix (128 * c.val) (256 * g.val) ⟨rfl, inb2 (by omega) (by omega)⟩ v u
     (View.ld (Val := Elt Ideal) (e' := .bf16) x5 (Rect.unit (s := S1x8x128x128) ![0, g.val, 0, 0] ![1, 1, 128, 128] (inb4 (by omega) (by omega) (by omega) (by omega))))
     (View.ld (Val := Elt Ideal) (e' := .f32) x6 (Rect.unit (s := S8x128x1) ![g.val, 0, 0] ![1, 128, 1] (inb3 (by omega) (by omega) (by omega))))⟩

/-- All the stores of the scratch, the last first. -/
def pieces (v : FVec Ideal S512x2048 .bf16) (u : FVec Ideal S512x2048 .f32) : List (View.Piece (Elt Ideal) S512x2048 .bf16) :=
  ([3, 2, 1, 0] : List (Fin 4)).flatMap fun c => ([7, 6, 5, 4, 3, 2, 1, 0] : List (Fin 8)).map (piece x5 x6 v u c)

/-- What the stores make of the scratch, at row `n` and column `j`. -/
def scr (v : FVec Ideal S512x2048 .bf16) (u : FVec Ideal S512x2048 .f32) (n : Fin 512) (j : Fin 2048) : EReal :=
  u (ix2 n j) * mixed (fun q j => v (ix2 (mate n rfl q) j)) (fun g p q => x5 (ix4 0 g p q)) (fun g p => x6 (ix3 g p 0)) ⟨n.val % 128, by omega⟩ j

/-- A store writes its part of the scratch. -/
theorem piece_eq (v u) (c : Fin 4) (g : Fin 8) (x : (piece x5 x6 v u c g).1.shape.Idx) :
    (piece x5 x6 v u c g).2 x = scr x5 x6 v u ((piece x5 x6 v u c g).1.emb x 0) ((piece x5 x6 v u c g).1.emb x 1) := by
  obtain ⟨i, j, rfl⟩ : ∃ (i : Fin 128) (j : Fin 256), x = ix2 i j := ⟨x 0, x 1, by funext c; fin_cases c <;> rfl⟩
  have e0 : (piece x5 x6 v u c g).1.emb (ix2 i j) 0 = (⟨128 * c.val + i.val, by omega⟩ : Fin 512) := Fin.ext (by show 128 * c.val + 1 * i.val = 128 * c.val + i.val; omega)
  have e1 : (piece x5 x6 v u c g).1.emb (ix2 i j) 1 = (⟨256 * g.val + j.val, by omega⟩ : Fin 2048) := Fin.ext (by show 256 * g.val + 1 * j.val = 256 * g.val + j.val; omega)
  rw [e0, e1]
  have e2 : (⟨(⟨128 * c.val + i.val, by omega⟩ : Fin 512).val % 128, by omega⟩ : Fin 128) = i := Fin.ext (by show (128 * c.val + i.val) % 128 = i.val; omega)
  have e3 : (⟨(⟨256 * g.val + j.val, by omega⟩ : Fin 2048).val / 256, by omega⟩ : Fin 8) = g := Fin.ext (by show (256 * g.val + j.val) / 256 = g.val; omega)
  have e4 : ∀ q : Fin 128, mate (⟨128 * c.val + i.val, by omega⟩ : Fin 512) rfl q = ⟨128 * c.val + q.val, by omega⟩ := fun q => Fin.ext (by show 128 * ((128 * c.val + i.val) / 128) + q.val = 128 * c.val + q.val; omega)
  unfold scr mixed
  rw [e2, e3]
  simp only [e4]
  refine (mix_at _ _ _ _ _ _ _ (by omega) (by omega) i j).trans ?_
  refine congrArg₂ (· * ·) rfl (congrArg₂ (· + ·) (Finset.sum_congr rfl fun q _ => congrArg₂ (· * ·) (congrArg x5 (funext fun a => Fin.ext ?_)) rfl) (congrArg x6 (funext fun a => Fin.ext ?_)))
  · fin_cases a
    · rfl
    · show g.val + 1 * 0 = g.val; omega
    · show 0 + 1 * i.val = i.val; omega
    · show 0 + 1 * q.val = q.val; omega
  · fin_cases a
    · show g.val + 1 * 0 = g.val; omega
    · show 0 + 1 * i.val = i.val; omega
    · rfl

/-- The stores of all chunks and groups fill the scratch. -/
theorem pieces_eq (v u) (y : S512x2048.Idx) : View.canon (pieces x5 x6 v u) y = scr x5 x6 v u (y 0) (y 1) := by
  refine View.canon_apply_of_pieces (Val := Elt Ideal) (S := S512x2048) (e := .bf16) (fun y : S512x2048.Idx => (scr x5 x6 v u (y 0) (y 1) : Elt Ideal .bf16)) _ ?_ y ?_
  · intro p hp x
    obtain ⟨c, _, hp⟩ := List.mem_flatMap.mp hp
    obtain ⟨g, _, rfl⟩ := List.mem_map.mp hp
    exact piece_eq x5 x6 v u c g x
  · have hy0 : (y 0).val < 512 := (y 0).isLt
    have hy1 : (y 1).val < 2048 := (y 1).isLt
    refine ⟨piece x5 x6 v u ⟨(y 0).val / 128, by omega⟩ ⟨(y 1).val / 256, by omega⟩, ?_, ?_⟩
    · refine List.mem_flatMap.mpr ⟨_, (by decide : ∀ h : Fin 4, h ∈ ([3, 2, 1, 0] : List (Fin 4))) _, List.mem_map.mpr ⟨_, (by decide : ∀ r : Fin 8, r ∈ ([7, 6, 5, 4, 3, 2, 1, 0] : List (Fin 8))) _, rfl⟩⟩
    · refine (Rect.mem_set_unit (s := S512x2048) (inb := inb2 (by omega) (by omega))).mpr fun c => ?_
      fin_cases c
      · show 128 * ((y 0).val / 128) ≤ (y 0).val ∧ (y 0).val < 128 * ((y 0).val / 128) + 128; omega
      · show 256 * ((y 1).val / 256) ≤ (y 1).val ∧ (y 1).val < 256 * ((y 1).val / 256) + 256; omega

/-- The tile's values. -/
def valU : FVec Ideal S512x2048 .f32 := gel (prod (hid x0 x1 x2) (wpart x3 0 (by omega)))
/-- The tile's gating rows. -/
def gatU : FVec Ideal S512x2048 .bf16 := gateU (hid x0 x1 x2) (wpart x3 2048 (by omega)) x4

/-- What the tile's one store writes, reading the scratch back through a view of it. -/
def stored {κ : Kind} {sp : Space} (v : View sig κ sp S512x2048 .bf16) : FVec Ideal S512x1024 .f32 :=
  closing x0 (chunk 2048 slices_S1x6144_o0_2048_S1x1024 x1)
    (v.readCov (pieces x5 x6 (gatU x0 x1 x2 x3 x4) (valU x0 x1 x2 x3)) (Rect.unit (s := S512x2048) ![0, 0] ![512, 2048] (inb2 (by omega) (by omega))).toLoadRect) x7

/-- Row `n` of the tile a grid point leaves. -/
def blockRow (n : Fin 512) : Fin 1024 → EReal :=
  mixer (fun q k => x0 (ix2 (mate n rfl q) k))
    (fun q => Rows.modulated 0x44800000#32 (fun k => x0 (ix2 (mate n rfl q) k)) (fun k => x2 (ix2 0 k)) (fun k => x1 (ix4 0 0 0 ⟨0 + k.val, by omega⟩)) (fun k => x1 (ix4 0 0 0 ⟨1024 + k.val, by omega⟩)))
    (fun k => x1 (ix4 0 0 0 ⟨2048 + k.val, by omega⟩)) (fun d j => x3 (ix3 0 d ⟨j.val, by omega⟩)) (fun d j => x3 (ix3 0 d ⟨2048 + j.val, by omega⟩)) (fun k => x4 (ix2 0 k))
    (fun g p q => x5 (ix4 0 g p q)) (fun g p => x6 (ix3 g p 0)) (fun d j => x7 (ix3 0 d j)) ⟨n.val % 128, by omega⟩

/-- What the store writes at an index. -/
theorem stored_at {κ : Kind} {sp : Space} (v : View sig κ sp S512x2048 .bf16) (n : Fin 512) (j : Fin 1024) : stored x0 x1 x2 x3 x4 x5 x6 x7 v (ix2 n j) = blockRow x0 x1 x2 x3 x4 x5 x6 x7 n j := by
  have hn : mate n rfl (⟨n.val % 128, by omega⟩ : Fin 128) = n := Fin.ext (by show 128 * (n.val / 128) + n.val % 128 = n.val; omega)
  have hy : ∀ d : Fin 2048, v.readCov (pieces x5 x6 (gatU x0 x1 x2 x3 x4) (valU x0 x1 x2 x3)) (Rect.unit (s := S512x2048) ![0, 0] ![512, 2048] (inb2 (by omega) (by omega))).toLoadRect (ix2 n d)
      = scr x5 x6 (gatU x0 x1 x2 x3 x4) (valU x0 x1 x2 x3) n d := by
    intro d
    rw [View.readCov_eq_canon']
    refine (pieces_eq x5 x6 _ _ _).trans (congrArg₂ _ (Fin.ext ?_) (Fin.ext ?_))
    · show 0 + 1 * n.val = n.val; omega
    · show 0 + 1 * d.val = d.val; omega
  unfold stored
  rw [closing_at]
  simp only [hy, chunk_at _ _ _ _ (show 2048 + 1024 ≤ 6144 by omega)]
  unfold blockRow mixer scr valU gatU
  beta_reduce
  rw [hn]
  simp only [vals_at, gateU_at, hid_at, wpart_at, Nat.zero_add]

variable (m : (ℓ : Loc nD τ sig) → Buf (Elt Ideal) ℓ)

/-- The tile a grid point leaves is what its one store writes. -/
theorem outs_eq (c : Dev nD) (t : Fin cfg0.N) : outsAt0 (F := Ideal) m c t
    = stored (iblk m c 0 t) (iblk m c 1 t) (iblk m c 2 t) (iblk m c 3 t) (iblk m c 4 t) (iblk m c 5 t) (iblk m c 6 t) (iblk m c 7 t) scM0_0.view := by
  unfold outsAt0
  frame_out
  rfl

/-- The tile a grid point leaves, read at an index. -/
theorem out_at (c : Dev nD) (t : Fin cfg0.N) (y : S512x1024.Idx) : outsAt0 (F := Ideal) m c t y
    = blockRow (iblk m c 0 t) (iblk m c 1 t) (iblk m c 2 t) (iblk m c 3 t) (iblk m c 4 t) (iblk m c 5 t) (iblk m c 6 t) (iblk m c 7 t) (y 0) (y 1) := by
  rw [outs_eq]
  obtain ⟨n, j, rfl⟩ : ∃ (n : Fin 512) (j : Fin 1024), y = ix2 n j := ⟨y 0, y 1, by funext c; fin_cases c <;> rfl⟩
  exact stored_at _ _ _ _ _ _ _ _ _ n j

/-- The windows' blocks at every grid point: a tile of tokens, its sequence's modulation, the weights whole. -/
theorem idx : ∀ t : Fin cfg0.N, win0_0.index t = ![t.val, 0] ∧ win0_1.index t = ![0, 1 + t.val / 4, 0, 0] ∧ win0_2.index t = ![0, 0]
    ∧ win0_3.index t = ![0, 0, 0] ∧ win0_4.index t = ![0, 0] ∧ win0_5.index t = ![0, 0, 0, 0] ∧ win0_6.index t = ![0, 0, 0] ∧ win0_7.index t = ![0, 0, 0] ∧ win0_8.index t = ![t.val, 0] ∧ t.val < 32 :=
  (by decide +kernel : ∀ t : Fin grid0.N, _)

/-- The kernel's result array over its argument arrays. -/
abbrev res (c : Dev nD) : FVec Ideal S16384x1024 .f32 := fun y => Gmlp.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1)

/-- A grid point's rows are the result's rows there. -/
theorem point (c : Dev nD) (t : Fin cfg0.N) (i : Fin 512) (n : Fin 16384) (hn : n.val = t.val * 512 + i.val) :
    blockRow (iblk m c 0 t) (iblk m c 1 t) (iblk m c 2 t) (iblk m c 3 t) (iblk m c 4 t) (iblk m c 5 t) (iblk m c 6 t) (iblk m c 7 t) i = Gmlp.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) n := by
  have ht : t.val < 32 := (idx t).2.2.2.2.2.2.2.2.2
  unfold blockRow Gmlp.out
  congr 1
  · funext q k; blk_ext [iblk, V, idx t, mate]
  · funext q
    congr 1
    · funext k; blk_ext [iblk, V, idx t, mate]
    · funext k; blk_ext [iblk, V, idx t]
    · funext k; blk_ext [iblk, V, idx t]
    · funext k; blk_ext [iblk, V, idx t]
  · funext k; blk_ext [iblk, V, idx t]
  · funext d j; blk_ext [iblk, V, idx t]
  · funext d j; blk_ext [iblk, V, idx t]
  · funext k; blk_ext [iblk, V, idx t]
  · funext g p q; blk_ext [iblk, V, idx t]
  · funext g p; blk_ext [iblk, V, idx t]
  · funext d j; blk_ext [iblk, V, idx t]
  · exact Fin.ext (by show i.val % 128 = n.val % 128; omega)

/-- The result array after the run. -/
theorem final (c : Dev nD) : (dats m 0 c).arrAt 8 (cfgs 0).N = res m c := by
  refine (dats m 0 c).arrAt_eq_of_covers 8 _ (by decide +kernel) fun t _ y => ?_
  blk_simp
  rw [after0_8]
  rw [out_at]
  refine (congrFun (point m c t (y 0) _ ?_) (y 1)).trans (congrArg _ (Fin.ext ?_))
  · blk_simp [idx t]
  · blk_simp [idx t]

end Cert.GmlpIdeal.Value
end
-- ==== Proof.Gmlp.Claims.lean ====
module

public import proofs.«01_k».proof.Proof.Gmlp.Kernel
public import proofs.«01_k».proof.Proof.Rows.Ref
public import proofs.«01_k».proof.Proof.Gen.GmlpRefIdeal.Run
public import proofs.«01_k».proof.Defs
public import proofs.«01_k».proof.Proof.Gen.Gmlp.Frame
public import proofs.«01_k».proof.Proof.Gen.GmlpIdeal.Frame
public import proofs.«01_k».proof.Proof.Gen.GmlpRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the gated token mixer's call, and the claims about the call. -/

namespace Cert.GmlpRefIdeal.Value
open Cert.GmlpRefIdeal Cert.GmlpRefIdeal.Gen

/-- The first product. -/
def prod (h : FVec Ideal S8x2048x1024 .f32) (w : FVec Ideal S1x1024x4096 .bf16) : FVec Ideal S8x2048x4096 .f32 :=
  Host.dotGeneral dot_S8x2048x1024_S1024x4096_S8x2048x4096_2_0_01_1_n_n none h (extf .f32 (shapeCast S1024x4096 w shapeCasts_S1x1024x4096_S1024x4096) bitsLt_bf16_f32)
/-- The gelu of every entry. -/
def gel (d : FVec Ideal S8x2048x4096 .f32) : FVec Ideal S8x2048x4096 .f32 :=
  mulf (mulf (broadcastInDim S8x2048x4096 ![] bcast_S_S8x2048x4096 (constant S_ .f32 0x3F000000#32)) d)
    (Host.erfc (mulf (Host.negf d) (broadcastInDim S8x2048x4096 ![] bcast_S_S8x2048x4096 (constant S_ .f32 0x3F3504F3#32))))
/-- The gating half. -/
def right (z : FVec Ideal S8x2048x4096 .f32) : FVec Ideal S8x2048x2048 .f32 := extractStridedSlice S8x2048x2048 ![0, 0, 2048] z slices_S8x2048x4096_S8x2048x2048_0_0_2048
/-- Each gating row's reciprocal root mean square. -/
def invs2 (z : FVec Ideal S8x2048x2048 .f32) : FVec Ideal S8x2048x1 .f32 :=
  Host.rsqrt (addf (Host.divf (broadcastInDim S8x2048x1 ![0, 1] bcast_S8x2048_S8x2048x1_0_1 (Host.reduceAdd (mulf z z) (constant S_ .f32 0x00000000#32) reducesTo_S8x2048x2048_S8x2048_d2 h_S_))
    (broadcastInDim S8x2048x1 ![] bcast_S_S8x2048x1 (constant S_ .f32 0x45000000#32))) (broadcastInDim S8x2048x1 ![] bcast_S_S8x2048x1 (constant S_ .f32 0x358637BD#32)))
/-- The gating rows normalised. -/
def gates (z : FVec Ideal S8x2048x2048 .f32) (r : FVec Ideal S8x2048x1 .f32) (g : FVec Ideal S1x2048 .f32) : FVec Ideal S8x2048x2048 .f32 :=
  mulf (mulf z (broadcastInDim S8x2048x2048 ![0, 1, 2] bcast_S8x2048x1_S8x2048x2048_0_1_2 r))
    (broadcastInDim S8x2048x2048 ![0, 1, 2] bcast_S1x1x2048_S8x2048x2048_0_1_2 (broadcastInDim S1x1x2048 ![2] bcast_S2048_S1x1x2048_2 (shapeCast S2048 g shapeCasts_S1x2048_S2048)))
/-- The gating rows mixed over the positions of each chunk. -/
def mix (v : FVec Ideal S8x2048x2048 .f32) (w : FVec Ideal S1x8x128x128 .bf16) : FVec Ideal S8x8x16x256x128 .f32 :=
  Host.dotGeneral dot_S8x16x128x8x256_S8x128x128_S8x8x16x256x128_2_2_014_1_3_0 none (shapeCast S8x16x128x8x256 v shapeCasts_S8x2048x2048_S8x16x128x8x256)
    (extf .f32 (shapeCast S8x128x128 w shapeCasts_S1x8x128x128_S8x128x128) bitsLt_bf16_f32)
/-- The biases, spread over sequences, chunks and columns. -/
def bias (s : FVec Ideal S8x128x1 .f32) : FVec Ideal S8x16x128x8x256 .f32 :=
  broadcastInDim S8x16x128x8x256 ![0, 1, 2, 3, 4] bcast_S1x1x128x8x1_S8x16x128x8x256_0_1_2_3_4 (broadcastInDim S1x1x128x8x1 ![2, 3, 4] bcast_S128x8x1_S1x1x128x8x1_2_3_4
    (broadcastInDim S128x8x1 ![0, 1] bcast_S128x8_S128x8x1_0_1 (transpose S128x8 [1, 0] (shapeCast S8x128 s shapeCasts_S8x128x1_S8x128) transposes_S8x128_S128x8_1_0)))
/-- The mixed gating rows with their biases. -/
def biased (t : FVec Ideal S8x8x16x256x128 .f32) (s : FVec Ideal S8x16x128x8x256 .f32) : FVec Ideal S8x2048x2048 .f32 :=
  shapeCast S8x2048x2048 (addf (transpose S8x16x128x8x256 [1, 2, 4, 0, 3] t transposes_S8x8x16x256x128_S8x16x128x8x256_1_2_4_0_3) s) shapeCasts_S8x16x128x8x256_S8x2048x2048
/-- The last product, gated and added. -/
def closing (x : FVec Ideal S8x2048x1024 .f32) (g : FVec Ideal S8x1x1024 .f32) (z : FVec Ideal S8x2048x4096 .f32) (s : FVec Ideal S8x2048x2048 .f32) (w : FVec Ideal S1x2048x1024 .bf16) : FVec Ideal S8x2048x1024 .f32 :=
  addf x (mulf (broadcastInDim S8x2048x1024 ![0, 1, 2] bcast_S8x1x1024_S8x2048x1024_0_1_2 g)
    (Host.dotGeneral dot_S8x2048x2048_S2048x1024_S8x2048x1024_2_0_01_1_n_n none (mulf (extractStridedSlice S8x2048x2048 ![0, 0, 0] z slices_S8x2048x4096_S8x2048x2048_0_0_0) s)
      (extf .f32 (shapeCast S2048x1024 w shapeCasts_S1x2048x1024_S2048x1024) bitsLt_bf16_f32)))

/-- The first product read at an index. -/
theorem prod_at (h w) (b : Fin 8) (n : Fin 2048) (j : Fin 4096) : prod h w (ix3 b n j) = Rows.dot (fun d => h (ix3 b n d)) (fun d j => w (ix3 0 d j)) j := by
  pointwise [prod, Rows.dot]
/-- The gelu read at an index. -/
theorem gel_at (d) (b : Fin 8) (n : Fin 2048) (j : Fin 4096) : gel d (ix3 b n j) = Gmlp.gelu (d (ix3 b n j)) := by
  have e : gel d (ix3 b n j) = Ideal.ofBits .f32 0x3F000000#32 * d (ix3 b n j) * Ideal.erfc (-d (ix3 b n j) * Ideal.ofBits .f32 0x3F3504F3#32) := by
    pointwise [gel]
  rw [e, neg_mul, Ideal.erfc_neg]
  rfl
/-- The gating half read at an index. -/
theorem right_at (z) (b : Fin 8) (n : Fin 2048) (j : Fin 2048) : right z (ix3 b n j) = z (ix3 b n ⟨2048 + j.val, by omega⟩) := by
  pointwise [right]
/-- The gating rows' reciprocal root mean squares read at an index. -/
theorem invs2_at (z) (b : Fin 8) (n : Fin 2048) : invs2 z (ix3 b n 0) = Rows.inv 0x45000000#32 fun k => z (ix3 b n k) := by
  pointwise [invs2, Rows.inv]
/-- The gating rows read at an index. -/
theorem gates_at (z r g) (b : Fin 8) (n : Fin 2048) (j : Fin 2048) : gates z r g (ix3 b n j) = z (ix3 b n j) * r (ix3 b n 0) * g (ix2 0 j) := by
  pointwise [gates]
/-- The mixed rows read at an index. -/
theorem mix_at (v w) (g b : Fin 8) (n : Fin 16) (c : Fin 256) (p : Fin 128) : mix v w (ix5 g b n c p)
    = ∑ q : Fin 128, v (ix3 b ⟨n.val * 128 + q.val, by omega⟩ ⟨g.val * 256 + c.val, by omega⟩) * w (ix4 0 g p q) := by
  pointwise [mix]
/-- The biases read at an index. -/
theorem bias_at (s) (b : Fin 8) (n : Fin 16) (p : Fin 128) (g : Fin 8) (c : Fin 256) : bias s (ix5 b n p g c) = s (ix3 g p 0) := by
  pointwise [bias]
/-- The mixed rows with their biases read at an index. -/
theorem biased_at (t s) (b : Fin 8) (n : Fin 2048) (j : Fin 2048) : biased t s (ix3 b n j)
    = t (ix5 ⟨j.val / 256, by omega⟩ b ⟨n.val / 128, by omega⟩ ⟨j.val % 256, by omega⟩ ⟨n.val % 128, by omega⟩) + s (ix5 b ⟨n.val / 128, by omega⟩ ⟨n.val % 128, by omega⟩ ⟨j.val / 256, by omega⟩ ⟨j.val % 256, by omega⟩) := by
  pointwise [biased]
/-- The last product read at an index. -/
theorem closing_at (x g z s w) (b : Fin 8) (n : Fin 2048) (j : Fin 1024) : closing x g z s w (ix3 b n j)
    = Rows.gated (fun j => x (ix3 b n j)) (fun j => g (ix3 b 0 j)) (Rows.dot (fun d => z (ix3 b n ⟨d.val, by omega⟩) * s (ix3 b n d)) fun d j => w (ix3 0 d j)) j := by
  pointwise [closing, Rows.gated, Rows.dot]

/-- The tokens' modulated rows. -/
def hid (x : FVec Ideal S8x2048x1024 .f32) (w : FVec Ideal S2x16x1x6144 .f32) (g : FVec Ideal S1x1024 .f32) : FVec Ideal S8x2048x1024 .f32 :=
  Rows.Ref.modn (Rows.Ref.normed x (Rows.Ref.invs x) g) (Rows.Ref.part 0 1024 slices_S2x16x1x6144_S1x8x1x6144_0_1_0_0 slices_S8x1x6144_S8x1x1024_0_0_1024 w)
    (Rows.Ref.part 0 0 slices_S2x16x1x6144_S1x8x1x6144_0_1_0_0 slices_S8x1x6144_S8x1x1024_0_0_0 w)
/-- The modulated rows read at an index. -/
theorem hid_at (x w g) (b : Fin 8) (n : Fin 2048) (j : Fin 1024) : hid x w g (ix3 b n j)
    = Rows.modulated 0x44800000#32 (fun k => x (ix3 b n k)) (fun k => g (ix2 0 k)) (fun k => w (ix4 0 ⟨1 + b.val, by omega⟩ 0 ⟨0 + k.val, by omega⟩)) (fun k => w (ix4 0 ⟨1 + b.val, by omega⟩ 0 ⟨1024 + k.val, by omega⟩)) j := by
  unfold hid
  rw [Rows.Ref.modn_at, Rows.Ref.normed_at, Rows.Ref.invs_at, Rows.Ref.part_at 0 _ _ _ _ (by omega) (by omega), Rows.Ref.part_at 0 _ _ _ _ (by omega) (by omega), Rows.one_eq]
  rfl
/-- The gelu of the first product. -/
def zs (x : FVec Ideal S8x2048x1024 .f32) (w : FVec Ideal S2x16x1x6144 .f32) (g : FVec Ideal S1x1024 .f32) (wi : FVec Ideal S1x1024x4096 .bf16) : FVec Ideal S8x2048x4096 .f32 := gel (prod (hid x w g) wi)
/-- The mixer over the sequences. -/
def mixer (x : FVec Ideal S8x2048x1024 .f32) (w : FVec Ideal S2x16x1x6144 .f32) (z : FVec Ideal S8x2048x4096 .f32) (gv : FVec Ideal S1x2048 .f32) (ws : FVec Ideal S1x8x128x128 .bf16) (bs : FVec Ideal S8x128x1 .f32)
    (wo : FVec Ideal S1x2048x1024 .bf16) : FVec Ideal S8x2048x1024 .f32 :=
  closing x (Rows.Ref.part 0 2048 slices_S2x16x1x6144_S1x8x1x6144_0_1_0_0 slices_S8x1x6144_S8x1x1024_0_0_2048 w) z (biased (mix (gates (right z) (invs2 (right z)) gv) ws) (bias bs)) wo
/-- The reference's result over its arguments. -/
def host (x : FVec Ideal S16384x1024 .f32) (w : FVec Ideal S2x16x1x6144 .f32) (g : FVec Ideal S1x1024 .f32) (wi : FVec Ideal S1x1024x4096 .bf16) (gv : FVec Ideal S1x2048 .f32) (ws : FVec Ideal S1x8x128x128 .bf16)
    (bs : FVec Ideal S8x128x1 .f32) (wo : FVec Ideal S1x2048x1024 .bf16) : FVec Ideal S16384x1024 .f32 :=
  Rows.Ref.flat (mixer (Rows.Ref.seqs x) w (zs (Rows.Ref.seqs x) w g wi) gv ws bs wo)

/-- The reference's result array over its arguments. -/
theorem ref_eq (m : (ℓ : Loc nD τ sig) → Buf (Elt Ideal) ℓ) (c : Dev nD) : res_out0 m c = host (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.GmlpRefIdeal.Value

namespace Gmlp

open Cert.GmlpRefIdeal.Value in
/-- The reference's row of token `n` is the kernel's. -/
theorem host_at (x w g wi gv ws bs wo) (n : Fin 16384) (j : Fin 1024) : host x w g wi gv ws bs wo (ix2 n j) = out x w g wi gv ws bs wo n j := by
  unfold host out Gmlp.mixer
  refine (Rows.Ref.flat_at _ n j).trans ?_
  unfold Cert.GmlpRefIdeal.Value.mixer
  rw [closing_at]
  have hm : mate n rfl (⟨n.val % 128, by omega⟩ : Fin 128) = n := Fin.ext (by show 128 * (n.val / 128) + n.val % 128 = n.val; omega)
  have hb : ∀ q : Fin 128, (⟨n.val / 2048 * 2048 + (n.val % 2048 / 128 * 128 + q.val), by omega⟩ : Fin 16384) = mate n rfl q := fun q => Fin.ext (by show _ = 128 * (n.val / 128) + q.val; dsimp only; omega)
  have h0 : (⟨n.val / 2048 * 2048 + n.val % 2048, by omega⟩ : Fin 16384) = n := Fin.ext (by show _ = n.val; dsimp only; omega)
  have hp : (⟨n.val % 2048 % 128, by omega⟩ : Fin 128) = ⟨n.val % 128, by omega⟩ := Fin.ext (by show n.val % 2048 % 128 = n.val % 128; omega)
  have hj : ∀ d : Fin 2048, (⟨d.val / 256 * 256 + d.val % 256, by omega⟩ : Fin 2048) = d := fun d => Fin.ext (by show d.val / 256 * 256 + d.val % 256 = d.val; omega)
  have ez : ∀ (l : Fin 2048) (k : Fin 4096), zs (Rows.Ref.seqs x) w g wi (ix3 ⟨n.val / 2048, by omega⟩ l k)
      = up (Rows.modulated 0x44800000#32 (fun k => x (ix2 ⟨n.val / 2048 * 2048 + l.val, by omega⟩ k)) (fun k => g (ix2 0 k)) (fun k => w (ix4 0 ⟨1 + n.val / 2048, by omega⟩ 0 ⟨0 + k.val, by omega⟩))
          (fun k => w (ix4 0 ⟨1 + n.val / 2048, by omega⟩ 0 ⟨1024 + k.val, by omega⟩))) (fun d j => wi (ix3 0 d j)) k := by
    intro l k
    unfold zs
    rw [gel_at, prod_at]
    simp only [hid_at, Rows.Ref.seqs_at]
    rfl
  have eg : ∀ (q : Fin 128) (d : Fin 2048), gates (right (zs (Rows.Ref.seqs x) w g wi)) (invs2 (right (zs (Rows.Ref.seqs x) w g wi))) gv (ix3 ⟨n.val / 2048, by omega⟩ ⟨n.val % 2048 / 128 * 128 + q.val, by omega⟩ d)
      = gate (Rows.modulated 0x44800000#32 (fun k => x (ix2 (mate n rfl q) k)) (fun k => g (ix2 0 k)) (fun k => w (ix4 0 ⟨1 + n.val / 2048, by omega⟩ 0 ⟨0 + k.val, by omega⟩))
          (fun k => w (ix4 0 ⟨1 + n.val / 2048, by omega⟩ 0 ⟨1024 + k.val, by omega⟩))) (fun d j => wi (ix3 0 d ⟨2048 + j.val, by omega⟩)) (fun k => gv (ix2 0 k)) d := by
    intro q d
    rw [gates_at, invs2_at]
    simp only [right_at, ez, hb]
    rfl
  beta_reduce
  rw [hm]
  simp only [biased_at, mix_at, bias_at, ez, h0, hp, hj, eg, Rows.Ref.seqs_at, Rows.Ref.part_at 0 _ _ _ _ (show 0 < 2 by omega) (show 2048 + 1024 ≤ 6144 by omega)]
  unfold mixed
  simp only [mul_comm (gate _ _ _ _)]
  rfl

/-- From equal arguments the kernel's and the reference's results are equal. -/
theorem agree (m : (ℓ : Loc Cert.GmlpIdeal.nD Cert.GmlpIdeal.τ Cert.GmlpIdeal.sig) → Buf (Elt Ideal) ℓ) (m' : (ℓ : Loc Cert.GmlpRefIdeal.nD Cert.GmlpRefIdeal.τ Cert.GmlpRefIdeal.sig) → Buf (Elt Ideal) ℓ) (c : Dev Cert.GmlpIdeal.nD)
    (h0 : m ((c.tc : Thread Cert.GmlpIdeal.nD Cert.GmlpIdeal.τ).loc Cert.GmlpIdeal.main_arg0) = m' ((c.tc : Thread Cert.GmlpRefIdeal.nD Cert.GmlpRefIdeal.τ).loc Cert.GmlpRefIdeal.main_arg0))
    (h1 : m ((c.tc : Thread Cert.GmlpIdeal.nD Cert.GmlpIdeal.τ).loc Cert.GmlpIdeal.main_arg1) = m' ((c.tc : Thread Cert.GmlpRefIdeal.nD Cert.GmlpRefIdeal.τ).loc Cert.GmlpRefIdeal.main_arg1))
    (h2 : m ((c.tc : Thread Cert.GmlpIdeal.nD Cert.GmlpIdeal.τ).loc Cert.GmlpIdeal.main_arg2) = m' ((c.tc : Thread Cert.GmlpRefIdeal.nD Cert.GmlpRefIdeal.τ).loc Cert.GmlpRefIdeal.main_arg2))
    (h3 : m ((c.tc : Thread Cert.GmlpIdeal.nD Cert.GmlpIdeal.τ).loc Cert.GmlpIdeal.main_arg3) = m' ((c.tc : Thread Cert.GmlpRefIdeal.nD Cert.GmlpRefIdeal.τ).loc Cert.GmlpRefIdeal.main_arg3))
    (h4 : m ((c.tc : Thread Cert.GmlpIdeal.nD Cert.GmlpIdeal.τ).loc Cert.GmlpIdeal.main_arg4) = m' ((c.tc : Thread Cert.GmlpRefIdeal.nD Cert.GmlpRefIdeal.τ).loc Cert.GmlpRefIdeal.main_arg4))
    (h5 : m ((c.tc : Thread Cert.GmlpIdeal.nD Cert.GmlpIdeal.τ).loc Cert.GmlpIdeal.main_arg5) = m' ((c.tc : Thread Cert.GmlpRefIdeal.nD Cert.GmlpRefIdeal.τ).loc Cert.GmlpRefIdeal.main_arg5))
    (h6 : m ((c.tc : Thread Cert.GmlpIdeal.nD Cert.GmlpIdeal.τ).loc Cert.GmlpIdeal.main_arg6) = m' ((c.tc : Thread Cert.GmlpRefIdeal.nD Cert.GmlpRefIdeal.τ).loc Cert.GmlpRefIdeal.main_arg6))
    (h7 : m ((c.tc : Thread Cert.GmlpIdeal.nD Cert.GmlpIdeal.τ).loc Cert.GmlpIdeal.main_arg7) = m' ((c.tc : Thread Cert.GmlpRefIdeal.nD Cert.GmlpRefIdeal.τ).loc Cert.GmlpRefIdeal.main_arg7)) :
    Cert.GmlpIdeal.Value.res m c = Cert.GmlpRefIdeal.Value.res_out0 m' c := by
  rw [Cert.GmlpRefIdeal.Value.ref_eq, ← h0, ← h1, ← h2, ← h3, ← h4, ← h5, ← h6, ← h7]
  funext y
  obtain ⟨j, i, rfl⟩ : ∃ (j : Fin 16384) (i : Fin 1024), y = ix2 j i := ⟨y 0, y 1, by funext a; fin_cases a <;> rfl⟩
  exact (host_at _ _ _ _ _ _ _ _ j i).symm

/-- The printed kernel runs, keeps its arguments and ends quiescent. -/
theorem frame : Cert.quiescent_Gmlp := fun m ρ _ => Cert.Gmlp.Gen.frame m ρ
/-- The kernel over the extended reals runs, keeps its arguments and ends quiescent. -/
theorem frame_ideal : Cert.quiescent_GmlpIdeal := fun m ρ _ => Cert.GmlpIdeal.Gen.frame m ρ
/-- The reference runs, keeps its arguments and ends quiescent. -/
theorem frame_ref : Cert.quiescent_GmlpRefIdeal := fun m g _ =>
  (θ_run _ _ _).mono (fun r h => ⟨fun c => (h c).2, sem_eq_zero_of_no_sems (by decide) r.2⟩) (Cert.GmlpRefIdeal.Value.run m g)
/-- The kernel's result is the reference's. -/
theorem algebraic : Cert.algebraic_GmlpIdeal_GmlpRefIdeal := by
  pair_intro
  · run_from Cert.GmlpIdeal.Value.run_blocks m g
  · run_from Cert.GmlpRefIdeal.Value.run m' g'
    refine ((Cert.GmlpIdeal.Value.final m c).trans ?_).symm
    exact agree m m' c (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.symm

end Gmlp
end
-- ==== Proof.LastP.Kernel.lean ====
module

public import proofs.«01_k».proof.Proof.Last.Kernel
public import proofs.«01_k».proof.Proof.Gen.LastPIdeal.Value

@[expose] public section

set_option maxRecDepth 8192

noncomputable section

open Idealize.ShloMosaic Idealize.ShloMosaic.TcCoe Idealize.SL.Sem
open Idealize.ShloMosaic.Pipeline (Dat)

/-! What the last call of the prompt's stream leaves in its result. -/

namespace LastP

/-- The result's row of token `n`: over the arrays of the call. -/
def out (X : FVec Ideal ⟨2, ![8192, 1024]⟩ .f32) (M : FVec Ideal ⟨4, ![2, 16, 1, 6144]⟩ .f32) (A : FVec Ideal ⟨2, ![8192, 1024]⟩ .bf16) (WA : FVec Ideal ⟨3, ![1, 1024, 1024]⟩ .bf16)
    (N : FVec Ideal ⟨2, ![1, 1024]⟩ .f32) (WI : FVec Ideal ⟨3, ![2, 1024, 5632]⟩ .bf16) (WO : FVec Ideal ⟨3, ![2, 2816, 1024]⟩ .bf16) (G : FVec Ideal ⟨2, ![1, 1024]⟩ .f32) (n : Fin 8192) : Fin 1024 → EReal :=
  Rows.rms 0x44800000#32 (Rows.ffn (Rows.gated (fun k => X (ix2 n k)) (fun k => M (ix4 1 0 0 ⟨2048 + k.val, by omega⟩)) (Rows.dot (fun d => A (ix2 n d)) fun d j => WA (ix3 0 d j)))
    (fun k => N (ix2 0 k)) (fun k => M (ix4 1 0 0 ⟨3072 + k.val, by omega⟩)) (fun k => M (ix4 1 0 0 ⟨4096 + k.val, by omega⟩))
    (fun k => M (ix4 1 0 0 ⟨5120 + k.val, by omega⟩)) (fun d j => WI (ix3 1 d j)) (fun d j => WO (ix3 1 d j))) (fun k => G (ix2 0 k))

end LastP

namespace Cert.LastPIdeal.Value
open Cert.LastPIdeal Cert.LastPIdeal.Gen

/-- A tile's stores are those of the sampling stream's call. -/
theorem out_at (x0 : FVec Ideal S512x1024 .f32) (x1 : FVec Ideal S1x1x1x6144 .f32) (x2 : FVec Ideal S512x1024 .bf16) (x3 : FVec Ideal S1x1024x1024 .bf16) (x4 : FVec Ideal S1x1024 .f32)
    (x5 : FVec Ideal S1x1024x5632 .bf16) (x6 : FVec Ideal S1x2816x1024 .bf16) (x7 : FVec Ideal S1x1024 .f32) (y : S512x1024.Idx) :
    out0_8 (F := Ideal) x0 x1 x2 x3 x4 x5 x6 x7 y = Cert.LastIdeal.Value.blockRow x0 x1 x2 x3 x4 x5 x6 x7 (y 0) (y 1) :=
  (congrFun (show out0_8 (F := Ideal) x0 x1 x2 x3 x4 x5 x6 x7 = View.canon (Val := Elt Ideal) (s := S512x1024) (e := .f32)
      [⟨Rows.Unit.half 1, Cert.LastIdeal.Value.stored x0 x1 x2 x3 x4 x5 x6 x7 1⟩, ⟨Rows.Unit.half 0, Cert.LastIdeal.Value.stored x0 x1 x2 x3 x4 x5 x6 x7 0⟩] from rfl) y).trans
    (Rows.Unit.halves (u := Cert.LastIdeal.Value.stored x0 x1 x2 x3 x4 x5 x6 x7) (Cert.LastIdeal.Value.stored_at x0 x1 x2 x3 x4 x5 x6 x7) y)

variable (m : (ℓ : Loc nD τ sig) → Buf (Elt Ideal) ℓ)

/-- The windows' blocks at every grid point: a tile of tokens, the first modulation row, the weights whole. -/
theorem idx : ∀ t : Fin cfg0.N, win0_0.index t = ![t.val, 0] ∧ win0_1.index t = ![1, 0, 0, 0] ∧ win0_2.index t = ![t.val, 0]
    ∧ win0_3.index t = ![0, 0, 0] ∧ win0_4.index t = ![0, 0] ∧ win0_5.index t = ![1, 0, 0] ∧ win0_6.index t = ![1, 0, 0] ∧ win0_7.index t = ![0, 0] ∧ win0_8.index t = ![t.val, 0] ∧ t.val < 16 :=
  (by decide +kernel : ∀ t : Fin grid0.N, _)

/-- The kernel's result array over its argument arrays. -/
abbrev res (c : Dev nD) : FVec Ideal S8192x1024 .f32 := fun y => LastP.out (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0) (y 1)

/-- A grid point's rows are the result's rows there. -/
theorem point (c : Dev nD) (t : Fin cfg0.N) (i : Fin 512) (n : Fin 8192) (hn : n.val = t.val * 512 + i.val) :
    Cert.LastIdeal.Value.blockRow (iblk m c 0 t) (iblk m c 1 t) (iblk m c 2 t) (iblk m c 3 t) (iblk m c 4 t) (iblk m c 5 t) (iblk m c 6 t) (iblk m c 7 t) i
      = LastP.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) n := by
  have ht : t.val < 16 := (idx t).2.2.2.2.2.2.2.2.2
  unfold Cert.LastIdeal.Value.blockRow LastP.out
  congr 1
  · congr 1
    · congr 1
      · funext k; blk_ext [iblk, V, idx t]
      · funext k; blk_ext [iblk, V, idx t]
      · congr 1
        · funext k; blk_ext [iblk, V, idx t]
        · funext k j; blk_ext [iblk, V, idx t]
    · funext k; blk_ext [iblk, V, idx t]
    · funext k; blk_ext [iblk, V, idx t]
    · funext k; blk_ext [iblk, V, idx t]
    · funext k; blk_ext [iblk, V, idx t]
    · funext k j; blk_ext [iblk, V, idx t]
    · funext k j; blk_ext [iblk, V, idx t]
  · funext k; blk_ext [iblk, V, idx t]

/-- The result array after the run. -/
theorem final (c : Dev nD) : (dats m 0 c).arrAt 8 (cfgs 0).N = res m c := by
  refine (dats m 0 c).arrAt_eq_of_covers 8 _ (by decide +kernel) fun t _ y => ?_
  blk_simp
  rw [after0_8]
  rw [out_at]
  refine (congrFun (point m c t (y 0) _ ?_) (y 1)).trans (congrArg _ (Fin.ext ?_))
  · blk_simp [idx t]
  · blk_simp [idx t]
end Cert.LastPIdeal.Value
end
-- ==== Proof.Rows.RefP.lean ====
module

public import proofs.«01_k».proof.Proof.Gen.LastPRefIdeal.Run
public import Idealize.ShloMosaic.Lib.Pipeline.ValueKit
public import proofs.«01_k».proof.Proof.Rows.Spec

@[expose] public section

set_option maxRecDepth 8192

noncomputable section

open Idealize.ShloMosaic Idealize.ShloMosaic.TcCoe Idealize.SL.Sem

/-! The steps of the references, over the prompt's sequences, and what each makes of a token's row. -/

namespace Rows.RefP
open Cert.LastPRefIdeal Cert.LastPRefIdeal.Gen

/-- The tokens by sequence. -/
def seqs (x : FVec Ideal S8192x1024 .f32) : FVec Ideal S32x256x1024 .f32 := shapeCast S32x256x1024 x shapeCasts_S8192x1024_S32x256x1024
/-- All tokens in one list. -/
def flat (x : FVec Ideal S32x256x1024 .f32) : FVec Ideal S8192x1024 .f32 := shapeCast S8192x1024 x shapeCasts_S32x256x1024_S8192x1024
/-- One of the six parts of the prompt's modulation row of a layer. -/
def part (l o : ℕ) (h : S2x16x1x6144.Slices ![l, 0, 0, 0] S1x1x1x6144) (h' : S1x6144.Slices ![0, o] S1x1024) (w : FVec Ideal S2x16x1x6144 .f32) : FVec Ideal S1x1024 .f32 :=
  extractStridedSlice S1x1024 ![0, o] (shapeCast S1x6144 (extractStridedSlice S1x1x1x6144 ![l, 0, 0, 0] w h) shapeCasts_S1x1x1x6144_S1x6144) h'
/-- A row for every token. -/
def spread (g : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 g)
/-- A row times a matrix, gated and added. -/
def attnRes (x : FVec Ideal S32x256x1024 .f32) (g : FVec Ideal S1x1024 .f32) (a : FVec Ideal S8192x1024 .bf16) (w : FVec Ideal S1x1024x1024 .bf16) : FVec Ideal S32x256x1024 .f32 :=
  addf x (mulf (spread g)
    (Host.dotGeneral dot_S32x256x1024_S1024x1024_S32x256x1024_2_0_01_1_n_n none (shapeCast S32x256x1024 (extf .f32 a bitsLt_bf16_f32) shapeCasts_S8192x1024_S32x256x1024)
      (extf .f32 (shapeCast S1024x1024 w shapeCasts_S1x1024x1024_S1024x1024) bitsLt_bf16_f32)))
/-- Each token's reciprocal root mean square. -/
def invs (x : FVec Ideal S32x256x1024 .f32) : FVec Ideal S32x256x1 .f32 :=
  Host.rsqrt (addf (Host.divf (broadcastInDim S32x256x1 ![0, 1] bcast_S32x256_S32x256x1_0_1 (Host.reduceAdd (mulf x x) (constant S_ .f32 0x00000000#32) reducesTo_S32x256x1024_S32x256_d2 h_S_))
    (broadcastInDim S32x256x1 ![] bcast_S_S32x256x1 (constant S_ .f32 0x44800000#32))) (broadcastInDim S32x256x1 ![] bcast_S_S32x256x1 (constant S_ .f32 0x358637BD#32)))
/-- The rows normalised. -/
def normed (x : FVec Ideal S32x256x1024 .f32) (r : FVec Ideal S32x256x1 .f32) (g : FVec Ideal S1x1024 .f32) : FVec Ideal S32x256x1024 .f32 :=
  mulf (mulf x (broadcastInDim S32x256x1024 ![0, 1, 2] bcast_S32x256x1_S32x256x1024_0_1_2 r))
    (broadcastInDim S32x256x1024 ![0, 1, 2] bcast_S1x1x1024_S32x256x1024_0_1_2 (broadcastInDim S1x1x1024 ![2] bcast_S1024_S1x1x1024_2 (shapeCast S1024 g shapeCasts_S1x1024_S1024)))
/-- The normalised rows scaled and shifted. -/
def modn (x : FVec Ideal S32x256x1024 .f32) (sc sh : FVec Ideal S1x1024 .f32) : FVec Ideal S32x256x1024 .f32 :=
  addf (mulf x (spread (addf (broadcastInDim S1x1024 ![] bcast_S_S1x1024 (constant S_ .f32 0x3F800000#32)) sc)))
    (spread sh)
/-- The first product of the feed-forward part, with a layer's weights. -/
def first (l : ℕ) (hl : S2x1024x5632.Slices ![l, 0, 0] S1x1024x5632) (h : FVec Ideal S32x256x1024 .f32) (w : FVec Ideal S2x1024x5632 .bf16) : FVec Ideal S32x256x5632 .f32 :=
  Host.dotGeneral dot_S32x256x1024_S1024x5632_S32x256x5632_2_0_01_1_n_n none h
    (extf .f32 (shapeCast S1024x5632 (extractStridedSlice S1x1024x5632 ![l, 0, 0] w hl) shapeCasts_S1x1024x5632_S1024x5632) bitsLt_bf16_f32)
/-- The gated values. -/
def acts (z : FVec Ideal S32x256x5632 .f32) : FVec Ideal S32x256x2816 .f32 :=
  mulf (mulf (extractStridedSlice S32x256x2816 ![0, 0, 0] z slices_S32x256x5632_S32x256x2816_0_0_0)
      (Host.divf (broadcastInDim S32x256x2816 ![] bcast_S_S32x256x2816 (constant S_ .f32 0x3F800000#32))
        (addf (broadcastInDim S32x256x2816 ![] bcast_S_S32x256x2816 (constant S_ .f32 0x3F800000#32)) (Host.exp (Host.negf (extractStridedSlice S32x256x2816 ![0, 0, 0] z slices_S32x256x5632_S32x256x2816_0_0_0))))))
    (extractStridedSlice S32x256x2816 ![0, 0, 2816] z slices_S32x256x5632_S32x256x2816_0_0_2816)
/-- The second product, gated and added. -/
def second (l : ℕ) (hl : S2x2816x1024.Slices ![l, 0, 0] S1x2816x1024) (x : FVec Ideal S32x256x1024 .f32) (g : FVec Ideal S1x1024 .f32) (a : FVec Ideal S32x256x2816 .f32) (w : FVec Ideal S2x2816x1024 .bf16) : FVec Ideal S32x256x1024 .f32 :=
  addf x (mulf (spread g)
    (Host.dotGeneral dot_S32x256x2816_S2816x1024_S32x256x1024_2_0_01_1_n_n none a
      (extf .f32 (shapeCast S2816x1024 (extractStridedSlice S1x2816x1024 ![l, 0, 0] w hl) shapeCasts_S1x2816x1024_S2816x1024) bitsLt_bf16_f32)))

/-- The tokens by sequence, read at an index. -/
theorem seqs_at (x) (b : Fin 32) (n : Fin 256) (j : Fin 1024) : seqs x (ix3 b n j) = x (ix2 ⟨b.val * 256 + n.val, by omega⟩ j) := by
  pointwise [seqs]
/-- The list of tokens read at an index. -/
theorem flat_at (x) (n : Fin 8192) (j : Fin 1024) : flat x (ix2 n j) = x (ix3 ⟨n.val / 256, by omega⟩ ⟨n.val % 256, by omega⟩ j) := by
  pointwise [flat]
/-- A part of the modulation rows read at an index. -/
theorem part_at (l o : ℕ) (h h' w) (hl : l < 2) (ho : o + 1024 ≤ 6144) (j : Fin 1024) : part l o h h' w (ix2 0 j) = w (ix4 ⟨l, hl⟩ 0 0 ⟨o + j.val, by omega⟩) := by
  pointwise [part]
/-- The gated product read at an index. -/
theorem attnRes_at (x g a w) (b : Fin 32) (n : Fin 256) (j : Fin 1024) : attnRes x g a w (ix3 b n j)
    = gated (fun j => x (ix3 b n j)) (fun j => g (ix2 0 j)) (dot (fun d => a (ix2 ⟨b.val * 256 + n.val, by omega⟩ d)) fun d j => w (ix3 0 d j)) j := by
  pointwise [attnRes, spread, gated, dot]
/-- The reciprocal root mean squares read at an index. -/
theorem invs_at (x) (b : Fin 32) (n : Fin 256) : invs x (ix3 b n 0) = inv 0x44800000#32 fun k => x (ix3 b n k) := by
  pointwise [invs, inv]
/-- The normalised rows read at an index. -/
theorem normed_at (x r g) (b : Fin 32) (n : Fin 256) (j : Fin 1024) : normed x r g (ix3 b n j) = x (ix3 b n j) * r (ix3 b n 0) * g (ix2 0 j) := by
  pointwise [normed]
/-- The modulated rows read at an index. -/
theorem modn_at (x sc sh) (b : Fin 32) (n : Fin 256) (j : Fin 1024) : modn x sc sh (ix3 b n j) = x (ix3 b n j) * (one + sc (ix2 0 j)) + sh (ix2 0 j) := by
  pointwise [modn, spread]
/-- The first product read at an index. -/
theorem first_at (l : ℕ) (hl h w) (h2 : l < 2) (b : Fin 32) (n : Fin 256) (j : Fin 5632) : first l hl h w (ix3 b n j) = dot (fun d => h (ix3 b n d)) (fun d j => w (ix3 ⟨l, h2⟩ d j)) j := by
  pointwise [first, dot]
/-- The gated values read at an index. -/
theorem acts_at (z) (b : Fin 32) (n : Fin 256) (j : Fin 2816) : acts z (ix3 b n j) = act (fun j => z (ix3 b n j)) j := by
  have e : acts z (ix3 b n j) = z (ix3 b n ⟨j.val, by omega⟩) * Ideal.div one (one + Ideal.exp (-z (ix3 b n ⟨j.val, by omega⟩))) * z (ix3 b n ⟨2816 + j.val, by omega⟩) := by
    pointwise [acts]
  rw [e, one_eq]
  rfl
/-- The second product read at an index. -/
theorem second_at (l : ℕ) (hl x g a w) (h2 : l < 2) (b : Fin 32) (n : Fin 256) (j : Fin 1024) : second l hl x g a w (ix3 b n j)
    = gated (fun j => x (ix3 b n j)) (fun j => g (ix2 0 j)) (dot (fun d => a (ix3 b n d)) fun d j => w (ix3 ⟨l, h2⟩ d j)) j := by
  pointwise [second, spread, gated, dot]

/-- The feed-forward part of every token, with a layer's weights. -/
def ffnR (l : ℕ) (hm : S2x16x1x6144.Slices ![l, 0, 0, 0] S1x1x1x6144) (h1 : S2x1024x5632.Slices ![l, 0, 0] S1x1024x5632) (h2 : S2x2816x1024.Slices ![l, 0, 0] S1x2816x1024)
    (x : FVec Ideal S32x256x1024 .f32) (w : FVec Ideal S2x16x1x6144 .f32) (g : FVec Ideal S1x1024 .f32) (wi : FVec Ideal S2x1024x5632 .bf16) (wo : FVec Ideal S2x2816x1024 .bf16) : FVec Ideal S32x256x1024 .f32 :=
  second l h2 x (part l 5120 hm slices_S1x6144_S1x1024_0_5120 w)
    (acts (first l h1 (modn (normed x (invs x) g) (part l 4096 hm slices_S1x6144_S1x1024_0_4096 w) (part l 3072 hm slices_S1x6144_S1x1024_0_3072 w)) wi)) wo

/-- Every token's row of the feed-forward part. -/
theorem ffnR_at (l : ℕ) (hm h1 h2 x w g wi wo) (hl : l < 2) (b : Fin 32) (n : Fin 256) (j : Fin 1024) : ffnR l hm h1 h2 x w g wi wo (ix3 b n j)
    = ffn (fun k => x (ix3 b n k)) (fun k => g (ix2 0 k)) (fun k => w (ix4 ⟨l, hl⟩ 0 0 ⟨3072 + k.val, by omega⟩)) (fun k => w (ix4 ⟨l, hl⟩ 0 0 ⟨4096 + k.val, by omega⟩))
        (fun k => w (ix4 ⟨l, hl⟩ 0 0 ⟨5120 + k.val, by omega⟩)) (fun d j => wi (ix3 ⟨l, hl⟩ d j)) (fun d j => wo (ix3 ⟨l, hl⟩ d j)) j := by
  have e : ∀ d, modn (normed x (invs x) g) (part l 4096 hm slices_S1x6144_S1x1024_0_4096 w) (part l 3072 hm slices_S1x6144_S1x1024_0_3072 w) (ix3 b n d)
      = modulated 0x44800000#32 (fun k => x (ix3 b n k)) (fun k => g (ix2 0 k)) (fun k => w (ix4 ⟨l, hl⟩ 0 0 ⟨3072 + k.val, by omega⟩)) (fun k => w (ix4 ⟨l, hl⟩ 0 0 ⟨4096 + k.val, by omega⟩)) d := by
    intro d
    rw [modn_at, normed_at, invs_at, part_at _ _ _ _ _ hl (by omega), part_at _ _ _ _ _ hl (by omega), one_eq]
    rfl
  unfold ffnR ffn
  rw [second_at _ _ _ _ _ _ hl]
  simp only [acts_at, first_at _ _ _ _ hl, e, part_at _ _ _ _ _ hl (show 5120 + 1024 ≤ 6144 by omega)]

end Rows.RefP
end
-- ==== Proof.LastP.Claims.lean ====
module

public import proofs.«01_k».proof.Proof.LastP.Kernel
public import proofs.«01_k».proof.Proof.Rows.RefP
public import proofs.«01_k».proof.Proof.Gen.LastPRefIdeal.Run
public import proofs.«01_k».proof.Defs
public import proofs.«01_k».proof.Proof.Gen.LastP.Frame
public import proofs.«01_k».proof.Proof.Gen.LastPIdeal.Frame
public import proofs.«01_k».proof.Proof.Gen.LastPRefIdeal
public import Idealize.ShloMosaic.Adequacy
public import Idealize.ShloMosaic.Init

@[expose] public section

set_option maxRecDepth 8192

noncomputable section

open Idealize.ShloMosaic Idealize.ShloMosaic.TcCoe Idealize.SL.Sem

/-! The reference of the last call of the prompt's stream, and the claims about the call. -/

namespace Cert.LastPRefIdeal.Value
open Cert.LastPRefIdeal Cert.LastPRefIdeal.Gen

/-- The closing normalisation. -/
def closing (x : FVec Ideal S32x256x1024 .f32) (g : FVec Ideal S1x1024 .f32) : FVec Ideal S32x256x1024 .f32 := Rows.RefP.normed x (Rows.RefP.invs x) g
/-- The reference's result over its arguments. -/
def host (x : FVec Ideal S8192x1024 .f32) (w : FVec Ideal S2x16x1x6144 .f32) (a : FVec Ideal S8192x1024 .bf16) (wa : FVec Ideal S1x1024x1024 .bf16) (g : FVec Ideal S1x1024 .f32)
    (wi : FVec Ideal S2x1024x5632 .bf16) (wo : FVec Ideal S2x2816x1024 .bf16) (gf : FVec Ideal S1x1024 .f32) : FVec Ideal S8192x1024 .f32 :=
  Rows.RefP.flat (closing (Rows.RefP.ffnR 1 slices_S2x16x1x6144_S1x1x1x6144_1_0_0_0 slices_S2x1024x5632_S1x1024x5632_1_0_0 slices_S2x2816x1024_S1x2816x1024_1_0_0
    (Rows.RefP.attnRes (Rows.RefP.seqs x) (Rows.RefP.part 1 2048 slices_S2x16x1x6144_S1x1x1x6144_1_0_0_0 slices_S1x6144_S1x1024_0_2048 w) a wa) w g wi wo) gf)

/-- The reference's result array over its arguments. -/
theorem ref_eq (m : (ℓ : Loc nD τ sig) → Buf (Elt Ideal) ℓ) (c : Dev nD) : res_out0 m c = host (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

end Cert.LastPRefIdeal.Value

namespace LastP

/-- The reference's row of token `n` is the kernel's. -/
theorem host_at (x w a wa g wi wo gf) (n : Fin 8192) (j : Fin 1024) : Cert.LastPRefIdeal.Value.host x w a wa g wi wo gf (ix2 n j) = out x w a wa g wi wo gf n j := by
  unfold Cert.LastPRefIdeal.Value.host out
  refine (Rows.RefP.flat_at _ n j).trans ?_
  unfold Cert.LastPRefIdeal.Value.closing
  rw [Rows.RefP.normed_at, Rows.RefP.invs_at]
  have hn : (⟨n.val / 256 * 256 + n.val % 256, by omega⟩ : Fin 8192) = n := Fin.ext (show n.val / 256 * 256 + n.val % 256 = n.val by omega)
  have e : ∀ k, Rows.RefP.seqs x (ix3 ⟨n.val / 256, by omega⟩ ⟨n.val % 256, by omega⟩ k) = x (ix2 n k) := fun k =>
    (Rows.RefP.seqs_at x _ _ k).trans (congrArg (fun i => x (ix2 i k)) hn)
  simp only [Rows.RefP.ffnR_at 1 _ _ _ _ _ _ _ _ (show 1 < 2 by omega), Rows.RefP.attnRes_at, Rows.RefP.part_at 1 _ _ _ _ (show 1 < 2 by omega) (show 2048 + 1024 ≤ 6144 by omega), e, hn]
  rfl

/-- From equal arguments the kernel's and the reference's results are equal. -/
theorem agree (m : (ℓ : Loc Cert.LastPIdeal.nD Cert.LastPIdeal.τ Cert.LastPIdeal.sig) → Buf (Elt Ideal) ℓ) (m' : (ℓ : Loc Cert.LastPRefIdeal.nD Cert.LastPRefIdeal.τ Cert.LastPRefIdeal.sig) → Buf (Elt Ideal) ℓ) (c : Dev Cert.LastPIdeal.nD)
    (h0 : m ((c.tc : Thread Cert.LastPIdeal.nD Cert.LastPIdeal.τ).loc Cert.LastPIdeal.main_arg0) = m' ((c.tc : Thread Cert.LastPRefIdeal.nD Cert.LastPRefIdeal.τ).loc Cert.LastPRefIdeal.main_arg0))
    (h1 : m ((c.tc : Thread Cert.LastPIdeal.nD Cert.LastPIdeal.τ).loc Cert.LastPIdeal.main_arg1) = m' ((c.tc : Thread Cert.LastPRefIdeal.nD Cert.LastPRefIdeal.τ).loc Cert.LastPRefIdeal.main_arg1))
    (h2 : m ((c.tc : Thread Cert.LastPIdeal.nD Cert.LastPIdeal.τ).loc Cert.LastPIdeal.main_arg2) = m' ((c.tc : Thread Cert.LastPRefIdeal.nD Cert.LastPRefIdeal.τ).loc Cert.LastPRefIdeal.main_arg2))
    (h3 : m ((c.tc : Thread Cert.LastPIdeal.nD Cert.LastPIdeal.τ).loc Cert.LastPIdeal.main_arg3) = m' ((c.tc : Thread Cert.LastPRefIdeal.nD Cert.LastPRefIdeal.τ).loc Cert.LastPRefIdeal.main_arg3))
    (h4 : m ((c.tc : Thread Cert.LastPIdeal.nD Cert.LastPIdeal.τ).loc Cert.LastPIdeal.main_arg4) = m' ((c.tc : Thread Cert.LastPRefIdeal.nD Cert.LastPRefIdeal.τ).loc Cert.LastPRefIdeal.main_arg4))
    (h5 : m ((c.tc : Thread Cert.LastPIdeal.nD Cert.LastPIdeal.τ).loc Cert.LastPIdeal.main_arg5) = m' ((c.tc : Thread Cert.LastPRefIdeal.nD Cert.LastPRefIdeal.τ).loc Cert.LastPRefIdeal.main_arg5))
    (h6 : m ((c.tc : Thread Cert.LastPIdeal.nD Cert.LastPIdeal.τ).loc Cert.LastPIdeal.main_arg6) = m' ((c.tc : Thread Cert.LastPRefIdeal.nD Cert.LastPRefIdeal.τ).loc Cert.LastPRefIdeal.main_arg6))
    (h7 : m ((c.tc : Thread Cert.LastPIdeal.nD Cert.LastPIdeal.τ).loc Cert.LastPIdeal.main_arg7) = m' ((c.tc : Thread Cert.LastPRefIdeal.nD Cert.LastPRefIdeal.τ).loc Cert.LastPRefIdeal.main_arg7)) :
    Cert.LastPIdeal.Value.res m c = Cert.LastPRefIdeal.Value.res_out0 m' c := by
  rw [Cert.LastPRefIdeal.Value.ref_eq, ← h0, ← h1, ← h2, ← h3, ← h4, ← h5, ← h6, ← h7]
  funext y
  obtain ⟨j, i, rfl⟩ : ∃ (j : Fin 8192) (i : Fin 1024), y = ix2 j i := ⟨y 0, y 1, by funext a; fin_cases a <;> rfl⟩
  exact (host_at _ _ _ _ _ _ _ _ j i).symm

/-- The printed kernel runs, keeps its arguments and ends quiescent. -/
theorem frame : Cert.quiescent_LastP := fun m ρ _ => Cert.LastP.Gen.frame m ρ
/-- The kernel over the extended reals runs, keeps its arguments and ends quiescent. -/
theorem frame_ideal : Cert.quiescent_LastPIdeal := fun m ρ _ => Cert.LastPIdeal.Gen.frame m ρ
/-- The reference runs, keeps its arguments and ends quiescent. -/
theorem frame_ref : Cert.quiescent_LastPRefIdeal := fun m g _ =>
  (θ_run _ _ _).mono (fun r h => ⟨fun c => (h c).2, sem_eq_zero_of_no_sems (by decide) r.2⟩) (Cert.LastPRefIdeal.Value.run m g)
/-- The kernel's result is the reference's. -/
theorem algebraic : Cert.algebraic_LastPIdeal_LastPRefIdeal := by
  pair_intro
  · run_from Cert.LastPIdeal.Value.run_blocks m g
  · run_from Cert.LastPRefIdeal.Value.run m' g'
    refine ((Cert.LastPIdeal.Value.final m c).trans ?_).symm
    exact agree m m' c (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.symm

end LastP
end
-- ==== Proof.ProjP.Spec.lean ====
module

public import proofs.«01_k».proof.Proof.Rows.Spec

@[expose] public section

noncomputable section

open Idealize.ShloMosaic

/-! What the attention's projections make of one token's row. A head's 256 columns hold 128 columns without positions, 64 with, and 64 zeros. -/

namespace ProjP
open Rows

/-- The queries' scale, as the programs write it. -/
abbrev scale : EReal := Ideal.ofBits .f32 0x3DD53B95#32
/-- The queries' latent row: a product, normalised. -/
def lat (h : Fin 1024 → EReal) (w : Fin 1024 → Fin 512 → EReal) (g : Fin 512 → EReal) : Fin 512 → EReal := rms 0x44000000#32 (dot h w) g
/-- The keys' and values' latent row: the first 256 columns of a product, normalised. -/
def kvlat (h : Fin 1024 → EReal) (w : Fin 1024 → Fin 384 → EReal) (g : Fin 256 → EReal) : Fin 256 → EReal := rms 0x43800000#32 (fun k => dot h w ⟨k.val, by omega⟩) g
/-- The key row all heads share: the next 64 columns of the same product. -/
def keyrow (h : Fin 1024 → EReal) (w : Fin 1024 → Fin 384 → EReal) (j : Fin 64) : EReal := dot h w ⟨256 + j.val, by omega⟩
/-- The queries of all heads. -/
def query (l : Fin 512 → EReal) (w : Fin 512 → Fin 2048 → EReal) (c : Fin 2048) : EReal := if c.val % 256 < 192 then dot l w c * scale else 0
/-- The keys of all heads. -/
def key (a : Fin 256 → EReal) (r : Fin 64 → EReal) (w : Fin 256 → Fin 1024 → EReal) (c : Fin 2048) : EReal :=
  if c.val % 256 < 128 then dot a w ⟨c.val / 256 * 128 + c.val % 128, by omega⟩ else if c.val % 256 < 192 then r ⟨c.val % 64, by omega⟩ else 0

end ProjP
end
-- ==== Proof.ProjP.Unit.lean ====
module

public import proofs.«01_k».proof.Proof.Gen.ProjPIdeal.Value
public import proofs.«01_k».proof.Proof.Rows.Unit
public import proofs.«01_k».proof.Proof.ProjP.Spec

@[expose] public section

set_option maxRecDepth 16384

noncomputable section

open Idealize.ShloMosaic Idealize.ShloMosaic.TcCoe Idealize.SL.Sem

/-! The steps of the projections' kernel over 512 tokens, and what each makes of a token's row. -/

namespace ProjP.Unit
open Cert.ProjPIdeal Cert.ProjPIdeal.Gen Rows Rows.Unit

/-- Each row's reciprocal root mean square. -/
def invs (x : FVec Ideal S512x1024 .f32) : FVec Ideal S512x1024 .f32 :=
  broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024
/-- The rows normalised and modulated. -/
def modn (x : FVec Ideal S512x1024 .f32) (r : FVec Ideal S512x1024 .f32) (g sc sh : FVec Ideal S1x1024 .f32) : FVec Ideal S512x1024 .bf16 :=
  truncf .bf16 (addf (mulf (mulf x r) (broadcastTo S512x1024 (mulf g (addf (broadcast S1x1024 (Scalar.ofBits .f32 0x3F800000#32)) sc)) broadcasts_S1x1024_S512x1024))
    (broadcastTo S512x1024 sh broadcasts_S1x1024_S512x1024)) bitsLt_bf16_f32
/-- The rows the projections read. -/
def hid (x : FVec Ideal S512x1024 .f32) (w : FVec Ideal S1x1x1x6144 .f32) (g : FVec Ideal S1x1024 .f32) : FVec Ideal S512x1024 .bf16 :=
  modn x (invs x) g (chunk 1024 slices_S1x6144_o0_1024_S1x1024 w) (chunk 0 slices_S1x6144_o0_0_S1x1024 w)
/-- The product of the queries' latent rows. -/
def latP (h : FVec Ideal S512x1024 .bf16) (w : FVec Ideal S1x1024x512 .bf16) : FVec Ideal S512x512 .f32 :=
  matmul dot_S512x1024_S1024x512_S512x512_1_0_0_1_n_n none h (shapeCast S1024x512 w shapeCasts_S1x1024x512_S1024x512) (constant S512x512 .f32 0x00000000#32)
/-- The queries' latent rows before their gain. -/
def latN (z : FVec Ideal S512x512 .f32) : FVec Ideal S512x512 .f32 :=
  mulf z (broadcastTo S512x512 (rsqrt (addf (divf (shapeCast S512x1 (multiReduction .add [1] S512 (mulf z z) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512)
/-- The queries of all heads, before their scale. -/
def quer (z : FVec Ideal S512x512 .f32) (g : FVec Ideal S1x512 .f32) (w : FVec Ideal S512x2048 .bf16) : FVec Ideal S512x2048 .f32 :=
  matmul dot_S512x512_S512x2048_S512x2048_1_0_0_1_n_n none (truncf .bf16 (mulf z (broadcastTo S512x512 g broadcasts_S1x512_S512x512)) bitsLt_bf16_f32) w (constant S512x2048 .f32 0x00000000#32)
/-- The product of the keys' and values' latent rows. -/
def kvP (h : FVec Ideal S512x1024 .bf16) (w : FVec Ideal S1024x384 .bf16) : FVec Ideal S512x384 .f32 :=
  matmul dot_S512x1024_S1024x384_S512x384_1_0_0_1_n_n none h w (constant S512x384 .f32 0x00000000#32)
/-- The first 256 columns. -/
def kvA (z : FVec Ideal S512x384 .f32) : FVec Ideal S512x256 .f32 := extractStridedSlice S512x256 ![0, 0] z slices_S512x384_o0_0_S512x256
/-- Rows of 256 normalised. -/
def kvN (z : FVec Ideal S512x256 .f32) (g : FVec Ideal S1x256 .f32) : FVec Ideal S512x256 .f32 :=
  mulf (mulf z (broadcastTo S512x256 (rsqrt (addf (divf (shapeCast S512x1 (multiReduction .add [1] S512 (mulf z z) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256)) (broadcastTo S512x256 g broadcasts_S1x256_S512x256)
/-- The last 128 columns. -/
def kvB (z : FVec Ideal S512x384 .f32) : FVec Ideal S512x128 .f32 := extractStridedSlice S512x128 ![0, 256] z slices_S512x384_o0_256_S512x128
/-- The row that keeps the first 64 of 128 columns. -/
def keep : FVec Ideal S1x128 .f32 := sitofp .f32 (extui 32 (cmpi .slt (iota .tc S1x128 32 [1] iota_S1x128_d1_w32) (broadcast S1x128 64#32)) natLt_1_32)
/-- The last columns with the unused half cleared. -/
def kept (z : FVec Ideal S512x128 .f32) (k : FVec Ideal S1x128 .f32) : FVec Ideal S512x128 .bf16 := truncf .bf16 (mulf z (broadcastTo S512x128 k broadcasts_S1x128_S512x128)) bitsLt_bf16_f32
/-- Rows of 256 times a matrix. -/
def up (a : FVec Ideal S512x256 .f32) (w : FVec Ideal S256x1024 .bf16) : FVec Ideal S512x1024 .f32 :=
  matmul dot_S512x256_S256x1024_S512x1024_1_0_0_1_n_n none (truncf .bf16 a bitsLt_bf16_f32) w (constant S512x1024 .f32 0x00000000#32)
/-- 128 query columns scaled. -/
def scaled (o : ℕ) (h : S512x2048.Slices ![0, o] S512x128) (z : FVec Ideal S512x2048 .f32) : FVec Ideal S512x128 .bf16 :=
  truncf .bf16 (mulf (extractStridedSlice S512x128 ![0, o] z h) (broadcast S512x128 (Scalar.ofBits .f32 0x3DD53B95#32))) bitsLt_bf16_f32
/-- 128 query columns scaled, the unused half cleared. -/
def scaledKept (o : ℕ) (h : S512x2048.Slices ![0, o] S512x128) (z : FVec Ideal S512x2048 .f32) (k : FVec Ideal S1x128 .f32) : FVec Ideal S512x128 .bf16 :=
  truncf .bf16 (mulf (extractStridedSlice S512x128 ![0, o] z h) (broadcastTo S512x128 (mulf k (broadcast S1x128 (Scalar.ofBits .f32 0x3DD53B95#32))) broadcasts_S1x128_S512x128)) bitsLt_bf16_f32
/-- 128 key columns. -/
def part (o : ℕ) (h : S512x1024.Slices ![0, o] S512x128) (z : FVec Ideal S512x1024 .f32) : FVec Ideal S512x128 .bf16 := truncf .bf16 (extractStridedSlice S512x128 ![0, o] z h) bitsLt_bf16_f32

/-- The reciprocal root mean squares read at an index. -/
theorem invs_at (x) (i : Fin 512) (j : Fin 1024) : invs x (ix2 i j) = inv 0x44800000#32 fun k => x (ix2 i k) := by
  pointwise [invs, Rows.inv]
/-- The modulated rows read at an index. -/
theorem modn_at (x r g sc sh) (i : Fin 512) (j : Fin 1024) : modn x r g sc sh (ix2 i j)
    = x (ix2 i j) * r (ix2 i j) * (g (ix2 0 j) * (one + sc (ix2 0 j))) + sh (ix2 0 j) := by
  pointwise [modn]
/-- The rows the projections read, at an index. -/
theorem hid_at (x w g) (i : Fin 512) (j : Fin 1024) : hid x w g (ix2 i j)
    = modulated 0x44800000#32 (fun k => x (ix2 i k)) (fun k => g (ix2 0 k)) (fun k => w (ix4 0 0 0 ⟨0 + k.val, by omega⟩)) (fun k => w (ix4 0 0 0 ⟨1024 + k.val, by omega⟩)) j := by
  unfold hid
  rw [modn_at, invs_at, chunk_at _ _ _ _ (by omega), chunk_at _ _ _ _ (by omega), one_eq]
  exact modulated_eq 0x44800000#32 (fun k => x (ix2 i k)) (fun k => g (ix2 0 k)) (fun k => w (ix4 0 0 0 ⟨0 + k.val, by omega⟩)) (fun k => w (ix4 0 0 0 ⟨1024 + k.val, by omega⟩)) j
/-- The first product read at an index. -/
theorem latP_at (h w) (i : Fin 512) (j : Fin 512) : latP h w (ix2 i j) = dot (fun d => h (ix2 i d)) (fun d j => w (ix3 0 d j)) j := by
  pointwise [latP, dot]
/-- The latent rows before their gain, read at an index. -/
theorem latN_at (z) (i : Fin 512) (j : Fin 512) : latN z (ix2 i j) = z (ix2 i j) * inv 0x44000000#32 fun k => z (ix2 i k) := by
  pointwise [latN, Rows.inv]
/-- The queries read at an index. -/
theorem quer_at (z g w) (i : Fin 512) (j : Fin 2048) : quer z g w (ix2 i j) = dot (fun d => z (ix2 i d) * g (ix2 0 d)) (fun d j => w (ix2 d j)) j := by
  pointwise [quer, dot]
/-- The second product read at an index. -/
theorem kvP_at (h w) (i : Fin 512) (j : Fin 384) : kvP h w (ix2 i j) = dot (fun d => h (ix2 i d)) (fun d j => w (ix2 d j)) j := by
  pointwise [kvP, dot]
/-- The first columns read at an index. -/
theorem kvA_at (z) (i : Fin 512) (j : Fin 256) : kvA z (ix2 i j) = z (ix2 i ⟨j.val, by omega⟩) := by
  pointwise [kvA]
/-- The last columns read at an index. -/
theorem kvB_at (z) (i : Fin 512) (j : Fin 128) : kvB z (ix2 i j) = z (ix2 i ⟨256 + j.val, by omega⟩) := by
  pointwise [kvB]
/-- The normalised rows read at an index. -/
theorem kvN_at (z g) (i : Fin 512) (j : Fin 256) : kvN z g (ix2 i j) = rms 0x43800000#32 (fun k => z (ix2 i k)) (fun k => g (ix2 0 k)) j := by
  pointwise [kvN, rms, Rows.inv]
/-- The kept columns read at an index. -/
theorem kept_at (z k) (i : Fin 512) (j : Fin 128) : kept z k (ix2 i j) = z (ix2 i j) * k (ix2 0 j) := by
  pointwise [kept]
/-- The expanded rows read at an index. -/
theorem up_at (a w) (i : Fin 512) (j : Fin 1024) : up a w (ix2 i j) = dot (fun d => a (ix2 i d)) (fun d j => w (ix2 d j)) j := by
  pointwise [up, dot]
/-- The scaled columns read at an index. -/
theorem scaled_at (o h z) (ho : o + 128 ≤ 2048) (i : Fin 512) (j : Fin 128) : scaled o h z (ix2 i j) = z (ix2 i ⟨o + j.val, by omega⟩) * scale := by
  pointwise [scaled]
/-- The scaled and kept columns read at an index. -/
theorem scaledKept_at (o h z k) (ho : o + 128 ≤ 2048) (i : Fin 512) (j : Fin 128) : scaledKept o h z k (ix2 i j) = z (ix2 i ⟨o + j.val, by omega⟩) * (k (ix2 0 j) * scale) := by
  pointwise [scaledKept]
/-- The key columns read at an index. -/
theorem part_at (o h z) (ho : o + 128 ≤ 1024) (i : Fin 512) (j : Fin 128) : part o h z (ix2 i j) = z (ix2 i ⟨o + j.val, by omega⟩) := by
  pointwise [part]
/-- The keeping row is one on the first 64 columns and zero after them. -/
theorem keep_at (j : Fin 128) : keep (ix2 0 j) = if j.val < 64 then 1 else 0 := by
  have e : ∀ j : Fin 128, BitVec.setWidth 32 (IntOp.cmpi CmpIPredicate.slt (BitVec.ofNat 32 j.val) 64#32) = if j.val < 64 then 1#32 else 0#32 := by decide +kernel
  pointwise [keep]
  rw [e j]
  split
  · show (((1#32 : BitVec 32).toInt : ℝ) : EReal) = 1
    norm_num
  · show (((0#32 : BitVec 32).toInt : ℝ) : EReal) = 0
    norm_num

end ProjP.Unit
end
-- ==== Proof.ProjP.Kernel.lean ====
module

public import proofs.«01_k».proof.Proof.ProjP.Unit
public import proofs.«01_k».proof.Proof.Gen.ProjPIdeal.Value

@[expose] public section

set_option maxRecDepth 16384

noncomputable section

open Idealize.ShloMosaic Idealize.ShloMosaic.TcCoe Idealize.SL.Sem
open Idealize.ShloMosaic.Pipeline (Dat)

/-! What the projections' call of the prompt's stream leaves in its five results. -/

namespace ProjP
section
variable (X : FVec Ideal ⟨2, ![8192, 1024]⟩ .f32) (M : FVec Ideal ⟨4, ![2, 16, 1, 6144]⟩ .f32) (N : FVec Ideal ⟨2, ![1, 1024]⟩ .f32) (WQ : FVec Ideal ⟨3, ![1, 1024, 512]⟩ .bf16)
  (GQ : FVec Ideal ⟨2, ![1, 512]⟩ .f32) (UQ : FVec Ideal ⟨2, ![512, 2048]⟩ .bf16) (WK : FVec Ideal ⟨2, ![1024, 384]⟩ .bf16) (GK : FVec Ideal ⟨2, ![1, 256]⟩ .f32)
  (UK : FVec Ideal ⟨2, ![256, 1024]⟩ .bf16) (UV : FVec Ideal ⟨2, ![256, 1024]⟩ .bf16) (n : Fin 8192)

/-- The row of token `n` the projections read. -/
def inputRow : Fin 1024 → EReal :=
  Rows.modulated 0x44800000#32 (fun k => X (ix2 n k)) (fun k => N (ix2 0 k)) (fun k => M (ix4 1 0 0 ⟨0 + k.val, by omega⟩)) (fun k => M (ix4 1 0 0 ⟨1024 + k.val, by omega⟩))
/-- Its queries. -/
def outQ : Fin 2048 → EReal := query (lat (inputRow X M N n) (fun d j => WQ (ix3 0 d j)) (fun k => GQ (ix2 0 k))) (fun d j => UQ (ix2 d j))
/-- Its key and value latent. -/
def outC : Fin 256 → EReal := kvlat (inputRow X M N n) (fun d j => WK (ix2 d j)) (fun k => GK (ix2 0 k))
/-- Its shared key row. -/
def outR : Fin 64 → EReal := keyrow (inputRow X M N n) (fun d j => WK (ix2 d j))
/-- Its keys. -/
def outK : Fin 2048 → EReal := key (outC X M N WK GK n) (outR X M N WK n) (fun d j => UK (ix2 d j))
/-- Its values. -/
def outV : Fin 1024 → EReal := Rows.dot (outC X M N WK GK n) (fun d j => UV (ix2 d j))
end
end ProjP

namespace Cert.ProjPIdeal.Value
open Cert.ProjPIdeal Cert.ProjPIdeal.Gen Rows.Unit ProjP ProjP.Unit

/-- What is stored for the two halves of head `h`'s columns, and where. -/
def pieces (u0 u1 : Fin 8 → FVec Ideal S512x128 .bf16) (h : Fin 8) : List (View.Piece (Elt Ideal) S512x2048 .bf16) :=
  [⟨Rect.unit (s := S512x2048) ![0, 256 * h.val + 128] ![512, 128] (inb2 (by omega) (by omega)), u1 h⟩,
   ⟨Rect.unit (s := S512x2048) ![0, 256 * h.val] ![512, 128] (inb2 (by omega) (by omega)), u0 h⟩]
/-- The stores of all heads, the last first. -/
def heads (u0 u1 : Fin 8 → FVec Ideal S512x128 .bf16) : List (View.Piece (Elt Ideal) S512x2048 .bf16) := ([7, 6, 5, 4, 3, 2, 1, 0] : List (Fin 8)).flatMap (pieces u0 u1)

/-- The stores of all heads make a tile whose rows are what `G` says of them. -/
theorem heads_eq {u0 u1 : Fin 8 → FVec Ideal S512x128 .bf16} {G : Fin 512 → Fin 2048 → EReal}
    (h0 : ∀ h i (j : Fin 128), u0 h (ix2 i j) = G i ⟨256 * h.val + j.val, by omega⟩) (h1 : ∀ h i (j : Fin 128), u1 h (ix2 i j) = G i ⟨256 * h.val + 128 + j.val, by omega⟩) (y : S512x2048.Idx) :
    View.canon (Val := Elt Ideal) (s := S512x2048) (e := .bf16) (heads u0 u1) y = G (y 0) (y 1) := by
  refine View.canon_apply_of_pieces (Val := Elt Ideal) (S := S512x2048) (e := .bf16) (fun y : S512x2048.Idx => (G (y 0) (y 1) : Elt Ideal .bf16)) _ ?_ y ?_
  · intro p hp x
    obtain ⟨h, _, hp⟩ := List.mem_flatMap.mp hp
    rcases List.mem_cons.mp hp with rfl | hp
    · obtain ⟨i, j, rfl⟩ : ∃ (i : Fin 512) (j : Fin 128), x = ix2 i j := ⟨x 0, x 1, by funext c; fin_cases c <;> rfl⟩
      refine (h1 h i j).trans (congrArg₂ G (Fin.ext ?_) (Fin.ext ?_))
      · show i.val = 0 + 1 * i.val; omega
      · show 256 * h.val + 128 + j.val = 256 * h.val + 128 + 1 * j.val; omega
    · obtain rfl := List.mem_singleton.mp hp
      obtain ⟨i, j, rfl⟩ : ∃ (i : Fin 512) (j : Fin 128), x = ix2 i j := ⟨x 0, x 1, by funext c; fin_cases c <;> rfl⟩
      refine (h0 h i j).trans (congrArg₂ G (Fin.ext ?_) (Fin.ext ?_))
      · show i.val = 0 + 1 * i.val; omega
      · show 256 * h.val + j.val = 256 * h.val + 1 * j.val; omega
  · have hy0 : (y 0).val < 512 := (y 0).isLt
    have hy1 : (y 1).val < 2048 := (y 1).isLt
    have hm : ∀ h : Fin 8, h ∈ ([7, 6, 5, 4, 3, 2, 1, 0] : List (Fin 8)) := by decide
    by_cases hc : (y 1).val % 256 < 128
    · refine ⟨_, List.mem_flatMap.mpr ⟨⟨(y 1).val / 256, by omega⟩, hm _, List.mem_cons_of_mem _ List.mem_cons_self⟩, (Rect.mem_set_unit (s := S512x2048) (inb := inb2 (by omega) (by omega))).mpr fun c => ?_⟩
      fin_cases c
      · show 0 ≤ (y 0).val ∧ (y 0).val < 0 + 512; omega
      · show 256 * ((y 1).val / 256) ≤ (y 1).val ∧ (y 1).val < 256 * ((y 1).val / 256) + 128; omega
    · refine ⟨_, List.mem_flatMap.mpr ⟨⟨(y 1).val / 256, by omega⟩, hm _, List.mem_cons_self⟩, (Rect.mem_set_unit (s := S512x2048) (inb := inb2 (by omega) (by omega))).mpr fun c => ?_⟩
      fin_cases c
      · show 0 ≤ (y 0).val ∧ (y 0).val < 0 + 512; omega
      · show 256 * ((y 1).val / 256) + 128 ≤ (y 1).val ∧ (y 1).val < 256 * ((y 1).val / 256) + 128 + 128; omega

variable (x0 : FVec Ideal S512x1024 .f32) (x1 : FVec Ideal S1x1x1x6144 .f32) (x2 : FVec Ideal S1x1024 .f32) (x3 : FVec Ideal S1x1024x512 .bf16) (x4 : FVec Ideal S1x512 .f32)
  (x5 : FVec Ideal S512x2048 .bf16) (x6 : FVec Ideal S1024x384 .bf16) (x7 : FVec Ideal S1x256 .f32) (x8 : FVec Ideal S256x1024 .bf16) (x9 : FVec Ideal S256x1024 .bf16)

/-- The queries of a tile before their scale. -/
def querU : FVec Ideal S512x2048 .f32 := quer (latN (latP (hid x0 x1 x2) x3)) x4 x5
/-- The key and value latents of a tile. -/
def latU : FVec Ideal S512x256 .f32 := kvN (kvA (kvP (hid x0 x1 x2) x6)) x7
/-- The last key columns of a tile. -/
def colsU : FVec Ideal S512x128 .f32 := kvB (kvP (hid x0 x1 x2) x6)

/-- A tile's rows the projections read. -/
def bHid (n : Fin 512) : Fin 1024 → EReal :=
  Rows.modulated 0x44800000#32 (fun k => x0 (ix2 n k)) (fun k => x2 (ix2 0 k)) (fun k => x1 (ix4 0 0 0 ⟨0 + k.val, by omega⟩)) (fun k => x1 (ix4 0 0 0 ⟨1024 + k.val, by omega⟩))
/-- Their queries. -/
def bQ (n : Fin 512) : Fin 2048 → EReal := query (lat (bHid x0 x1 x2 n) (fun d j => x3 (ix3 0 d j)) (fun k => x4 (ix2 0 k))) (fun d j => x5 (ix2 d j))
/-- Their key and value latents. -/
def bC (n : Fin 512) : Fin 256 → EReal := kvlat (bHid x0 x1 x2 n) (fun d j => x6 (ix2 d j)) (fun k => x7 (ix2 0 k))
/-- Their shared key rows. -/
def bR (n : Fin 512) : Fin 64 → EReal := keyrow (bHid x0 x1 x2 n) (fun d j => x6 (ix2 d j))
/-- Their keys. -/
def bK (n : Fin 512) : Fin 2048 → EReal := key (bC x0 x1 x2 x6 x7 n) (bR x0 x1 x2 x6 n) (fun d j => x8 (ix2 d j))
/-- Their values. -/
def bV (n : Fin 512) : Fin 1024 → EReal := Rows.dot (bC x0 x1 x2 x6 x7 n) (fun d j => x9 (ix2 d j))

/-- The queries before their scale, read at an index. -/
theorem querU_at (n : Fin 512) (j : Fin 2048) : querU x0 x1 x2 x3 x4 x5 (ix2 n j) = Rows.dot (lat (bHid x0 x1 x2 n) (fun d j => x3 (ix3 0 d j)) (fun k => x4 (ix2 0 k))) (fun d j => x5 (ix2 d j)) j := by
  unfold querU
  rw [quer_at]
  simp only [latN_at, latP_at, hid_at]
  rfl
/-- The latents read at an index. -/
theorem latU_at (n : Fin 512) (j : Fin 256) : latU x0 x1 x2 x6 x7 (ix2 n j) = bC x0 x1 x2 x6 x7 n j := by
  unfold latU
  rw [kvN_at]
  simp only [kvA_at, kvP_at, hid_at]
  rfl
/-- The last key columns read at an index. -/
theorem colsU_at (n : Fin 512) (j : Fin 128) : colsU x0 x1 x2 x6 (ix2 n j) = Rows.dot (bHid x0 x1 x2 n) (fun d j => x6 (ix2 d j)) ⟨256 + j.val, by omega⟩ := by
  unfold colsU
  rw [kvB_at]
  simp only [kvP_at, hid_at]
  rfl

/-- A slice of 128 of 2048 columns. -/
theorem sl2048 {o : ℕ} (h : o + 128 ≤ 2048) : S512x2048.Slices ![0, o] S512x128 := ⟨rfl, inb2 (by omega) h⟩
/-- A slice of 128 of 1024 columns. -/
theorem sl1024 {o : ℕ} (h : o + 128 ≤ 1024) : S512x1024.Slices ![0, o] S512x128 := ⟨rfl, inb2 (by omega) h⟩

/-- The offset words of the loads. -/
theorem z2 : (![0, 0] : Fin 2 → ℕ) = fun _ => 0 := by funext a; fin_cases a <;> rfl
/-- The offset words of the loads of rank three. -/
theorem z3 : (![0, 0, 0] : Fin 3 → ℕ) = fun _ => 0 := by funext a; fin_cases a <;> rfl
/-- The offset words of the loads of rank four. -/
theorem z4 : (![0, 0, 0, 0] : Fin 4 → ℕ) = fun _ => 0 := by funext a; fin_cases a <;> rfl

/-- The queries' stores, over the loaded arrays. -/
theorem outQ_eq : out0_10 (F := Ideal) x0 x1 x2 x3 x4 x5 x6 x7 x8 x9
    = View.canon (Val := Elt Ideal) (s := S512x2048) (e := .bf16) (heads
      (fun h => scaled (256 * h.val) (sl2048 (by omega)) (querU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x3 r0_3) (View.ld (Val := Elt Ideal) (e' := .f32) x4 r0_4) (View.ld (Val := Elt Ideal) (e' := .bf16) x5 r0_7)))
      (fun h => scaledKept (256 * h.val + 128) (sl2048 (by omega)) (querU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x3 r0_3) (View.ld (Val := Elt Ideal) (e' := .f32) x4 r0_4) (View.ld (Val := Elt Ideal) (e' := .bf16) x5 r0_7)) keep)) := rfl

/-- The queries a grid point leaves. -/
theorem outQ_at (y : S512x2048.Idx) : out0_10 (F := Ideal) x0 x1 x2 x3 x4 x5 x6 x7 x8 x9 y = bQ x0 x1 x2 x3 x4 x5 (y 0) (y 1) := by
  rw [outQ_eq, View.ld_unit_zero z2, View.ld_unit_zero z4, View.ld_unit_zero z2, View.ld_unit_zero z3, View.ld_unit_zero z2, View.ld_unit_zero z2]
  refine heads_eq (fun h i j => ?_) (fun h i j => ?_) y
  · rw [scaled_at _ _ _ (by omega), querU_at]
    unfold bQ query
    exact (if_pos (by show (256 * h.val + j.val) % 256 < 192; omega)).symm
  · rw [scaledKept_at _ _ _ _ (by omega), querU_at, keep_at]
    unfold bQ query
    by_cases hj : j.val < 64
    · rw [if_pos hj, one_mul, if_pos (show (256 * h.val + 128 + j.val) % 256 < 192 by omega)]
    · rw [if_neg hj, zero_mul, mul_zero, if_neg (show ¬ (256 * h.val + 128 + j.val) % 256 < 192 by omega)]

/-- The latents a grid point leaves. -/
theorem outC_at (y : S512x256.Idx) : out0_13 (F := Ideal) x0 x1 x2 x3 x4 x5 x6 x7 x8 x9 y = bC x0 x1 x2 x6 x7 (y 0) (y 1) := by
  have e : out0_13 (F := Ideal) x0 x1 x2 x3 x4 x5 x6 x7 x8 x9 = View.canon (Val := Elt Ideal) (s := S512x256) (e := .f32) [⟨r0_25, latU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5) (View.ld (Val := Elt Ideal) (e' := .f32) x7 r0_6)⟩] := rfl
  rw [e, View.ld_unit_zero z2, View.ld_unit_zero z4, View.ld_unit_zero z2, View.ld_unit_zero z2, View.ld_unit_zero z2, View.canon_unit_zero z2]
  obtain ⟨n, j, rfl⟩ : ∃ (n : Fin 512) (j : Fin 256), y = ix2 n j := ⟨y 0, y 1, by funext c; fin_cases c <;> rfl⟩
  exact latU_at x0 x1 x2 x6 x7 n j

/-- The key rows a grid point leaves. -/
theorem outR_at (y : S512x64.Idx) : out0_14 (F := Ideal) x0 x1 x2 x3 x4 x5 x6 x7 x8 x9 y = bR x0 x1 x2 x6 (y 0) (y 1) := by
  have e : out0_14 (F := Ideal) x0 x1 x2 x3 x4 x5 x6 x7 x8 x9 = View.canon (Val := Elt Ideal) (s := S512x64) (e := .f32) [⟨r0_26, extractStridedSlice S512x64 ![0, 0] (colsU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5)) slices_S512x128_o0_0_S512x64⟩] := rfl
  rw [e, View.ld_unit_zero z2, View.ld_unit_zero z4, View.ld_unit_zero z2, View.ld_unit_zero z2, View.canon_unit_zero z2]
  obtain ⟨n, j, rfl⟩ : ∃ (n : Fin 512) (j : Fin 64), y = ix2 n j := ⟨y 0, y 1, by funext c; fin_cases c <;> rfl⟩
  have h : ∀ z : FVec Ideal S512x128 .f32, extractStridedSlice S512x64 ![0, 0] z slices_S512x128_o0_0_S512x64 (ix2 n j) = z (ix2 n ⟨j.val, by omega⟩) := fun z => by pointwise []
  rw [h, colsU_at]
  rfl

/-- The values a grid point leaves. -/
theorem outV_at (y : S512x1024.Idx) : out0_12 (F := Ideal) x0 x1 x2 x3 x4 x5 x6 x7 x8 x9 y = bV x0 x1 x2 x6 x7 x9 (y 0) (y 1) := by
  have e : out0_12 (F := Ideal) x0 x1 x2 x3 x4 x5 x6 x7 x8 x9 = View.canon (Val := Elt Ideal) (s := S512x1024) (e := .bf16) [⟨r0_1, truncf .bf16 (up (latU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5) (View.ld (Val := Elt Ideal) (e' := .f32) x7 r0_6)) (View.ld (Val := Elt Ideal) (e' := .bf16) x9 r0_24)) bitsLt_bf16_f32⟩] := rfl
  rw [e, View.ld_unit_zero z2, View.ld_unit_zero z4, View.ld_unit_zero z2, View.ld_unit_zero z2, View.ld_unit_zero z2, View.ld_unit_zero z2, View.canon_unit_zero z2]
  obtain ⟨n, j, rfl⟩ : ∃ (n : Fin 512) (j : Fin 1024), y = ix2 n j := ⟨y 0, y 1, by funext c; fin_cases c <;> rfl⟩
  refine (up_at _ _ n j).trans ?_
  simp only [latU_at]
  rfl

/-- The keys' stores, over the loaded arrays. -/
theorem outK_eq : out0_11 (F := Ideal) x0 x1 x2 x3 x4 x5 x6 x7 x8 x9
    = View.canon (Val := Elt Ideal) (s := S512x2048) (e := .bf16) (heads
      (fun h => part (128 * h.val) (sl1024 (by omega)) (up (latU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5) (View.ld (Val := Elt Ideal) (e' := .f32) x7 r0_6)) (View.ld (Val := Elt Ideal) (e' := .bf16) x8 r0_24)))
      (fun _ => kept (colsU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5)) keep)) := rfl

/-- The keys a grid point leaves. -/
theorem outK_at (y : S512x2048.Idx) : out0_11 (F := Ideal) x0 x1 x2 x3 x4 x5 x6 x7 x8 x9 y = bK x0 x1 x2 x6 x7 x8 (y 0) (y 1) := by
  rw [outK_eq, View.ld_unit_zero z2, View.ld_unit_zero z4, View.ld_unit_zero z2, View.ld_unit_zero z2, View.ld_unit_zero z2, View.ld_unit_zero z2]
  refine heads_eq (fun h i j => ?_) (fun h i j => ?_) y
  · rw [part_at _ _ _ (by omega), up_at]
    simp only [latU_at]
    unfold bK key
    rw [if_pos (show (256 * h.val + j.val) % 256 < 128 by omega)]
    exact congrArg _ (Fin.ext (show 128 * h.val + j.val = (256 * h.val + j.val) / 256 * 128 + (256 * h.val + j.val) % 128 by omega))
  · rw [kept_at, colsU_at, keep_at]
    unfold bK key
    rw [if_neg (show ¬ (256 * h.val + 128 + j.val) % 256 < 128 by omega)]
    by_cases hj : j.val < 64
    · rw [if_pos hj, mul_one, if_pos (show (256 * h.val + 128 + j.val) % 256 < 192 by omega)]
      exact congrArg _ (Fin.ext (show 256 + j.val = 256 + (256 * h.val + 128 + j.val) % 64 by omega))
    · rw [if_neg hj, mul_zero, if_neg (show ¬ (256 * h.val + 128 + j.val) % 256 < 192 by omega)]

variable (m : (ℓ : Loc nD τ sig) → Buf (Elt Ideal) ℓ)

/-- The blocks of a grid point. -/
theorem idx : ∀ t : Fin cfg0.N, (win0_0.index t = ![t.val, 0] ∧ win0_1.index t = ![1, 0, 0, 0] ∧ win0_2.index t = ![0, 0]
    ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0])
    ∧ win0_10.index t = ![t.val, 0] ∧ win0_11.index t = ![t.val, 0] ∧ win0_12.index t = ![t.val, 0] ∧ win0_13.index t = ![t.val, 0] ∧ win0_14.index t = ![t.val, 0] ∧ t.val < 16 :=
  (by decide +kernel : ∀ t : Fin grid0.N, _)

/-- A grid point's rows the projections read are the argument's there. -/
theorem pointH (c : Dev nD) (t : Fin cfg0.N) (i : Fin 512) (n : Fin 8192) (hn : n.val = t.val * 512 + i.val) :
    bHid (iblk m c 0 t) (iblk m c 1 t) (iblk m c 2 t) i = inputRow (m ((c.tc : Thread nD τ).loc main_arg0)) (m ((c.tc : Thread nD τ).loc main_arg1)) (m ((c.tc : Thread nD τ).loc main_arg2)) n := by
  have ht : t.val < 16 := (idx t).2.2.2.2.2.2
  unfold bHid inputRow
  congr 1
  · funext k; blk_ext [iblk, V, idx t]
  · funext k; blk_ext [iblk, V, idx t]
  · funext k; blk_ext [iblk, V, idx t]
  · funext k; blk_ext [iblk, V, idx t]

/-- A grid point's queries are the result's there. -/
theorem pointQ (c : Dev nD) (t : Fin cfg0.N) (i : Fin 512) (n : Fin 8192) (hn : n.val = t.val * 512 + i.val) :
    bQ (iblk m c 0 t) (iblk m c 1 t) (iblk m c 2 t) (iblk m c 3 t) (iblk m c 4 t) (iblk m c 5 t) i = outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n := by
  unfold bQ outQ
  rw [pointH m c t i n hn]
  congr 1
  · congr 1
    · funext d j; blk_ext [iblk, V, idx t]
    · funext k; blk_ext [iblk, V, idx t]
  · funext d j; blk_ext [iblk, V, idx t]

/-- A grid point's latents are the result's there. -/
theorem pointC (c : Dev nD) (t : Fin cfg0.N) (i : Fin 512) (n : Fin 8192) (hn : n.val = t.val * 512 + i.val) :
    bC (iblk m c 0 t) (iblk m c 1 t) (iblk m c 2 t) (iblk m c 6 t) (iblk m c 7 t) i = outC (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) n := by
  unfold bC outC
  rw [pointH m c t i n hn]
  congr 1
  · funext d j; blk_ext [iblk, V, idx t]
  · funext k; blk_ext [iblk, V, idx t]

/-- A grid point's key rows are the result's there. -/
theorem pointR (c : Dev nD) (t : Fin cfg0.N) (i : Fin 512) (n : Fin 8192) (hn : n.val = t.val * 512 + i.val) :
    bR (iblk m c 0 t) (iblk m c 1 t) (iblk m c 2 t) (iblk m c 6 t) i = outR (m ((c.tc : Thread nD τ).loc main_arg0)) (m ((c.tc : Thread nD τ).loc main_arg1)) (m ((c.tc : Thread nD τ).loc main_arg2)) (m ((c.tc : Thread nD τ).loc main_arg6)) n := by
  unfold bR outR
  rw [pointH m c t i n hn]
  congr 1
  funext d j; blk_ext [iblk, V, idx t]

/-- A grid point's keys are the result's there. -/
theorem pointK (c : Dev nD) (t : Fin cfg0.N) (i : Fin 512) (n : Fin 8192) (hn : n.val = t.val * 512 + i.val) :
    bK (iblk m c 0 t) (iblk m c 1 t) (iblk m c 2 t) (iblk m c 6 t) (iblk m c 7 t) (iblk m c 8 t) i = outK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) n := by
  unfold bK outK
  rw [pointC m c t i n hn, pointR m c t i n hn]
  congr 1
  funext d j; blk_ext [iblk, V, idx t]

/-- A grid point's values are the result's there. -/
theorem pointV (c : Dev nD) (t : Fin cfg0.N) (i : Fin 512) (n : Fin 8192) (hn : n.val = t.val * 512 + i.val) :
    bV (iblk m c 0 t) (iblk m c 1 t) (iblk m c 2 t) (iblk m c 6 t) (iblk m c 7 t) (iblk m c 9 t) i = outV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) n := by
  unfold bV outV
  rw [pointC m c t i n hn]
  congr 1
  funext d j; blk_ext [iblk, V, idx t]

/-- The result array of the queries over the argument arrays. -/
abbrev resQ (c : Dev nD) : FVec Ideal S8192x2048 .bf16 := fun y => outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1)
/-- The result array of the queries after the run. -/
theorem finalQ (c : Dev nD) : (dats m 0 c).arrAt 10 (cfgs 0).N = resQ m c := by
  refine (dats m 0 c).arrAt_eq_of_covers 10 _ (by decide +kernel) fun t _ y => ?_
  blk_simp
  rw [after0_10]
  rw [outQ_at]
  refine (congrFun (pointQ m c t (y 0) _ ?_) (y 1)).trans (congrArg _ (Fin.ext ?_))
  · blk_simp [idx t]
  · blk_simp [idx t]

/-- The result array of the latents over the argument arrays. -/
abbrev resC (c : Dev nD) : FVec Ideal S8192x256 .f32 := fun y => outC (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (y 0) (y 1)
/-- The result array of the latents after the run. -/
theorem finalC (c : Dev nD) : (dats m 0 c).arrAt 13 (cfgs 0).N = resC m c := by
  refine (dats m 0 c).arrAt_eq_of_covers 13 _ (by decide +kernel) fun t _ y => ?_
  blk_simp
  rw [after0_13]
  rw [outC_at]
  refine (congrFun (pointC m c t (y 0) _ ?_) (y 1)).trans (congrArg _ (Fin.ext ?_))
  · blk_simp [idx t]
  · blk_simp [idx t]

/-- The result array of the key rows over the argument arrays. -/
abbrev resR (c : Dev nD) : FVec Ideal S8192x64 .f32 := fun y => outR (m ((c.tc : Thread nD τ).loc main_arg0)) (m ((c.tc : Thread nD τ).loc main_arg1)) (m ((c.tc : Thread nD τ).loc main_arg2)) (m ((c.tc : Thread nD τ).loc main_arg6)) (y 0) (y 1)
/-- The result array of the key rows after the run. -/
theorem finalR (c : Dev nD) : (dats m 0 c).arrAt 14 (cfgs 0).N = resR m c := by
  refine (dats m 0 c).arrAt_eq_of_covers 14 _ (by decide +kernel) fun t _ y => ?_
  blk_simp
  rw [after0_14]
  rw [outR_at]
  refine (congrFun (pointR m c t (y 0) _ ?_) (y 1)).trans (congrArg _ (Fin.ext ?_))
  · blk_simp [idx t]
  · blk_simp [idx t]

/-- The result array of the keys over the argument arrays. -/
abbrev resK (c : Dev nD) : FVec Ideal S8192x2048 .bf16 := fun y => outK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (y 0) (y 1)
/-- The result array of the keys after the run. -/
theorem finalK (c : Dev nD) : (dats m 0 c).arrAt 11 (cfgs 0).N = resK m c := by
  refine (dats m 0 c).arrAt_eq_of_covers 11 _ (by decide +kernel) fun t _ y => ?_
  blk_simp
  rw [after0_11]
  rw [outK_at]
  refine (congrFun (pointK m c t (y 0) _ ?_) (y 1)).trans (congrArg _ (Fin.ext ?_))
  · blk_simp [idx t]
  · blk_simp [idx t]

/-- The result array of the values over the argument arrays. -/
abbrev resV (c : Dev nD) : FVec Ideal S8192x1024 .bf16 := fun y => outV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (y 0) (y 1)
/-- The result array of the values after the run. -/
theorem finalV (c : Dev nD) : (dats m 0 c).arrAt 12 (cfgs 0).N = resV m c := by
  refine (dats m 0 c).arrAt_eq_of_covers 12 _ (by decide +kernel) fun t _ y => ?_
  blk_simp
  rw [after0_12]
  rw [outV_at]
  refine (congrFun (pointV m c t (y 0) _ ?_) (y 1)).trans (congrArg _ (Fin.ext ?_))
  · blk_simp [idx t]
  · blk_simp [idx t]

end Cert.ProjPIdeal.Value
end
-- ==== Proof.ProjP.Ref.lean ====
module

public import proofs.«01_k».proof.Proof.Rows.RefP
public import proofs.«01_k».proof.Proof.ProjP.Spec
public import proofs.«01_k».proof.Proof.Gen.ProjPRefIdeal.Run

@[expose] public section

set_option maxRecDepth 16384

noncomputable section

open Idealize.ShloMosaic Idealize.ShloMosaic.TcCoe Idealize.SL.Sem

/-! The steps of the projections' reference, and what each makes of a token's row. -/

namespace ProjP.Ref
open Cert.ProjPRefIdeal Cert.ProjPRefIdeal.Gen Rows

/-- The modulated rows the projections read. -/
def hid (x : FVec Ideal S8192x1024 .f32) (w : FVec Ideal S2x16x1x6144 .f32) (g : FVec Ideal S1x1024 .f32) : FVec Ideal S32x256x1024 .f32 :=
  RefP.modn (RefP.normed (RefP.seqs x) (RefP.invs (RefP.seqs x)) g)
    (RefP.part 1 1024 slices_S2x16x1x6144_S1x1x1x6144_1_0_0_0 slices_S1x6144_S1x1024_0_1024 w) (RefP.part 1 0 slices_S2x16x1x6144_S1x1x1x6144_1_0_0_0 slices_S1x6144_S1x1024_0_0 w)
/-- The queries' latent before its normalisation. -/
def latP (h : FVec Ideal S32x256x1024 .f32) (w : FVec Ideal S1x1024x512 .bf16) : FVec Ideal S32x256x512 .f32 :=
  Host.dotGeneral dot_S32x256x1024_S1024x512_S32x256x512_2_0_01_1_n_n none h (extf .f32 (shapeCast S1024x512 w shapeCasts_S1x1024x512_S1024x512) bitsLt_bf16_f32)
/-- The queries' latent normalised. -/
def latN (z : FVec Ideal S32x256x512 .f32) (g : FVec Ideal S1x512 .f32) : FVec Ideal S32x256x512 .f32 :=
  mulf (mulf z (broadcastInDim S32x256x512 ![0, 1, 2] bcast_S32x256x1_S32x256x512_0_1_2
      (Host.rsqrt (addf (Host.divf (broadcastInDim S32x256x1 ![0, 1] bcast_S32x256_S32x256x1_0_1 (Host.reduceAdd (mulf z z) (constant S_ .f32 0x00000000#32) reducesTo_S32x256x512_S32x256_d2 h_S_))
        (broadcastInDim S32x256x1 ![] bcast_S_S32x256x1 (constant S_ .f32 0x44000000#32))) (broadcastInDim S32x256x1 ![] bcast_S_S32x256x1 (constant S_ .f32 0x358637BD#32))))))
    (broadcastInDim S32x256x512 ![0, 1, 2] bcast_S1x1x512_S32x256x512_0_1_2 (broadcastInDim S1x1x512 ![2] bcast_S512_S1x1x512_2 (shapeCast S512 g shapeCasts_S1x512_S512)))
/-- The queries by head, before their scale. -/
def quer (z : FVec Ideal S32x256x512 .f32) (w : FVec Ideal S512x2048 .bf16) : FVec Ideal S32x256x8x192 .f32 :=
  Host.dotGeneral dot_S32x256x512_S512x8x192_S32x256x8x192_2_0_01_12_n_n none z
    (extractStridedSlice S512x8x192 ![0, 0, 0] (shapeCast S512x8x256 (extf .f32 w bitsLt_bf16_f32) shapeCasts_S512x2048_S512x8x256) slices_S512x8x256_S512x8x192_0_0_0)
/-- The zeros that fill a head's columns. -/
def fill : FVec Ideal S32x256x8x64 .f32 := broadcastInDim S32x256x8x64 ![] bcast_S_S32x256x8x64 (constant S_ .f32 0x00000000#32)
/-- The queries scaled and filled. -/
def queries (z : FVec Ideal S32x256x8x192 .f32) : FVec Ideal S32x256x8x256 .f32 :=
  concatenate S32x256x8x256 3 [⟨S32x256x8x192, mulf z (broadcastInDim S32x256x8x192 ![] bcast_S_S32x256x8x192 (constant S_ .f32 0x3DD53B95#32))⟩, ⟨S32x256x8x64, fill⟩] concatenates_S32x256x8x192_S32x256x8x64_S32x256x8x256_d3
/-- The second product. -/
def kvP (h : FVec Ideal S32x256x1024 .f32) (w : FVec Ideal S1024x384 .bf16) : FVec Ideal S32x256x320 .f32 :=
  Host.dotGeneral dot_S32x256x1024_S1024x320_S32x256x320_2_0_01_1_n_n none h (extractStridedSlice S1024x320 ![0, 0] (extf .f32 w bitsLt_bf16_f32) slices_S1024x384_S1024x320_0_0)
/-- Its first 256 columns. -/
def kvA (z : FVec Ideal S32x256x320 .f32) : FVec Ideal S32x256x256 .f32 := extractStridedSlice S32x256x256 ![0, 0, 0] z slices_S32x256x320_S32x256x256_0_0_0
/-- Its last 64 columns. -/
def kvB (z : FVec Ideal S32x256x320 .f32) : FVec Ideal S32x256x64 .f32 := extractStridedSlice S32x256x64 ![0, 0, 256] z slices_S32x256x320_S32x256x64_0_0_256
/-- The keys' and values' latent normalised. -/
def kvN (z : FVec Ideal S32x256x256 .f32) (g : FVec Ideal S1x256 .f32) : FVec Ideal S32x256x256 .f32 :=
  mulf (mulf z (broadcastInDim S32x256x256 ![0, 1, 2] bcast_S32x256x1_S32x256x256_0_1_2
      (Host.rsqrt (addf (Host.divf (broadcastInDim S32x256x1 ![0, 1] bcast_S32x256_S32x256x1_0_1 (Host.reduceAdd (mulf z z) (constant S_ .f32 0x00000000#32) reducesTo_S32x256x256_S32x256_d2 h_S_))
        (broadcastInDim S32x256x1 ![] bcast_S_S32x256x1 (constant S_ .f32 0x43800000#32))) (broadcastInDim S32x256x1 ![] bcast_S_S32x256x1 (constant S_ .f32 0x358637BD#32))))))
    (broadcastInDim S32x256x256 ![0, 1, 2] bcast_S1x1x256_S32x256x256_0_1_2 (broadcastInDim S1x1x256 ![2] bcast_S256_S1x1x256_2 (shapeCast S256 g shapeCasts_S1x256_S256)))
/-- The latent expanded to all heads. -/
def up (a : FVec Ideal S32x256x256 .f32) (w : FVec Ideal S256x1024 .bf16) : FVec Ideal S32x256x1024 .f32 :=
  Host.dotGeneral dot_S32x256x256_S256x1024_S32x256x1024_2_0_01_1_n_n none a (extf .f32 w bitsLt_bf16_f32)
/-- The keys: each head's columns, the shared row, zeros. -/
def keys (z : FVec Ideal S32x256x1024 .f32) (r : FVec Ideal S32x256x64 .f32) : FVec Ideal S32x256x8x256 .f32 :=
  concatenate S32x256x8x256 3 [⟨S32x256x8x128, shapeCast S32x256x8x128 z shapeCasts_S32x256x1024_S32x256x8x128⟩,
    ⟨S32x256x8x64, broadcastInDim S32x256x8x64 ![0, 1, 2, 3] bcast_S32x256x1x64_S32x256x8x64_0_1_2_3 (broadcastInDim S32x256x1x64 ![0, 1, 3] bcast_S32x256x64_S32x256x1x64_0_1_3 r)⟩, ⟨S32x256x8x64, fill⟩]
    concatenates_S32x256x8x128_S32x256x8x64_S32x256x8x64_S32x256x8x256_d3
/-- All tokens' heads in one list, rounded. -/
def flatH (z : FVec Ideal S32x256x8x256 .f32) : FVec Ideal S8192x2048 .bf16 := truncf .bf16 (shapeCast S8192x2048 z shapeCasts_S32x256x8x256_S8192x2048) bitsLt_bf16_f32
/-- All tokens' values in one list, rounded. -/
def flatV (z : FVec Ideal S32x256x1024 .f32) : FVec Ideal S8192x1024 .bf16 := truncf .bf16 (shapeCast S8192x1024 z shapeCasts_S32x256x1024_S8192x1024) bitsLt_bf16_f32
/-- All tokens' latents in one list. -/
def flatC (z : FVec Ideal S32x256x256 .f32) : FVec Ideal S8192x256 .f32 := shapeCast S8192x256 z shapeCasts_S32x256x256_S8192x256
/-- All tokens' key rows in one list. -/
def flatR (z : FVec Ideal S32x256x64 .f32) : FVec Ideal S8192x64 .f32 := shapeCast S8192x64 z shapeCasts_S32x256x64_S8192x64

/-- The modulated rows read at an index. -/
theorem hid_at (x w g) (b : Fin 32) (n : Fin 256) (j : Fin 1024) : hid x w g (ix3 b n j)
    = modulated 0x44800000#32 (fun k => x (ix2 ⟨b.val * 256 + n.val, by omega⟩ k)) (fun k => g (ix2 0 k)) (fun k => w (ix4 1 0 0 ⟨0 + k.val, by omega⟩)) (fun k => w (ix4 1 0 0 ⟨1024 + k.val, by omega⟩)) j := by
  unfold hid
  rw [RefP.modn_at, RefP.normed_at, RefP.invs_at, RefP.part_at _ _ _ _ _ (show 1 < 2 by omega) (by omega), RefP.part_at _ _ _ _ _ (show 1 < 2 by omega) (by omega), one_eq]
  simp only [RefP.seqs_at]
  rfl
/-- The queries' product read at an index. -/
theorem latP_at (h w) (b : Fin 32) (n : Fin 256) (j : Fin 512) : latP h w (ix3 b n j) = dot (fun d => h (ix3 b n d)) (fun d j => w (ix3 0 d j)) j := by
  pointwise [latP, dot]
/-- The queries' latent read at an index. -/
theorem latN_at (z g) (b : Fin 32) (n : Fin 256) (j : Fin 512) : latN z g (ix3 b n j) = rms 0x44000000#32 (fun k => z (ix3 b n k)) (fun k => g (ix2 0 k)) j := by
  pointwise [latN, rms, Rows.inv]
/-- The queries read at an index. -/
theorem quer_at (z w) (b : Fin 32) (n : Fin 256) (h : Fin 8) (j : Fin 192) : quer z w (ix4 b n h j) = dot (fun d => z (ix3 b n d)) (fun d j => w (ix2 d j)) ⟨h.val * 256 + j.val, by omega⟩ := by
  pointwise [quer, dot]
/-- The scaled queries read at an index. -/
theorem queries_at (z) (b : Fin 32) (n : Fin 256) (h : Fin 8) (j : Fin 256) : queries z (ix4 b n h j) = if hj : j.val < 192 then z (ix4 b n h ⟨j.val, hj⟩) * scale else 0 := by
  pointwise [queries, fill]
/-- The second product read at an index. -/
theorem kvP_at (h w) (b : Fin 32) (n : Fin 256) (j : Fin 320) : kvP h w (ix3 b n j) = dot (fun d => h (ix3 b n d)) (fun d j => w (ix2 d j)) ⟨j.val, by omega⟩ := by
  pointwise [kvP, dot]
/-- The first columns read at an index. -/
theorem kvA_at (z) (b : Fin 32) (n : Fin 256) (j : Fin 256) : kvA z (ix3 b n j) = z (ix3 b n ⟨j.val, by omega⟩) := by
  pointwise [kvA]
/-- The last columns read at an index. -/
theorem kvB_at (z) (b : Fin 32) (n : Fin 256) (j : Fin 64) : kvB z (ix3 b n j) = z (ix3 b n ⟨256 + j.val, by omega⟩) := by
  pointwise [kvB]
/-- The keys' and values' latent read at an index. -/
theorem kvN_at (z g) (b : Fin 32) (n : Fin 256) (j : Fin 256) : kvN z g (ix3 b n j) = rms 0x43800000#32 (fun k => z (ix3 b n k)) (fun k => g (ix2 0 k)) j := by
  pointwise [kvN, rms, Rows.inv]
/-- The expanded latent read at an index. -/
theorem up_at (a w) (b : Fin 32) (n : Fin 256) (j : Fin 1024) : up a w (ix3 b n j) = dot (fun d => a (ix3 b n d)) (fun d j => w (ix2 d j)) j := by
  pointwise [up, dot]
/-- The keys read at an index. -/
theorem keys_at (z r) (b : Fin 32) (n : Fin 256) (h : Fin 8) (j : Fin 256) : keys z r (ix4 b n h j)
    = if hj : j.val < 128 then z (ix3 b n ⟨h.val * 128 + j.val, by omega⟩) else if hj : j.val - 128 < 64 then r (ix3 b n ⟨j.val - 128, hj⟩) else 0 := by
  pointwise [keys, fill]
/-- The list of heads read at an index. -/
theorem flatH_at (z) (n : Fin 8192) (j : Fin 2048) : flatH z (ix2 n j) = z (ix4 ⟨n.val / 256, by omega⟩ ⟨n.val % 256, by omega⟩ ⟨j.val / 256, by omega⟩ ⟨j.val % 256, by omega⟩) := by
  pointwise [flatH]
/-- The list of values read at an index. -/
theorem flatV_at (z) (n : Fin 8192) (j : Fin 1024) : flatV z (ix2 n j) = z (ix3 ⟨n.val / 256, by omega⟩ ⟨n.val % 256, by omega⟩ j) := by
  pointwise [flatV]
/-- The list of latents read at an index. -/
theorem flatC_at (z) (n : Fin 8192) (j : Fin 256) : flatC z (ix2 n j) = z (ix3 ⟨n.val / 256, by omega⟩ ⟨n.val % 256, by omega⟩ j) := by
  pointwise [flatC]
/-- The list of key rows read at an index. -/
theorem flatR_at (z) (n : Fin 8192) (j : Fin 64) : flatR z (ix2 n j) = z (ix3 ⟨n.val / 256, by omega⟩ ⟨n.val % 256, by omega⟩ j) := by
  pointwise [flatR]

end ProjP.Ref
end
-- ==== Proof.ProjP.Claims.lean ====
module

public import proofs.«01_k».proof.Proof.ProjP.Kernel
public import proofs.«01_k».proof.Proof.ProjP.Ref
public import proofs.«01_k».proof.Defs
public import proofs.«01_k».proof.Proof.Gen.ProjP.Frame
public import proofs.«01_k».proof.Proof.Gen.ProjPIdeal.Frame
public import proofs.«01_k».proof.Proof.Gen.ProjPRefIdeal
public import Idealize.ShloMosaic.Adequacy
public import Idealize.ShloMosaic.Init

@[expose] public section

set_option maxRecDepth 16384

noncomputable section

open Idealize.ShloMosaic Idealize.ShloMosaic.TcCoe Idealize.SL.Sem

/-! The results of the projections' reference, and the claims about the call. -/

namespace Cert.ProjPRefIdeal.Value
open Cert.ProjPRefIdeal Cert.ProjPRefIdeal.Gen ProjP.Ref

/-- The reference's queries over its arguments. -/
def hostQ (x : FVec Ideal S8192x1024 .f32) (w : FVec Ideal S2x16x1x6144 .f32) (n1 : FVec Ideal S1x1024 .f32) (wq : FVec Ideal S1x1024x512 .bf16) (gq : FVec Ideal S1x512 .f32) (uq : FVec Ideal S512x2048 .bf16) : FVec Ideal S8192x2048 .bf16 := flatH (queries (quer (latN (latP (hid x w n1) wq) gq) uq))
/-- The reference's keys over its arguments. -/
def hostK (x : FVec Ideal S8192x1024 .f32) (w : FVec Ideal S2x16x1x6144 .f32) (n1 : FVec Ideal S1x1024 .f32) (wk : FVec Ideal S1024x384 .bf16) (gk : FVec Ideal S1x256 .f32) (uk : FVec Ideal S256x1024 .bf16) : FVec Ideal S8192x2048 .bf16 := flatH (keys (up (kvN (kvA (kvP (hid x w n1) wk)) gk) uk) (kvB (kvP (hid x w n1) wk)))
/-- The reference's values over its arguments. -/
def hostV (x : FVec Ideal S8192x1024 .f32) (w : FVec Ideal S2x16x1x6144 .f32) (n1 : FVec Ideal S1x1024 .f32) (wk : FVec Ideal S1024x384 .bf16) (gk : FVec Ideal S1x256 .f32) (uv : FVec Ideal S256x1024 .bf16) : FVec Ideal S8192x1024 .bf16 := flatV (up (kvN (kvA (kvP (hid x w n1) wk)) gk) uv)
/-- The reference's latents over its arguments. -/
def hostC (x : FVec Ideal S8192x1024 .f32) (w : FVec Ideal S2x16x1x6144 .f32) (n1 : FVec Ideal S1x1024 .f32) (wk : FVec Ideal S1024x384 .bf16) (gk : FVec Ideal S1x256 .f32) : FVec Ideal S8192x256 .f32 := flatC (kvN (kvA (kvP (hid x w n1) wk)) gk)
/-- The reference's key rows over its arguments. -/
def hostR (x : FVec Ideal S8192x1024 .f32) (w : FVec Ideal S2x16x1x6144 .f32) (n1 : FVec Ideal S1x1024 .f32) (wk : FVec Ideal S1024x384 .bf16) : FVec Ideal S8192x64 .f32 := flatR (kvB (kvP (hid x w n1) wk))
/-- The reference's result array of the queries over its arguments. -/
theorem refQ (m : (ℓ : Loc nD τ sig) → Buf (Elt Ideal) ℓ) (c : Dev nD) : res_out0 m c = hostQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl
/-- The reference's result array of the keys over its arguments. -/
theorem refK (m : (ℓ : Loc nD τ sig) → Buf (Elt Ideal) ℓ) (c : Dev nD) : res_out1 m c = hostK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) := rfl
/-- The reference's result array of the values over its arguments. -/
theorem refV (m : (ℓ : Loc nD τ sig) → Buf (Elt Ideal) ℓ) (c : Dev nD) : res_out2 m c = hostV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) := rfl
/-- The reference's result array of the latents over its arguments. -/
theorem refC (m : (ℓ : Loc nD τ sig) → Buf (Elt Ideal) ℓ) (c : Dev nD) : res_out3 m c = hostC (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := rfl

end Cert.ProjPRefIdeal.Value

namespace ProjP
open Cert.ProjPRefIdeal.Value

/-- A token's number from its sequence and place. -/
theorem token (n : Fin 8192) : (⟨n.val / 256 * 256 + n.val % 256, by omega⟩ : Fin 8192) = n := Fin.ext (show n.val / 256 * 256 + n.val % 256 = n.val by omega)

/-- The row of a token the reference's projections read is the kernel's. -/
theorem hid_row (x w n1) (n : Fin 8192) (j : Fin 1024) : Ref.hid x w n1 (ix3 ⟨n.val / 256, by omega⟩ ⟨n.val % 256, by omega⟩ j) = inputRow x w n1 n j := by
  rw [Ref.hid_at]
  simp only [token]
  rfl
/-- The latent of a token. -/
theorem lat_row (x w n1 wk gk) (n : Fin 8192) (j : Fin 256) :
    Ref.kvN (Ref.kvA (Ref.kvP (Ref.hid x w n1) wk)) gk (ix3 ⟨n.val / 256, by omega⟩ ⟨n.val % 256, by omega⟩ j) = outC x w n1 wk gk n j := by
  rw [Ref.kvN_at]
  simp only [Ref.kvA_at, Ref.kvP_at, hid_row]
  rfl
/-- The key row of a token. -/
theorem key_row (x w n1 wk) (n : Fin 8192) (j : Fin 64) :
    Ref.kvB (Ref.kvP (Ref.hid x w n1) wk) (ix3 ⟨n.val / 256, by omega⟩ ⟨n.val % 256, by omega⟩ j) = outR x w n1 wk n j := by
  rw [Ref.kvB_at]
  simp only [Ref.kvP_at, hid_row]
  rfl

/-- The reference's latents are the kernel's. -/
theorem hostC_at (x w n1 wk gk) (n : Fin 8192) (j : Fin 256) : hostC x w n1 wk gk (ix2 n j) = outC x w n1 wk gk n j :=
  (Ref.flatC_at _ n j).trans (lat_row x w n1 wk gk n j)
/-- The reference's key rows are the kernel's. -/
theorem hostR_at (x w n1 wk) (n : Fin 8192) (j : Fin 64) : hostR x w n1 wk (ix2 n j) = outR x w n1 wk n j :=
  (Ref.flatR_at _ n j).trans (key_row x w n1 wk n j)
/-- The reference's values are the kernel's. -/
theorem hostV_at (x w n1 wk gk uv) (n : Fin 8192) (j : Fin 1024) : hostV x w n1 wk gk uv (ix2 n j) = outV x w n1 wk gk uv n j := by
  refine (Ref.flatV_at _ n j).trans ?_
  rw [Ref.up_at]
  simp only [lat_row]
  rfl
/-- The reference's queries are the kernel's. -/
theorem hostQ_at (x w n1 wq gq uq) (n : Fin 8192) (j : Fin 2048) : hostQ x w n1 wq gq uq (ix2 n j) = outQ x w n1 wq gq uq n j := by
  refine (Ref.flatH_at _ n j).trans ?_
  rw [Ref.queries_at]
  simp only [Ref.quer_at, Ref.latN_at, Ref.latP_at, hid_row]
  unfold outQ query
  split
  · exact congrArg (· * scale) (congrArg _ (Fin.ext (show j.val / 256 * 256 + j.val % 256 = j.val by omega)))
  · rfl
/-- The reference's keys are the kernel's. -/
theorem hostK_at (x w n1 wk gk uk) (n : Fin 8192) (j : Fin 2048) : hostK x w n1 wk gk uk (ix2 n j) = outK x w n1 wk gk uk n j := by
  refine (Ref.flatH_at _ n j).trans ?_
  rw [Ref.keys_at]
  simp only [Ref.up_at, lat_row, key_row]
  unfold outK key
  by_cases h : j.val % 256 < 128
  · rw [dif_pos h, if_pos h]
    exact congrArg _ (Fin.ext (show j.val / 256 * 128 + j.val % 256 = j.val / 256 * 128 + j.val % 128 by omega))
  · rw [dif_neg h, if_neg h]
    by_cases h' : j.val % 256 < 192
    · rw [dif_pos (show j.val % 256 - 128 < 64 by omega), if_pos h']
      exact congrArg _ (Fin.ext (show j.val % 256 - 128 = j.val % 64 by omega))
    · rw [dif_neg (show ¬ j.val % 256 - 128 < 64 by omega), if_neg h']

section
variable (m : (ℓ : Loc Cert.ProjPIdeal.nD Cert.ProjPIdeal.τ Cert.ProjPIdeal.sig) → Buf (Elt Ideal) ℓ) (m' : (ℓ : Loc Cert.ProjPRefIdeal.nD Cert.ProjPRefIdeal.τ Cert.ProjPRefIdeal.sig) → Buf (Elt Ideal) ℓ) (c : Dev Cert.ProjPIdeal.nD)
/-- From equal arguments the kernel's and the reference's queries are equal. -/
theorem agreeQ (h0 : m ((c.tc : Thread Cert.ProjPIdeal.nD Cert.ProjPIdeal.τ).loc Cert.ProjPIdeal.main_arg0) = m' ((c.tc : Thread Cert.ProjPRefIdeal.nD Cert.ProjPRefIdeal.τ).loc Cert.ProjPRefIdeal.main_arg0)) (h1 : m ((c.tc : Thread Cert.ProjPIdeal.nD Cert.ProjPIdeal.τ).loc Cert.ProjPIdeal.main_arg1) = m' ((c.tc : Thread Cert.ProjPRefIdeal.nD Cert.ProjPRefIdeal.τ).loc Cert.ProjPRefIdeal.main_arg1)) (h2 : m ((c.tc : Thread Cert.ProjPIdeal.nD Cert.ProjPIdeal.τ).loc Cert.ProjPIdeal.main_arg2) = m' ((c.tc : Thread Cert.ProjPRefIdeal.nD Cert.ProjPRefIdeal.τ).loc Cert.ProjPRefIdeal.main_arg2)) (h3 : m ((c.tc : Thread Cert.ProjPIdeal.nD Cert.ProjPIdeal.τ).loc Cert.ProjPIdeal.main_arg3) = m' ((c.tc : Thread Cert.ProjPRefIdeal.nD Cert.ProjPRefIdeal.τ).loc Cert.ProjPRefIdeal.main_arg3)) (h4 : m ((c.tc : Thread Cert.ProjPIdeal.nD Cert.ProjPIdeal.τ).loc Cert.ProjPIdeal.main_arg4) = m' ((c.tc : Thread Cert.ProjPRefIdeal.nD Cert.ProjPRefIdeal.τ).loc Cert.ProjPRefIdeal.main_arg4)) (h5 : m ((c.tc : Thread Cert.ProjPIdeal.nD Cert.ProjPIdeal.τ).loc Cert.ProjPIdeal.main_arg5) = m' ((c.tc : Thread Cert.ProjPRefIdeal.nD Cert.ProjPRefIdeal.τ).loc Cert.ProjPRefIdeal.main_arg5)) :
    Cert.ProjPIdeal.Value.resQ m c = hostQ (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg3)) (m' ((c.tc : Thread Cert.ProjPRefIdeal.nD Cert.ProjPRefIdeal.τ).loc Cert.ProjPRefIdeal.main_arg4)) (m' ((c.tc : Thread Cert.ProjPRefIdeal.nD Cert.ProjPRefIdeal.τ).loc Cert.ProjPRefIdeal.main_arg5)) := by
  rw [← h0, ← h1, ← h2, ← h3, ← h4, ← h5]
  funext y
  obtain ⟨n, j, rfl⟩ : ∃ (n : Fin 8192) (j : Fin 2048), y = ix2 n j := ⟨y 0, y 1, by funext a; fin_cases a <;> rfl⟩
  exact (hostQ_at _ _ _ _ _ _ n j).symm
/-- From equal arguments the kernel's and the reference's keys are equal. -/
theorem agreeK (h0 : m ((c.tc : Thread Cert.ProjPIdeal.nD Cert.ProjPIdeal.τ).loc Cert.ProjPIdeal.main_arg0) = m' ((c.tc : Thread Cert.ProjPRefIdeal.nD Cert.ProjPRefIdeal.τ).loc Cert.ProjPRefIdeal.main_arg0)) (h1 : m ((c.tc : Thread Cert.ProjPIdeal.nD Cert.ProjPIdeal.τ).loc Cert.ProjPIdeal.main_arg1) = m' ((c.tc : Thread Cert.ProjPRefIdeal.nD Cert.ProjPRefIdeal.τ).loc Cert.ProjPRefIdeal.main_arg1)) (h2 : m ((c.tc : Thread Cert.ProjPIdeal.nD Cert.ProjPIdeal.τ).loc Cert.ProjPIdeal.main_arg2) = m' ((c.tc : Thread Cert.ProjPRefIdeal.nD Cert.ProjPRefIdeal.τ).loc Cert.ProjPRefIdeal.main_arg2)) (h6 : m ((c.tc : Thread Cert.ProjPIdeal.nD Cert.ProjPIdeal.τ).loc Cert.ProjPIdeal.main_arg6) = m' ((c.tc : Thread Cert.ProjPRefIdeal.nD Cert.ProjPRefIdeal.τ).loc Cert.ProjPRefIdeal.main_arg6)) (h7 : m ((c.tc : Thread Cert.ProjPIdeal.nD Cert.ProjPIdeal.τ).loc Cert.ProjPIdeal.main_arg7) = m' ((c.tc : Thread Cert.ProjPRefIdeal.nD Cert.ProjPRefIdeal.τ).loc Cert.ProjPRefIdeal.main_arg7)) (h8 : m ((c.tc : Thread Cert.ProjPIdeal.nD Cert.ProjPIdeal.τ).loc Cert.ProjPIdeal.main_arg8) = m' ((c.tc : Thread Cert.ProjPRefIdeal.nD Cert.ProjPRefIdeal.τ).loc Cert.ProjPRefIdeal.main_arg8)) :
    Cert.ProjPIdeal.Value.resK m c = hostK (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg6)) (m' ((c.tc : Thread Cert.ProjPRefIdeal.nD Cert.ProjPRefIdeal.τ).loc Cert.ProjPRefIdeal.main_arg7)) (m' ((c.tc : Thread Cert.ProjPRefIdeal.nD Cert.ProjPRefIdeal.τ).loc Cert.ProjPRefIdeal.main_arg8)) := by
  rw [← h0, ← h1, ← h2, ← h6, ← h7, ← h8]
  funext y
  obtain ⟨n, j, rfl⟩ : ∃ (n : Fin 8192) (j : Fin 2048), y = ix2 n j := ⟨y 0, y 1, by funext a; fin_cases a <;> rfl⟩
  exact (hostK_at _ _ _ _ _ _ n j).symm
/-- From equal arguments the kernel's and the reference's values are equal. -/
theorem agreeV (h0 : m ((c.tc : Thread Cert.ProjPIdeal.nD Cert.ProjPIdeal.τ).loc Cert.ProjPIdeal.main_arg0) = m' ((c.tc : Thread Cert.ProjPRefIdeal.nD Cert.ProjPRefIdeal.τ).loc Cert.ProjPRefIdeal.main_arg0)) (h1 : m ((c.tc : Thread Cert.ProjPIdeal.nD Cert.ProjPIdeal.τ).loc Cert.ProjPIdeal.main_arg1) = m' ((c.tc : Thread Cert.ProjPRefIdeal.nD Cert.ProjPRefIdeal.τ).loc Cert.ProjPRefIdeal.main_arg1)) (h2 : m ((c.tc : Thread Cert.ProjPIdeal.nD Cert.ProjPIdeal.τ).loc Cert.ProjPIdeal.main_arg2) = m' ((c.tc : Thread Cert.ProjPRefIdeal.nD Cert.ProjPRefIdeal.τ).loc Cert.ProjPRefIdeal.main_arg2)) (h6 : m ((c.tc : Thread Cert.ProjPIdeal.nD Cert.ProjPIdeal.τ).loc Cert.ProjPIdeal.main_arg6) = m' ((c.tc : Thread Cert.ProjPRefIdeal.nD Cert.ProjPRefIdeal.τ).loc Cert.ProjPRefIdeal.main_arg6)) (h7 : m ((c.tc : Thread Cert.ProjPIdeal.nD Cert.ProjPIdeal.τ).loc Cert.ProjPIdeal.main_arg7) = m' ((c.tc : Thread Cert.ProjPRefIdeal.nD Cert.ProjPRefIdeal.τ).loc Cert.ProjPRefIdeal.main_arg7)) (h9 : m ((c.tc : Thread Cert.ProjPIdeal.nD Cert.ProjPIdeal.τ).loc Cert.ProjPIdeal.main_arg9) = m' ((c.tc : Thread Cert.ProjPRefIdeal.nD Cert.ProjPRefIdeal.τ).loc Cert.ProjPRefIdeal.main_arg9)) :
    Cert.ProjPIdeal.Value.resV m c = hostV (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg6)) (m' ((c.tc : Thread Cert.ProjPRefIdeal.nD Cert.ProjPRefIdeal.τ).loc Cert.ProjPRefIdeal.main_arg7)) (m' ((c.tc : Thread Cert.ProjPRefIdeal.nD Cert.ProjPRefIdeal.τ).loc Cert.ProjPRefIdeal.main_arg9)) := by
  rw [← h0, ← h1, ← h2, ← h6, ← h7, ← h9]
  funext y
  obtain ⟨n, j, rfl⟩ : ∃ (n : Fin 8192) (j : Fin 1024), y = ix2 n j := ⟨y 0, y 1, by funext a; fin_cases a <;> rfl⟩
  exact (hostV_at _ _ _ _ _ _ n j).symm
/-- From equal arguments the kernel's and the reference's latents are equal. -/
theorem agreeC (h0 : m ((c.tc : Thread Cert.ProjPIdeal.nD Cert.ProjPIdeal.τ).loc Cert.ProjPIdeal.main_arg0) = m' ((c.tc : Thread Cert.ProjPRefIdeal.nD Cert.ProjPRefIdeal.τ).loc Cert.ProjPRefIdeal.main_arg0)) (h1 : m ((c.tc : Thread Cert.ProjPIdeal.nD Cert.ProjPIdeal.τ).loc Cert.ProjPIdeal.main_arg1) = m' ((c.tc : Thread Cert.ProjPRefIdeal.nD Cert.ProjPRefIdeal.τ).loc Cert.ProjPRefIdeal.main_arg1)) (h2 : m ((c.tc : Thread Cert.ProjPIdeal.nD Cert.ProjPIdeal.τ).loc Cert.ProjPIdeal.main_arg2) = m' ((c.tc : Thread Cert.ProjPRefIdeal.nD Cert.ProjPRefIdeal.τ).loc Cert.ProjPRefIdeal.main_arg2)) (h6 : m ((c.tc : Thread Cert.ProjPIdeal.nD Cert.ProjPIdeal.τ).loc Cert.ProjPIdeal.main_arg6) = m' ((c.tc : Thread Cert.ProjPRefIdeal.nD Cert.ProjPRefIdeal.τ).loc Cert.ProjPRefIdeal.main_arg6)) (h7 : m ((c.tc : Thread Cert.ProjPIdeal.nD Cert.ProjPIdeal.τ).loc Cert.ProjPIdeal.main_arg7) = m' ((c.tc : Thread Cert.ProjPRefIdeal.nD Cert.ProjPRefIdeal.τ).loc Cert.ProjPRefIdeal.main_arg7)) :
    Cert.ProjPIdeal.Value.resC m c = hostC (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg6)) (m' ((c.tc : Thread Cert.ProjPRefIdeal.nD Cert.ProjPRefIdeal.τ).loc Cert.ProjPRefIdeal.main_arg7)) := by
  rw [← h0, ← h1, ← h2, ← h6, ← h7]
  funext y
  obtain ⟨n, j, rfl⟩ : ∃ (n : Fin 8192) (j : Fin 256), y = ix2 n j := ⟨y 0, y 1, by funext a; fin_cases a <;> rfl⟩
  exact (hostC_at _ _ _ _ _ n j).symm
/-- The kernel's key rows are the reference's of the same arguments. -/
theorem agreeR : Cert.ProjPIdeal.Value.resR m c = hostR (m ((c.tc : Thread Cert.ProjPIdeal.nD Cert.ProjPIdeal.τ).loc Cert.ProjPIdeal.main_arg0)) (m ((c.tc : Thread Cert.ProjPIdeal.nD Cert.ProjPIdeal.τ).loc Cert.ProjPIdeal.main_arg1)) (m ((c.tc : Thread Cert.ProjPIdeal.nD Cert.ProjPIdeal.τ).loc Cert.ProjPIdeal.main_arg2)) (m ((c.tc : Thread Cert.ProjPIdeal.nD Cert.ProjPIdeal.τ).loc Cert.ProjPIdeal.main_arg6)) := by
  funext y
  obtain ⟨n, j, rfl⟩ : ∃ (n : Fin 8192) (j : Fin 64), y = ix2 n j := ⟨y 0, y 1, by funext a; fin_cases a <;> rfl⟩
  exact (hostR_at _ _ _ _ n j).symm
end

/-- The printed kernel runs, keeps its arguments and ends quiescent. -/
theorem frame : Cert.quiescent_ProjP := fun m ρ _ => Cert.ProjP.Gen.frame m ρ
/-- The kernel over the extended reals runs, keeps its arguments and ends quiescent. -/
theorem frame_ideal : Cert.quiescent_ProjPIdeal := fun m ρ _ => Cert.ProjPIdeal.Gen.frame m ρ
/-- The reference runs, keeps its arguments and ends quiescent. -/
theorem frame_ref : Cert.quiescent_ProjPRefIdeal := fun m g _ =>
  (θ_run _ _ _).mono (fun r h => ⟨fun c => (h c).2.2.2.2.2, sem_eq_zero_of_no_sems (by decide) r.2⟩) (Cert.ProjPRefIdeal.Value.run m g)
/-- The kernel's five results are the reference's. -/
theorem algebraic : Cert.algebraic_ProjPIdeal_ProjPRefIdeal := by
  pair_intro
  · run_from Cert.ProjPIdeal.Value.run_blocks m g
  · run_from Cert.ProjPRefIdeal.Value.run m' g'
    · exact ((Cert.ProjPIdeal.Value.finalQ m c).trans (agreeQ m m' c (hagree c).1.symm (hagree c).2.1.symm (hagree c).2.2.1.symm (hagree c).2.2.2.1.symm (hagree c).2.2.2.2.1.symm (hagree c).2.2.2.2.2.1.symm)).symm
    · exact ((Cert.ProjPIdeal.Value.finalK m c).trans (agreeK m m' c (hagree c).1.symm (hagree c).2.1.symm (hagree c).2.2.1.symm (hagree c).2.2.2.2.2.2.1.symm (hagree c).2.2.2.2.2.2.2.1.symm (hagree c).2.2.2.2.2.2.2.2.1.symm)).symm
    · exact ((Cert.ProjPIdeal.Value.finalV m c).trans (agreeV m m' c (hagree c).1.symm (hagree c).2.1.symm (hagree c).2.2.1.symm (hagree c).2.2.2.2.2.2.1.symm (hagree c).2.2.2.2.2.2.2.1.symm (hagree c).2.2.2.2.2.2.2.2.2.symm)).symm
    · exact ((Cert.ProjPIdeal.Value.finalC m c).trans (agreeC m m' c (hagree c).1.symm (hagree c).2.1.symm (hagree c).2.2.1.symm (hagree c).2.2.2.2.2.2.1.symm (hagree c).2.2.2.2.2.2.2.1.symm)).symm
    · exact ((Cert.ProjPIdeal.Value.finalR m c).trans (agreeR m c)).symm

end ProjP
end
-- ==== Proof.Modul.Kernel.lean ====
module

public import proofs.«01_k».proof.Proof.Gen.ModulIdeal.Value
public import Idealize.ShloMosaic.Lib.Pipeline.ValueKit
public import proofs.«01_k».proof.Proof.Rows.Spec

@[expose] public section

set_option maxRecDepth 16384

noncomputable section

open Idealize.ShloMosaic Idealize.ShloMosaic.TcCoe Idealize.SL.Sem
open Idealize.ShloMosaic.Pipeline (Dat)

/-! What the call that makes the modulation rows leaves in its result. -/

namespace Modul
/-- The silu of a number. -/
def silu (z : EReal) : EReal := z * Ideal.logistic z
/-- The modulation row of layer `l` and condition `b`. -/
def out (C : FVec Ideal ⟨2, ![16, 1024]⟩ .f32) (W : FVec Ideal ⟨3, ![2, 1024, 6144]⟩ .f32) (B : FVec Ideal ⟨2, ![2, 6144]⟩ .f32) (l : Fin 2) (b : Fin 16) (j : Fin 6144) : EReal :=
  Rows.dot (fun d => silu (C (ix2 b d))) (fun d j => W (ix3 l d j)) j + B (ix2 l j)
end Modul

namespace Cert.ModulIdeal.Value
open Cert.ModulIdeal Cert.ModulIdeal.Gen Modul

variable (x0 : FVec Ideal S16x1024 .f32) (x1 : FVec Ideal S1x1024x1536 .f32) (x2 : FVec Ideal S1x1x1536 .f32)

/-- A block's modulation rows. -/
def blk (b : Fin 16) (j : Fin 1536) : EReal := Rows.dot (fun d => silu (x0 (ix2 b d))) (fun d j => x1 (ix3 0 d j)) j + x2 (ix3 0 0 j)

/-- The offset words of the loads. -/
theorem z2 : (![0, 0] : Fin 2 → ℕ) = fun _ => 0 := by funext a; fin_cases a <;> rfl
/-- The offset words of the loads. -/
theorem z3 : (![0, 0, 0] : Fin 3 → ℕ) = fun _ => 0 := by funext a; fin_cases a <;> rfl

/-- The stored block read at an index. -/
theorem pay_at (b : Fin 16) (j : Fin 1536) : k0_pay1 (F := Ideal) x0 x1 x2 (ix3 0 b j) = blk x0 x1 x2 b j := by
  pointwise [k0_pay1, blk, Rows.dot, silu]

/-- The modulation rows a grid point leaves. -/
theorem out_at (y : S1x16x1536.Idx) : out0_3 (F := Ideal) x0 x1 x2 y = blk x0 x1 x2 (y 1) (y 2) := by
  have e : out0_3 (F := Ideal) x0 x1 x2 = View.canon (Val := Elt Ideal) (s := S1x16x1536) (e := .f32) [⟨r0_3, k0_pay1 (F := Ideal) (View.ld (Val := Elt Ideal) (e' := .f32) x0 r0_0) (View.ld (Val := Elt Ideal) (e' := .f32) x1 r0_1) (View.ld (Val := Elt Ideal) (e' := .f32) x2 r0_2)⟩] := rfl
  rw [e, View.ld_unit_zero z2, View.ld_unit_zero z3, View.ld_unit_zero z3, View.canon_unit_zero z3]
  obtain ⟨b, j, rfl⟩ : ∃ (b : Fin 16) (j : Fin 1536), y = ix3 0 b j := ⟨y 1, y 2, by
    funext c; fin_cases c
    · exact Fin.ext (Nat.lt_one_iff.mp (show (y 0).val < 1 from (y 0).isLt))
    · rfl
    · rfl⟩
  exact pay_at x0 x1 x2 b j

variable (m : (ℓ : Loc nD τ sig) → Buf (Elt Ideal) ℓ)

/-- The blocks of a grid point. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ t.val < 8 :=
  (by decide +kernel : ∀ t : Fin grid0.N, _)

/-- The biases in rows. -/
def rows (x : FVec Ideal S2x6144 .f32) : FVec Ideal S2x1x6144 .f32 := shapeCast S2x1x6144 x shapeCasts_S2x6144_S2x1x6144
/-- The biases in rows, read at an index. -/
theorem rows_at (x) (l : Fin 2) (j : Fin 6144) : rows x (ix3 l 0 j) = x (ix2 l j) := by
  pointwise [rows]
/-- The biases the region finds are the argument's rows. -/
theorem bias (c : Dev nD) : V m c main_v0 = rows (m ((c.tc : Thread nD τ).loc main_arg2)) := by
  rfl
/-- The biases the region finds, read at an index. -/
theorem bias_at (c : Dev nD) (l : Fin 2) (j : Fin 6144) : (V m c main_v0 : FVec Ideal S2x1x6144 .f32) (ix3 l 0 j) = m ((c.tc : Thread nD τ).loc main_arg2) (ix2 l j) := by
  rw [bias]
  exact rows_at _ l j

/-- The result array over the argument arrays. -/
abbrev res (c : Dev nD) : FVec Ideal S2x16x6144 .f32 := fun y => Modul.out (m ((c.tc : Thread nD τ).loc main_arg0)) (m ((c.tc : Thread nD τ).loc main_arg1)) (m ((c.tc : Thread nD τ).loc main_arg2)) (y 0) (y 1) (y 2)

/-- A grid point's rows are the result's there. -/
theorem point (c : Dev nD) (t : Fin cfg0.N) (l : Fin 2) (b b' : Fin 16) (j : Fin 1536) (j' : Fin 6144) (hl : l.val = t.val / 4) (hb : b'.val = b.val) (hj : j'.val = t.val % 4 * 1536 + j.val) :
    blk (iblk m c 0 t) (iblk m c 1 t) (iblk m c 2 t) b j = Modul.out (m ((c.tc : Thread nD τ).loc main_arg0)) (m ((c.tc : Thread nD τ).loc main_arg1)) (m ((c.tc : Thread nD τ).loc main_arg2)) l b' j' := by
  obtain rfl := Fin.ext hb
  have ht : t.val < 8 := (idx t).2.2.2.2
  unfold blk Modul.out
  refine congrArg₂ (· + ·) ?_ ((?_ : _ = (V m c main_v0 : FVec Ideal S2x1x6144 .f32) (ix3 l 0 j')).trans (bias_at m c l j'))
  · unfold Rows.dot
    refine Finset.sum_congr rfl fun d _ => congrArg₂ (· * ·) (congrArg _ ?_) ?_
    · blk_ext [iblk, V, idx t]
    · blk_ext [iblk, V, idx t]
  · blk_ext [iblk, idx t]

/-- The result array after the run. -/
theorem final (c : Dev nD) : (dats m 0 c).arrAt 3 (cfgs 0).N = res m c := by
  refine (dats m 0 c).arrAt_eq_of_covers 3 _ (by decide +kernel) fun t _ y => ?_
  blk_simp
  rw [after0_3]
  rw [out_at]
  refine point m c t _ (y 1) _ (y 2) _ ?_ ?_ ?_
  · blk_simp [idx t]
  · blk_simp [idx t]
  · blk_simp [idx t]

end Cert.ModulIdeal.Value
end
-- ==== Proof.Modul.Claims.lean ====
module

public import proofs.«01_k».proof.Proof.Modul.Kernel
public import proofs.«01_k».proof.Proof.Gen.ModulRefIdeal.Run
public import proofs.«01_k».proof.Defs
public import proofs.«01_k».proof.Proof.Gen.Modul.Frame
public import proofs.«01_k».proof.Proof.Gen.ModulIdeal.Frame
public import proofs.«01_k».proof.Proof.Gen.ModulRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the modulation rows, and the claims about the call. -/

namespace Cert.ModulRefIdeal.Value
open Cert.ModulRefIdeal Cert.ModulRefIdeal.Gen

/-- The silu of the conditions. -/
def acts (x : FVec Ideal S16x1024 .f32) : FVec Ideal S16x1024 .f32 :=
  mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))
/-- A layer's rows. -/
def layer (l : ℕ) (hw : S2x1024x6144.Slices ![l, 0, 0] S1x1024x6144) (hb : S2x6144.Slices ![l, 0] S1x6144) (x : FVec Ideal S16x1024 .f32) (w : FVec Ideal S2x1024x6144 .f32) (b : FVec Ideal S2x6144 .f32) : FVec Ideal S1x16x6144 .f32 :=
  broadcastInDim S1x16x6144 ![1, 2] bcast_S16x6144_S1x16x6144_1_2 (addf (Host.dotGeneral dot_S16x1024_S1024x6144_S16x6144_1_0_0_1_n_n none x (shapeCast S1024x6144 (extractStridedSlice S1x1024x6144 ![l, 0, 0] w hw) shapeCasts_S1x1024x6144_S1024x6144))
    (broadcastInDim S16x6144 ![0, 1] bcast_S1x6144_S16x6144_0_1 (broadcastInDim S1x6144 ![1] bcast_S6144_S1x6144_1 (shapeCast S6144 (extractStridedSlice S1x6144 ![l, 0] b hb) shapeCasts_S1x6144_S6144))))
/-- The two layers' rows together. -/
def stack (a b : FVec Ideal S1x16x6144 .f32) : FVec Ideal S2x16x6144 .f32 := concatenate S2x16x6144 0 [⟨S1x16x6144, a⟩, ⟨S1x16x6144, b⟩] concatenates_S1x16x6144_S1x16x6144_S2x16x6144_d0
/-- The reference over its arguments. -/
def host (x : FVec Ideal S16x1024 .f32) (w : FVec Ideal S2x1024x6144 .f32) (b : FVec Ideal S2x6144 .f32) : FVec Ideal S2x16x6144 .f32 :=
  stack (layer 0 slices_S2x1024x6144_S1x1024x6144_0_0_0 slices_S2x6144_S1x6144_0_0 (acts x) w b) (layer 1 slices_S2x1024x6144_S1x1024x6144_1_0_0 slices_S2x6144_S1x6144_1_0 (acts x) w b)

/-- The silu of the conditions read at an index. -/
theorem acts_at (x) (b : Fin 16) (d : Fin 1024) : acts x (ix2 b d) = Modul.silu (x (ix2 b d)) := by
  have e : acts x (ix2 b d) = x (ix2 b d) * Ideal.div Rows.one (Rows.one + Ideal.exp (-x (ix2 b d))) := by
    pointwise [acts]
  rw [e, Rows.one_eq]
  rfl
/-- A layer's rows read at an index. -/
theorem layer_at (l : ℕ) (hw hb x w b) (hl : l < 2) (i : Fin 16) (j : Fin 6144) :
    layer l hw hb x w b (ix3 0 i j) = Rows.dot (fun d => x (ix2 i d)) (fun d j => w (ix3 ⟨l, hl⟩ d j)) j + b (ix2 ⟨l, hl⟩ j) := by
  pointwise [layer, Rows.dot]
/-- The layers' rows read at an index. -/
theorem stack_at (a b) (l : Fin 2) (i : Fin 16) (j : Fin 6144) : stack a b (ix3 l i j) = if h : l.val < 1 then a (ix3 ⟨l.val, h⟩ i j) else b (ix3 ⟨l.val - 1, by omega⟩ i j) := by
  pointwise [stack]

end Cert.ModulRefIdeal.Value

namespace Modul
open Cert.ModulRefIdeal.Value

/-- The reference's rows are the kernel's. -/
theorem host_eq (x w b) (l : Fin 2) (i : Fin 16) (j : Fin 6144) : host x w b (ix3 l i j) = out x w b l i j := by
  refine (stack_at _ _ l i j).trans ?_
  have key : ∀ hw hb, layer l.val hw hb (acts x) w b (ix3 0 i j) = out x w b l i j := fun hw hb => by
    rw [layer_at _ _ _ _ _ _ l.isLt]
    simp only [acts_at]
    rfl
  fin_cases l
  · exact (dif_pos (show 0 < 1 by omega)).trans (key _ _)
  · exact (dif_neg (show ¬ 1 < 1 by omega)).trans (key _ _)

section
variable (m : (ℓ : Loc Cert.ModulIdeal.nD Cert.ModulIdeal.τ Cert.ModulIdeal.sig) → Buf (Elt Ideal) ℓ) (m' : (ℓ : Loc Cert.ModulRefIdeal.nD Cert.ModulRefIdeal.τ Cert.ModulRefIdeal.sig) → Buf (Elt Ideal) ℓ) (c : Dev Cert.ModulIdeal.nD)
/-- The kernel's rows are the reference's of equal arguments. -/
theorem agree (h2 : m ((c.tc : Thread Cert.ModulIdeal.nD Cert.ModulIdeal.τ).loc Cert.ModulIdeal.main_arg2) = m' ((c.tc : Thread Cert.ModulRefIdeal.nD Cert.ModulRefIdeal.τ).loc Cert.ModulRefIdeal.main_arg2)) :
    Cert.ModulIdeal.Value.res m c = host (m ((c.tc : Thread Cert.ModulIdeal.nD Cert.ModulIdeal.τ).loc Cert.ModulIdeal.main_arg0)) (m ((c.tc : Thread Cert.ModulIdeal.nD Cert.ModulIdeal.τ).loc Cert.ModulIdeal.main_arg1)) (m' ((c.tc : Thread Cert.ModulRefIdeal.nD Cert.ModulRefIdeal.τ).loc Cert.ModulRefIdeal.main_arg2)) := by
  rw [← h2]
  funext y
  obtain ⟨l, i, j, rfl⟩ : ∃ (l : Fin 2) (i : Fin 16) (j : Fin 6144), y = ix3 l i j := ⟨y 0, y 1, y 2, by funext a; fin_cases a <;> rfl⟩
  exact (host_eq _ _ _ l i j).symm
end

/-- The kernel runs, keeps its arguments and ends quiescent. -/
theorem frame : Cert.quiescent_Modul := fun m ρ _ => Cert.Modul.Gen.frame m ρ
/-- The kernel over the extended reals runs, keeps its arguments and ends quiescent. -/
theorem frame_ideal : Cert.quiescent_ModulIdeal := fun m ρ _ => Cert.ModulIdeal.Gen.frame m ρ
/-- The reference runs, keeps its arguments and ends quiescent. -/
theorem frame_ref : Cert.quiescent_ModulRefIdeal := fun m g _ =>
  (θ_run _ _ _).mono (fun r h => ⟨fun c => (h c).2, sem_eq_zero_of_no_sems (by decide) r.2⟩) (Cert.ModulRefIdeal.Value.run m g)
/-- The kernel's result is the reference's. -/
theorem algebraic : Cert.algebraic_ModulIdeal_ModulRefIdeal := by
  pair_intro
  · run_from Cert.ModulIdeal.Value.run_blocks m g
  · run_from Cert.ModulRefIdeal.Value.run m' g'
    exact ((Cert.ModulIdeal.Value.final m c).trans (agree m m' c (hagree c).2.2.symm)).symm

end Modul
end
-- ==== Proof.Cache.Unit.lean ====
module

public import proofs.«01_k».proof.Proof.Gen.CacheIdeal.Value
public import Idealize.ShloMosaic.Lib.Pipeline.ValueKit
public import proofs.«01_k».proof.Proof.Rows.Spec

@[expose] public section

set_option maxRecDepth 16384

noncomputable section

open Idealize.ShloMosaic Idealize.ShloMosaic.TcCoe Idealize.SL.Sem

/-! The stores of keys by head and of transposed values, and what they leave. -/

namespace Cache.Unit
open Cert.CacheIdeal Cert.CacheIdeal.Gen Rows

/-- The latents expanded to all heads. -/
def up (a : FVec Ideal S512x256 .bf16) (w : FVec Ideal S256x1024 .bf16) : FVec Ideal S512x1024 .f32 :=
  matmul dot_S512x256_S256x1024_S512x1024_1_0_0_1_n_n none a w (constant S512x1024 .f32 0x00000000#32)
/-- A head's columns. -/
def part (o : ℕ) (h : S512x1024.Slices ![0, o] S512x128) (z : FVec Ideal S512x1024 .f32) : FVec Ideal S1x512x128 .bf16 :=
  shapeCast S1x512x128 (truncf .bf16 (extractStridedSlice S512x128 ![0, o] z h) bitsLt_bf16_f32) shapeCasts_S512x128_S1x512x128
/-- The columns all heads share. -/
def shared (z : FVec Ideal S512x128 .bf16) : FVec Ideal S1x512x128 .bf16 := shapeCast S1x512x128 z shapeCasts_S512x128_S1x512x128
/-- The values, a column for each token. -/
def vals (a : FVec Ideal S512x256 .bf16) (w : FVec Ideal S1024x256 .bf16) : FVec Ideal S1024x512 .bf16 :=
  truncf .bf16 (matmul dot_S1024x256_S512x256_S1024x512_1_1_0_0_n_n none w a (constant S1024x512 .f32 0x00000000#32)) bitsLt_bf16_f32

/-- The expanded latents read at an index. -/
theorem up_at (a w) (i : Fin 512) (j : Fin 1024) : up a w (ix2 i j) = dot (fun d => a (ix2 i d)) (fun d j => w (ix2 d j)) j := by
  pointwise [up, dot]
/-- A head's columns read at an index. -/
theorem part_at (o h z) (ho : o + 128 ≤ 1024) (i : Fin 512) (j : Fin 128) : part o h z (ix3 0 i j) = z (ix2 i ⟨o + j.val, by omega⟩) := by
  pointwise [part]
/-- The shared columns read at an index. -/
theorem shared_at (z) (i : Fin 512) (j : Fin 128) : shared z (ix3 0 i j) = z (ix2 i j) := by
  pointwise [shared]
/-- The values read at an index. -/
theorem vals_at (a w) (c : Fin 1024) (i : Fin 512) : vals a w (ix2 c i) = ∑ d, w (ix2 c d) * a (ix2 i d) := by
  pointwise [vals]

/-- A unit rectangle of rank three lies inside. -/
theorem inb3 {s u o : Fin 3 → ℕ} (h0 : o 0 + u 0 ≤ s 0) (h1 : o 1 + u 1 ≤ s 1) (h2 : o 2 + u 2 ≤ s 2) (a : Fin 3) : o a + u a ≤ s a := by fin_cases a <;> assumption
/-- A slice of 128 of 1024 columns. -/
theorem sl1024 {o : ℕ} (h : o + 128 ≤ 1024) : S512x1024.Slices ![0, o] S512x128 :=
  ⟨rfl, fun a => by fin_cases a; exacts [show 0 + 512 ≤ 512 by omega, show o + 128 ≤ 1024 from h]⟩

/-- What is stored for the two halves of head `h`'s keys, and where. -/
def pieces (u0 u1 : Fin 8 → FVec Ideal S1x512x128 .bf16) (h : Fin 8) : List (View.Piece (Elt Ideal) S8x512x256 .bf16) :=
  [⟨Rect.unit (s := S8x512x256) ![h.val, 0, 128] ![1, 512, 128] (inb3 (show h.val + 1 ≤ 8 by omega) (show 0 + 512 ≤ 512 by omega) (show 128 + 128 ≤ 256 by omega)), u1 h⟩,
   ⟨Rect.unit (s := S8x512x256) ![h.val, 0, 0] ![1, 512, 128] (inb3 (show h.val + 1 ≤ 8 by omega) (show 0 + 512 ≤ 512 by omega) (show 0 + 128 ≤ 256 by omega)), u0 h⟩]
/-- The stores of all heads, the last first. -/
def heads (u0 u1 : Fin 8 → FVec Ideal S1x512x128 .bf16) : List (View.Piece (Elt Ideal) S8x512x256 .bf16) := ([7, 6, 5, 4, 3, 2, 1, 0] : List (Fin 8)).flatMap (pieces u0 u1)

/-- The stores of all heads make a tile whose entries are what `G` says of them. -/
theorem heads_eq {u0 u1 : Fin 8 → FVec Ideal S1x512x128 .bf16} {G : Fin 8 → Fin 512 → Fin 256 → EReal}
    (h0 : ∀ h i (j : Fin 128), u0 h (ix3 0 i j) = G h i ⟨j.val, by omega⟩) (h1 : ∀ h i (j : Fin 128), u1 h (ix3 0 i j) = G h i ⟨128 + j.val, by omega⟩) (y : S8x512x256.Idx) :
    View.canon (Val := Elt Ideal) (s := S8x512x256) (e := .bf16) (heads u0 u1) y = G (y 0) (y 1) (y 2) := by
  have cast : ∀ x : S1x512x128.Idx, ∃ (i : Fin 512) (j : Fin 128), x = ix3 0 i j := fun x => ⟨x 1, x 2, by
    funext c; fin_cases c
    · exact Fin.ext (Nat.lt_one_iff.mp (show (x 0).val < 1 from (x 0).isLt))
    · rfl
    · rfl⟩
  refine View.canon_apply_of_pieces (Val := Elt Ideal) (S := S8x512x256) (e := .bf16) (fun y : S8x512x256.Idx => (G (y 0) (y 1) (y 2) : Elt Ideal .bf16)) _ ?_ y ?_
  · intro p hp x
    obtain ⟨h, _, hp⟩ := List.mem_flatMap.mp hp
    rcases List.mem_cons.mp hp with rfl | hp
    · obtain ⟨i, j, rfl⟩ := cast x
      have e : ∀ (a : Fin 8) (b : Fin 512) (d : Fin 256), a = h → b = i → d.val = 128 + j.val → G h i ⟨128 + j.val, by omega⟩ = G a b d := by
        rintro a b d rfl rfl hd; exact congrArg _ (Fin.ext hd.symm)
      refine (h1 h i j).trans (e _ _ _ (Fin.ext ?_) (Fin.ext ?_) ?_)
      · show h.val + 1 * 0 = h.val; omega
      · show 0 + 1 * i.val = i.val; omega
      · show 128 + 1 * j.val = 128 + j.val; omega
    · obtain rfl := List.mem_singleton.mp hp
      obtain ⟨i, j, rfl⟩ := cast x
      have e : ∀ (a : Fin 8) (b : Fin 512) (d : Fin 256), a = h → b = i → d.val = j.val → G h i ⟨j.val, by omega⟩ = G a b d := by
        rintro a b d rfl rfl hd; exact congrArg _ (Fin.ext hd.symm)
      refine (h0 h i j).trans (e _ _ _ (Fin.ext ?_) (Fin.ext ?_) ?_)
      · show h.val + 1 * 0 = h.val; omega
      · show 0 + 1 * i.val = i.val; omega
      · show 0 + 1 * j.val = j.val; omega
  · have hy0 : (y 0).val < 8 := (y 0).isLt
    have hy1 : (y 1).val < 512 := (y 1).isLt
    have hy2 : (y 2).val < 256 := (y 2).isLt
    have hm : ∀ h : Fin 8, h ∈ ([7, 6, 5, 4, 3, 2, 1, 0] : List (Fin 8)) := by decide
    by_cases hc : (y 2).val < 128
    · refine ⟨_, List.mem_flatMap.mpr ⟨⟨(y 0).val, hy0⟩, hm _, List.mem_cons_of_mem _ List.mem_cons_self⟩, (Rect.mem_set_unit (s := S8x512x256) (inb := inb3 (show (y 0).val + 1 ≤ 8 by omega) (show 0 + 512 ≤ 512 by omega) (show 0 + 128 ≤ 256 by omega))).mpr fun c => ?_⟩
      fin_cases c
      · show (y 0).val ≤ (y 0).val ∧ (y 0).val < (y 0).val + 1; omega
      · show 0 ≤ (y 1).val ∧ (y 1).val < 0 + 512; omega
      · show 0 ≤ (y 2).val ∧ (y 2).val < 0 + 128; omega
    · refine ⟨_, List.mem_flatMap.mpr ⟨⟨(y 0).val, hy0⟩, hm _, List.mem_cons_self⟩, (Rect.mem_set_unit (s := S8x512x256) (inb := inb3 (show (y 0).val + 1 ≤ 8 by omega) (show 0 + 512 ≤ 512 by omega) (show 128 + 128 ≤ 256 by omega))).mpr fun c => ?_⟩
      fin_cases c
      · show (y 0).val ≤ (y 0).val ∧ (y 0).val < (y 0).val + 1; omega
      · show 0 ≤ (y 1).val ∧ (y 1).val < 0 + 512; omega
      · show 128 ≤ (y 2).val ∧ (y 2).val < 128 + 128; omega

end Cache.Unit
end
-- ==== Proof.Cache.Kernel.lean ====
module

public import proofs.«01_k».proof.Proof.Cache.Unit

@[expose] public section

set_option maxRecDepth 16384

noncomputable section

open Idealize.ShloMosaic Idealize.ShloMosaic.TcCoe Idealize.SL.Sem
open Idealize.ShloMosaic.Pipeline (Dat)

/-! What the call over the cached latents leaves in its two results. -/

namespace Cache
/-- The key of head `h` and token `n`. -/
def outK (C : FVec Ideal ⟨2, ![4096, 256]⟩ .f32) (R : FVec Ideal ⟨2, ![4096, 128]⟩ .f32) (W : FVec Ideal ⟨2, ![256, 1024]⟩ .bf16) (h : Fin 8) (n : Fin 4096) (j : Fin 256) : EReal :=
  if hj : j.val < 128 then Rows.dot (fun d => C (ix2 n d)) (fun d j => W (ix2 d j)) ⟨h.val * 128 + j.val, by omega⟩ else R (ix2 n ⟨j.val - 128, by omega⟩)
/-- The value of column `c` and token `n`. -/
def outV (C : FVec Ideal ⟨2, ![4096, 256]⟩ .f32) (W : FVec Ideal ⟨2, ![1024, 256]⟩ .bf16) (c : Fin 1024) (n : Fin 4096) : EReal := ∑ d, W (ix2 c d) * C (ix2 n d)
end Cache

namespace Cert.CacheIdeal.Value
open Cert.CacheIdeal Cert.CacheIdeal.Gen Cache.Unit

variable (x0 : FVec Ideal S512x256 .f32) (x1 : FVec Ideal S512x128 .f32) (x2 : FVec Ideal S256x1024 .bf16) (x3 : FVec Ideal S1024x256 .bf16)

/-- A tile's keys. -/
def bK (h : Fin 8) (i : Fin 512) (j : Fin 256) : EReal :=
  if hj : j.val < 128 then Rows.dot (fun d => x0 (ix2 i d)) (fun d j => x2 (ix2 d j)) ⟨h.val * 128 + j.val, by omega⟩ else x1 (ix2 i ⟨j.val - 128, by omega⟩)
/-- A tile's values. -/
def bV (c : Fin 1024) (i : Fin 512) : EReal := ∑ d, x3 (ix2 c d) * x0 (ix2 i d)

/-- The offset words of the loads. -/
theorem z2 : (![0, 0] : Fin 2 → ℕ) = fun _ => 0 := by funext a; fin_cases a <;> rfl

/-- The keys' stores, over the loaded arrays. -/
theorem outK_eq : out0_4 (F := Ideal) x0 x1 x2 x3 = View.canon (Val := Elt Ideal) (s := S8x512x256) (e := .bf16) (heads
      (fun h => part (128 * h.val) (sl1024 (by omega)) (up (truncf .bf16 (View.ld (Val := Elt Ideal) (e' := .f32) x0 r0_0) bitsLt_bf16_f32) (View.ld (Val := Elt Ideal) (e' := .bf16) x2 r0_2)))
      (fun _ => shared (truncf .bf16 (View.ld (Val := Elt Ideal) (e' := .f32) x1 r0_1) bitsLt_bf16_f32))) := rfl

/-- The keys a grid point leaves. -/
theorem outK_at (y : S8x512x256.Idx) : out0_4 (F := Ideal) x0 x1 x2 x3 y = bK x0 x1 x2 (y 0) (y 1) (y 2) := by
  rw [outK_eq, View.ld_unit_zero z2, View.ld_unit_zero z2, View.ld_unit_zero z2]
  refine heads_eq (fun h i j => ?_) (fun h i j => ?_) y
  · rw [part_at _ _ _ (by omega), up_at]
    unfold bK
    rw [dif_pos (show j.val < 128 from j.isLt)]
    exact congrArg _ (Fin.ext (show 128 * h.val + j.val = h.val * 128 + j.val by omega))
  · rw [shared_at]
    unfold bK
    rw [dif_neg (show ¬ 128 + j.val < 128 by omega)]
    exact congrArg (fun k => x1 (ix2 i k)) (Fin.ext (show j.val = 128 + j.val - 128 by omega))

/-- The values a grid point leaves. -/
theorem outV_at (y : S1024x512.Idx) : out0_5 (F := Ideal) x0 x1 x2 x3 y = bV x0 x3 (y 0) (y 1) := by
  have e : out0_5 (F := Ideal) x0 x1 x2 x3 = View.canon (Val := Elt Ideal) (s := S1024x512) (e := .bf16) [⟨r0_20, vals (truncf .bf16 (View.ld (Val := Elt Ideal) (e' := .f32) x0 r0_0) bitsLt_bf16_f32) (View.ld (Val := Elt Ideal) (e' := .bf16) x3 r0_19)⟩] := rfl
  rw [e, View.ld_unit_zero z2, View.ld_unit_zero z2, View.canon_unit_zero z2]
  obtain ⟨c, i, rfl⟩ : ∃ (c : Fin 1024) (i : Fin 512), y = ix2 c i := ⟨y 0, y 1, by funext c; fin_cases c <;> rfl⟩
  exact vals_at _ _ c i

variable (m : (ℓ : Loc nD τ sig) → Buf (Elt Ideal) ℓ)

/-- The blocks of a grid point. -/
theorem idx : ∀ t : Fin cfg0.N, win0_0.index t = ![t.val, 0] ∧ win0_1.index t = ![t.val, 0] ∧ win0_2.index t = ![0, 0] ∧ win0_3.index t = ![0, 0]
    ∧ win0_4.index t = ![0, t.val, 0] ∧ win0_5.index t = ![0, t.val] ∧ t.val < 8 :=
  (by decide +kernel : ∀ t : Fin grid0.N, _)

/-- The result array of the keys over the argument arrays. -/
abbrev resK (c : Dev nD) : FVec Ideal S8x4096x256 .bf16 := fun y => Cache.outK (m ((c.tc : Thread nD τ).loc main_arg0)) (m ((c.tc : Thread nD τ).loc main_arg1)) (m ((c.tc : Thread nD τ).loc main_arg2)) (y 0) (y 1) (y 2)
/-- The result array of the values over the argument arrays. -/
abbrev resV (c : Dev nD) : FVec Ideal S1024x4096 .bf16 := fun y => Cache.outV (m ((c.tc : Thread nD τ).loc main_arg0)) (m ((c.tc : Thread nD τ).loc main_arg3)) (y 0) (y 1)

/-- A grid point's keys are the result's there. -/
theorem pointK (c : Dev nD) (t : Fin cfg0.N) (h h' : Fin 8) (i : Fin 512) (n : Fin 4096) (j j' : Fin 256) (hh : h'.val = h.val) (hn : n.val = t.val * 512 + i.val) (hj : j'.val = j.val) :
    bK (iblk m c 0 t) (iblk m c 1 t) (iblk m c 2 t) h i j = Cache.outK (m ((c.tc : Thread nD τ).loc main_arg0)) (m ((c.tc : Thread nD τ).loc main_arg1)) (m ((c.tc : Thread nD τ).loc main_arg2)) h' n j' := by
  obtain rfl := Fin.ext hh; obtain rfl := Fin.ext hj
  have ht : t.val < 8 := (idx t).2.2.2.2.2.2
  unfold bK Cache.outK
  congr 1
  · funext hj
    congr 1
    · funext k; blk_ext [iblk, V, idx t]
    · funext d j; blk_ext [iblk, V, idx t]
  · funext hj; blk_ext [iblk, V, idx t]

/-- A grid point's values are the result's there. -/
theorem pointV (c : Dev nD) (t : Fin cfg0.N) (k k' : Fin 1024) (i : Fin 512) (n : Fin 4096) (hk : k'.val = k.val) (hn : n.val = t.val * 512 + i.val) :
    bV (iblk m c 0 t) (iblk m c 3 t) k i = Cache.outV (m ((c.tc : Thread nD τ).loc main_arg0)) (m ((c.tc : Thread nD τ).loc main_arg3)) k' n := by
  obtain rfl := Fin.ext hk
  have ht : t.val < 8 := (idx t).2.2.2.2.2.2
  unfold bV Cache.outV
  refine Finset.sum_congr rfl fun d _ => congrArg₂ (· * ·) ?_ ?_
  · blk_ext [iblk, V, idx t]
  · blk_ext [iblk, V, idx t]

/-- The result array of the keys after the run. -/
theorem finalK (c : Dev nD) : (dats m 0 c).arrAt 4 (cfgs 0).N = resK m c := by
  refine (dats m 0 c).arrAt_eq_of_covers 4 _ (by decide +kernel) fun t _ y => ?_
  blk_simp
  rw [after0_4]
  rw [outK_at]
  refine pointK m c t (y 0) _ (y 1) _ (y 2) _ ?_ ?_ ?_
  · blk_simp [idx t]
  · blk_simp [idx t]
  · blk_simp [idx t]

/-- The result array of the values after the run. -/
theorem finalV (c : Dev nD) : (dats m 0 c).arrAt 5 (cfgs 0).N = resV m c := by
  refine (dats m 0 c).arrAt_eq_of_covers 5 _ (by decide +kernel) fun t _ y => ?_
  blk_simp
  rw [after0_5]
  rw [outV_at]
  refine pointV m c t (y 0) _ (y 1) _ ?_ ?_
  · blk_simp [idx t]
  · blk_simp [idx t]

end Cert.CacheIdeal.Value
end
-- ==== Proof.Cache.Claims.lean ====
module

public import proofs.«01_k».proof.Proof.Cache.Kernel
public import proofs.«01_k».proof.Proof.Gen.CacheRefIdeal.Run
public import proofs.«01_k».proof.Defs
public import proofs.«01_k».proof.Proof.Gen.Cache.Frame
public import proofs.«01_k».proof.Proof.Gen.CacheIdeal.Frame
public import proofs.«01_k».proof.Proof.Gen.CacheRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the call over the cached latents, and the claims about the call. -/

namespace Cert.CacheRefIdeal.Value
open Cert.CacheRefIdeal Cert.CacheRefIdeal.Gen

/-- The latents expanded by head, the tokens last. -/
def expd (a : FVec Ideal S4096x256 .f32) (w : FVec Ideal S256x1024 .bf16) : FVec Ideal S8x128x4096 .f32 :=
  Host.dotGeneral dot_S256x8x128_S4096x256_S8x128x4096_0_1_12_0_n_n none (shapeCast S256x8x128 (extf .f32 w bitsLt_bf16_f32) shapeCasts_S256x1024_S256x8x128) a
/-- The keys from their two halves. -/
def join (z : FVec Ideal S8x128x4096 .f32) (r : FVec Ideal S4096x128 .f32) : FVec Ideal S8x4096x256 .bf16 :=
  truncf .bf16 (concatenate S8x4096x256 2 [⟨S8x4096x128, transpose S8x4096x128 [0, 2, 1] z transposes_S8x128x4096_S8x4096x128_0_2_1⟩, ⟨S8x4096x128, broadcastInDim S8x4096x128 ![1, 2] bcast_S4096x128_S8x4096x128_1_2 r⟩] concatenates_S8x4096x128_S8x4096x128_S8x4096x256_d2) bitsLt_bf16_f32
/-- The reference's keys over its arguments. -/
def hostK (a : FVec Ideal S4096x256 .f32) (r : FVec Ideal S4096x128 .f32) (w : FVec Ideal S256x1024 .bf16) : FVec Ideal S8x4096x256 .bf16 := join (expd a w) r
/-- The reference's values over its arguments. -/
def hostV (a : FVec Ideal S4096x256 .f32) (w : FVec Ideal S1024x256 .bf16) : FVec Ideal S1024x4096 .bf16 :=
  truncf .bf16 (transpose S1024x4096 [1, 0] (Host.dotGeneral dot_S4096x256_S256x1024_S4096x1024_1_0_0_1_n_n none a (transpose S256x1024 [1, 0] (extf .f32 w bitsLt_bf16_f32) transposes_S1024x256_S256x1024_1_0)) transposes_S4096x1024_S1024x4096_1_0) bitsLt_bf16_f32

/-- The expanded latents read at an index. -/
theorem expd_at (a w) (h : Fin 8) (j : Fin 128) (n : Fin 4096) : expd a w (ix3 h j n) = ∑ d, w (ix2 d ⟨h.val * 128 + j.val, by omega⟩) * a (ix2 n d) := by
  pointwise [expd]
/-- The keys read at an index. -/
theorem join_at (z r) (h : Fin 8) (n : Fin 4096) (j : Fin 256) :
    join z r (ix3 h n j) = if hj : j.val < 128 then z (ix3 h ⟨j.val, hj⟩ n) else r (ix2 n ⟨j.val - 128, by omega⟩) := by
  pointwise [join]
/-- The values read at an index. -/
theorem hostV_at (a w) (c : Fin 1024) (n : Fin 4096) : hostV a w (ix2 c n) = ∑ d, a (ix2 n d) * w (ix2 c d) := by
  pointwise [hostV]

end Cert.CacheRefIdeal.Value

namespace Cache
open Cert.CacheRefIdeal.Value

/-- The reference's keys are the kernel's. -/
theorem hostK_eq (a r w) (h : Fin 8) (n : Fin 4096) (j : Fin 256) : hostK a r w (ix3 h n j) = outK a r w h n j := by
  refine (join_at _ _ h n j).trans ?_
  unfold outK Rows.dot
  by_cases hj : j.val < 128
  · rw [dif_pos hj, dif_pos hj, expd_at]
    exact Finset.sum_congr rfl fun d _ => mul_comm _ _
  · rw [dif_neg hj, dif_neg hj]
/-- The reference's values are the kernel's. -/
theorem hostV_eq (a w) (c : Fin 1024) (n : Fin 4096) : hostV a w (ix2 c n) = outV a w c n :=
  (hostV_at a w c n).trans (Finset.sum_congr rfl fun d _ => mul_comm _ _)

section
variable (m : (ℓ : Loc Cert.CacheIdeal.nD Cert.CacheIdeal.τ Cert.CacheIdeal.sig) → Buf (Elt Ideal) ℓ) (c : Dev Cert.CacheIdeal.nD)
/-- The kernel's keys are the reference's of the same arguments. -/
theorem agreeK : Cert.CacheIdeal.Value.resK m c = hostK (m ((c.tc : Thread Cert.CacheIdeal.nD Cert.CacheIdeal.τ).loc Cert.CacheIdeal.main_arg0)) (m ((c.tc : Thread Cert.CacheIdeal.nD Cert.CacheIdeal.τ).loc Cert.CacheIdeal.main_arg1)) (m ((c.tc : Thread Cert.CacheIdeal.nD Cert.CacheIdeal.τ).loc Cert.CacheIdeal.main_arg2)) := by
  funext y
  obtain ⟨h, n, j, rfl⟩ : ∃ (h : Fin 8) (n : Fin 4096) (j : Fin 256), y = ix3 h n j := ⟨y 0, y 1, y 2, by funext a; fin_cases a <;> rfl⟩
  exact (hostK_eq _ _ _ h n j).symm
/-- The kernel's values are the reference's of the same arguments. -/
theorem agreeV : Cert.CacheIdeal.Value.resV m c = hostV (m ((c.tc : Thread Cert.CacheIdeal.nD Cert.CacheIdeal.τ).loc Cert.CacheIdeal.main_arg0)) (m ((c.tc : Thread Cert.CacheIdeal.nD Cert.CacheIdeal.τ).loc Cert.CacheIdeal.main_arg3)) := by
  funext y
  obtain ⟨k, n, rfl⟩ : ∃ (k : Fin 1024) (n : Fin 4096), y = ix2 k n := ⟨y 0, y 1, by funext a; fin_cases a <;> rfl⟩
  exact (hostV_eq _ _ k n).symm
end

/-- The kernel runs, keeps its arguments and ends quiescent. -/
theorem frame : Cert.quiescent_Cache := fun m ρ _ => Cert.Cache.Gen.frame m ρ
/-- The kernel over the extended reals runs, keeps its arguments and ends quiescent. -/
theorem frame_ideal : Cert.quiescent_CacheIdeal := fun m ρ _ => Cert.CacheIdeal.Gen.frame m ρ
/-- The reference runs, keeps its arguments and ends quiescent. -/
theorem frame_ref : Cert.quiescent_CacheRefIdeal := fun m g _ =>
  (θ_run _ _ _).mono (fun r h => ⟨fun c => (h c).2.2, sem_eq_zero_of_no_sems (by decide) r.2⟩) (Cert.CacheRefIdeal.Value.run m g)
/-- The kernel's two results are the reference's. -/
theorem algebraic : Cert.algebraic_CacheIdeal_CacheRefIdeal := by
  pair_intro
  · run_from Cert.CacheIdeal.Value.run_blocks m g
  · run_from Cert.CacheRefIdeal.Value.run m' g'
    · exact ((Cert.CacheIdeal.Value.finalK m c).trans (agreeK m c)).symm
    · exact ((Cert.CacheIdeal.Value.finalV m c).trans (agreeV m c)).symm

end Cache
end
-- ==== Proof.AttnP.Unit.lean ====
module

public import proofs.«01_k».proof.Proof.Attn.Math
public import proofs.«01_k».proof.Proof.Gen.AttnPIdeal.Value

@[expose] public section

set_option maxRecDepth 16384

noncomputable section

open Idealize.ShloMosaic Idealize.ShloMosaic.TcCoe Idealize.SL.Sem

/-! One unit of the prompt's attention: the 256 queries of a sequence and head against its 256 keys. -/

namespace AttnP.Unit
open Cert.AttnPIdeal Cert.AttnPIdeal.Gen

/-- The scores of the queries, a row for each. -/
def scores (q k : FVec Ideal S256x256 .bf16) : FVec Ideal S256x256 .f32 := matmul dot_S256x256_S256x256_S256x256_1_1_0_0_n_n none q k (constant S256x256 .f32 0x00000000#32)
/-- The rows' maxima. -/
def tops (s : FVec Ideal S256x256 .f32) : FVec Ideal S256x1 .f32 := shapeCast S256x1 (multiReduction .maximumf [1] S256 s 0xFF800000#32 reduces_S256x256_S256 (.inl rfl) rfl) shapeCasts_S256_S256x1
/-- The powers of two of the scores less their row's maximum. -/
def pows (s : FVec Ideal S256x256 .f32) (r : FVec Ideal S256x1 .f32) : FVec Ideal S256x256 .f32 := exp2 (subf s (broadcastTo S256x256 r broadcasts_S256x1_S256x256))
/-- The rows' sums. -/
def sums (p : FVec Ideal S256x256 .f32) : FVec Ideal S256x1 .f32 := shapeCast S256x1 (multiReduction .add [1] S256 p 0x00000000#32 reduces_S256x256_S256 (.inl rfl) rfl) shapeCasts_S256_S256x1
/-- The weighted values. -/
def accs (p : FVec Ideal S256x256 .f32) (v : FVec Ideal S256x128 .bf16) : FVec Ideal S256x128 .f32 := matmul dot_S256x256_S256x128_S256x128_1_0_0_1_n_n none (truncf .bf16 p bitsLt_bf16_f32) v (constant S256x128 .f32 0x00000000#32)
/-- The weighted values over the weights' sums. -/
def quot (a : FVec Ideal S256x128 .f32) (l : FVec Ideal S256x1 .f32) : FVec Ideal S256x128 .bf16 := truncf .bf16 (divf a (broadcastTo S256x128 l broadcasts_S256x1_S256x128)) bitsLt_bf16_f32
/-- What a unit stores. -/
def unit (q k : FVec Ideal S256x256 .bf16) (v : FVec Ideal S256x128 .bf16) : FVec Ideal S256x128 .bf16 :=
  quot (accs (pows (scores q k) (tops (scores q k))) v) (sums (pows (scores q k) (tops (scores q k))))

/-- The scores read at an index. -/
theorem scores_at (q k) (i x : Fin 256) : scores q k (ix2 i x) = ∑ d : Fin 256, q (ix2 i d) * k (ix2 x d) := by
  pointwise [scores]
/-- The maxima read at an index. -/
theorem tops_at (s) (i : Fin 256) : tops s (ix2 i 0) = Finset.univ.sup fun x : Fin 256 => s (ix2 i x) := by
  rw [← Attn.fold_max]
  pointwise [tops]
/-- The powers read at an index. -/
theorem pows_at (s r) (i x : Fin 256) : pows s r (ix2 i x) = Ideal.exp2 (s (ix2 i x) - r (ix2 i 0)) := by
  pointwise [pows]
  rfl
/-- The sums read at an index. -/
theorem sums_at (p) (i : Fin 256) : sums p (ix2 i 0) = ∑ x : Fin 256, p (ix2 i x) := by
  pointwise [sums]
/-- The weighted values read at an index. -/
theorem accs_at (p v) (i : Fin 256) (j : Fin 128) : accs p v (ix2 i j) = ∑ x : Fin 256, p (ix2 i x) * v (ix2 x j) := by
  pointwise [accs]
/-- The quotient read at an index. -/
theorem quot_at (a l) (i : Fin 256) (j : Fin 128) : quot a l (ix2 i j) = Ideal.div (a (ix2 i j)) (l (ix2 i 0)) := by
  pointwise [quot]
/-- A unit's rows are rows of attention. -/
theorem unit_at (q k v) (i : Fin 256) (j : Fin 128) : unit q k v (ix2 i j) = Attn.row (fun x : Fin 256 => ∑ d : Fin 256, q (ix2 i d) * k (ix2 x d)) (fun x => v (ix2 x j)) := by
  unfold unit Attn.row
  rw [quot_at, accs_at, sums_at]
  simp only [pows_at, tops_at, scores_at]
  exact congrArg (Ideal.div · _) (Finset.sum_congr rfl fun x _ => mul_comm _ _)

end AttnP.Unit
end
-- ==== Proof.AttnP.Kernel.lean ====
module

public import proofs.«01_k».proof.Proof.AttnP.Unit

@[expose] public section

set_option maxRecDepth 16384

noncomputable section

open Idealize.ShloMosaic Idealize.ShloMosaic.TcCoe Idealize.SL.Sem

open Idealize.ShloMosaic.Pipeline (Dat)

/-! What the prompt's attention leaves in its result. -/

namespace AttnP
/-- The result of the prompt's attention: a row of attention over the sequence's keys, of the column's head. -/
def out (q k : FVec Ideal ⟨2, ![8192, 2048]⟩ .bf16) (v : FVec Ideal ⟨2, ![8192, 1024]⟩ .bf16) (n : Fin 8192) (i : Fin 1024) : EReal :=
  Attn.row (fun x : Fin 256 => ∑ d : Fin 256, q (ix2 n ⟨i.val / 128 * 256 + d.val, by omega⟩) * k (ix2 ⟨n.val / 256 * 256 + x.val, by omega⟩ ⟨i.val / 128 * 256 + d.val, by omega⟩))
    (fun x => v (ix2 ⟨n.val / 256 * 256 + x.val, by omega⟩ i))
end AttnP

namespace Cert.AttnPIdeal.Value
open Cert.AttnPIdeal Cert.AttnPIdeal.Gen AttnP.Unit

/-- A rectangle of rank two lies inside its shape. -/
theorem inb2 {s u o : Fin 2 → ℕ} (h0 : o 0 + u 0 ≤ s 0) (h1 : o 1 + u 1 ≤ s 1) (a : Fin 2) : o a + u a ≤ s a := by fin_cases a <;> assumption

variable (x0 x1 : FVec Ideal S2048x2048 .bf16) (x2 : FVec Ideal S2048x1024 .bf16)

/-- The rectangle of a sequence's and a head's 256 columns. -/
abbrev rq (b h : Fin 8) : Rect S2048x2048 :=
  Rect.unit (s := S2048x2048) ![256 * b.val, 256 * h.val] ![256, 256] (inb2 (show 256 * b.val + 256 ≤ 2048 by omega) (show 256 * h.val + 256 ≤ 2048 by omega))
/-- The rectangle of a sequence's and a head's 128 columns. -/
abbrev rv (b h : Fin 8) : Rect S2048x1024 :=
  Rect.unit (s := S2048x1024) ![256 * b.val, 128 * h.val] ![256, 128] (inb2 (show 256 * b.val + 256 ≤ 2048 by omega) (show 128 * h.val + 128 ≤ 1024 by omega))
/-- What the unit of sequence `b` and head `h` stores, and where. -/
def piece (b h : Fin 8) : View.Piece (Elt Ideal) S2048x1024 .bf16 :=
  ⟨rv b h, unit (View.ld (Val := Elt Ideal) (e' := .bf16) x0 (rq b h)) (View.ld (Val := Elt Ideal) (e' := .bf16) x1 (rq b h)) (View.ld (Val := Elt Ideal) (e' := .bf16) x2 (rv b h))⟩
/-- The stores of all units, the last first. -/
def pieces : List (View.Piece (Elt Ideal) S2048x1024 .bf16) :=
  ([7, 6, 5, 4, 3, 2, 1, 0] : List (Fin 8)).flatMap fun b => ([7, 6, 5, 4, 3, 2, 1, 0] : List (Fin 8)).map (piece x0 x1 x2 b)

/-- The body's stores are the units'. -/
theorem stores : out0_3 (F := Ideal) x0 x1 x2 = View.canon (Val := Elt Ideal) (s := S2048x1024) (e := .bf16) (pieces x0 x1 x2) := rfl

/-- A block of rows of attention. -/
def blockOut (n : Fin 2048) (i : Fin 1024) : EReal :=
  Attn.row (fun x : Fin 256 => ∑ d : Fin 256, x0 (ix2 n ⟨i.val / 128 * 256 + d.val, by omega⟩) * x1 (ix2 ⟨n.val / 256 * 256 + x.val, by omega⟩ ⟨i.val / 128 * 256 + d.val, by omega⟩))
    (fun x => x2 (ix2 ⟨n.val / 256 * 256 + x.val, by omega⟩ i))

/-- A load of 256 columns read at an index. -/
theorem ldq (x : FVec Ideal S2048x2048 .bf16) (b h : Fin 8) (i j : Fin 256) (n k : Fin 2048) (hn : n.val = 256 * b.val + i.val) (hk : k.val = 256 * h.val + j.val) :
    View.ld (Val := Elt Ideal) (e' := .bf16) x (rq b h) (ix2 i j) = x (ix2 n k) := by
  refine congrArg x (funext fun c => Fin.ext ?_)
  fin_cases c
  · show 256 * b.val + 1 * i.val = n.val; omega
  · show 256 * h.val + 1 * j.val = k.val; omega
/-- A load of 128 columns read at an index. -/
theorem ldv (x : FVec Ideal S2048x1024 .bf16) (b h : Fin 8) (i : Fin 256) (j : Fin 128) (n : Fin 2048) (k : Fin 1024) (hn : n.val = 256 * b.val + i.val) (hk : k.val = 128 * h.val + j.val) :
    View.ld (Val := Elt Ideal) (e' := .bf16) x (rv b h) (ix2 i j) = x (ix2 n k) := by
  refine congrArg x (funext fun c => Fin.ext ?_)
  fin_cases c
  · show 256 * b.val + 1 * i.val = n.val; omega
  · show 128 * h.val + 1 * j.val = k.val; omega

/-- A unit's store holds the block's rows of attention of its place. -/
theorem piece_row (b h : Fin 8) (i : Fin 256) (j : Fin 128) (n : Fin 2048) (k : Fin 1024) (hn : n.val = 256 * b.val + i.val) (hk : k.val = 128 * h.val + j.val) :
    unit (View.ld (Val := Elt Ideal) (e' := .bf16) x0 (rq b h)) (View.ld (Val := Elt Ideal) (e' := .bf16) x1 (rq b h)) (View.ld (Val := Elt Ideal) (e' := .bf16) x2 (rv b h)) (ix2 i j) = blockOut x0 x1 x2 n k := by
  rw [unit_at]
  unfold blockOut
  refine congrArg₂ Attn.row (funext fun x => Finset.sum_congr rfl fun d _ => congrArg₂ (· * ·) ?_ ?_) (funext fun x => ?_)
  · exact ldq x0 b h i d _ _ hn (show k.val / 128 * 256 + d.val = 256 * h.val + d.val by omega)
  · exact ldq x1 b h x d _ _ (show n.val / 256 * 256 + x.val = 256 * b.val + x.val by omega) (show k.val / 128 * 256 + d.val = 256 * h.val + d.val by omega)
  · exact ldv x2 b h x j _ _ (show n.val / 256 * 256 + x.val = 256 * b.val + x.val by omega) hk

/-- The stores of all units make the block. -/
theorem out_at (y : S2048x1024.Idx) : out0_3 (F := Ideal) x0 x1 x2 y = blockOut x0 x1 x2 (y 0) (y 1) := by
  rw [stores]
  refine View.canon_apply_of_pieces (Val := Elt Ideal) (S := S2048x1024) (e := .bf16) (fun y : S2048x1024.Idx => (blockOut x0 x1 x2 (y 0) (y 1) : Elt Ideal .bf16)) _ ?_ y ?_
  · intro p hp x
    obtain ⟨b, _, hp⟩ := List.mem_flatMap.mp hp
    obtain ⟨h, _, rfl⟩ := List.mem_map.mp hp
    obtain ⟨i, j, rfl⟩ : ∃ (i : Fin 256) (j : Fin 128), x = ix2 i j := ⟨x 0, x 1, by funext c; fin_cases c <;> rfl⟩
    refine piece_row x0 x1 x2 b h i j _ _ ?_ ?_
    · show 256 * b.val + 1 * i.val = 256 * b.val + i.val; omega
    · show 128 * h.val + 1 * j.val = 128 * h.val + j.val; omega
  · have hy0 : (y 0).val < 2048 := (y 0).isLt
    have hy1 : (y 1).val < 1024 := (y 1).isLt
    have hm : ∀ h : Fin 8, h ∈ ([7, 6, 5, 4, 3, 2, 1, 0] : List (Fin 8)) := by decide
    refine ⟨piece x0 x1 x2 ⟨(y 0).val / 256, by omega⟩ ⟨(y 1).val / 128, by omega⟩, List.mem_flatMap.mpr ⟨_, hm _, List.mem_map.mpr ⟨_, hm _, rfl⟩⟩, ?_⟩
    refine (Rect.mem_set_unit (s := S2048x1024) (inb := inb2 (show 256 * ((y 0).val / 256) + 256 ≤ 2048 by omega) (show 128 * ((y 1).val / 128) + 128 ≤ 1024 by omega))).mpr fun c => ?_
    fin_cases c
    · show 256 * ((y 0).val / 256) ≤ (y 0).val ∧ (y 0).val < 256 * ((y 0).val / 256) + 256; omega
    · show 128 * ((y 1).val / 128) ≤ (y 1).val ∧ (y 1).val < 128 * ((y 1).val / 128) + 128; omega

variable (m : (ℓ : Loc nD τ sig) → Buf (Elt Ideal) ℓ)

/-- The blocks of a grid point. -/
theorem idx : ∀ t : Fin cfg0.N, win0_0.index t = ![t.val, 0] ∧ win0_1.index t = ![t.val, 0] ∧ win0_2.index t = ![t.val, 0] ∧ win0_3.index t = ![t.val, 0] ∧ t.val < 4 :=
  (by decide +kernel : ∀ t : Fin grid0.N, _)

/-- A grid point's rows of attention are the result's there. -/
theorem point (c : Dev nD) (t : Fin cfg0.N) (j : Fin 2048) (i i' : Fin 1024) (n : Fin 8192) (hn : n.val = t.val * 2048 + j.val) (hi : i'.val = i.val) :
    blockOut (iblk m c 0 t) (iblk m c 1 t) (iblk m c 2 t) j i = AttnP.out (m ((c.tc : Thread nD τ).loc main_arg0)) (m ((c.tc : Thread nD τ).loc main_arg1)) (m ((c.tc : Thread nD τ).loc main_arg2)) n i' := by
  obtain rfl := Fin.ext hi
  have ht : t.val < 4 := (idx t).2.2.2.2
  unfold blockOut AttnP.out
  refine congrArg₂ Attn.row (funext fun x => Finset.sum_congr rfl fun d _ => congrArg₂ (· * ·) ?_ ?_) (funext fun x => ?_)
  · blk_ext [iblk, V, idx t]
  · blk_ext [iblk, V, idx t]
  · blk_ext [iblk, V, idx t]

/-- The result array over the argument arrays. -/
abbrev res (c : Dev nD) : FVec Ideal S8192x1024 .bf16 := fun y => AttnP.out (m ((c.tc : Thread nD τ).loc main_arg0)) (m ((c.tc : Thread nD τ).loc main_arg1)) (m ((c.tc : Thread nD τ).loc main_arg2)) (y 0) (y 1)
/-- The result array after the run. -/
theorem final (c : Dev nD) : (dats m 0 c).arrAt 3 (cfgs 0).N = res m c := by
  refine (dats m 0 c).arrAt_eq_of_covers 3 _ (by decide +kernel) fun t _ y => ?_
  blk_simp
  rw [after0_3]
  rw [out_at]
  refine point m c t (y 0) (y 1) _ _ ?_ ?_
  · blk_simp [idx t]
  · blk_simp [idx t]

end Cert.AttnPIdeal.Value
end
-- ==== Proof.AttnP.Claims.lean ====
module

public import proofs.«01_k».proof.Proof.AttnP.Kernel
public import proofs.«01_k».proof.Proof.Attn.Agree
public import proofs.«01_k».proof.Proof.Gen.AttnPRefIdeal.Run
public import proofs.«01_k».proof.Proof.Gen.Pre_finite_prompt_scores
public import proofs.«01_k».proof.Defs
public import proofs.«01_k».proof.Proof.Gen.AttnP.Frame
public import proofs.«01_k».proof.Proof.Gen.AttnPIdeal.Frame
public import proofs.«01_k».proof.Proof.Gen.AttnPRefIdeal
public import Idealize.ShloMosaic.Adequacy
public import Idealize.ShloMosaic.Init

@[expose] public section

set_option maxRecDepth 16384

noncomputable section

open Idealize.ShloMosaic Idealize.ShloMosaic.TcCoe Idealize.SL.Sem

/-! The reference of the prompt's attention, and the claims about the call. -/

namespace Cert.AttnPRefIdeal.Value
open Cert.AttnPRefIdeal Cert.AttnPRefIdeal.Gen

/-- The queries or keys by sequence and head. -/
def split (x : FVec Ideal S8192x2048 .bf16) : FVec Ideal S32x256x8x256 .f32 := shapeCast _ (extf .f32 x bitsLt_bf16_f32) shapeCasts_S8192x2048_S32x256x8x256
/-- The values by sequence and head. -/
def splitV (x : FVec Ideal S8192x1024 .bf16) : FVec Ideal S32x256x8x128 .f32 := shapeCast _ (extf .f32 x bitsLt_bf16_f32) shapeCasts_S8192x1024_S32x256x8x128
/-- The scores, in natural units. -/
def logits (q k : FVec Ideal S32x256x8x256 .f32) : FVec Ideal S32x8x256x256 .f32 :=
  mulf (Host.dotGeneral dot_S32x256x8x256_S32x256x8x256_S32x8x256x256_3_3_1_1_02_02 none q k) (broadcastInDim S32x8x256x256 ![] bcast_S_S32x8x256x256 (Host.log (constant S_ .f32 0x40000000#32)))
/-- Each row's maximum. -/
def rmax (s : FVec Ideal S32x8x256x256 .f32) : FVec Ideal S32x8x256 .f32 := Host.reduce FloatOps.maximumf s (constant S_ .f32 0xFF800000#32) reducesTo_S32x8x256x256_S32x8x256_d3 h_S_
/-- A number for each row, given to all its keys. -/
def wide (r : FVec Ideal S32x8x256 .f32) : FVec Ideal S32x8x256x256 .f32 :=
  broadcastInDim S32x8x256x256 ![0, 1, 2, 3] bcast_S32x8x256x1_S32x8x256x256_0_1_2_3 (broadcastInDim S32x8x256x1 ![0, 1, 2] bcast_S32x8x256_S32x8x256x1_0_1_2 r)
/-- The exponentials of the scores less their row's maximum. -/
def expo (s : FVec Ideal S32x8x256x256 .f32) (r : FVec Ideal S32x8x256 .f32) : FVec Ideal S32x8x256x256 .f32 :=
  Host.exp (subf s (wide (maximumf (broadcastInDim S32x8x256 ![] bcast_S_S32x8x256 (constant S_ .f32 0xFF800000#32)) r)))
/-- The exponentials over their row's sum. -/
def soft (e : FVec Ideal S32x8x256x256 .f32) : FVec Ideal S32x8x256x256 .f32 := Host.divf e (wide (Host.reduceAdd e (constant S_ .f32 0x00000000#32) reducesTo_S32x8x256x256_S32x8x256_d3 h_S_))
/-- The weighted values, laid out by token and head. -/
def outp (v : FVec Ideal S32x256x8x128 .f32) (p : FVec Ideal S32x8x256x256 .f32) : FVec Ideal S8192x1024 .bf16 :=
  truncf .bf16 (shapeCast _ (transpose S32x256x8x128 [0, 3, 1, 2] (Host.dotGeneral dot_S32x256x8x128_S32x8x256x256_S32x8x128x256_1_3_3_2_02_01 none v p) transposes_S32x8x128x256_S32x256x8x128_0_3_1_2) shapeCasts_S32x256x8x128_S8192x1024) bitsLt_bf16_f32
/-- The reference's result over its arguments. -/
def host (q k : FVec Ideal S8192x2048 .bf16) (v : FVec Ideal S8192x1024 .bf16) : FVec Ideal S8192x1024 .bf16 :=
  outp (splitV v) (soft (expo (logits (split q) (split k)) (rmax (logits (split q) (split k)))))

/-- The queries or keys read at an index. -/
theorem split_at (x) (b : Fin 32) (n : Fin 256) (h : Fin 8) (d : Fin 256) : split x (ix4 b n h d) = x (ix2 ⟨b.val * 256 + n.val, by omega⟩ ⟨h.val * 256 + d.val, by omega⟩) := by
  pointwise [split]
/-- The values read at an index. -/
theorem splitV_at (x) (b : Fin 32) (n : Fin 256) (h : Fin 8) (d : Fin 128) : splitV x (ix4 b n h d) = x (ix2 ⟨b.val * 256 + n.val, by omega⟩ ⟨h.val * 128 + d.val, by omega⟩) := by
  pointwise [splitV]
/-- The scores read at an index. -/
theorem logits_at (q k) (b : Fin 32) (h : Fin 8) (n x : Fin 256) : logits q k (ix4 b h n x) = (∑ d : Fin 256, q (ix4 b n h d) * k (ix4 b x h d)) * Ideal.log (Ideal.ofBits .f32 0x40000000#32) := by
  pointwise [logits]
/-- The row maximum read at an index. -/
theorem rmax_at (s) (b : Fin 32) (h : Fin 8) (n : Fin 256) : rmax s (ix3 b h n) = (Finset.univ : Finset (Fin 256)).sup (fun x => s (ix4 b h n x)) := by
  rw [← Attn.fold_max]
  unfold rmax
  rw [Host.reduce_eq_fold_single FloatOps.maximumf s _ _ (by decide : S32x8x256x256.Reduces [3] S32x8x256) _]
  refine Eq.trans (b := (Finset.univ : Finset (Fin 256)).fold max (Ideal.ofBits .f32 0xFF800000#32) (fun x => s (Shape.Reduces.lift (s := S32x8x256x256) (a := 3) (t := S32x8x256) (by decide) (ix3 b h n) x))) rfl ?_
  congr 1
  funext x
  congr 1
  funext a
  fin_cases a <;> rfl
/-- The exponentials read at an index. -/
theorem expo_at (s r) (b : Fin 32) (h : Fin 8) (n x : Fin 256) : expo s r (ix4 b h n x) = Ideal.exp (s (ix4 b h n x) - max (Ideal.ofBits .f32 0xFF800000#32) (r (ix3 b h n))) := by
  pointwise [expo, wide]
/-- The weights read at an index. -/
theorem soft_at (e) (b : Fin 32) (h : Fin 8) (n x : Fin 256) : soft e (ix4 b h n x) = Ideal.div (e (ix4 b h n x)) (∑ z, e (ix4 b h n z)) := by
  pointwise [soft, wide]
/-- The output read at an index. -/
theorem outp_at (v p) (n : Fin 8192) (i : Fin 1024) : outp v p (ix2 n i)
    = ∑ x : Fin 256, v (ix4 ⟨n.val / 256, by omega⟩ x ⟨i.val / 128, by omega⟩ ⟨i.val % 128, by omega⟩) * p (ix4 ⟨n.val / 256, by omega⟩ ⟨i.val / 128, by omega⟩ ⟨n.val % 256, by omega⟩ x) := by
  pointwise [outp]
/-- The weight of a key is the softmax of its row of scores. -/
theorem weight_at (s : FVec Ideal S32x8x256x256 .f32) (b : Fin 32) (h : Fin 8) (n x : Fin 256) : soft (expo s (rmax s)) (ix4 b h n x)
    = Ideal.div (Ideal.exp (s (ix4 b h n x) - Finset.univ.sup fun z => s (ix4 b h n z))) (∑ z, Ideal.exp (s (ix4 b h n z) - Finset.univ.sup fun z => s (ix4 b h n z))) := by
  have hb : Ideal.ofBits .f32 0xFF800000#32 = ⊥ := by simp [Ideal.ofBits, Ideal.ieee]
  rw [soft_at]
  simp only [expo_at, rmax_at, hb, bot_le, max_eq_right]

end Cert.AttnPRefIdeal.Value

namespace AttnP
open Cert.AttnPRefIdeal.Value

/-- For finite queries and keys the reference's result at an index is the kernel's. -/
theorem host_at (q k v) (hq : ∀ y, Attn.Fin' (q y)) (hk : ∀ y, Attn.Fin' (k y)) (n : Fin 8192) (i : Fin 1024) : host q k v (ix2 n i) = out q k v n i := by
  refine (outp_at _ _ n i).trans ?_
  unfold out
  rw [Attn.row_eq_softRow _ _ fun x => Attn.fin_dot _ _ (fun _ => hq _) fun _ => hk _]
  have ez : ∀ x : Fin 256, logits (split q) (split k) (ix4 ⟨n.val / 256, by omega⟩ ⟨i.val / 128, by omega⟩ ⟨n.val % 256, by omega⟩ x)
      = (∑ d : Fin 256, q (ix2 n ⟨i.val / 128 * 256 + d.val, by omega⟩) * k (ix2 ⟨n.val / 256 * 256 + x.val, by omega⟩ ⟨i.val / 128 * 256 + d.val, by omega⟩)) * ((Real.log 2 : ℝ) : EReal) := by
    intro x
    rw [logits_at, Cert.AttnRefIdeal.Value.log_two]
    simp only [split_at]
    have en : (⟨n.val / 256 * 256 + n.val % 256, by omega⟩ : Fin 8192) = n := Fin.ext (show n.val / 256 * 256 + n.val % 256 = n.val by omega)
    rw [en]
  unfold Attn.softRow
  refine Finset.sum_congr rfl fun x _ => ?_
  rw [weight_at]
  simp only [ez, splitV_at]
  have ei : (⟨i.val / 128 * 128 + i.val % 128, by omega⟩ : Fin 1024) = i := Fin.ext (show i.val / 128 * 128 + i.val % 128 = i.val by omega)
  rw [ei]

/-- The precondition makes the queries and the keys finite. -/
theorem fin_args (q k : FVec Ideal Cert.AttnPIdeal.S8192x2048 .bf16) (v : FVec Ideal Cert.AttnPIdeal.S8192x1024 .bf16)
    (h : (Cert.Pre_finite_prompt_scores.fn (F := Ideal) q k v).1 = (fun _ => 1#1) ∧ (Cert.Pre_finite_prompt_scores.fn (F := Ideal) q k v).2 = (fun _ => 1#1)) : (∀ y, Attn.Fin' (q y)) ∧ (∀ y, Attn.Fin' (k y)) := by
  dsimp only [Cert.Pre_finite_prompt_scores.fn] at h
  exact ⟨Attn.fin_of_pre _ _ _ _ _ _ _ h.1, Attn.fin_of_pre _ _ _ _ _ _ _ h.2⟩

section
open Cert.AttnPIdeal Cert.AttnPIdeal.Value
/-- For finite queries and keys the kernel's result array is the reference's of the same arguments. -/
theorem agree (m : (ℓ : Loc nD τ sig) → Buf (Elt Ideal) ℓ) (c : Dev nD) (h : Cert.Pre_AttnPIdeal_finite_prompt_scores m) : res m c = host (m ((c.tc : Thread nD τ).loc main_arg0)) (m ((c.tc : Thread nD τ).loc main_arg1)) (m ((c.tc : Thread nD τ).loc main_arg2)) := by
  obtain ⟨hq, hk⟩ := fin_args _ _ _ (h c)
  funext y
  obtain ⟨n, i, rfl⟩ : ∃ (n : Fin 8192) (i : Fin 1024), y = ix2 n i := ⟨y 0, y 1, by funext a; fin_cases a <;> rfl⟩
  exact (host_at _ _ _ hq hk n i).symm
end

/-- The printed kernel runs, keeps its arguments and ends quiescent. -/
theorem frame : Cert.quiescent_AttnP := fun m ρ _ => Cert.AttnP.Gen.frame m ρ
/-- The kernel over the extended reals runs, keeps its arguments and ends quiescent. -/
theorem frame_ideal : Cert.quiescent_AttnPIdeal := fun m ρ _ => Cert.AttnPIdeal.Gen.frame m ρ
/-- The same for arguments of which the precondition holds. -/
theorem frame_ideal_pre : Cert.quiescent_AttnPIdeal_pre_finite_prompt_scores := fun m ρ _ => Cert.AttnPIdeal.Gen.frame m ρ
/-- The reference runs, keeps its arguments and ends quiescent. -/
theorem frame_ref : Cert.quiescent_AttnPRefIdeal := fun m g _ =>
  (θ_run _ _ _).mono (fun r h => ⟨fun c => (h c).2, sem_eq_zero_of_no_sems (by decide) r.2⟩) (Cert.AttnPRefIdeal.Value.run m g)
/-- The same for arguments of which the precondition holds. -/
theorem frame_ref_pre : Cert.quiescent_AttnPRefIdeal_pre_finite_prompt_scores := fun m g _ =>
  (θ_run _ _ _).mono (fun r h => ⟨fun c => (h c).2, sem_eq_zero_of_no_sems (by decide) r.2⟩) (Cert.AttnPRefIdeal.Value.run m g)
/-- For finite queries and keys the kernel's result is the reference's. -/
theorem algebraic : Cert.algebraic_AttnPIdeal_AttnPRefIdeal_pre_finite_prompt_scores := by
  pair_intro
  · run_from Cert.AttnPIdeal.Value.run_blocks m g
  · run_from Cert.AttnPRefIdeal.Value.run m' g'
    exact ((Cert.AttnPIdeal.Value.final m c).trans (agree m c hpre)).symm

end AttnP
end
-- ==== Proof.ProjS.Spec.lean ====
module

public import proofs.«01_k».proof.Proof.ProjP.Spec

@[expose] public section

noncomputable section

open Idealize.ShloMosaic

/-! What the sampling stream's projections make of one token's row: as the prompt's, with the columns that carry positions turned by the token's angles. -/

namespace ProjS
open Rows ProjP

/-- A query column before its scale. -/
def col (l : Fin 512 → EReal) (w : Fin 2048 → Fin 512 → EReal) (k : Fin 2048) : EReal := ∑ d, w k d * l d
/-- The queries of all heads: 128 scaled columns, 64 turned and scaled, 64 zeros. -/
def query (l : Fin 512 → EReal) (w : Fin 2048 → Fin 512 → EReal) (c s : Fin 64 → EReal) (k : Fin 2048) : EReal :=
  if h0 : k.val % 256 < 128 then col l w k * scale
  else if h1 : k.val % 256 < 192 then (col l w k * c ⟨k.val % 256 - 128, by omega⟩ + col l w ⟨k.val + 64, by omega⟩ * s ⟨k.val % 256 - 128, by omega⟩) * scale
  else 0
/-- The key row all heads share, turned. -/
def keyrow (h : Fin 1024 → EReal) (w : Fin 1024 → Fin 384 → EReal) (c s : Fin 64 → EReal) (j : Fin 64) : EReal :=
  dot h w ⟨256 + j.val, by omega⟩ * c j + dot h w ⟨320 + j.val, by omega⟩ * s j
/-- The key of a head. -/
def key (a : Fin 256 → EReal) (r : Fin 64 → EReal) (w : Fin 256 → Fin 1024 → EReal) (h : Fin 8) (j : Fin 256) : EReal :=
  if h0 : j.val < 128 then dot a w ⟨h.val * 128 + j.val, by omega⟩ else if h1 : j.val - 128 < 64 then r ⟨j.val - 128, h1⟩ else 0
/-- A value column. -/
def value (a : Fin 256 → EReal) (w : Fin 1024 → Fin 256 → EReal) (k : Fin 1024) : EReal := ∑ d, w k d * a d

/-- 64 angles filled to 128 columns with zeros. -/
def fill (c : Fin 64 → EReal) (r : Fin 128) : EReal := if h : r.val < 64 then c ⟨r.val, h⟩ else 0
/-- Turning 128 columns by the filled angles turns the first 64 by the angles and clears the rest. -/
theorem turn (b : Fin 128 → EReal) (c s : Fin 64 → EReal) (r : Fin 128) :
    b r * fill c r + b ⟨(r.val + 64) % 128, by omega⟩ * fill s r = if h : r.val < 64 then b r * c ⟨r.val, h⟩ + b ⟨64 + r.val, by omega⟩ * s ⟨r.val, h⟩ else 0 := by
  unfold fill
  by_cases h : r.val < 64
  · rw [dif_pos h, dif_pos h, dif_pos h]
    exact congrArg (fun k => b r * c ⟨r.val, h⟩ + b k * s ⟨r.val, h⟩) (Fin.ext (show (r.val + 64) % 128 = 64 + r.val by omega))
  · rw [dif_neg h, dif_neg h, dif_neg h, mul_zero, mul_zero, add_zero]

/-- The queries of all heads, from angles filled to 128 columns. -/
def queryT (l : Fin 512 → EReal) (w : Fin 2048 → Fin 512 → EReal) (c s : Fin 128 → EReal) (k : Fin 2048) : EReal :=
  if k.val % 256 < 128 then col l w k * scale
  else (col l w ⟨k.val / 128 * 128 + k.val % 128, by omega⟩ * c ⟨k.val % 128, by omega⟩ + col l w ⟨k.val / 128 * 128 + (k.val % 128 + 64) % 128, by omega⟩ * s ⟨k.val % 128, by omega⟩) * scale
/-- The key of a head, from angles filled to 128 columns. -/
def keyT (a : Fin 256 → EReal) (b : Fin 128 → EReal) (w : Fin 256 → Fin 1024 → EReal) (c s : Fin 128 → EReal) (h : Fin 8) (j : Fin 256) : EReal :=
  if h0 : j.val < 128 then dot a w ⟨h.val * 128 + j.val, by omega⟩ else b ⟨j.val - 128, by omega⟩ * c ⟨j.val - 128, by omega⟩ + b ⟨(j.val - 128 + 64) % 128, by omega⟩ * s ⟨j.val - 128, by omega⟩

/-- With filled angles the queries are the turned ones. -/
theorem queryT_fill (l w c s) (k : Fin 2048) : queryT l w (fill c) (fill s) k = query l w c s k := by
  unfold queryT query
  by_cases h0 : k.val % 256 < 128
  · rw [if_pos h0, dif_pos h0]
  · rw [if_neg h0, dif_neg h0]
    refine (congrArg (· * scale) (turn (fun r => col l w ⟨k.val / 128 * 128 + r.val, by omega⟩) c s ⟨k.val % 128, by omega⟩)).trans ?_
    by_cases h1 : k.val % 256 < 192
    · rw [dif_pos h1, dif_pos (show k.val % 128 < 64 by omega)]
      have e0 : (⟨k.val / 128 * 128 + k.val % 128, by omega⟩ : Fin 2048) = k := Fin.ext (show k.val / 128 * 128 + k.val % 128 = k.val by omega)
      have e1 : (⟨k.val / 128 * 128 + (64 + k.val % 128), by omega⟩ : Fin 2048) = ⟨k.val + 64, by omega⟩ := Fin.ext (show k.val / 128 * 128 + (64 + k.val % 128) = k.val + 64 by omega)
      have e2 : (⟨k.val % 128, by omega⟩ : Fin 64) = ⟨k.val % 256 - 128, by omega⟩ := Fin.ext (show k.val % 128 = k.val % 256 - 128 by omega)
      show (col l w ⟨k.val / 128 * 128 + k.val % 128, _⟩ * c ⟨k.val % 128, _⟩ + col l w ⟨k.val / 128 * 128 + (64 + k.val % 128), _⟩ * s ⟨k.val % 128, _⟩) * scale = _
      rw [e0, e1, e2]
    · rw [dif_neg h1, dif_neg (show ¬ k.val % 128 < 64 by omega), zero_mul]
/-- With filled angles the key is the turned one. -/
theorem keyT_fill (a h w w' c s) (g : Fin 8) (j : Fin 256) :
    keyT a (fun r => dot h w ⟨256 + r.val, by omega⟩) w' (fill c) (fill s) g j = key a (keyrow h w c s) w' g j := by
  unfold keyT key
  by_cases h0 : j.val < 128
  · rw [dif_pos h0, dif_pos h0]
  · rw [dif_neg h0, dif_neg h0]
    refine (turn (fun r => dot h w ⟨256 + r.val, by omega⟩) c s ⟨j.val - 128, by omega⟩).trans ?_
    by_cases h1 : j.val - 128 < 64
    · rw [dif_pos h1, dif_pos h1]
      exact congrArg (fun k => dot h w ⟨256 + (j.val - 128), by omega⟩ * c ⟨j.val - 128, h1⟩ + dot h w k * s ⟨j.val - 128, h1⟩) (Fin.ext (show 256 + (64 + (j.val - 128)) = 320 + (j.val - 128) by omega))
    · rw [dif_neg h1, dif_neg h1]

/-- Equal latents, weights and angles give equal queries. -/
theorem queryT_of {l l' w w' c c' s s'} (hl : l = l') (hw : w = w') (hc : c = c') (hs : s = s') (k : Fin 2048) : queryT l w c s k = queryT l' w' c' s' k := by
  subst hl hw hc hs; rfl
/-- Equal latents, columns, weights and angles give equal keys. -/
theorem keyT_of {a a' b b' w w' c c' s s'} (ha : a = a') (hb : b = b') (hw : w = w') (hc : c = c') (hs : s = s') (h : Fin 8) (j : Fin 256) : keyT a b w c s h j = keyT a' b' w' c' s' h j := by
  subst ha hb hw hc hs; rfl

end ProjS
end
-- ==== Proof.ProjS.Unit.lean ====
module

public import proofs.«01_k».proof.Proof.Gen.ProjSIdeal.Value
public import proofs.«01_k».proof.Proof.ProjP.Unit
public import proofs.«01_k».proof.Proof.Cache.Unit
public import proofs.«01_k».proof.Proof.ProjS.Spec

@[expose] public section

set_option maxRecDepth 16384

noncomputable section

open Idealize.ShloMosaic Idealize.ShloMosaic.TcCoe Idealize.SL.Sem

/-! The steps of the sampling stream's projections over 512 tokens that the prompt's have not: the transposed queries and the turned columns. -/

namespace ProjS.Unit
open Cert.ProjSIdeal Cert.ProjSIdeal.Gen Rows Rows.Unit

/-- The queries of all heads, a column for each token. -/
def quer (z : FVec Ideal S512x512 .f32) (g : FVec Ideal S1x512 .f32) (w : FVec Ideal S2048x512 .bf16) : FVec Ideal S2048x512 .f32 :=
  matmul dot_S2048x512_S512x512_S2048x512_1_1_0_0_n_n none w (truncf .bf16 (mulf z (broadcastTo S512x512 g broadcasts_S1x512_S512x512)) bitsLt_bf16_f32) (constant S2048x512 .f32 0x00000000#32)
/-- 128 query rows scaled. -/
def scaled (o : ℕ) (h : S2048x512.Slices ![o, 0] S128x512) (z : FVec Ideal S2048x512 .f32) : FVec Ideal S128x512 .bf16 :=
  truncf .bf16 (mulf (extractStridedSlice S128x512 ![o, 0] z h) (broadcast S128x512 (Scalar.ofBits .f32 0x3DD53B95#32))) bitsLt_bf16_f32
/-- 128 query rows turned. -/
def turned (b c s : FVec Ideal S128x512 .f32) : FVec Ideal S128x512 .f32 := addf (mulf b c) (mulf (dynamicRotate 0 64#32 none b rotates_S128x512_d0) s)
/-- 128 query rows turned and scaled. -/
def turnedScaled (o : ℕ) (h : S2048x512.Slices ![o, 0] S128x512) (z : FVec Ideal S2048x512 .f32) (c s : FVec Ideal S128x512 .f32) : FVec Ideal S128x512 .bf16 :=
  truncf .bf16 (mulf (turned (extractStridedSlice S128x512 ![o, 0] z h) (shapeCast S128x512 c shapeCasts_S128x512_S128x512) (shapeCast S128x512 s shapeCasts_S128x512_S128x512))
    (broadcast S128x512 (Scalar.ofBits .f32 0x3DD53B95#32))) bitsLt_bf16_f32
/-- 128 key columns turned. -/
def keyTurned (b c s : FVec Ideal S512x128 .f32) : FVec Ideal S512x128 .f32 :=
  addf (mulf b (shapeCast S512x128 c shapeCasts_S512x128_S512x128)) (mulf (dynamicRotate 1 64#32 none b rotates_S512x128_d1) (shapeCast S512x128 s shapeCasts_S512x128_S512x128))

/-- The queries read at an index. -/
theorem quer_at (z g w) (k : Fin 2048) (i : Fin 512) : quer z g w (ix2 k i) = col (fun d => z (ix2 i d) * g (ix2 0 d)) (fun k d => w (ix2 k d)) k := by
  pointwise [quer, col]
/-- The scaled rows read at an index. -/
theorem scaled_at (o h z) (ho : o + 128 ≤ 2048) (r : Fin 128) (i : Fin 512) : scaled o h z (ix2 r i) = z (ix2 ⟨o + r.val, by omega⟩ i) * ProjP.scale := by
  pointwise [scaled]
/-- A turned row read at an index. -/
theorem turned_at (b c s) (r : Fin 128) (i : Fin 512) : turned b c s (ix2 r i) = b (ix2 r i) * c (ix2 r i) + b (ix2 ⟨(r.val + 64) % 128, by omega⟩ i) * s (ix2 r i) := by
  have e : dynamicRotate 0 64#32 none b rotates_S128x512_d0 (ix2 r i) = b (ix2 ⟨(r.val + 64) % 128, by omega⟩ i) := Pointwise.dynamicRotate_apply _ _ _ _ _ _ |>.trans (congrArg b (by
    funext a; fin_cases a
    · exact Fin.ext (show (r.val + 128 - (64 + 0) % 128) % 128 = (r.val + 64) % 128 by omega)
    · rfl))
  show b (ix2 r i) * c (ix2 r i) + dynamicRotate 0 64#32 none b rotates_S128x512_d0 (ix2 r i) * s (ix2 r i) = _
  rw [e]
/-- The turned and scaled rows read at an index. -/
theorem turnedScaled_at (o h z c s) (ho : o + 128 ≤ 2048) (r : Fin 128) (i : Fin 512) : turnedScaled o h z c s (ix2 r i)
    = (z (ix2 ⟨o + r.val, by omega⟩ i) * c (ix2 r i) + z (ix2 ⟨o + (r.val + 64) % 128, by omega⟩ i) * s (ix2 r i)) * ProjP.scale := by
  pointwise [turnedScaled, turned_at]
/-- The turned key columns read at an index. -/
theorem keyTurned_at (b c s) (i : Fin 512) (r : Fin 128) : keyTurned b c s (ix2 i r) = b (ix2 i r) * c (ix2 i r) + b (ix2 i ⟨(r.val + 64) % 128, by omega⟩) * s (ix2 i r) := by
  have e : dynamicRotate 1 64#32 none b rotates_S512x128_d1 (ix2 i r) = b (ix2 i ⟨(r.val + 64) % 128, by omega⟩) := Pointwise.dynamicRotate_apply _ _ _ _ _ _ |>.trans (congrArg b (by
    funext a; fin_cases a
    · rfl
    · exact Fin.ext (show (r.val + 128 - (64 + 0) % 128) % 128 = (r.val + 64) % 128 by omega)))
  have e0 : ∀ x : FVec Ideal S512x128 .f32, shapeCast S512x128 x shapeCasts_S512x128_S512x128 (ix2 i r) = x (ix2 i r) := fun x => by
    pointwise []
  show b (ix2 i r) * shapeCast S512x128 c _ (ix2 i r) + dynamicRotate 1 64#32 none b rotates_S512x128_d1 (ix2 i r) * shapeCast S512x128 s _ (ix2 i r) = _
  rw [e, e0, e0]

/-- A slice of 128 of 2048 rows. -/
theorem sl2048 {o : ℕ} (h : o + 128 ≤ 2048) : S2048x512.Slices ![o, 0] S128x512 :=
  ⟨rfl, fun a => by fin_cases a; exacts [show o + 128 ≤ 2048 from h, show 0 + 512 ≤ 512 by omega]⟩

/-- What is stored for the two halves of head `h`'s rows, and where. -/
def pieces (u0 u1 : Fin 8 → FVec Ideal S128x512 .bf16) (h : Fin 8) : List (View.Piece (Elt Ideal) S2048x512 .bf16) :=
  [⟨Rect.unit (s := S2048x512) ![256 * h.val + 128, 0] ![128, 512] (inb2 (by omega) (by omega)), u1 h⟩,
   ⟨Rect.unit (s := S2048x512) ![256 * h.val, 0] ![128, 512] (inb2 (by omega) (by omega)), u0 h⟩]
/-- The stores of all heads, the last first. -/
def heads (u0 u1 : Fin 8 → FVec Ideal S128x512 .bf16) : List (View.Piece (Elt Ideal) S2048x512 .bf16) := ([7, 6, 5, 4, 3, 2, 1, 0] : List (Fin 8)).flatMap (pieces u0 u1)

/-- The stores of all heads make a tile whose columns are what `G` says of them. -/
theorem heads_eq {u0 u1 : Fin 8 → FVec Ideal S128x512 .bf16} {G : Fin 2048 → Fin 512 → EReal}
    (h0 : ∀ h (r : Fin 128) i, u0 h (ix2 r i) = G ⟨256 * h.val + r.val, by omega⟩ i) (h1 : ∀ h (r : Fin 128) i, u1 h (ix2 r i) = G ⟨256 * h.val + 128 + r.val, by omega⟩ i) (y : S2048x512.Idx) :
    View.canon (Val := Elt Ideal) (s := S2048x512) (e := .bf16) (heads u0 u1) y = G (y 0) (y 1) := by
  refine View.canon_apply_of_pieces (Val := Elt Ideal) (S := S2048x512) (e := .bf16) (fun y : S2048x512.Idx => (G (y 0) (y 1) : Elt Ideal .bf16)) _ ?_ y ?_
  · intro p hp x
    obtain ⟨h, _, hp⟩ := List.mem_flatMap.mp hp
    rcases List.mem_cons.mp hp with rfl | hp
    · obtain ⟨r, i, rfl⟩ : ∃ (r : Fin 128) (i : Fin 512), x = ix2 r i := ⟨x 0, x 1, by funext c; fin_cases c <;> rfl⟩
      refine (h1 h r i).trans (congrArg₂ G (Fin.ext ?_) (Fin.ext ?_))
      · show 256 * h.val + 128 + r.val = 256 * h.val + 128 + 1 * r.val; omega
      · show i.val = 0 + 1 * i.val; omega
    · obtain rfl := List.mem_singleton.mp hp
      obtain ⟨r, i, rfl⟩ : ∃ (r : Fin 128) (i : Fin 512), x = ix2 r i := ⟨x 0, x 1, by funext c; fin_cases c <;> rfl⟩
      refine (h0 h r i).trans (congrArg₂ G (Fin.ext ?_) (Fin.ext ?_))
      · show 256 * h.val + r.val = 256 * h.val + 1 * r.val; omega
      · show i.val = 0 + 1 * i.val; omega
  · have hy0 : (y 0).val < 2048 := (y 0).isLt
    have hy1 : (y 1).val < 512 := (y 1).isLt
    have hm : ∀ h : Fin 8, h ∈ ([7, 6, 5, 4, 3, 2, 1, 0] : List (Fin 8)) := by decide
    by_cases hc : (y 0).val % 256 < 128
    · refine ⟨_, List.mem_flatMap.mpr ⟨⟨(y 0).val / 256, by omega⟩, hm _, List.mem_cons_of_mem _ List.mem_cons_self⟩, (Rect.mem_set_unit (s := S2048x512) (inb := inb2 (by omega) (by omega))).mpr fun c => ?_⟩
      fin_cases c
      · show 256 * ((y 0).val / 256) ≤ (y 0).val ∧ (y 0).val < 256 * ((y 0).val / 256) + 128; omega
      · show 0 ≤ (y 1).val ∧ (y 1).val < 0 + 512; omega
    · refine ⟨_, List.mem_flatMap.mpr ⟨⟨(y 0).val / 256, by omega⟩, hm _, List.mem_cons_self⟩, (Rect.mem_set_unit (s := S2048x512) (inb := inb2 (by omega) (by omega))).mpr fun c => ?_⟩
      fin_cases c
      · show 256 * ((y 0).val / 256) + 128 ≤ (y 0).val ∧ (y 0).val < 256 * ((y 0).val / 256) + 128 + 128; omega
      · show 0 ≤ (y 1).val ∧ (y 1).val < 0 + 512; omega

end ProjS.Unit
end
-- ==== Proof.ProjS.Kernel.lean ====
module

public import proofs.«01_k».proof.Proof.ProjS.Unit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

/-! What the sampling stream's projections leave in their three results. -/

namespace ProjS
section
variable (X : FVec Ideal ⟨2, ![16384, 1024]⟩ .f32) (M : FVec Ideal ⟨4, ![2, 16, 1, 6144]⟩ .f32) (N : FVec Ideal ⟨2, ![1, 1024]⟩ .f32) (WQ : FVec Ideal ⟨3, ![1, 1024, 512]⟩ .bf16)
  (GQ : FVec Ideal ⟨2, ![1, 512]⟩ .f32) (UQ : FVec Ideal ⟨2, ![2048, 512]⟩ .bf16) (WK : FVec Ideal ⟨2, ![1024, 384]⟩ .bf16) (GK : FVec Ideal ⟨2, ![1, 256]⟩ .f32)
  (UK : FVec Ideal ⟨2, ![256, 1024]⟩ .bf16) (UV : FVec Ideal ⟨2, ![1024, 256]⟩ .bf16) (C S : FVec Ideal ⟨2, ![2048, 64]⟩ .f32) (n : Fin 16384)

/-- The row of token `n` the projections read. -/
def inputRow : Fin 1024 → EReal :=
  Rows.modulated 0x44800000#32 (fun k => X (ix2 n k)) (fun k => N (ix2 0 k)) (fun k => M (ix4 1 ⟨1 + n.val / 2048, by omega⟩ 0 ⟨0 + k.val, by omega⟩)) (fun k => M (ix4 1 ⟨1 + n.val / 2048, by omega⟩ 0 ⟨1024 + k.val, by omega⟩))
/-- The angles of token `n`. -/
def angle (j : Fin 64) : EReal := C (ix2 ⟨n.val % 2048, by omega⟩ j)
/-- Its queries. -/
def outQ : Fin 2048 → EReal := query (ProjP.lat (inputRow X M N n) (fun d j => WQ (ix3 0 d j)) (fun k => GQ (ix2 0 k))) (fun k d => UQ (ix2 k d)) (angle C n) (angle S n)
/-- Its key and value latent. -/
def lat : Fin 256 → EReal := ProjP.kvlat (inputRow X M N n) (fun d j => WK (ix2 d j)) (fun k => GK (ix2 0 k))
/-- Its keys. -/
def outK : Fin 8 → Fin 256 → EReal := key (lat X M N WK GK n) (keyrow (inputRow X M N n) (fun d j => WK (ix2 d j)) (angle C n) (angle S n)) (fun d j => UK (ix2 d j))
/-- Its values. -/
def outV : Fin 1024 → EReal := value (lat X M N WK GK n) (fun k d => UV (ix2 k d))
end
end ProjS

namespace Cert.ProjSIdeal.Value
open Cert.ProjSIdeal Cert.ProjSIdeal.Gen ProjS

variable (x0 : FVec Ideal S512x1024 .f32) (x1 : FVec Ideal S1x1x1x6144 .f32) (x2 : FVec Ideal S1x1024 .f32) (x3 : FVec Ideal S1x1024x512 .bf16) (x4 : FVec Ideal S1x512 .f32)
  (x5 : FVec Ideal S2048x512 .bf16) (x6 : FVec Ideal S1024x384 .bf16) (x7 : FVec Ideal S1x256 .f32) (x8 : FVec Ideal S256x1024 .bf16) (x9 : FVec Ideal S1024x256 .bf16)
  (x10 : FVec Ideal S512x128 .f32) (x11 : FVec Ideal S512x128 .f32) (x12 : FVec Ideal S128x512 .f32) (x13 : FVec Ideal S128x512 .f32)

/-- The queries of a tile before their scale. -/
def querU : FVec Ideal S2048x512 .f32 := ProjS.Unit.quer (ProjP.Unit.latN (ProjP.Unit.latP (ProjP.Unit.hid x0 x1 x2) x3)) x4 x5
/-- The key and value latents of a tile. -/
def latU : FVec Ideal S512x256 .f32 := ProjP.Unit.kvN (ProjP.Unit.kvA (ProjP.Unit.kvP (ProjP.Unit.hid x0 x1 x2) x6)) x7
/-- The last key columns of a tile. -/
def colsU : FVec Ideal S512x128 .f32 := ProjP.Unit.kvB (ProjP.Unit.kvP (ProjP.Unit.hid x0 x1 x2) x6)

/-- A tile's rows the projections read. -/
def bHid (n : Fin 512) : Fin 1024 → EReal :=
  Rows.modulated 0x44800000#32 (fun k => x0 (ix2 n k)) (fun k => x2 (ix2 0 k)) (fun k => x1 (ix4 0 0 0 ⟨0 + k.val, by omega⟩)) (fun k => x1 (ix4 0 0 0 ⟨1024 + k.val, by omega⟩))
/-- Their queries' latents. -/
def bL (n : Fin 512) : Fin 512 → EReal := ProjP.lat (bHid x0 x1 x2 n) (fun d j => x3 (ix3 0 d j)) (fun k => x4 (ix2 0 k))
/-- Their queries. -/
def bQ (n : Fin 512) : Fin 2048 → EReal := queryT (bL x0 x1 x2 x3 x4 n) (fun k d => x5 (ix2 k d)) (fun r => x12 (ix2 r n)) (fun r => x13 (ix2 r n))
/-- Their key and value latents. -/
def bC (n : Fin 512) : Fin 256 → EReal := ProjP.kvlat (bHid x0 x1 x2 n) (fun d j => x6 (ix2 d j)) (fun k => x7 (ix2 0 k))
/-- Their keys. -/
def bK (n : Fin 512) : Fin 8 → Fin 256 → EReal := keyT (bC x0 x1 x2 x6 x7 n) (fun r => Rows.dot (bHid x0 x1 x2 n) (fun d j => x6 (ix2 d j)) ⟨256 + r.val, by omega⟩) (fun d j => x8 (ix2 d j)) (fun r => x10 (ix2 n r)) (fun r => x11 (ix2 n r))
/-- Their values. -/
def bV (n : Fin 512) : Fin 1024 → EReal := value (bC x0 x1 x2 x6 x7 n) (fun k d => x9 (ix2 k d))

/-- The queries before their scale, read at an index. -/
theorem querU_at (k : Fin 2048) (n : Fin 512) : querU x0 x1 x2 x3 x4 x5 (ix2 k n) = col (bL x0 x1 x2 x3 x4 n) (fun k d => x5 (ix2 k d)) k := by
  unfold querU
  rw [ProjS.Unit.quer_at]
  simp only [ProjP.Unit.latN_at, ProjP.Unit.latP_at, ProjP.Unit.hid_at]
  rfl
/-- The latents read at an index. -/
theorem latU_at (n : Fin 512) (j : Fin 256) : latU x0 x1 x2 x6 x7 (ix2 n j) = bC x0 x1 x2 x6 x7 n j := by
  unfold latU
  rw [ProjP.Unit.kvN_at]
  simp only [ProjP.Unit.kvA_at, ProjP.Unit.kvP_at, ProjP.Unit.hid_at]
  rfl
/-- The last key columns read at an index. -/
theorem colsU_at (n : Fin 512) (j : Fin 128) : colsU x0 x1 x2 x6 (ix2 n j) = Rows.dot (bHid x0 x1 x2 n) (fun d j => x6 (ix2 d j)) ⟨256 + j.val, by omega⟩ := by
  unfold colsU
  rw [ProjP.Unit.kvB_at]
  simp only [ProjP.Unit.kvP_at, ProjP.Unit.hid_at]
  rfl

/-- The offset words of the loads. -/
theorem z2 : (![0, 0] : Fin 2 → ℕ) = fun _ => 0 := by funext a; fin_cases a <;> rfl
/-- The offset words of the loads of rank three. -/
theorem z3 : (![0, 0, 0] : Fin 3 → ℕ) = fun _ => 0 := by funext a; fin_cases a <;> rfl
/-- The offset words of the loads of rank four. -/
theorem z4 : (![0, 0, 0, 0] : Fin 4 → ℕ) = fun _ => 0 := by funext a; fin_cases a <;> rfl

/-- The queries' stores, over the loaded arrays. -/
theorem outQ_eq : out0_14 (F := Ideal) x0 x1 x2 x3 x4 x5 x6 x7 x8 x9 x10 x11 x12 x13
    = View.canon (Val := Elt Ideal) (s := S2048x512) (e := .bf16) (ProjS.Unit.heads
      (fun h => ProjS.Unit.scaled (256 * h.val) (ProjS.Unit.sl2048 (by omega)) (querU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x3 r0_3) (View.ld (Val := Elt Ideal) (e' := .f32) x4 r0_4) (View.ld (Val := Elt Ideal) (e' := .bf16) x5 r0_9)))
      (fun h => ProjS.Unit.turnedScaled (256 * h.val + 128) (ProjS.Unit.sl2048 (by omega)) (querU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x3 r0_3) (View.ld (Val := Elt Ideal) (e' := .f32) x4 r0_4) (View.ld (Val := Elt Ideal) (e' := .bf16) x5 r0_9)) (View.ld (Val := Elt Ideal) (e' := .f32) x12 r0_8) (View.ld (Val := Elt Ideal) (e' := .f32) x13 r0_8))) := rfl

/-- The queries a grid point leaves. -/
theorem outQ_at (y : S2048x512.Idx) : out0_14 (F := Ideal) x0 x1 x2 x3 x4 x5 x6 x7 x8 x9 x10 x11 x12 x13 y = bQ x0 x1 x2 x3 x4 x5 x12 x13 (y 1) (y 0) := by
  rw [outQ_eq, View.ld_unit_zero z2, View.ld_unit_zero z4, View.ld_unit_zero z2, View.ld_unit_zero z3, View.ld_unit_zero z2, View.ld_unit_zero z2, View.ld_unit_zero z2, View.ld_unit_zero z2]
  refine ProjS.Unit.heads_eq (G := fun k n => bQ x0 x1 x2 x3 x4 x5 x12 x13 n k) (fun h r i => ?_) (fun h r i => ?_) y
  · rw [ProjS.Unit.scaled_at _ _ _ (by omega), querU_at]
    show _ = bQ _ _ _ _ _ _ _ _ _ _
    unfold bQ queryT
    exact (if_pos (by show (256 * h.val + r.val) % 256 < 128; omega)).symm
  · rw [ProjS.Unit.turnedScaled_at _ _ _ _ _ (by omega), querU_at, querU_at]
    show _ = bQ _ _ _ _ _ _ _ _ _ _
    unfold bQ queryT
    rw [if_neg (show ¬ (256 * h.val + 128 + r.val) % 256 < 128 by omega)]
    have e0 : (⟨(256 * h.val + 128 + r.val) / 128 * 128 + (256 * h.val + 128 + r.val) % 128, by omega⟩ : Fin 2048) = ⟨256 * h.val + 128 + r.val, by omega⟩ := Fin.ext (show (256 * h.val + 128 + r.val) / 128 * 128 + (256 * h.val + 128 + r.val) % 128 = 256 * h.val + 128 + r.val by omega)
    have e1 : (⟨(256 * h.val + 128 + r.val) / 128 * 128 + ((256 * h.val + 128 + r.val) % 128 + 64) % 128, by omega⟩ : Fin 2048) = ⟨256 * h.val + 128 + (r.val + 64) % 128, by omega⟩ := Fin.ext (show (256 * h.val + 128 + r.val) / 128 * 128 + ((256 * h.val + 128 + r.val) % 128 + 64) % 128 = 256 * h.val + 128 + (r.val + 64) % 128 by omega)
    have e2 : (⟨(256 * h.val + 128 + r.val) % 128, by omega⟩ : Fin 128) = r := Fin.ext (show (256 * h.val + 128 + r.val) % 128 = r.val by omega)
    rw [e0, e1, e2]

/-- The keys' stores, over the loaded arrays. -/
theorem outK_eq : out0_15 (F := Ideal) x0 x1 x2 x3 x4 x5 x6 x7 x8 x9 x10 x11 x12 x13
    = View.canon (Val := Elt Ideal) (s := S8x512x256) (e := .bf16) (Cache.Unit.heads
      (fun h => Cache.Unit.part (128 * h.val) (Cache.Unit.sl1024 (by omega)) (Cache.Unit.up (truncf .bf16 (latU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5) (View.ld (Val := Elt Ideal) (e' := .f32) x7 r0_6)) bitsLt_bf16_f32) (View.ld (Val := Elt Ideal) (e' := .bf16) x8 r0_26)))
      (fun _ => Cache.Unit.shared (truncf .bf16 (ProjS.Unit.keyTurned (colsU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5)) (View.ld (Val := Elt Ideal) (e' := .f32) x10 r0_7) (View.ld (Val := Elt Ideal) (e' := .f32) x11 r0_7)) bitsLt_bf16_f32))) := rfl

/-- The keys a grid point leaves. -/
theorem outK_at (y : S8x512x256.Idx) : out0_15 (F := Ideal) x0 x1 x2 x3 x4 x5 x6 x7 x8 x9 x10 x11 x12 x13 y = bK x0 x1 x2 x6 x7 x8 x10 x11 (y 1) (y 0) (y 2) := by
  rw [outK_eq, View.ld_unit_zero z2, View.ld_unit_zero z4, View.ld_unit_zero z2, View.ld_unit_zero z2, View.ld_unit_zero z2, View.ld_unit_zero z2, View.ld_unit_zero z2, View.ld_unit_zero z2]
  refine Cache.Unit.heads_eq (G := fun h n j => bK x0 x1 x2 x6 x7 x8 x10 x11 n h j) (fun h i j => ?_) (fun h i j => ?_) y
  · rw [Cache.Unit.part_at _ _ _ (by omega), Cache.Unit.up_at]
    show Rows.dot (fun d => latU x0 x1 x2 x6 x7 (ix2 i d)) _ _ = bK _ _ _ _ _ _ _ _ _ _ _
    simp only [latU_at]
    unfold bK keyT
    rw [dif_pos (show j.val < 128 from j.isLt)]
    exact congrArg _ (Fin.ext (show 128 * h.val + j.val = h.val * 128 + j.val by omega))
  · rw [Cache.Unit.shared_at]
    show ProjS.Unit.keyTurned _ _ _ (ix2 i j) = bK _ _ _ _ _ _ _ _ _ _ _
    rw [ProjS.Unit.keyTurned_at, colsU_at, colsU_at]
    unfold bK keyT
    rw [dif_neg (show ¬ 128 + j.val < 128 by omega)]
    have e0 : (⟨128 + j.val - 128, by omega⟩ : Fin 128) = j := Fin.ext (show 128 + j.val - 128 = j.val by omega)
    have e1 : (⟨(128 + j.val - 128 + 64) % 128, by omega⟩ : Fin 128) = ⟨(j.val + 64) % 128, by omega⟩ := Fin.ext (show (128 + j.val - 128 + 64) % 128 = (j.val + 64) % 128 by omega)
    rw [e0, e1]

/-- The values a grid point leaves. -/
theorem outV_at (y : S1024x512.Idx) : out0_16 (F := Ideal) x0 x1 x2 x3 x4 x5 x6 x7 x8 x9 x10 x11 x12 x13 y = bV x0 x1 x2 x6 x7 x9 (y 1) (y 0) := by
  have e : out0_16 (F := Ideal) x0 x1 x2 x3 x4 x5 x6 x7 x8 x9 x10 x11 x12 x13 = View.canon (Val := Elt Ideal) (s := S1024x512) (e := .bf16) [⟨r0_44, Cache.Unit.vals (truncf .bf16 (latU (View.ld (Val := Elt Ideal) (e' := .f32) x0 r0_1) (View.ld (Val := Elt Ideal) (e' := .f32) x1 r0_0) (View.ld (Val := Elt Ideal) (e' := .f32) x2 r0_2) (View.ld (Val := Elt Ideal) (e' := .bf16) x6 r0_5) (View.ld (Val := Elt Ideal) (e' := .f32) x7 r0_6)) bitsLt_bf16_f32) (View.ld (Val := Elt Ideal) (e' := .bf16) x9 r0_43)⟩] := rfl
  rw [e, View.ld_unit_zero z2, View.ld_unit_zero z4, View.ld_unit_zero z2, View.ld_unit_zero z2, View.ld_unit_zero z2, View.ld_unit_zero z2, View.canon_unit_zero z2]
  obtain ⟨k, n, rfl⟩ : ∃ (k : Fin 1024) (n : Fin 512), y = ix2 k n := ⟨y 0, y 1, by funext c; fin_cases c <;> rfl⟩
  refine (Cache.Unit.vals_at _ _ k n).trans ?_
  exact Finset.sum_congr rfl fun d _ => congrArg (_ * ·) (latU_at x0 x1 x2 x6 x7 n d)

variable (m : (ℓ : Loc nD τ sig) → Buf (Elt Ideal) ℓ)

/-- The angles filled to 128 columns. -/
def filled (a : FVec Ideal S2048x64 .f32) : FVec Ideal S2048x128 .f32 :=
  pad S2048x128 ![0, 0] ![0, 64] ![0, 0] a (sitofp (F := Ideal) .f32 (constantI S_ 32 0#32)) pads_S2048x64_S2048x128_000_0640 h_S_
/-- The filled angles read at an index. -/
theorem filled_at (a) (n : Fin 2048) (r : Fin 128) : filled a (ix2 n r) = fill (fun j => a (ix2 n j)) r := by
  unfold fill filled
  by_cases h : r.val < 64
  · rw [dif_pos h]
    refine pad_apply_of_inside _ _ _ _ _ _ _ _ (ix2 n ⟨r.val, h⟩) fun b => ?_
    fin_cases b
    · show n.val = 0 + n.val * (0 + 1); omega
    · show r.val = 0 + r.val * (0 + 1); omega
  · rw [dif_neg h]
    refine (pad_apply_of_not_inside _ _ _ _ _ _ _ _ 1 fun h' => h ?_).trans ?_
    · have h2 : (r.val - 0) / (0 + 1) < 64 := h'.2.2
      omega
    · show (((0#32 : BitVec 32).toInt : ℝ) : EReal) = 0
      simp
/-- The filled angles, a column for each place. -/
def filledT (a : FVec Ideal S2048x64 .f32) : FVec Ideal S128x2048 .f32 := transpose S128x2048 [1, 0] (filled a) transposes_S2048x128_S128x2048_1_0
/-- The transposed filled angles read at an index. -/
theorem filledT_at (a) (n : Fin 2048) (r : Fin 128) : filledT a (ix2 r n) = fill (fun j => a (ix2 n j)) r := by
  have e : filledT a (ix2 r n) = filled a (ix2 n r) := by pointwise [filledT]
  rw [e, filled_at]
/-- The cosines the region finds. -/
theorem cos_eq (c : Dev nD) : V m c main_v0 = filled (m ((c.tc : Thread nD τ).loc main_arg10)) := rfl
/-- The sines the region finds. -/
theorem sin_eq (c : Dev nD) : V m c main_v1 = filled (m ((c.tc : Thread nD τ).loc main_arg11)) := rfl
/-- The transposed cosines the region finds. -/
theorem cosT_eq (c : Dev nD) : V m c main_v2 = filledT (m ((c.tc : Thread nD τ).loc main_arg10)) := rfl
/-- The transposed sines the region finds. -/
theorem sinT_eq (c : Dev nD) : V m c main_v3 = filledT (m ((c.tc : Thread nD τ).loc main_arg11)) := rfl

/-- The blocks of a grid point. -/
theorem idx : ∀ t : Fin cfg0.N, (win0_0.index t = ![t.val, 0] ∧ win0_1.index t = ![1, 1 + t.val / 4, 0, 0] ∧ win0_2.index t = ![0, 0]
    ∧ win0_3.index t = ![0, 0, 0] ∧ win0_4.index t = ![0, 0] ∧ win0_5.index t = ![0, 0] ∧ win0_6.index t = ![0, 0] ∧ win0_7.index t = ![0, 0] ∧ win0_8.index t = ![0, 0] ∧ win0_9.index t = ![0, 0])
    ∧ win0_10.index t = ![t.val % 4, 0] ∧ win0_11.index t = ![t.val % 4, 0] ∧ win0_12.index t = ![0, t.val % 4] ∧ win0_13.index t = ![0, t.val % 4]
    ∧ win0_14.index t = ![0, t.val] ∧ win0_15.index t = ![0, t.val, 0] ∧ win0_16.index t = ![0, t.val] ∧ t.val < 32 :=
  (by decide +kernel : ∀ t : Fin grid0.N, _)

/-- A grid point's rows the projections read are the argument's there. -/
theorem pointH (c : Dev nD) (t : Fin cfg0.N) (i : Fin 512) (n : Fin 16384) (hn : n.val = t.val * 512 + i.val) :
    bHid (iblk m c 0 t) (iblk m c 1 t) (iblk m c 2 t) i = inputRow (m ((c.tc : Thread nD τ).loc main_arg0)) (m ((c.tc : Thread nD τ).loc main_arg1)) (m ((c.tc : Thread nD τ).loc main_arg2)) n := by
  have ht : t.val < 32 := (idx t).2.2.2.2.2.2.2.2
  unfold bHid inputRow
  congr 1
  · funext k; blk_ext [iblk, V, idx t]
  · funext k; blk_ext [iblk, V, idx t]
  · funext k; blk_ext [iblk, V, idx t]
  · funext k; blk_ext [iblk, V, idx t]

/-- A grid point's cosines are the token's, filled. -/
theorem angle10 (c : Dev nD) (t : Fin cfg0.N) (i : Fin 512) (n : Fin 16384) (hn : n.val = t.val * 512 + i.val) (r : Fin 128) :
    (iblk m c 10 t : FVec Ideal S512x128 .f32) (ix2 i r) = fill (angle (m ((c.tc : Thread nD τ).loc main_arg10)) n) r := by
  have ht : t.val < 32 := (idx t).2.2.2.2.2.2.2.2
  refine (?_ : _ = (V m c main_v0 : FVec Ideal S2048x128 .f32) (ix2 ⟨n.val % 2048, by omega⟩ r)).trans ((congrFun (cos_eq m c) _).trans (filled_at _ _ r))
  blk_ext [iblk, idx t]

/-- A grid point's sines are the token's, filled. -/
theorem angle11 (c : Dev nD) (t : Fin cfg0.N) (i : Fin 512) (n : Fin 16384) (hn : n.val = t.val * 512 + i.val) (r : Fin 128) :
    (iblk m c 11 t : FVec Ideal S512x128 .f32) (ix2 i r) = fill (angle (m ((c.tc : Thread nD τ).loc main_arg11)) n) r := by
  have ht : t.val < 32 := (idx t).2.2.2.2.2.2.2.2
  refine (?_ : _ = (V m c main_v1 : FVec Ideal S2048x128 .f32) (ix2 ⟨n.val % 2048, by omega⟩ r)).trans ((congrFun (sin_eq m c) _).trans (filled_at _ _ r))
  blk_ext [iblk, idx t]

/-- A grid point's transposed cosines are the token's, filled. -/
theorem angle12 (c : Dev nD) (t : Fin cfg0.N) (i : Fin 512) (n : Fin 16384) (hn : n.val = t.val * 512 + i.val) (r : Fin 128) :
    (iblk m c 12 t : FVec Ideal S128x512 .f32) (ix2 r i) = fill (angle (m ((c.tc : Thread nD τ).loc main_arg10)) n) r := by
  have ht : t.val < 32 := (idx t).2.2.2.2.2.2.2.2
  refine (?_ : _ = (V m c main_v2 : FVec Ideal S128x2048 .f32) (ix2 r ⟨n.val % 2048, by omega⟩)).trans ((congrFun (cosT_eq m c) _).trans (filledT_at _ _ r))
  blk_ext [iblk, idx t]

/-- A grid point's transposed sines are the token's, filled. -/
theorem angle13 (c : Dev nD) (t : Fin cfg0.N) (i : Fin 512) (n : Fin 16384) (hn : n.val = t.val * 512 + i.val) (r : Fin 128) :
    (iblk m c 13 t : FVec Ideal S128x512 .f32) (ix2 r i) = fill (angle (m ((c.tc : Thread nD τ).loc main_arg11)) n) r := by
  have ht : t.val < 32 := (idx t).2.2.2.2.2.2.2.2
  refine (?_ : _ = (V m c main_v3 : FVec Ideal S128x2048 .f32) (ix2 r ⟨n.val % 2048, by omega⟩)).trans ((congrFun (sinT_eq m c) _).trans (filledT_at _ _ r))
  blk_ext [iblk, idx t]

/-- A grid point's queries are the result's there. -/
theorem pointQ (c : Dev nD) (t : Fin cfg0.N) (i : Fin 512) (n : Fin 16384) (hn : n.val = t.val * 512 + i.val) (k k' : Fin 2048) (hk : k'.val = k.val) :
    bQ (iblk m c 0 t) (iblk m c 1 t) (iblk m c 2 t) (iblk m c 3 t) (iblk m c 4 t) (iblk m c 5 t) (iblk m c 12 t) (iblk m c 13 t) i k = outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) n k' := by
  obtain rfl := Fin.ext hk
  unfold bQ outQ
  rw [← queryT_fill]
  refine queryT_of ?_ ?_ ?_ ?_ k'
  · unfold bL
    rw [pointH m c t i n hn]
    congr 1
    · funext d j; blk_ext [iblk, V, idx t]
    · funext k; blk_ext [iblk, V, idx t]
  · funext k d; blk_ext [iblk, V, idx t]
  · funext r; exact angle12 m c t i n hn r
  · funext r; exact angle13 m c t i n hn r

/-- A grid point's latents are the result's there. -/
theorem pointC (c : Dev nD) (t : Fin cfg0.N) (i : Fin 512) (n : Fin 16384) (hn : n.val = t.val * 512 + i.val) :
    bC (iblk m c 0 t) (iblk m c 1 t) (iblk m c 2 t) (iblk m c 6 t) (iblk m c 7 t) i = lat (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) n := by
  unfold bC lat
  rw [pointH m c t i n hn]
  congr 1
  · funext d j; blk_ext [iblk, V, idx t]
  · funext k; blk_ext [iblk, V, idx t]

/-- A grid point's keys are the result's there. -/
theorem pointK (c : Dev nD) (t : Fin cfg0.N) (i : Fin 512) (n : Fin 16384) (hn : n.val = t.val * 512 + i.val) (h h' : Fin 8) (j j' : Fin 256) (hh : h'.val = h.val) (hj : j'.val = j.val) :
    bK (iblk m c 0 t) (iblk m c 1 t) (iblk m c 2 t) (iblk m c 6 t) (iblk m c 7 t) (iblk m c 8 t) (iblk m c 10 t) (iblk m c 11 t) i h j = outK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) n h' j' := by
  obtain rfl := Fin.ext hh
  obtain rfl := Fin.ext hj
  unfold bK outK
  rw [← keyT_fill]
  refine keyT_of ?_ ?_ ?_ ?_ ?_ h' j'
  · exact pointC m c t i n hn
  · funext r
    rw [pointH m c t i n hn]
    congr 1
    funext d j; blk_ext [iblk, V, idx t]
  · funext d j; blk_ext [iblk, V, idx t]
  · funext r; exact angle10 m c t i n hn r
  · funext r; exact angle11 m c t i n hn r

/-- A grid point's values are the result's there. -/
theorem pointV (c : Dev nD) (t : Fin cfg0.N) (i : Fin 512) (n : Fin 16384) (hn : n.val = t.val * 512 + i.val) (k k' : Fin 1024) (hk : k'.val = k.val) :
    bV (iblk m c 0 t) (iblk m c 1 t) (iblk m c 2 t) (iblk m c 6 t) (iblk m c 7 t) (iblk m c 9 t) i k = outV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) n k' := by
  obtain rfl := Fin.ext hk
  unfold bV outV
  rw [pointC m c t i n hn]
  congr 1
  funext k d; blk_ext [iblk, V, idx t]

/-- The result array of the queries over the argument arrays. -/
abbrev resQ (c : Dev nD) : FVec Ideal S2048x16384 .bf16 := fun y => outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (y 1) (y 0)
/-- The result array of the queries after the run. -/
theorem finalQ (c : Dev nD) : (dats m 0 c).arrAt 14 (cfgs 0).N = resQ m c := by
  refine (dats m 0 c).arrAt_eq_of_covers 14 _ (by decide +kernel) fun t _ y => ?_
  blk_simp
  rw [after0_14]
  rw [outQ_at]
  refine pointQ m c t (y 1) _ ?_ (y 0) _ ?_
  · blk_simp [idx t]
  · blk_simp [idx t]

/-- The result array of the keys over the argument arrays. -/
abbrev resK (c : Dev nD) : FVec Ideal S8x16384x256 .bf16 := fun y => outK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (y 1) (y 0) (y 2)
/-- The result array of the keys after the run. -/
theorem finalK (c : Dev nD) : (dats m 0 c).arrAt 15 (cfgs 0).N = resK m c := by
  refine (dats m 0 c).arrAt_eq_of_covers 15 _ (by decide +kernel) fun t _ y => ?_
  blk_simp
  rw [after0_15]
  rw [outK_at]
  refine pointK m c t (y 1) _ ?_ (y 0) _ (y 2) _ ?_ ?_
  · blk_simp [idx t]
  · blk_simp [idx t]
  · blk_simp [idx t]

/-- The result array of the values over the argument arrays. -/
abbrev resV (c : Dev nD) : FVec Ideal S1024x16384 .bf16 := fun y => outV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (y 1) (y 0)
/-- The result array of the values after the run. -/
theorem finalV (c : Dev nD) : (dats m 0 c).arrAt 16 (cfgs 0).N = resV m c := by
  refine (dats m 0 c).arrAt_eq_of_covers 16 _ (by decide +kernel) fun t _ y => ?_
  blk_simp
  rw [after0_16]
  rw [outV_at]
  refine pointV m c t (y 1) _ ?_ (y 0) _ ?_
  · blk_simp [idx t]
  · blk_simp [idx t]

end Cert.ProjSIdeal.Value
end
-- ==== Proof.ProjS.Ref.lean ====
module

public import proofs.«01_k».proof.Proof.Rows.Ref
public import proofs.«01_k».proof.Proof.ProjS.Spec
public import proofs.«01_k».proof.Proof.Gen.ProjSRefIdeal.Run

@[expose] public section

set_option maxRecDepth 16384

noncomputable section

open Idealize.ShloMosaic Idealize.ShloMosaic.TcCoe Idealize.SL.Sem

/-! The steps of the sampling stream's projections' reference, and what each makes of a token's row. -/

namespace ProjS.Ref
open Cert.ProjSRefIdeal Cert.ProjSRefIdeal.Gen Rows ProjP

/-- The modulated rows the projections read. -/
def hid (x : FVec Ideal S16384x1024 .f32) (w : FVec Ideal S2x16x1x6144 .f32) (g : FVec Ideal S1x1024 .f32) : FVec Ideal S8x2048x1024 .f32 :=
  Rows.Ref.modn (Rows.Ref.normed (Rows.Ref.seqs x) (Rows.Ref.invs (Rows.Ref.seqs x)) g)
    (Rows.Ref.part 1 1024 slices_S2x16x1x6144_S1x8x1x6144_1_1_0_0 slices_S8x1x6144_S8x1x1024_0_0_1024 w) (Rows.Ref.part 1 0 slices_S2x16x1x6144_S1x8x1x6144_1_1_0_0 slices_S8x1x6144_S8x1x1024_0_0_0 w)
/-- The queries' latent before its normalisation. -/
def latP (h : FVec Ideal S8x2048x1024 .f32) (w : FVec Ideal S1x1024x512 .bf16) : FVec Ideal S8x2048x512 .f32 :=
  Host.dotGeneral dot_S8x2048x1024_S1024x512_S8x2048x512_2_0_01_1_n_n none h (extf .f32 (shapeCast S1024x512 w shapeCasts_S1x1024x512_S1024x512) bitsLt_bf16_f32)
/-- The queries' latent normalised. -/
def latN (z : FVec Ideal S8x2048x512 .f32) (g : FVec Ideal S1x512 .f32) : FVec Ideal S8x2048x512 .f32 :=
  mulf (mulf z (broadcastInDim S8x2048x512 ![0, 1, 2] bcast_S8x2048x1_S8x2048x512_0_1_2
      (Host.rsqrt (addf (Host.divf (broadcastInDim S8x2048x1 ![0, 1] bcast_S8x2048_S8x2048x1_0_1 (Host.reduceAdd (mulf z z) (constant S_ .f32 0x00000000#32) reducesTo_S8x2048x512_S8x2048_d2 h_S_))
        (broadcastInDim S8x2048x1 ![] bcast_S_S8x2048x1 (constant S_ .f32 0x44000000#32))) (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 (shapeCast S512 g shapeCasts_S1x512_S512)))
/-- The queries by head, before their turn and scale. -/
def quer (z : FVec Ideal S8x2048x512 .f32) (w : FVec Ideal S2048x512 .bf16) : FVec Ideal S8x2048x8x256 .f32 :=
  Host.dotGeneral dot_S8x2048x512_S8x256x512_S8x2048x8x256_2_2_01_01_n_n none z (shapeCast S8x256x512 (extf .f32 w bitsLt_bf16_f32) shapeCasts_S2048x512_S8x256x512)
/-- The queries' last columns turned by the angles. -/
def roped (z : FVec Ideal S8x2048x8x256 .f32) (c s : FVec Ideal S2048x64 .f32) : FVec Ideal S8x2048x8x64 .f32 :=
  addf (mulf (extractStridedSlice S8x2048x8x64 ![0, 0, 0, 128] z slices_S8x2048x8x256_S8x2048x8x64_0_0_0_128) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 c))))
    (mulf (extractStridedSlice S8x2048x8x64 ![0, 0, 0, 192] z slices_S8x2048x8x256_S8x2048x8x64_0_0_0_192) (broadcastInDim S8x2048x8x64 ![0, 1, 2, 3] bcast_S1x2048x1x64_S8x2048x8x64_0_1_2_3 (broadcastInDim S1x2048x1x64 ![1, 2, 3] bcast_S2048x1x64_S1x2048x1x64_1_2_3 (broadcastInDim S2048x1x64 ![0, 2] bcast_S2048x64_S2048x1x64_0_2 s))))
/-- The zeros that end a head's columns. -/
def zeros : FVec Ideal S8x2048x8x64 .f32 := broadcastInDim S8x2048x8x64 ![] bcast_S_S8x2048x8x64 (constant S_ .f32 0x00000000#32)
/-- The queries scaled and filled. -/
def queries (z : FVec Ideal S8x2048x8x256 .f32) (r : FVec Ideal S8x2048x8x64 .f32) : FVec Ideal S8x2048x8x256 .f32 :=
  concatenate S8x2048x8x256 3 [⟨S8x2048x8x128, mulf (extractStridedSlice S8x2048x8x128 ![0, 0, 0, 0] z slices_S8x2048x8x256_S8x2048x8x128_0_0_0_0) (broadcastInDim S8x2048x8x128 ![] bcast_S_S8x2048x8x128 (constant S_ .f32 0x3DD53B95#32))⟩,
    ⟨S8x2048x8x64, mulf r (broadcastInDim S8x2048x8x64 ![] bcast_S_S8x2048x8x64 (constant S_ .f32 0x3DD53B95#32))⟩, ⟨S8x2048x8x64, zeros⟩] concatenates_S8x2048x8x128_S8x2048x8x64_S8x2048x8x64_S8x2048x8x256_d3
/-- The second product. -/
def kvP (h : FVec Ideal S8x2048x1024 .f32) (w : FVec Ideal S1024x384 .bf16) : FVec Ideal S8x2048x384 .f32 :=
  Host.dotGeneral dot_S8x2048x1024_S1024x384_S8x2048x384_2_0_01_1_n_n none h (extf .f32 w bitsLt_bf16_f32)
/-- Its first 256 columns. -/
def kvA (z : FVec Ideal S8x2048x384 .f32) : FVec Ideal S8x2048x256 .f32 := extractStridedSlice S8x2048x256 ![0, 0, 0] z slices_S8x2048x384_S8x2048x256_0_0_0
/-- Its last columns turned by the angles. -/
def kvB (z : FVec Ideal S8x2048x384 .f32) (c s : FVec Ideal S2048x64 .f32) : FVec Ideal S8x2048x64 .f32 :=
  addf (mulf (extractStridedSlice S8x2048x64 ![0, 0, 256] z slices_S8x2048x384_S8x2048x64_0_0_256) (broadcastInDim S8x2048x64 ![0, 1, 2] bcast_S1x2048x64_S8x2048x64_0_1_2 (broadcastInDim S1x2048x64 ![1, 2] bcast_S2048x64_S1x2048x64_1_2 c)))
    (mulf (extractStridedSlice S8x2048x64 ![0, 0, 320] z slices_S8x2048x384_S8x2048x64_0_0_320) (broadcastInDim S8x2048x64 ![0, 1, 2] bcast_S1x2048x64_S8x2048x64_0_1_2 (broadcastInDim S1x2048x64 ![1, 2] bcast_S2048x64_S1x2048x64_1_2 s)))
/-- The keys' and values' latent normalised. -/
def kvN (z : FVec Ideal S8x2048x256 .f32) (g : FVec Ideal S1x256 .f32) : FVec Ideal S8x2048x256 .f32 :=
  mulf (mulf z (broadcastInDim S8x2048x256 ![0, 1, 2] bcast_S8x2048x1_S8x2048x256_0_1_2
      (Host.rsqrt (addf (Host.divf (broadcastInDim S8x2048x1 ![0, 1] bcast_S8x2048_S8x2048x1_0_1 (Host.reduceAdd (mulf z z) (constant S_ .f32 0x00000000#32) reducesTo_S8x2048x256_S8x2048_d2 h_S_))
        (broadcastInDim S8x2048x1 ![] bcast_S_S8x2048x1 (constant S_ .f32 0x43800000#32))) (broadcastInDim S8x2048x1 ![] bcast_S_S8x2048x1 (constant S_ .f32 0x358637BD#32))))))
    (broadcastInDim S8x2048x256 ![0, 1, 2] bcast_S1x1x256_S8x2048x256_0_1_2 (broadcastInDim S1x1x256 ![2] bcast_S256_S1x1x256_2 (shapeCast S256 g shapeCasts_S1x256_S256)))
/-- The latent expanded to all heads' keys. -/
def up (a : FVec Ideal S8x2048x256 .f32) (w : FVec Ideal S256x1024 .bf16) : FVec Ideal S8x2048x1024 .f32 :=
  Host.dotGeneral dot_S8x2048x256_S256x1024_S8x2048x1024_2_0_01_1_n_n none a (extf .f32 w bitsLt_bf16_f32)
/-- The latent expanded to all heads' values. -/
def vals (a : FVec Ideal S8x2048x256 .f32) (w : FVec Ideal S1024x256 .bf16) : FVec Ideal S8x2048x1024 .f32 :=
  Host.dotGeneral dot_S8x2048x256_S256x1024_S8x2048x1024_2_0_01_1_n_n none a (transpose S256x1024 [1, 0] (extf .f32 w bitsLt_bf16_f32) transposes_S1024x256_S256x1024_1_0)
/-- The keys: each head's columns, the shared row, zeros. -/
def keys (z : FVec Ideal S8x2048x1024 .f32) (r : FVec Ideal S8x2048x64 .f32) : FVec Ideal S8x2048x8x256 .f32 :=
  concatenate S8x2048x8x256 3 [⟨S8x2048x8x128, shapeCast S8x2048x8x128 z shapeCasts_S8x2048x1024_S8x2048x8x128⟩,
    ⟨S8x2048x8x64, broadcastInDim S8x2048x8x64 ![0, 1, 2, 3] bcast_S8x2048x1x64_S8x2048x8x64_0_1_2_3 (broadcastInDim S8x2048x1x64 ![0, 1, 3] bcast_S8x2048x64_S8x2048x1x64_0_1_3 r)⟩, ⟨S8x2048x8x64, zeros⟩]
    concatenates_S8x2048x8x128_S8x2048x8x64_S8x2048x8x64_S8x2048x8x256_d3
/-- The queries of all tokens, a column for each token, rounded. -/
def flatQ (z : FVec Ideal S8x2048x8x256 .f32) : FVec Ideal S2048x16384 .bf16 :=
  truncf .bf16 (transpose S2048x16384 [1, 0] (shapeCast S16384x2048 z shapeCasts_S8x2048x8x256_S16384x2048) transposes_S16384x2048_S2048x16384_1_0) bitsLt_bf16_f32
/-- The keys of all tokens, by head, rounded. -/
def flatK (z : FVec Ideal S8x2048x8x256 .f32) : FVec Ideal S8x16384x256 .bf16 :=
  truncf .bf16 (shapeCast S8x16384x256 (transpose S8x8x2048x256 [2, 0, 1, 3] z transposes_S8x2048x8x256_S8x8x2048x256_2_0_1_3) shapeCasts_S8x8x2048x256_S8x16384x256) bitsLt_bf16_f32
/-- The values of all tokens, a column for each token, rounded. -/
def flatV (z : FVec Ideal S8x2048x1024 .f32) : FVec Ideal S1024x16384 .bf16 :=
  truncf .bf16 (transpose S1024x16384 [1, 0] (shapeCast S16384x1024 z shapeCasts_S8x2048x1024_S16384x1024) transposes_S16384x1024_S1024x16384_1_0) bitsLt_bf16_f32

/-- The modulated rows read at an index. -/
theorem hid_at (x w g) (b : Fin 8) (n : Fin 2048) (j : Fin 1024) : hid x w g (ix3 b n j)
    = modulated 0x44800000#32 (fun k => x (ix2 ⟨b.val * 2048 + n.val, by omega⟩ k)) (fun k => g (ix2 0 k)) (fun k => w (ix4 1 ⟨1 + b.val, by omega⟩ 0 ⟨0 + k.val, by omega⟩)) (fun k => w (ix4 1 ⟨1 + b.val, by omega⟩ 0 ⟨1024 + k.val, by omega⟩)) j := by
  unfold hid
  rw [Rows.Ref.modn_at, Rows.Ref.normed_at, Rows.Ref.invs_at, Rows.Ref.part_at _ _ _ _ _ (show 1 < 2 by omega) (by omega), Rows.Ref.part_at _ _ _ _ _ (show 1 < 2 by omega) (by omega), Rows.one_eq]
  simp only [Rows.Ref.seqs_at]
  rfl
/-- The queries' product read at an index. -/
theorem latP_at (h w) (b : Fin 8) (n : Fin 2048) (j : Fin 512) : latP h w (ix3 b n j) = dot (fun d => h (ix3 b n d)) (fun d j => w (ix3 0 d j)) j := by
  pointwise [latP, dot]
/-- The queries' latent read at an index. -/
theorem latN_at (z g) (b : Fin 8) (n : Fin 2048) (j : Fin 512) : latN z g (ix3 b n j) = rms 0x44000000#32 (fun k => z (ix3 b n k)) (fun k => g (ix2 0 k)) j := by
  pointwise [latN, rms, Rows.inv]
/-- The queries read at an index. -/
theorem quer_at (z w) (b : Fin 8) (n : Fin 2048) (h : Fin 8) (j : Fin 256) : quer z w (ix4 b n h j) = ∑ d, z (ix3 b n d) * w (ix2 ⟨h.val * 256 + j.val, by omega⟩ d) := by
  pointwise [quer]
/-- The turned queries read at an index. -/
theorem roped_at (z c s) (b : Fin 8) (n : Fin 2048) (h : Fin 8) (j : Fin 64) : roped z c s (ix4 b n h j) = z (ix4 b n h ⟨128 + j.val, by omega⟩) * c (ix2 n j) + z (ix4 b n h ⟨192 + j.val, by omega⟩) * s (ix2 n j) := by
  pointwise [roped]
/-- The scaled queries read at an index. -/
theorem queries_at (z r) (b : Fin 8) (n : Fin 2048) (h : Fin 8) (j : Fin 256) : queries z r (ix4 b n h j)
    = if hj : j.val < 128 then z (ix4 b n h ⟨j.val, by omega⟩) * scale else if hj : j.val - 128 < 64 then r (ix4 b n h ⟨j.val - 128, hj⟩) * scale else 0 := by
  pointwise [queries, zeros]
/-- The second product read at an index. -/
theorem kvP_at (h w) (b : Fin 8) (n : Fin 2048) (j : Fin 384) : kvP h w (ix3 b n j) = dot (fun d => h (ix3 b n d)) (fun d j => w (ix2 d j)) j := by
  pointwise [kvP, dot]
/-- The first columns read at an index. -/
theorem kvA_at (z) (b : Fin 8) (n : Fin 2048) (j : Fin 256) : kvA z (ix3 b n j) = z (ix3 b n ⟨j.val, by omega⟩) := by
  pointwise [kvA]
/-- The turned columns read at an index. -/
theorem kvB_at (z c s) (b : Fin 8) (n : Fin 2048) (j : Fin 64) : kvB z c s (ix3 b n j) = z (ix3 b n ⟨256 + j.val, by omega⟩) * c (ix2 n j) + z (ix3 b n ⟨320 + j.val, by omega⟩) * s (ix2 n j) := by
  pointwise [kvB]
/-- The keys' and values' latent read at an index. -/
theorem kvN_at (z g) (b : Fin 8) (n : Fin 2048) (j : Fin 256) : kvN z g (ix3 b n j) = rms 0x43800000#32 (fun k => z (ix3 b n k)) (fun k => g (ix2 0 k)) j := by
  pointwise [kvN, rms, Rows.inv]
/-- The expanded latent read at an index. -/
theorem up_at (a w) (b : Fin 8) (n : Fin 2048) (j : Fin 1024) : up a w (ix3 b n j) = dot (fun d => a (ix3 b n d)) (fun d j => w (ix2 d j)) j := by
  pointwise [up, dot]
/-- The values' expansion read at an index. -/
theorem vals_at (a w) (b : Fin 8) (n : Fin 2048) (j : Fin 1024) : vals a w (ix3 b n j) = ∑ d, a (ix3 b n d) * w (ix2 j d) := by
  pointwise [vals]
/-- The keys read at an index. -/
theorem keys_at (z r) (b : Fin 8) (n : Fin 2048) (h : Fin 8) (j : Fin 256) : keys z r (ix4 b n h j)
    = if hj : j.val < 128 then z (ix3 b n ⟨h.val * 128 + j.val, by omega⟩) else if hj : j.val - 128 < 64 then r (ix3 b n ⟨j.val - 128, hj⟩) else 0 := by
  pointwise [keys, zeros]
/-- The queries' result read at an index. -/
theorem flatQ_at (z) (k : Fin 2048) (n : Fin 16384) : flatQ z (ix2 k n) = z (ix4 ⟨n.val / 2048, by omega⟩ ⟨n.val % 2048, by omega⟩ ⟨k.val / 256, by omega⟩ ⟨k.val % 256, by omega⟩) := by
  pointwise [flatQ]
/-- The keys' result read at an index. -/
theorem flatK_at (z) (h : Fin 8) (n : Fin 16384) (j : Fin 256) : flatK z (ix3 h n j) = z (ix4 ⟨n.val / 2048, by omega⟩ ⟨n.val % 2048, by omega⟩ h j) := by
  pointwise [flatK]
/-- The values' result read at an index. -/
theorem flatV_at (z) (k : Fin 1024) (n : Fin 16384) : flatV z (ix2 k n) = z (ix3 ⟨n.val / 2048, by omega⟩ ⟨n.val % 2048, by omega⟩ k) := by
  pointwise [flatV]

end ProjS.Ref
end
-- ==== Proof.ProjS.Claims.lean ====
module

public import proofs.«01_k».proof.Proof.ProjS.Kernel
public import proofs.«01_k».proof.Proof.ProjS.Ref
public import proofs.«01_k».proof.Defs
public import proofs.«01_k».proof.Proof.Gen.ProjS.Frame
public import proofs.«01_k».proof.Proof.Gen.ProjSIdeal.Frame
public import proofs.«01_k».proof.Proof.Gen.ProjSRefIdeal
public import Idealize.ShloMosaic.Adequacy
public import Idealize.ShloMosaic.Init

@[expose] public section

set_option maxRecDepth 16384

noncomputable section

open Idealize.ShloMosaic Idealize.ShloMosaic.TcCoe Idealize.SL.Sem

/-! The results of the sampling stream's projections' reference, and the claims about the call. -/

namespace Cert.ProjSRefIdeal.Value
open Cert.ProjSRefIdeal Cert.ProjSRefIdeal.Gen ProjS.Ref

/-- The reference's queries over its arguments. -/
def hostQ (x : FVec Ideal S16384x1024 .f32) (w : FVec Ideal S2x16x1x6144 .f32) (n1 : FVec Ideal S1x1024 .f32) (wq : FVec Ideal S1x1024x512 .bf16) (gq : FVec Ideal S1x512 .f32) (uq : FVec Ideal S2048x512 .bf16) (c : FVec Ideal S2048x64 .f32) (s : FVec Ideal S2048x64 .f32) : FVec Ideal S2048x16384 .bf16 := flatQ (queries (quer (latN (latP (hid x w n1) wq) gq) uq) (roped (quer (latN (latP (hid x w n1) wq) gq) uq) c s))
/-- The reference's result array of the queries over its arguments. -/
theorem refQ (m : (ℓ : Loc nD τ sig) → Buf (Elt Ideal) ℓ) (c : Dev nD) : res_out0 m c = hostQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by rfl
/-- The reference's keys over its arguments. -/
def hostK (x : FVec Ideal S16384x1024 .f32) (w : FVec Ideal S2x16x1x6144 .f32) (n1 : FVec Ideal S1x1024 .f32) (wk : FVec Ideal S1024x384 .bf16) (gk : FVec Ideal S1x256 .f32) (uk : FVec Ideal S256x1024 .bf16) (c : FVec Ideal S2048x64 .f32) (s : FVec Ideal S2048x64 .f32) : FVec Ideal S8x16384x256 .bf16 := flatK (keys (up (kvN (kvA (kvP (hid x w n1) wk)) gk) uk) (kvB (kvP (hid x w n1) wk) c s))
/-- The reference's result array of the keys over its arguments. -/
theorem refK (m : (ℓ : Loc nD τ sig) → Buf (Elt Ideal) ℓ) (c : Dev nD) : res_out1 m c = hostK (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) := by rfl
/-- The reference's values over its arguments. -/
def hostV (x : FVec Ideal S16384x1024 .f32) (w : FVec Ideal S2x16x1x6144 .f32) (n1 : FVec Ideal S1x1024 .f32) (wk : FVec Ideal S1024x384 .bf16) (gk : FVec Ideal S1x256 .f32) (uv : FVec Ideal S1024x256 .bf16) : FVec Ideal S1024x16384 .bf16 := flatV (vals (kvN (kvA (kvP (hid x w n1) wk)) gk) uv)
/-- The reference's result array of the values over its arguments. -/
theorem refV (m : (ℓ : Loc nD τ sig) → Buf (Elt Ideal) ℓ) (c : Dev nD) : res_out2 m c = hostV (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) := by rfl

end Cert.ProjSRefIdeal.Value

namespace ProjS
open Cert.ProjSRefIdeal.Value

/-- A token's number from its sequence and place. -/
theorem token (n : Fin 16384) : (⟨n.val / 2048 * 2048 + n.val % 2048, by omega⟩ : Fin 16384) = n := Fin.ext (show n.val / 2048 * 2048 + n.val % 2048 = n.val by omega)

/-- The row of a token the reference's projections read is the kernel's. -/
theorem hid_row (x w n1) (n : Fin 16384) (j : Fin 1024) : Ref.hid x w n1 (ix3 ⟨n.val / 2048, by omega⟩ ⟨n.val % 2048, by omega⟩ j) = inputRow x w n1 n j := by
  rw [Ref.hid_at]
  simp only [token]
  rfl
/-- The latent of a token. -/
theorem lat_row (x w n1 wk gk) (n : Fin 16384) (j : Fin 256) :
    Ref.kvN (Ref.kvA (Ref.kvP (Ref.hid x w n1) wk)) gk (ix3 ⟨n.val / 2048, by omega⟩ ⟨n.val % 2048, by omega⟩ j) = lat x w n1 wk gk n j := by
  rw [Ref.kvN_at]
  simp only [Ref.kvA_at, Ref.kvP_at, hid_row]
  rfl
/-- The turned key row of a token. -/
theorem key_row (x w n1 wk c s) (n : Fin 16384) (j : Fin 64) :
    Ref.kvB (Ref.kvP (Ref.hid x w n1) wk) c s (ix3 ⟨n.val / 2048, by omega⟩ ⟨n.val % 2048, by omega⟩ j) = keyrow (inputRow x w n1 n) (fun d j => wk (ix2 d j)) (angle c n) (angle s n) j := by
  rw [Ref.kvB_at]
  simp only [Ref.kvP_at, hid_row]
  rfl
/-- A query column of a token before its turn and scale. -/
theorem quer_row (x w n1 wq gq uq) (n : Fin 16384) (h : Fin 8) (j : Fin 256) (k : Fin 2048) (hk : k.val = h.val * 256 + j.val) :
    Ref.quer (Ref.latN (Ref.latP (Ref.hid x w n1) wq) gq) uq (ix4 ⟨n.val / 2048, by omega⟩ ⟨n.val % 2048, by omega⟩ h j)
      = col (ProjP.lat (inputRow x w n1 n) (fun d j => wq (ix3 0 d j)) (fun k => gq (ix2 0 k))) (fun k d => uq (ix2 k d)) k := by
  rw [Ref.quer_at]
  simp only [Ref.latN_at, Ref.latP_at, hid_row]
  rw [show (⟨h.val * 256 + j.val, by omega⟩ : Fin 2048) = k from Fin.ext hk.symm]
  exact Finset.sum_congr rfl fun d _ => mul_comm _ _

/-- The reference's values are the kernel's. -/
theorem hostV_at (x w n1 wk gk uv) (k : Fin 1024) (n : Fin 16384) : hostV x w n1 wk gk uv (ix2 k n) = outV x w n1 wk gk uv n k := by
  refine (Ref.flatV_at _ k n).trans ?_
  rw [Ref.vals_at]
  simp only [lat_row]
  exact Finset.sum_congr rfl fun d _ => mul_comm _ _
/-- The reference's queries are the kernel's. -/
theorem hostQ_at (x w n1 wq gq uq c s) (k : Fin 2048) (n : Fin 16384) : hostQ x w n1 wq gq uq c s (ix2 k n) = outQ x w n1 wq gq uq c s n k := by
  refine (Ref.flatQ_at _ k n).trans ?_
  rw [Ref.queries_at]
  unfold outQ query
  by_cases h0 : k.val % 256 < 128
  · rw [dif_pos h0, dif_pos h0]
    exact congrArg (· * ProjP.scale) (quer_row x w n1 wq gq uq n ⟨k.val / 256, by omega⟩ ⟨k.val % 256, by omega⟩ k (show k.val = k.val / 256 * 256 + k.val % 256 by omega))
  · rw [dif_neg h0, dif_neg h0]
    by_cases h1 : k.val % 256 < 192
    · rw [dif_pos h1, dif_pos (show k.val % 256 - 128 < 64 by omega), Ref.roped_at,
        quer_row x w n1 wq gq uq n ⟨k.val / 256, by omega⟩ ⟨128 + (k.val % 256 - 128), by omega⟩ k (show k.val = k.val / 256 * 256 + (128 + (k.val % 256 - 128)) by omega),
        quer_row x w n1 wq gq uq n ⟨k.val / 256, by omega⟩ ⟨192 + (k.val % 256 - 128), by omega⟩ ⟨k.val + 64, by omega⟩ (show k.val + 64 = k.val / 256 * 256 + (192 + (k.val % 256 - 128)) by omega)]
      rfl
    · rw [dif_neg h1, dif_neg (show ¬ k.val % 256 - 128 < 64 by omega)]
/-- The reference's keys are the kernel's. -/
theorem hostK_at (x w n1 wk gk uk c s) (h : Fin 8) (n : Fin 16384) (j : Fin 256) : hostK x w n1 wk gk uk c s (ix3 h n j) = outK x w n1 wk gk uk c s n h j := by
  refine (Ref.flatK_at _ h n j).trans ?_
  rw [Ref.keys_at]
  simp only [Ref.up_at, lat_row, key_row]
  rfl

section
variable (m : (ℓ : Loc Cert.ProjSIdeal.nD Cert.ProjSIdeal.τ Cert.ProjSIdeal.sig) → Buf (Elt Ideal) ℓ) (m' : (ℓ : Loc Cert.ProjSRefIdeal.nD Cert.ProjSRefIdeal.τ Cert.ProjSRefIdeal.sig) → Buf (Elt Ideal) ℓ) (c : Dev Cert.ProjSIdeal.nD)
/-- From equal arguments the kernel's and the reference's queries are equal. -/
theorem agreeQ (h0 : m ((c.tc : Thread Cert.ProjSIdeal.nD Cert.ProjSIdeal.τ).loc Cert.ProjSIdeal.main_arg0) = m' ((c.tc : Thread Cert.ProjSRefIdeal.nD Cert.ProjSRefIdeal.τ).loc Cert.ProjSRefIdeal.main_arg0)) (h1 : m ((c.tc : Thread Cert.ProjSIdeal.nD Cert.ProjSIdeal.τ).loc Cert.ProjSIdeal.main_arg1) = m' ((c.tc : Thread Cert.ProjSRefIdeal.nD Cert.ProjSRefIdeal.τ).loc Cert.ProjSRefIdeal.main_arg1)) (h2 : m ((c.tc : Thread Cert.ProjSIdeal.nD Cert.ProjSIdeal.τ).loc Cert.ProjSIdeal.main_arg2) = m' ((c.tc : Thread Cert.ProjSRefIdeal.nD Cert.ProjSRefIdeal.τ).loc Cert.ProjSRefIdeal.main_arg2)) (h3 : m ((c.tc : Thread Cert.ProjSIdeal.nD Cert.ProjSIdeal.τ).loc Cert.ProjSIdeal.main_arg3) = m' ((c.tc : Thread Cert.ProjSRefIdeal.nD Cert.ProjSRefIdeal.τ).loc Cert.ProjSRefIdeal.main_arg3)) (h4 : m ((c.tc : Thread Cert.ProjSIdeal.nD Cert.ProjSIdeal.τ).loc Cert.ProjSIdeal.main_arg4) = m' ((c.tc : Thread Cert.ProjSRefIdeal.nD Cert.ProjSRefIdeal.τ).loc Cert.ProjSRefIdeal.main_arg4)) (h5 : m ((c.tc : Thread Cert.ProjSIdeal.nD Cert.ProjSIdeal.τ).loc Cert.ProjSIdeal.main_arg5) = m' ((c.tc : Thread Cert.ProjSRefIdeal.nD Cert.ProjSRefIdeal.τ).loc Cert.ProjSRefIdeal.main_arg5)) (h10 : m ((c.tc : Thread Cert.ProjSIdeal.nD Cert.ProjSIdeal.τ).loc Cert.ProjSIdeal.main_arg10) = m' ((c.tc : Thread Cert.ProjSRefIdeal.nD Cert.ProjSRefIdeal.τ).loc Cert.ProjSRefIdeal.main_arg10)) (h11 : m ((c.tc : Thread Cert.ProjSIdeal.nD Cert.ProjSIdeal.τ).loc Cert.ProjSIdeal.main_arg11) = m' ((c.tc : Thread Cert.ProjSRefIdeal.nD Cert.ProjSRefIdeal.τ).loc Cert.ProjSRefIdeal.main_arg11)) :
    Cert.ProjSIdeal.Value.resQ m c = hostQ (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) (m' ((c.tc : Thread Cert.ProjSRefIdeal.nD Cert.ProjSRefIdeal.τ).loc Cert.ProjSRefIdeal.main_arg4)) (m' ((c.tc : Thread Cert.ProjSRefIdeal.nD Cert.ProjSRefIdeal.τ).loc Cert.ProjSRefIdeal.main_arg5)) (m' ((c.tc : Thread Cert.ProjSRefIdeal.nD Cert.ProjSRefIdeal.τ).loc Cert.ProjSRefIdeal.main_arg10)) (m' ((c.tc : Thread Cert.ProjSRefIdeal.nD Cert.ProjSRefIdeal.τ).loc Cert.ProjSRefIdeal.main_arg11)) := by
  rw [← h0, ← h1, ← h2, ← h3, ← h4, ← h5, ← h10, ← h11]
  funext y
  obtain ⟨k, n, rfl⟩ : ∃ (k : Fin 2048) (n : Fin 16384), y = ix2 k n := ⟨y 0, y 1, by funext a; fin_cases a <;> rfl⟩
  exact (hostQ_at _ _ _ _ _ _ _ _ k n).symm
/-- From equal arguments the kernel's and the reference's keys are equal. -/
theorem agreeK (h0 : m ((c.tc : Thread Cert.ProjSIdeal.nD Cert.ProjSIdeal.τ).loc Cert.ProjSIdeal.main_arg0) = m' ((c.tc : Thread Cert.ProjSRefIdeal.nD Cert.ProjSRefIdeal.τ).loc Cert.ProjSRefIdeal.main_arg0)) (h1 : m ((c.tc : Thread Cert.ProjSIdeal.nD Cert.ProjSIdeal.τ).loc Cert.ProjSIdeal.main_arg1) = m' ((c.tc : Thread Cert.ProjSRefIdeal.nD Cert.ProjSRefIdeal.τ).loc Cert.ProjSRefIdeal.main_arg1)) (h2 : m ((c.tc : Thread Cert.ProjSIdeal.nD Cert.ProjSIdeal.τ).loc Cert.ProjSIdeal.main_arg2) = m' ((c.tc : Thread Cert.ProjSRefIdeal.nD Cert.ProjSRefIdeal.τ).loc Cert.ProjSRefIdeal.main_arg2)) (h6 : m ((c.tc : Thread Cert.ProjSIdeal.nD Cert.ProjSIdeal.τ).loc Cert.ProjSIdeal.main_arg6) = m' ((c.tc : Thread Cert.ProjSRefIdeal.nD Cert.ProjSRefIdeal.τ).loc Cert.ProjSRefIdeal.main_arg6)) (h7 : m ((c.tc : Thread Cert.ProjSIdeal.nD Cert.ProjSIdeal.τ).loc Cert.ProjSIdeal.main_arg7) = m' ((c.tc : Thread Cert.ProjSRefIdeal.nD Cert.ProjSRefIdeal.τ).loc Cert.ProjSRefIdeal.main_arg7)) (h8 : m ((c.tc : Thread Cert.ProjSIdeal.nD Cert.ProjSIdeal.τ).loc Cert.ProjSIdeal.main_arg8) = m' ((c.tc : Thread Cert.ProjSRefIdeal.nD Cert.ProjSRefIdeal.τ).loc Cert.ProjSRefIdeal.main_arg8)) (h10 : m ((c.tc : Thread Cert.ProjSIdeal.nD Cert.ProjSIdeal.τ).loc Cert.ProjSIdeal.main_arg10) = m' ((c.tc : Thread Cert.ProjSRefIdeal.nD Cert.ProjSRefIdeal.τ).loc Cert.ProjSRefIdeal.main_arg10)) (h11 : m ((c.tc : Thread Cert.ProjSIdeal.nD Cert.ProjSIdeal.τ).loc Cert.ProjSIdeal.main_arg11) = m' ((c.tc : Thread Cert.ProjSRefIdeal.nD Cert.ProjSRefIdeal.τ).loc Cert.ProjSRefIdeal.main_arg11)) :
    Cert.ProjSIdeal.Value.resK m c = hostK (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg6)) (m' ((c.tc : Thread Cert.ProjSRefIdeal.nD Cert.ProjSRefIdeal.τ).loc Cert.ProjSRefIdeal.main_arg7)) (m' ((c.tc : Thread Cert.ProjSRefIdeal.nD Cert.ProjSRefIdeal.τ).loc Cert.ProjSRefIdeal.main_arg8)) (m' ((c.tc : Thread Cert.ProjSRefIdeal.nD Cert.ProjSRefIdeal.τ).loc Cert.ProjSRefIdeal.main_arg10)) (m' ((c.tc : Thread Cert.ProjSRefIdeal.nD Cert.ProjSRefIdeal.τ).loc Cert.ProjSRefIdeal.main_arg11)) := by
  rw [← h0, ← h1, ← h2, ← h6, ← h7, ← h8, ← h10, ← h11]
  funext y
  obtain ⟨h, n, j, rfl⟩ : ∃ (h : Fin 8) (n : Fin 16384) (j : Fin 256), y = ix3 h n j := ⟨y 0, y 1, y 2, by funext a; fin_cases a <;> rfl⟩
  exact (hostK_at _ _ _ _ _ _ _ _ h n j).symm
/-- From equal arguments the kernel's and the reference's values are equal. -/
theorem agreeV (h0 : m ((c.tc : Thread Cert.ProjSIdeal.nD Cert.ProjSIdeal.τ).loc Cert.ProjSIdeal.main_arg0) = m' ((c.tc : Thread Cert.ProjSRefIdeal.nD Cert.ProjSRefIdeal.τ).loc Cert.ProjSRefIdeal.main_arg0)) (h1 : m ((c.tc : Thread Cert.ProjSIdeal.nD Cert.ProjSIdeal.τ).loc Cert.ProjSIdeal.main_arg1) = m' ((c.tc : Thread Cert.ProjSRefIdeal.nD Cert.ProjSRefIdeal.τ).loc Cert.ProjSRefIdeal.main_arg1)) (h2 : m ((c.tc : Thread Cert.ProjSIdeal.nD Cert.ProjSIdeal.τ).loc Cert.ProjSIdeal.main_arg2) = m' ((c.tc : Thread Cert.ProjSRefIdeal.nD Cert.ProjSRefIdeal.τ).loc Cert.ProjSRefIdeal.main_arg2)) (h6 : m ((c.tc : Thread Cert.ProjSIdeal.nD Cert.ProjSIdeal.τ).loc Cert.ProjSIdeal.main_arg6) = m' ((c.tc : Thread Cert.ProjSRefIdeal.nD Cert.ProjSRefIdeal.τ).loc Cert.ProjSRefIdeal.main_arg6)) (h7 : m ((c.tc : Thread Cert.ProjSIdeal.nD Cert.ProjSIdeal.τ).loc Cert.ProjSIdeal.main_arg7) = m' ((c.tc : Thread Cert.ProjSRefIdeal.nD Cert.ProjSRefIdeal.τ).loc Cert.ProjSRefIdeal.main_arg7)) (h9 : m ((c.tc : Thread Cert.ProjSIdeal.nD Cert.ProjSIdeal.τ).loc Cert.ProjSIdeal.main_arg9) = m' ((c.tc : Thread Cert.ProjSRefIdeal.nD Cert.ProjSRefIdeal.τ).loc Cert.ProjSRefIdeal.main_arg9)) :
    Cert.ProjSIdeal.Value.resV m c = hostV (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg6)) (m' ((c.tc : Thread Cert.ProjSRefIdeal.nD Cert.ProjSRefIdeal.τ).loc Cert.ProjSRefIdeal.main_arg7)) (m' ((c.tc : Thread Cert.ProjSRefIdeal.nD Cert.ProjSRefIdeal.τ).loc Cert.ProjSRefIdeal.main_arg9)) := by
  rw [← h0, ← h1, ← h2, ← h6, ← h7, ← h9]
  funext y
  obtain ⟨k, n, rfl⟩ : ∃ (k : Fin 1024) (n : Fin 16384), y = ix2 k n := ⟨y 0, y 1, by funext a; fin_cases a <;> rfl⟩
  exact (hostV_at _ _ _ _ _ _ k n).symm
end

/-- The printed kernel runs, keeps its arguments and ends quiescent. -/
theorem frame : Cert.quiescent_ProjS := fun m ρ _ => Cert.ProjS.Gen.frame m ρ
/-- The kernel over the extended reals runs, keeps its arguments and ends quiescent. -/
theorem frame_ideal : Cert.quiescent_ProjSIdeal := fun m ρ _ => Cert.ProjSIdeal.Gen.frame m ρ
/-- The reference runs, keeps its arguments and ends quiescent. -/
theorem frame_ref : Cert.quiescent_ProjSRefIdeal := fun m g _ =>
  (θ_run _ _ _).mono (fun r h => ⟨fun c => (h c).2.2.2, sem_eq_zero_of_no_sems (by decide) r.2⟩) (Cert.ProjSRefIdeal.Value.run m g)
/-- The kernel's three results are the reference's. -/
theorem algebraic : Cert.algebraic_ProjSIdeal_ProjSRefIdeal := by
  pair_intro
  · run_from Cert.ProjSIdeal.Value.run_blocks m g
  · run_from Cert.ProjSRefIdeal.Value.run m' g'
    · exact ((Cert.ProjSIdeal.Value.finalQ m c).trans (agreeQ m m' c (hagree c).1.symm (hagree c).2.1.symm (hagree c).2.2.1.symm (hagree c).2.2.2.1.symm (hagree c).2.2.2.2.1.symm (hagree c).2.2.2.2.2.1.symm (hagree c).2.2.2.2.2.2.2.2.2.2.1.symm (hagree c).2.2.2.2.2.2.2.2.2.2.2.symm)).symm
    · exact ((Cert.ProjSIdeal.Value.finalK m c).trans (agreeK m m' c (hagree c).1.symm (hagree c).2.1.symm (hagree c).2.2.1.symm (hagree c).2.2.2.2.2.2.1.symm (hagree c).2.2.2.2.2.2.2.1.symm (hagree c).2.2.2.2.2.2.2.2.1.symm (hagree c).2.2.2.2.2.2.2.2.2.2.1.symm (hagree c).2.2.2.2.2.2.2.2.2.2.2.symm)).symm
    · exact ((Cert.ProjSIdeal.Value.finalV m c).trans (agreeV m m' c (hagree c).1.symm (hagree c).2.1.symm (hagree c).2.2.1.symm (hagree c).2.2.2.2.2.2.1.symm (hagree c).2.2.2.2.2.2.2.1.symm (hagree c).2.2.2.2.2.2.2.2.2.1.symm)).symm

end ProjS
end
-- ==== Proof.lean ====
module

public import proofs.«01_k».proof.Proof.Attn.Claims
public import proofs.«01_k».proof.Proof.Gen.AttnIdeal.Value
public import proofs.«01_k».proof.Proof.Gen.AttnRefIdeal.Run
public import proofs.«01_k».proof.Proof.Gen.Attn.Frame
public import proofs.«01_k».proof.Proof.Gen.AttnIdeal.Frame
public import proofs.«01_k».proof.Proof.Gen.AttnRefIdeal
public import proofs.«01_k».proof.Proof.Ffn.Claims
public import proofs.«01_k».proof.Proof.Gen.FfnIdeal.Value
public import proofs.«01_k».proof.Proof.Gen.FfnRefIdeal.Run
public import proofs.«01_k».proof.Proof.Gen.Ffn.Frame
public import proofs.«01_k».proof.Proof.Gen.FfnIdeal.Frame
public import proofs.«01_k».proof.Proof.Gen.FfnRefIdeal
public import proofs.«01_k».proof.Proof.Last.Claims
public import proofs.«01_k».proof.Proof.Gen.LastIdeal.Value
public import proofs.«01_k».proof.Proof.Gen.LastRefIdeal.Run
public import proofs.«01_k».proof.Proof.Gen.Last.Frame
public import proofs.«01_k».proof.Proof.Gen.LastIdeal.Frame
public import proofs.«01_k».proof.Proof.Gen.LastRefIdeal
public import proofs.«01_k».proof.Proof.Gmlp.Claims
public import proofs.«01_k».proof.Proof.Gen.GmlpIdeal.Value
public import proofs.«01_k».proof.Proof.Gen.GmlpRefIdeal.Run
public import proofs.«01_k».proof.Proof.Gen.Gmlp.Frame
public import proofs.«01_k».proof.Proof.Gen.GmlpIdeal.Frame
public import proofs.«01_k».proof.Proof.Gen.GmlpRefIdeal
public import proofs.«01_k».proof.Proof.LastP.Claims
public import proofs.«01_k».proof.Proof.Gen.LastPIdeal.Value
public import proofs.«01_k».proof.Proof.Gen.LastPRefIdeal.Run
public import proofs.«01_k».proof.Proof.Gen.LastP.Frame
public import proofs.«01_k».proof.Proof.Gen.LastPIdeal.Frame
public import proofs.«01_k».proof.Proof.Gen.LastPRefIdeal
public import proofs.«01_k».proof.Proof.ProjP.Claims
public import proofs.«01_k».proof.Proof.Gen.ProjPIdeal.Value
public import proofs.«01_k».proof.Proof.Gen.ProjPRefIdeal.Run
public import proofs.«01_k».proof.Proof.Gen.ProjP.Frame
public import proofs.«01_k».proof.Proof.Gen.ProjPIdeal.Frame
public import proofs.«01_k».proof.Proof.Gen.ProjPRefIdeal
public import proofs.«01_k».proof.Proof.Modul.Claims
public import proofs.«01_k».proof.Proof.Gen.ModulIdeal.Value
public import proofs.«01_k».proof.Proof.Gen.ModulRefIdeal.Run
public import proofs.«01_k».proof.Proof.Gen.Modul.Frame
public import proofs.«01_k».proof.Proof.Gen.ModulIdeal.Frame
public import proofs.«01_k».proof.Proof.Gen.ModulRefIdeal
public import proofs.«01_k».proof.Proof.Cache.Claims
public import proofs.«01_k».proof.Proof.Gen.CacheIdeal.Value
public import proofs.«01_k».proof.Proof.Gen.CacheRefIdeal.Run
public import proofs.«01_k».proof.Proof.Gen.Cache.Frame
public import proofs.«01_k».proof.Proof.Gen.CacheIdeal.Frame
public import proofs.«01_k».proof.Proof.Gen.CacheRefIdeal
public import proofs.«01_k».proof.Proof.AttnP.Claims
public import proofs.«01_k».proof.Proof.Gen.AttnPIdeal.Value
public import proofs.«01_k».proof.Proof.Gen.AttnPRefIdeal.Run
public import proofs.«01_k».proof.Proof.Gen.AttnP.Frame
public import proofs.«01_k».proof.Proof.Gen.AttnPIdeal.Frame
public import proofs.«01_k».proof.Proof.Gen.AttnPRefIdeal
public import proofs.«01_k».proof.Proof.ProjS.Claims
public import proofs.«01_k».proof.Proof.Gen.ProjSIdeal.Value
public import proofs.«01_k».proof.Proof.Gen.ProjSRefIdeal.Run
public import proofs.«01_k».proof.Proof.Gen.ProjS.Frame
public import proofs.«01_k».proof.Proof.Gen.ProjSIdeal.Frame
public import proofs.«01_k».proof.Proof.Gen.ProjSRefIdeal
public import proofs.«01_k».proof.Defs

@[expose] public section

noncomputable section

namespace Cert.Proof

/-- All the claims. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Last.Gen.facts, Cert.LastIdeal.Gen.facts, Cert.LastRefIdeal.Gen.facts, Cert.Gmlp.Gen.facts, Cert.GmlpIdeal.Gen.facts, Cert.GmlpRefIdeal.Gen.facts, Cert.LastP.Gen.facts, Cert.LastPIdeal.Gen.facts, Cert.LastPRefIdeal.Gen.facts, Cert.ProjP.Gen.facts, Cert.ProjPIdeal.Gen.facts, Cert.ProjPRefIdeal.Gen.facts, Cert.Modul.Gen.facts, Cert.ModulIdeal.Gen.facts, Cert.ModulRefIdeal.Gen.facts, Cert.Cache.Gen.facts, Cert.CacheIdeal.Gen.facts, Cert.CacheRefIdeal.Gen.facts, Cert.AttnP.Gen.facts, Cert.AttnPIdeal.Gen.facts, Cert.AttnPRefIdeal.Gen.facts, Cert.ProjS.Gen.facts, Cert.ProjSIdeal.Gen.facts, Cert.ProjSRefIdeal.Gen.facts, Cert.Pre_finite_scores.Gen.facts, Cert.Pre_finite_prompt_scores.Gen.facts,
  Attn.frame, Attn.frame_ideal, Attn.frame_ideal_pre, Attn.frame_ref, Attn.frame_ref_pre,
  Ffn.frame, Ffn.frame_ideal, Ffn.frame_ref,
  Last.frame, Last.frame_ideal, Last.frame_ref,
  Gmlp.frame, Gmlp.frame_ideal, Gmlp.frame_ref,
  LastP.frame, LastP.frame_ideal, LastP.frame_ref,
  ProjP.frame, ProjP.frame_ideal, ProjP.frame_ref,
  Modul.frame, Modul.frame_ideal, Modul.frame_ref,
  Cache.frame, Cache.frame_ideal, Cache.frame_ref,
  AttnP.frame, AttnP.frame_ideal, AttnP.frame_ideal_pre, AttnP.frame_ref, AttnP.frame_ref_pre,
  ProjS.frame, ProjS.frame_ideal, ProjS.frame_ref,
  trivial, Attn.algebraic, trivial, Ffn.algebraic, trivial, Last.algebraic, trivial, Gmlp.algebraic, trivial, LastP.algebraic, trivial, ProjP.algebraic, trivial, Modul.algebraic, trivial, Cache.algebraic, trivial, AttnP.algebraic, trivial, ProjS.algebraic⟩

end Cert.Proof

end
